-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "log2_e" .f32 0x3FB8AA3B#32 (((Real.log 2)⁻¹ : ℝ) : EReal)

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S2x2304x60x128 : Shape := ⟨4, ![2, 2304, 60, 128]⟩
abbrev S2x60 : Shape := ⟨2, ![2, 60]⟩
abbrev S2x2304x6x128 : Shape := ⟨4, ![2, 2304, 6, 128]⟩
abbrev S2x6 : Shape := ⟨2, ![2, 6]⟩
abbrev S_ : Shape := ⟨0, ![]⟩

class Facts : Prop where
  bcast_S_S2x60 : S_.BroadcastsInDim S2x60 (![] : Fin 0 → Fin S2x60.rank)
  reducesTo_S2x60_S_d0_1 : S2x60.ReducesTo [0, 1] S_
  h_S_ : 0 < S_.numel
  bcast_S_S2x6 : S_.BroadcastsInDim S2x6 (![] : Fin 0 → Fin S2x6.rank)
  reducesTo_S2x6_S_d0_1 : S2x6.ReducesTo [0, 1] S_

variable [Facts]

def fn {F : FTy → Type} [FloatOps F] (main_arg0 : IVec S2x2304x60x128 8) (main_arg1 : FVec F S2x60 .f32) (main_arg2 : IVec S2x2304x6x128 8) (main_arg3 : FVec F S2x6 .f32) (main_arg4 : IVec S2x2304x6x128 8) (main_arg5 : FVec F S2x6 .f32) : IVec S_ 1 :=
  let main_v0 : FVec F S2x60 .f32 := Host.absf main_arg1
  let main_cst : FVec F S_ .f32 := constant S_ .f32 0x58800000#32
  let main_v1 : FVec F S2x60 .f32 := broadcastInDim S2x60 ![] bcast_S_S2x60 main_cst
  let main_v2 : IVec S2x60 1 := cmpf .ole main_v0 main_v1
  let main_c : IVec S_ 1 := constantI S_ 1 1#1
  let main_v3 : IVec S_ 1 := (fun x v => Host.reduce IntOp.andi x v reducesTo_S2x60_S_d0_1 h_S_) main_v2 main_c
  let main_v4 : FVec F S2x6 .f32 := Host.absf main_arg3
  let main_cst_0 : FVec F S_ .f32 := constant S_ .f32 0x58800000#32
  let main_v5 : FVec F S2x6 .f32 := broadcastInDim S2x6 ![] bcast_S_S2x6 main_cst_0
  let main_v6 : IVec S2x6 1 := cmpf .ole main_v4 main_v5
  let main_c_1 : IVec S_ 1 := constantI S_ 1 1#1
  let main_v7 : IVec S_ 1 := (fun x v => Host.reduce IntOp.andi x v reducesTo_S2x6_S_d0_1 h_S_) main_v6 main_c_1
  let main_v8 : IVec S_ 1 := andi main_v3 main_v7
  main_v8
-- ==== Kernel.lean ====
abbrev S2x2304x60x128 : Shape := ⟨4, ![2, 2304, 60, 128]⟩
abbrev S2x60 : Shape := ⟨2, ![2, 60]⟩
abbrev S2x2304x6x128 : Shape := ⟨4, ![2, 2304, 6, 128]⟩
abbrev S2x6 : Shape := ⟨2, ![2, 6]⟩
abbrev S2x60x2304x128 : Shape := ⟨4, ![2, 60, 2304, 128]⟩
abbrev S2x6x2304x128 : Shape := ⟨4, ![2, 6, 2304, 128]⟩
abbrev S2x6x128x2304 : Shape := ⟨4, ![2, 6, 128, 2304]⟩
abbrev S256x256 : Shape := ⟨2, ![256, 256]⟩
abbrev S_ : Shape := ⟨0, ![]⟩
abbrev S2x2304x7680 : Shape := ⟨3, ![2, 2304, 7680]⟩
abbrev S1x10x256x128 : Shape := ⟨4, ![1, 10, 256, 128]⟩
abbrev S1x1x2304x128 : Shape := ⟨4, ![1, 1, 2304, 128]⟩
abbrev S1x1x128x2304 : Shape := ⟨4, ![1, 1, 128, 2304]⟩
abbrev S1x256x1280 : Shape := ⟨3, ![1, 256, 1280]⟩
abbrev S2x2304x256 : Shape := ⟨3, ![2, 2304, 256]⟩
abbrev S8x256 : Shape := ⟨2, ![8, 256]⟩
abbrev S1x1 : Shape := ⟨2, ![1, 1]⟩
abbrev S1x1x256x128 : Shape := ⟨4, ![1, 1, 256, 128]⟩
abbrev S256x128 : Shape := ⟨2, ![256, 128]⟩
abbrev S1x256x256 : Shape := ⟨3, ![1, 256, 256]⟩
abbrev S32x8x256 : Shape := ⟨3, ![32, 8, 256]⟩
abbrev S1x8x256 : Shape := ⟨3, ![1, 8, 256]⟩
abbrev S256 : Shape := ⟨1, ![256]⟩
abbrev S1x256 : Shape := ⟨2, ![1, 256]⟩
abbrev S1x1x128x256 : Shape := ⟨4, ![1, 1, 128, 256]⟩
abbrev S128x256 : Shape := ⟨2, ![128, 256]⟩
abbrev S1x256x128 : Shape := ⟨3, ![1, 256, 128]⟩

abbrev nBuf : Space → Nat
  | .hbm => 21
  | .vmem => 11
  | .smem => 3
  | _ => 0

abbrev bufTy : (tb : Table) → Fin (tcTables nBuf tb) → BufTy
  | .hbm, ⟨0, _⟩ => ⟨S2x2304x60x128, .i8⟩
  | .hbm, ⟨1, _⟩ => ⟨S2x60, .f32⟩
  | .hbm, ⟨2, _⟩ => ⟨S2x2304x6x128, .i8⟩
  | .hbm, ⟨3, _⟩ => ⟨S2x6, .f32⟩
  | .hbm, ⟨4, _⟩ => ⟨S2x2304x6x128, .i8⟩
  | .hbm, ⟨5, _⟩ => ⟨S2x6, .f32⟩
  | .hbm, ⟨6, _⟩ => ⟨S2x2304x60x128, .fp8e4m3⟩
  | .hbm, ⟨7, _⟩ => ⟨S2x2304x6x128, .fp8e4m3⟩
  | .hbm, ⟨8, _⟩ => ⟨S2x2304x6x128, .fp8e4m3⟩
  | .hbm, ⟨9, _⟩ => ⟨S2x60x2304x128, .fp8e4m3⟩
  | .hbm, ⟨10, _⟩ => ⟨S2x6x2304x128, .fp8e4m3⟩
  | .hbm, ⟨11, _⟩ => ⟨S2x6x128x2304, .fp8e4m3⟩
  | .hbm, ⟨12, _⟩ => ⟨S256x256, .i32⟩
  | .hbm, ⟨13, _⟩ => ⟨S256x256, .i32⟩
  | .hbm, ⟨14, _⟩ => ⟨S256x256, .i1⟩
  | .hbm, ⟨15, _⟩ => ⟨S_, .f32⟩
  | .hbm, ⟨16, _⟩ => ⟨S_, .f32⟩
  | .hbm, ⟨17, _⟩ => ⟨S256x256, .f32⟩
  | .hbm, ⟨18, _⟩ => ⟨S256x256, .f32⟩
  | .hbm, ⟨19, _⟩ => ⟨S256x256, .f32⟩
  | .hbm, ⟨20, _⟩ => ⟨S2x2304x7680, .bf16⟩
  | .local _ .vmem, ⟨0, _⟩ => ⟨S1x10x256x128, .fp8e4m3⟩
  | .local _ .vmem, ⟨1, _⟩ => ⟨S1x10x256x128, .fp8e4m3⟩
  | .local _ .vmem, ⟨2, _⟩ => ⟨S1x1x2304x128, .fp8e4m3⟩
  | .local _ .vmem, ⟨3, _⟩ => ⟨S1x1x2304x128, .fp8e4m3⟩
  | .local _ .vmem, ⟨4, _⟩ => ⟨S1x1x128x2304, .fp8e4m3⟩
  | .local _ .vmem, ⟨5, _⟩ => ⟨S1x1x128x2304, .fp8e4m3⟩
  | .local _ .vmem, ⟨6, _⟩ => ⟨S256x256, .f32⟩
  | .local _ .vmem, ⟨7, _⟩ => ⟨S1x256x1280, .bf16⟩
  | .local _ .vmem, ⟨8, _⟩ => ⟨S1x256x1280, .bf16⟩
  | .local _ .vmem, ⟨9, _⟩ => ⟨S2x2304x256, .f32⟩
  | .local _ .vmem, ⟨10, _⟩ => ⟨S8x256, .f32⟩
  | .local _ .smem, ⟨0, _⟩ => ⟨S2x60, .f32⟩
  | .local _ .smem, ⟨1, _⟩ => ⟨S2x6, .f32⟩
  | .local _ .smem, ⟨2, _⟩ => ⟨S2x6, .f32⟩
  | _, _ => ⟨S2x2304x60x128, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_v9 : Ref sig .tc := ⟨.hbm, 19, rfl⟩
abbrev main_v10 : Ref sig .tc := ⟨.hbm, 20, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg7_1 : Ref sig .tc := ⟨.vmem, 8, rfl⟩
abbrev cc0_scratch0 : Ref sig .tc := ⟨.vmem, 9, rfl⟩
abbrev cc0_scratch1 : Ref sig .tc := ⟨.vmem, 10, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨3, ![2, 6, 9], ![false, false, false]⟩

def k0_off1 (i : grid0.Coords) : Fin 2 → Nat :=
  let arg0 : BitVec 32 := BitVec.ofNat 32 (i 0).val
  let v0 : Index := Scalar.indexCast arg0
  let arg1 : BitVec 32 := BitVec.ofNat 32 (i 1).val
  let v1 : Index := Scalar.indexCast arg1
  ![v0.toNat, v1.toNat]
def k0_cond1 (i : grid0.Coords) : BitVec 1 :=
  let arg2 : BitVec 32 := BitVec.ofNat 32 (i 2).val
  let c0_i32 : BitVec 32 := 0#32
  let v6 : BitVec 1 := Scalar.cmpi .eq arg2 c0_i32
  let v7 : BitVec 32 := Scalar.extui v6
  let c0_i32_0 : BitVec 32 := 0#32
  let v8 : BitVec 1 := Scalar.cmpi .ne v7 c0_i32_0
  v8

@[reducible] def k0_t1_loop : Scf.Loop 32 :=
  let c0_i32_9 : BitVec 32 := 0#32
  let c10_i32 : BitVec 32 := 10#32
  let v33 : BitVec 32 := Scalar.addi c0_i32_9 c10_i32
  let c1_i32_10 : BitVec 32 := 1#32
  ⟨c0_i32_9, v33, c1_i32_10⟩
def k0_off2 (i : grid0.Coords) (k0_t1 : Fin k0_t1_loop.trips) : Fin 2 → Nat :=
  let arg0 : BitVec 32 := BitVec.ofNat 32 (i 0).val
  let v36 : Index := Scalar.indexCast arg0
  let arg1 : BitVec 32 := BitVec.ofNat 32 (i 1).val
  let c10_i32_12 : BitVec 32 := 10#32
  let v34 : BitVec 32 := Scalar.muli arg1 c10_i32_12
  let c0_i32_9 : BitVec 32 := 0#32
  let c1_i32_10 : BitVec 32 := 1#32
  let arg13 : BitVec 32 := Scf.iv c0_i32_9 c1_i32_10 k0_t1
  let v35 : BitVec 32 := Scalar.addi v34 arg13
  let v37 : Index := Scalar.indexCast v35
  ![v36.toNat, v37.toNat]
def k0_off3 (k0_t1 : Fin k0_t1_loop.trips) : Fin 4 → Nat :=
  let c0_18 : Index := 0#32
  let c0_i32_9 : BitVec 32 := 0#32
  let c1_i32_10 : BitVec 32 := 1#32
  let arg13 : BitVec 32 := Scf.iv c0_i32_9 c1_i32_10 k0_t1
  let v45 : Index := Scalar.indexCast arg13
  let c0_19 : Index := 0#32
  let c0_20 : Index := 0#32
  ![0, v45.toNat, 0, 0]
def k0_mult1 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c128_i32 : BitVec 32 := 128#32
  let v129 : BitVec 32 := Scalar.muli arg13 c128_i32
  v129
def k0_off4 (k0_t1 : Fin k0_t1_loop.trips) : Fin 3 → Nat :=
  let c0_55 : Index := 0#32
  let c0_56 : Index := 0#32
  let c0_i32_9 : BitVec 32 := 0#32
  let c1_i32_10 : BitVec 32 := 1#32
  let arg13 : BitVec 32 := Scf.iv c0_i32_9 c1_i32_10 k0_t1
  let c128_i32 : BitVec 32 := 128#32
  let v129 : BitVec 32 := Scalar.muli arg13 c128_i32
  let v130 : BitVec 32 := v129
  let v131 : Index := Scalar.indexCast v130
  ![0, 0, v131.toNat]
def k0_cond2 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_1 : BitVec 32 := 0#32
  let v11 : BitVec 1 := Scalar.cmpi .ne v10 c0_i32_1
  v11

@[reducible] def k0_t2_loop : Scf.Loop 32 :=
  let c0_i32_9 : BitVec 32 := 0#32
  let c10_i32 : BitVec 32 := 10#32
  let v33 : BitVec 32 := Scalar.addi c0_i32_9 c10_i32
  let c1_i32_10 : BitVec 32 := 1#32
  ⟨c0_i32_9, v33, c1_i32_10⟩
def k0_off5 (i : grid0.Coords) (k0_t2 : Fin k0_t2_loop.trips) : Fin 2 → Nat :=
  let arg0 : BitVec 32 := BitVec.ofNat 32 (i 0).val
  let v36 : Index := Scalar.indexCast arg0
  let arg1 : BitVec 32 := BitVec.ofNat 32 (i 1).val
  let c10_i32_12 : BitVec 32 := 10#32
  let v34 : BitVec 32 := Scalar.muli arg1 c10_i32_12
  let c0_i32_9 : BitVec 32 := 0#32
  let c1_i32_10 : BitVec 32 := 1#32
  let arg13 : BitVec 32 := Scf.iv c0_i32_9 c1_i32_10 k0_t2
  let v35 : BitVec 32 := Scalar.addi v34 arg13
  let v37 : Index := Scalar.indexCast v35
  ![v36.toNat, v37.toNat]
def k0_off6 (k0_t2 : Fin k0_t2_loop.trips) : Fin 4 → Nat :=
  let c0_18 : Index := 0#32
  let c0_i32_9 : BitVec 32 := 0#32
  let c1_i32_10 : BitVec 32 := 1#32
  let arg13 : BitVec 32 := Scf.iv c0_i32_9 c1_i32_10 k0_t2
  let v45 : Index := Scalar.indexCast arg13
  let c0_19 : Index := 0#32
  let c0_20 : Index := 0#32
  ![0, v45.toNat, 0, 0]
def k0_mult2 (k0_t2 : Fin k0_t2_loop.trips) : BitVec 32 :=
  let c0_i32_9 : BitVec 32 := 0#32
  let c1_i32_10 : BitVec 32 := 1#32
  let arg13 : BitVec 32 := Scf.iv c0_i32_9 c1_i32_10 k0_t2
  let c128_i32 : BitVec 32 := 128#32
  let v168 : BitVec 32 := Scalar.muli arg13 c128_i32
  v168
def k0_off7 (k0_t2 : Fin k0_t2_loop.trips) : Fin 3 → Nat :=
  let c0_81 : Index := 0#32
  let c0_82 : Index := 0#32
  let c0_i32_9 : BitVec 32 := 0#32
  let c1_i32_10 : BitVec 32 := 1#32
  let arg13 : BitVec 32 := Scf.iv c0_i32_9 c1_i32_10 k0_t2
  let c128_i32 : BitVec 32 := 128#32
  let v168 : BitVec 32 := Scalar.muli arg13 c128_i32
  let v169 : BitVec 32 := v168
  let v170 : Index := Scalar.indexCast v169
  ![0, 0, v170.toNat]
def k0_cond3 (i : grid0.Coords) : BitVec 1 :=
  let arg2 : BitVec 32 := BitVec.ofNat 32 (i 2).val
  let c2_i32 : BitVec 32 := 2#32
  let v12 : BitVec 1 := Scalar.cmpi .eq arg2 c2_i32
  let v13 : BitVec 32 := Scalar.extui v12
  let c0_i32_2 : BitVec 32 := 0#32
  let v14 : BitVec 1 := Scalar.cmpi .ne v13 c0_i32_2
  v14

@[reducible] def k0_t3_loop : Scf.Loop 32 :=
  let c0_i32_9 : BitVec 32 := 0#32
  let c10_i32 : BitVec 32 := 10#32
  let v33 : BitVec 32 := Scalar.addi c0_i32_9 c10_i32
  let c1_i32_10 : BitVec 32 := 1#32
  ⟨c0_i32_9, v33, c1_i32_10⟩
def k0_off8 (i : grid0.Coords) (k0_t3 : Fin k0_t3_loop.trips) : Fin 2 → Nat :=
  let arg0 : BitVec 32 := BitVec.ofNat 32 (i 0).val
  let v36 : Index := Scalar.indexCast arg0
  let arg1 : BitVec 32 := BitVec.ofNat 32 (i 1).val
  let c10_i32_12 : BitVec 32 := 10#32
  let v34 : BitVec 32 := Scalar.muli arg1 c10_i32_12
  let c0_i32_9 : BitVec 32 := 0#32
  let c1_i32_10 : BitVec 32 := 1#32
  let arg13 : BitVec 32 := Scf.iv c0_i32_9 c1_i32_10 k0_t3
  let v35 : BitVec 32 := Scalar.addi v34 arg13
  let v37 : Index := Scalar.indexCast v35
  ![v36.toNat, v37.toNat]
def k0_off9 (k0_t3 : Fin k0_t3_loop.trips) : Fin 4 → Nat :=
  let c0_18 : Index := 0#32
  let c0_i32_9 : BitVec 32 := 0#32
  let c1_i32_10 : BitVec 32 := 1#32
  let arg13 : BitVec 32 := Scf.iv c0_i32_9 c1_i32_10 k0_t3
  let v45 : Index := Scalar.indexCast arg13
  let c0_19 : Index := 0#32
  let c0_20 : Index := 0#32
  ![0, v45.toNat, 0, 0]
def k0_mult3 (k0_t3 : Fin k0_t3_loop.trips) : BitVec 32 :=
  let c0_i32_9 : BitVec 32 := 0#32
  let c1_i32_10 : BitVec 32 := 1#32
  let arg13 : BitVec 32 := Scf.iv c0_i32_9 c1_i32_10 k0_t3
  let c128_i32 : BitVec 32 := 128#32
  let v207 : BitVec 32 := Scalar.muli arg13 c128_i32
  v207
def k0_off10 (k0_t3 : Fin k0_t3_loop.trips) : Fin 3 → Nat :=
  let c0_107 : Index := 0#32
  let c0_108 : Index := 0#32
  let c0_i32_9 : BitVec 32 := 0#32
  let c1_i32_10 : BitVec 32 := 1#32
  let arg13 : BitVec 32 := Scf.iv c0_i32_9 c1_i32_10 k0_t3
  let c128_i32 : BitVec 32 := 128#32
  let v207 : BitVec 32 := Scalar.muli arg13 c128_i32
  let v208 : BitVec 32 := v207
  let v209 : Index := Scalar.indexCast v208
  ![0, 0, v209.toNat]
def k0_cond4 (i : grid0.Coords) : BitVec 1 :=
  let arg2 : BitVec 32 := BitVec.ofNat 32 (i 2).val
  let c3_i32 : BitVec 32 := 3#32
  let v15 : BitVec 1 := Scalar.cmpi .eq arg2 c3_i32
  let v16 : BitVec 32 := Scalar.extui v15
  let c0_i32_3 : BitVec 32 := 0#32
  let v17 : BitVec 1 := Scalar.cmpi .ne v16 c0_i32_3
  v17

@[reducible] def k0_t4_loop : Scf.Loop 32 :=
  let c0_i32_9 : BitVec 32 := 0#32
  let c10_i32 : BitVec 32 := 10#32
  let v33 : BitVec 32 := Scalar.addi c0_i32_9 c10_i32
  let c1_i32_10 : BitVec 32 := 1#32
  ⟨c0_i32_9, v33, c1_i32_10⟩
def k0_off11 (i : grid0.Coords) (k0_t4 : Fin k0_t4_loop.trips) : Fin 2 → Nat :=
  let arg0 : BitVec 32 := BitVec.ofNat 32 (i 0).val
  let v36 : Index := Scalar.indexCast arg0
  let arg1 : BitVec 32 := BitVec.ofNat 32 (i 1).val
  let c10_i32_12 : BitVec 32 := 10#32
  let v34 : BitVec 32 := Scalar.muli arg1 c10_i32_12
  let c0_i32_9 : BitVec 32 := 0#32
  let c1_i32_10 : BitVec 32 := 1#32
  let arg13 : BitVec 32 := Scf.iv c0_i32_9 c1_i32_10 k0_t4
  let v35 : BitVec 32 := Scalar.addi v34 arg13
  let v37 : Index := Scalar.indexCast v35
  ![v36.toNat, v37.toNat]
def k0_off12 (k0_t4 : Fin k0_t4_loop.trips) : Fin 4 → Nat :=
  let c0_18 : Index := 0#32
  let c0_i32_9 : BitVec 32 := 0#32
  let c1_i32_10 : BitVec 32 := 1#32
  let arg13 : BitVec 32 := Scf.iv c0_i32_9 c1_i32_10 k0_t4
  let v45 : Index := Scalar.indexCast arg13
  let c0_19 : Index := 0#32
  let c0_20 : Index := 0#32
  ![0, v45.toNat, 0, 0]
def k0_mult4 (k0_t4 : Fin k0_t4_loop.trips) : BitVec 32 :=
  let c0_i32_9 : BitVec 32 := 0#32
  let c1_i32_10 : BitVec 32 := 1#32
  let arg13 : BitVec 32 := Scf.iv c0_i32_9 c1_i32_10 k0_t4
  let c128_i32 : BitVec 32 := 128#32
  let v246 : BitVec 32 := Scalar.muli arg13 c128_i32
  v246
def k0_off13 (k0_t4 : Fin k0_t4_loop.trips) : Fin 3 → Nat :=
  let c0_133 : Index := 0#32
  let c0_134 : Index := 0#32
  let c0_i32_9 : BitVec 32 := 0#32
  let c1_i32_10 : BitVec 32 := 1#32
  let arg13 : BitVec 32 := Scf.iv c0_i32_9 c1_i32_10 k0_t4
  let c128_i32 : BitVec 32 := 128#32
  let v246 : BitVec 32 := Scalar.muli arg13 c128_i32
  let v247 : BitVec 32 := v246
  let v248 : Index := Scalar.indexCast v247
  ![0, 0, v248.toNat]
def k0_cond5 (i : grid0.Coords) : BitVec 1 :=
  let arg2 : BitVec 32 := BitVec.ofNat 32 (i 2).val
  let c4_i32 : BitVec 32 := 4#32
  let v18 : BitVec 1 := Scalar.cmpi .eq arg2 c4_i32
  let v19 : BitVec 32 := Scalar.extui v18
  let c0_i32_4 : BitVec 32 := 0#32
  let v20 : BitVec 1 := Scalar.cmpi .ne v19 c0_i32_4
  v20

@[reducible] def k0_t5_loop : Scf.Loop 32 :=
  let c0_i32_9 : BitVec 32 := 0#32
  let c10_i32 : BitVec 32 := 10#32
  let v33 : BitVec 32 := Scalar.addi c0_i32_9 c10_i32
  let c1_i32_10 : BitVec 32 := 1#32
  ⟨c0_i32_9, v33, c1_i32_10⟩
def k0_off14 (i : grid0.Coords) (k0_t5 : Fin k0_t5_loop.trips) : Fin 2 → Nat :=
  let arg0 : BitVec 32 := BitVec.ofNat 32 (i 0).val
  let v36 : Index := Scalar.indexCast arg0
  let arg1 : BitVec 32 := BitVec.ofNat 32 (i 1).val
  let c10_i32_12 : BitVec 32 := 10#32
  let v34 : BitVec 32 := Scalar.muli arg1 c10_i32_12
  let c0_i32_9 : BitVec 32 := 0#32
  let c1_i32_10 : BitVec 32 := 1#32
  let arg13 : BitVec 32 := Scf.iv c0_i32_9 c1_i32_10 k0_t5
  let v35 : BitVec 32 := Scalar.addi v34 arg13
  let v37 : Index := Scalar.indexCast v35
  ![v36.toNat, v37.toNat]
def k0_off15 (k0_t5 : Fin k0_t5_loop.trips) : Fin 4 → Nat :=
  let c0_18 : Index := 0#32
  let c0_i32_9 : BitVec 32 := 0#32
  let c1_i32_10 : BitVec 32 := 1#32
  let arg13 : BitVec 32 := Scf.iv c0_i32_9 c1_i32_10 k0_t5
  let v45 : Index := Scalar.indexCast arg13
  let c0_19 : Index := 0#32
  let c0_20 : Index := 0#32
  ![0, v45.toNat, 0, 0]
def k0_mult5 (k0_t5 : Fin k0_t5_loop.trips) : BitVec 32 :=
  let c0_i32_9 : BitVec 32 := 0#32
  let c1_i32_10 : BitVec 32 := 1#32
  let arg13 : BitVec 32 := Scf.iv c0_i32_9 c1_i32_10 k0_t5
  let c128_i32 : BitVec 32 := 128#32
  let v285 : BitVec 32 := Scalar.muli arg13 c128_i32
  v285
def k0_off16 (k0_t5 : Fin k0_t5_loop.trips) : Fin 3 → Nat :=
  let c0_159 : Index := 0#32
  let c0_160 : Index := 0#32
  let c0_i32_9 : BitVec 32 := 0#32
  let c1_i32_10 : BitVec 32 := 1#32
  let arg13 : BitVec 32 := Scf.iv c0_i32_9 c1_i32_10 k0_t5
  let c128_i32 : BitVec 32 := 128#32
  let v285 : BitVec 32 := Scalar.muli arg13 c128_i32
  let v286 : BitVec 32 := v285
  let v287 : Index := Scalar.indexCast v286
  ![0, 0, v287.toNat]
def k0_cond6 (i : grid0.Coords) : BitVec 1 :=
  let arg2 : BitVec 32 := BitVec.ofNat 32 (i 2).val
  let c5_i32 : BitVec 32 := 5#32
  let v21 : BitVec 1 := Scalar.cmpi .eq arg2 c5_i32
  let v22 : BitVec 32 := Scalar.extui v21
  let c0_i32_5 : BitVec 32 := 0#32
  let v23 : BitVec 1 := Scalar.cmpi .ne v22 c0_i32_5
  v23

@[reducible] def k0_t6_loop : Scf.Loop 32 :=
  let c0_i32_9 : BitVec 32 := 0#32
  let c10_i32 : BitVec 32 := 10#32
  let v33 : BitVec 32 := Scalar.addi c0_i32_9 c10_i32
  let c1_i32_10 : BitVec 32 := 1#32
  ⟨c0_i32_9, v33, c1_i32_10⟩
def k0_off17 (i : grid0.Coords) (k0_t6 : Fin k0_t6_loop.trips) : Fin 2 → Nat :=
  let arg0 : BitVec 32 := BitVec.ofNat 32 (i 0).val
  let v36 : Index := Scalar.indexCast arg0
  let arg1 : BitVec 32 := BitVec.ofNat 32 (i 1).val
  let c10_i32_12 : BitVec 32 := 10#32
  let v34 : BitVec 32 := Scalar.muli arg1 c10_i32_12
  let c0_i32_9 : BitVec 32 := 0#32
  let c1_i32_10 : BitVec 32 := 1#32
  let arg13 : BitVec 32 := Scf.iv c0_i32_9 c1_i32_10 k0_t6
  let v35 : BitVec 32 := Scalar.addi v34 arg13
  let v37 : Index := Scalar.indexCast v35
  ![v36.toNat, v37.toNat]
def k0_off18 (k0_t6 : Fin k0_t6_loop.trips) : Fin 4 → Nat :=
  let c0_18 : Index := 0#32
  let c0_i32_9 : BitVec 32 := 0#32
  let c1_i32_10 : BitVec 32 := 1#32
  let arg13 : BitVec 32 := Scf.iv c0_i32_9 c1_i32_10 k0_t6
  let v45 : Index := Scalar.indexCast arg13
  let c0_19 : Index := 0#32
  let c0_20 : Index := 0#32
  ![0, v45.toNat, 0, 0]
def k0_mult6 (k0_t6 : Fin k0_t6_loop.trips) : BitVec 32 :=
  let c0_i32_9 : BitVec 32 := 0#32
  let c1_i32_10 : BitVec 32 := 1#32
  let arg13 : BitVec 32 := Scf.iv c0_i32_9 c1_i32_10 k0_t6
  let c128_i32 : BitVec 32 := 128#32
  let v324 : BitVec 32 := Scalar.muli arg13 c128_i32
  v324
def k0_off19 (k0_t6 : Fin k0_t6_loop.trips) : Fin 3 → Nat :=
  let c0_185 : Index := 0#32
  let c0_186 : Index := 0#32
  let c0_i32_9 : BitVec 32 := 0#32
  let c1_i32_10 : BitVec 32 := 1#32
  let arg13 : BitVec 32 := Scf.iv c0_i32_9 c1_i32_10 k0_t6
  let c128_i32 : BitVec 32 := 128#32
  let v324 : BitVec 32 := Scalar.muli arg13 c128_i32
  let v325 : BitVec 32 := v324
  let v326 : Index := Scalar.indexCast v325
  ![0, 0, v326.toNat]
def k0_cond7 (i : grid0.Coords) : BitVec 1 :=
  let arg2 : BitVec 32 := BitVec.ofNat 32 (i 2).val
  let c6_i32 : BitVec 32 := 6#32
  let v24 : BitVec 1 := Scalar.cmpi .eq arg2 c6_i32
  let v25 : BitVec 32 := Scalar.extui v24
  let c0_i32_6 : BitVec 32 := 0#32
  let v26 : BitVec 1 := Scalar.cmpi .ne v25 c0_i32_6
  v26

@[reducible] def k0_t7_loop : Scf.Loop 32 :=
  let c0_i32_9 : BitVec 32 := 0#32
  let c10_i32 : BitVec 32 := 10#32
  let v33 : BitVec 32 := Scalar.addi c0_i32_9 c10_i32
  let c1_i32_10 : BitVec 32 := 1#32
  ⟨c0_i32_9, v33, c1_i32_10⟩
def k0_off20 (i : grid0.Coords) (k0_t7 : Fin k0_t7_loop.trips) : Fin 2 → Nat :=
  let arg0 : BitVec 32 := BitVec.ofNat 32 (i 0).val
  let v36 : Index := Scalar.indexCast arg0
  let arg1 : BitVec 32 := BitVec.ofNat 32 (i 1).val
  let c10_i32_12 : BitVec 32 := 10#32
  let v34 : BitVec 32 := Scalar.muli arg1 c10_i32_12
  let c0_i32_9 : BitVec 32 := 0#32
  let c1_i32_10 : BitVec 32 := 1#32
  let arg13 : BitVec 32 := Scf.iv c0_i32_9 c1_i32_10 k0_t7
  let v35 : BitVec 32 := Scalar.addi v34 arg13
  let v37 : Index := Scalar.indexCast v35
  ![v36.toNat, v37.toNat]
def k0_off21 (k0_t7 : Fin k0_t7_loop.trips) : Fin 4 → Nat :=
  let c0_18 : Index := 0#32
  let c0_i32_9 : BitVec 32 := 0#32
  let c1_i32_10 : BitVec 32 := 1#32
  let arg13 : BitVec 32 := Scf.iv c0_i32_9 c1_i32_10 k0_t7
  let v45 : Index := Scalar.indexCast arg13
  let c0_19 : Index := 0#32
  let c0_20 : Index := 0#32
  ![0, v45.toNat, 0, 0]
def k0_mult7 (k0_t7 : Fin k0_t7_loop.trips) : BitVec 32 :=
  let c0_i32_9 : BitVec 32 := 0#32
  let c1_i32_10 : BitVec 32 := 1#32
  let arg13 : BitVec 32 := Scf.iv c0_i32_9 c1_i32_10 k0_t7
  let c128_i32 : BitVec 32 := 128#32
  let v363 : BitVec 32 := Scalar.muli arg13 c128_i32
  v363
def k0_off22 (k0_t7 : Fin k0_t7_loop.trips) : Fin 3 → Nat :=
  let c0_211 : Index := 0#32
  let c0_212 : Index := 0#32
  let c0_i32_9 : BitVec 32 := 0#32
  let c1_i32_10 : BitVec 32 := 1#32
  let arg13 : BitVec 32 := Scf.iv c0_i32_9 c1_i32_10 k0_t7
  let c128_i32 : BitVec 32 := 128#32
  let v363 : BitVec 32 := Scalar.muli arg13 c128_i32
  let v364 : BitVec 32 := v363
  let v365 : Index := Scalar.indexCast v364
  ![0, 0, v365.toNat]
def k0_cond8 (i : grid0.Coords) : BitVec 1 :=
  let arg2 : BitVec 32 := BitVec.ofNat 32 (i 2).val
  let c7_i32 : BitVec 32 := 7#32
  let v27 : BitVec 1 := Scalar.cmpi .eq arg2 c7_i32
  let v28 : BitVec 32 := Scalar.extui v27
  let c0_i32_7 : BitVec 32 := 0#32
  let v29 : BitVec 1 := Scalar.cmpi .ne v28 c0_i32_7
  v29

@[reducible] def k0_t8_loop : Scf.Loop 32 :=
  let c0_i32_9 : BitVec 32 := 0#32
  let c10_i32 : BitVec 32 := 10#32
  let v33 : BitVec 32 := Scalar.addi c0_i32_9 c10_i32
  let c1_i32_10 : BitVec 32 := 1#32
  ⟨c0_i32_9, v33, c1_i32_10⟩
def k0_off23 (i : grid0.Coords) (k0_t8 : Fin k0_t8_loop.trips) : Fin 2 → Nat :=
  let arg0 : BitVec 32 := BitVec.ofNat 32 (i 0).val
  let v36 : Index := Scalar.indexCast arg0
  let arg1 : BitVec 32 := BitVec.ofNat 32 (i 1).val
  let c10_i32_12 : BitVec 32 := 10#32
  let v34 : BitVec 32 := Scalar.muli arg1 c10_i32_12
  let c0_i32_9 : BitVec 32 := 0#32
  let c1_i32_10 : BitVec 32 := 1#32
  let arg13 : BitVec 32 := Scf.iv c0_i32_9 c1_i32_10 k0_t8
  let v35 : BitVec 32 := Scalar.addi v34 arg13
  let v37 : Index := Scalar.indexCast v35
  ![v36.toNat, v37.toNat]
def k0_off24 (k0_t8 : Fin k0_t8_loop.trips) : Fin 4 → Nat :=
  let c0_18 : Index := 0#32
  let c0_i32_9 : BitVec 32 := 0#32
  let c1_i32_10 : BitVec 32 := 1#32
  let arg13 : BitVec 32 := Scf.iv c0_i32_9 c1_i32_10 k0_t8
  let v45 : Index := Scalar.indexCast arg13
  let c0_19 : Index := 0#32
  let c0_20 : Index := 0#32
  ![0, v45.toNat, 0, 0]
def k0_mult8 (k0_t8 : Fin k0_t8_loop.trips) : BitVec 32 :=
  let c0_i32_9 : BitVec 32 := 0#32
  let c1_i32_10 : BitVec 32 := 1#32
  let arg13 : BitVec 32 := Scf.iv c0_i32_9 c1_i32_10 k0_t8
  let c128_i32 : BitVec 32 := 128#32
  let v402 : BitVec 32 := Scalar.muli arg13 c128_i32
  v402
def k0_off25 (k0_t8 : Fin k0_t8_loop.trips) : Fin 3 → Nat :=
  let c0_237 : Index := 0#32
  let c0_238 : Index := 0#32
  let c0_i32_9 : BitVec 32 := 0#32
  let c1_i32_10 : BitVec 32 := 1#32
  let arg13 : BitVec 32 := Scf.iv c0_i32_9 c1_i32_10 k0_t8
  let c128_i32 : BitVec 32 := 128#32
  let v402 : BitVec 32 := Scalar.muli arg13 c128_i32
  let v403 : BitVec 32 := v402
  let v404 : Index := Scalar.indexCast v403
  ![0, 0, v404.toNat]
def k0_cond9 (i : grid0.Coords) : BitVec 1 :=
  let arg2 : BitVec 32 := BitVec.ofNat 32 (i 2).val
  let c8_i32 : BitVec 32 := 8#32
  let v30 : BitVec 1 := Scalar.cmpi .eq arg2 c8_i32
  let v31 : BitVec 32 := Scalar.extui v30
  let c0_i32_8 : BitVec 32 := 0#32
  let v32 : BitVec 1 := Scalar.cmpi .ne v31 c0_i32_8
  v32

@[reducible] def k0_t9_loop : Scf.Loop 32 :=
  let c0_i32_9 : BitVec 32 := 0#32
  let c10_i32 : BitVec 32 := 10#32
  let v33 : BitVec 32 := Scalar.addi c0_i32_9 c10_i32
  let c1_i32_10 : BitVec 32 := 1#32
  ⟨c0_i32_9, v33, c1_i32_10⟩
def k0_off26 (i : grid0.Coords) (k0_t9 : Fin k0_t9_loop.trips) : Fin 2 → Nat :=
  let arg0 : BitVec 32 := BitVec.ofNat 32 (i 0).val
  let v36 : Index := Scalar.indexCast arg0
  let arg1 : BitVec 32 := BitVec.ofNat 32 (i 1).val
  let c10_i32_12 : BitVec 32 := 10#32
  let v34 : BitVec 32 := Scalar.muli arg1 c10_i32_12
  let c0_i32_9 : BitVec 32 := 0#32
  let c1_i32_10 : BitVec 32 := 1#32
  let arg13 : BitVec 32 := Scf.iv c0_i32_9 c1_i32_10 k0_t9
  let v35 : BitVec 32 := Scalar.addi v34 arg13
  let v37 : Index := Scalar.indexCast v35
  ![v36.toNat, v37.toNat]
def k0_off27 (k0_t9 : Fin k0_t9_loop.trips) : Fin 4 → Nat :=
  let c0_18 : Index := 0#32
  let c0_i32_9 : BitVec 32 := 0#32
  let c1_i32_10 : BitVec 32 := 1#32
  let arg13 : BitVec 32 := Scf.iv c0_i32_9 c1_i32_10 k0_t9
  let v45 : Index := Scalar.indexCast arg13
  let c0_19 : Index := 0#32
  let c0_20 : Index := 0#32
  ![0, v45.toNat, 0, 0]
def k0_mult9 (k0_t9 : Fin k0_t9_loop.trips) : BitVec 32 :=
  let c0_i32_9 : BitVec 32 := 0#32
  let c1_i32_10 : BitVec 32 := 1#32
  let arg13 : BitVec 32 := Scf.iv c0_i32_9 c1_i32_10 k0_t9
  let c128_i32 : BitVec 32 := 128#32
  let v441 : BitVec 32 := Scalar.muli arg13 c128_i32
  v441
def k0_off28 (k0_t9 : Fin k0_t9_loop.trips) : Fin 3 → Nat :=
  let c0_263 : Index := 0#32
  let c0_264 : Index := 0#32
  let c0_i32_9 : BitVec 32 := 0#32
  let c1_i32_10 : BitVec 32 := 1#32
  let arg13 : BitVec 32 := Scf.iv c0_i32_9 c1_i32_10 k0_t9
  let c128_i32 : BitVec 32 := 128#32
  let v441 : BitVec 32 := Scalar.muli arg13 c128_i32
  let v442 : BitVec 32 := v441
  let v443 : Index := Scalar.indexCast v442
  ![0, 0, v443.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S2x60 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .smem S2x6 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .smem S2x6 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x10x256x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x2304x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x128x2304 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x256x1280 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== KernelIdeal.lean ====
variable {F : FTy → Type} [FloatOps F] [Named F]
def κ : String → Option EReal := fun
  | "log2_e" => some (((Real.log 2)⁻¹ : ℝ) : EReal)
  | _ => none
-- ==== ReferenceIdeal.lean ====
abbrev S2x2304x60x128 : Shape := ⟨4, ![2, 2304, 60, 128]⟩
abbrev S2x60 : Shape := ⟨2, ![2, 60]⟩
abbrev S2x2304x6x128 : Shape := ⟨4, ![2, 2304, 6, 128]⟩
abbrev S2x6 : Shape := ⟨2, ![2, 6]⟩
abbrev S2x60x2304x128 : Shape := ⟨4, ![2, 60, 2304, 128]⟩
abbrev S120x2304x128 : Shape := ⟨3, ![120, 2304, 128]⟩
abbrev S2x6x2304x128 : Shape := ⟨4, ![2, 6, 2304, 128]⟩
abbrev S2x6x1x2304x128 : Shape := ⟨5, ![2, 6, 1, 2304, 128]⟩
abbrev S2x6x10x2304x128 : Shape := ⟨5, ![2, 6, 10, 2304, 128]⟩
abbrev S120x1x1 : Shape := ⟨3, ![120, 1, 1]⟩
abbrev S2x6x1 : Shape := ⟨3, ![2, 6, 1]⟩
abbrev S2x6x10 : Shape := ⟨3, ![2, 6, 10]⟩
abbrev S120 : Shape := ⟨1, ![120]⟩
abbrev S2x2304x7680 : Shape := ⟨3, ![2, 2304, 7680]⟩
abbrev S120x2304x2304 : Shape := ⟨3, ![120, 2304, 2304]⟩
abbrev S120x2304 : Shape := ⟨2, ![120, 2304]⟩
abbrev S120x2304x1 : Shape := ⟨3, ![120, 2304, 1]⟩

abbrev nBuf : Space → Nat
  | .hbm => 29
  | .vmem => 7
  | .smem => 0
  | _ => 0

abbrev bufTy : (tb : Table) → Fin (tcTables nBuf tb) → BufTy
  | .hbm, ⟨0, _⟩ => ⟨S2x2304x60x128, .i8⟩
  | .hbm, ⟨1, _⟩ => ⟨S2x60, .f32⟩
  | .hbm, ⟨2, _⟩ => ⟨S2x2304x6x128, .i8⟩
  | .hbm, ⟨3, _⟩ => ⟨S2x6, .f32⟩
  | .hbm, ⟨4, _⟩ => ⟨S2x2304x6x128, .i8⟩
  | .hbm, ⟨5, _⟩ => ⟨S2x6, .f32⟩
  | .hbm, ⟨6, _⟩ => ⟨S2x2304x60x128, .fp8e4m3⟩
  | .hbm, ⟨7, _⟩ => ⟨S2x2304x6x128, .fp8e4m3⟩
  | .hbm, ⟨8, _⟩ => ⟨S2x2304x6x128, .fp8e4m3⟩
  | .hbm, ⟨9, _⟩ => ⟨S2x60x2304x128, .fp8e4m3⟩
  | .hbm, ⟨10, _⟩ => ⟨S120x2304x128, .fp8e4m3⟩
  | .hbm, ⟨11, _⟩ => ⟨S2x6x2304x128, .fp8e4m3⟩
  | .hbm, ⟨12, _⟩ => ⟨S2x6x1x2304x128, .fp8e4m3⟩
  | .hbm, ⟨13, _⟩ => ⟨S2x6x10x2304x128, .fp8e4m3⟩
  | .hbm, ⟨14, _⟩ => ⟨S120x2304x128, .fp8e4m3⟩
  | .hbm, ⟨15, _⟩ => ⟨S2x6x2304x128, .fp8e4m3⟩
  | .hbm, ⟨16, _⟩ => ⟨S2x6x1x2304x128, .fp8e4m3⟩
  | .hbm, ⟨17, _⟩ => ⟨S2x6x10x2304x128, .fp8e4m3⟩
  | .hbm, ⟨18, _⟩ => ⟨S120x2304x128, .fp8e4m3⟩
  | .hbm, ⟨19, _⟩ => ⟨S120x1x1, .f32⟩
  | .hbm, ⟨20, _⟩ => ⟨S2x6x1, .f32⟩
  | .hbm, ⟨21, _⟩ => ⟨S2x6x10, .f32⟩
  | .hbm, ⟨22, _⟩ => ⟨S120, .f32⟩
  | .hbm, ⟨23, _⟩ => ⟨S120x1x1, .f32⟩
  | .hbm, ⟨24, _⟩ => ⟨S2x6x1, .f32⟩
  | .hbm, ⟨25, _⟩ => ⟨S2x6x10, .f32⟩
  | .hbm, ⟨26, _⟩ => ⟨S120, .f32⟩
  | .hbm, ⟨27, _⟩ => ⟨S120x1x1, .f32⟩
  | .hbm, ⟨28, _⟩ => ⟨S2x2304x7680, .bf16⟩
  | .local _ .vmem, ⟨0, _⟩ => ⟨S120x2304x128, .fp8e4m3⟩
  | .local _ .vmem, ⟨1, _⟩ => ⟨S120x1x1, .f32⟩
  | .local _ .vmem, ⟨2, _⟩ => ⟨S120x2304x128, .fp8e4m3⟩
  | .local _ .vmem, ⟨3, _⟩ => ⟨S120x1x1, .f32⟩
  | .local _ .vmem, ⟨4, _⟩ => ⟨S120x2304x128, .fp8e4m3⟩
  | .local _ .vmem, ⟨5, _⟩ => ⟨S120x1x1, .f32⟩
  | .local _ .vmem, ⟨6, _⟩ => ⟨S2x2304x7680, .bf16⟩
  | _, _ => ⟨S2x2304x60x128, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "log2_e" => some (((Real.log 2)⁻¹ : ℝ) : EReal)
  | _ => none

abbrev grid0 : Pipeline.Grid := .none

abbrev stage0_0 : Fin 1 → Memref sig .tc .vmem S120x2304x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S120x1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S120x2304x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S120x1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S120x2304x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S120x1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x2304x7680 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Bits.Runs.lean ====
/- The run of the kernel outside the body: its memory at region entry, the windows' blocks and the loop's invariants. -/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Run

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`. -/
abbrev V (c : Dev nD) (b : Ref sig .tc) : Buf (Elt F) ((c : Thread nD τ).loc b) :=
  StableHlo.after (List.flatten [hostOps0, hostOps0_1]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1] (by simp only [List.Forall]; exact ⟨hostOps0_sub, hostOps0_1_sub⟩)
    (by simp only [List.Forall]; exact ⟨hostOps0_fresh, hostOps0_1_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (V_main_arg0 m c),
      (Pipeline.RDat.FramePost.arr_in h c 0 rfl).trans ((hA c 0).trans (V_main_arg1 m c)),
      ((h c).2 main_arg2 (Pipeline.mem_restRefs_of main_arg2 (by decide) (by decide))).trans (V_main_arg2 m c),
      (Pipeline.RDat.FramePost.arr_in h c 1 rfl).trans ((hA c 1).trans (V_main_arg3 m c)),
      ((h c).2 main_arg4 (Pipeline.mem_restRefs_of main_arg4 (by decide) (by decide))).trans (V_main_arg4 m c),
      (Pipeline.RDat.FramePost.arr_in h c 2 rfl).trans ((hA c 2).trans (V_main_arg5 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 9) — by arithmetic of the point. -/
theorem hcond0_0 : ∀ t : Fin cfg0.N, cond0_0 (grid0.coords t) ↔ t.val % 9 = 0 :=
  (fun t => by
    have ht : t.val < 108 := Nat.lt_of_lt_of_eq t.isLt N_0
    have e0 : (grid0.coords t 0).val = t.val / 54 % 2 := Pipeline.Grid.coords_val t 0 (by decide) rfl
    have e1 : (grid0.coords t 1).val = t.val / 9 % 6 := Pipeline.Grid.coords_val t 1 (by decide) rfl
    have e2 : (grid0.coords t 2).val = t.val / 1 % 9 := Pipeline.Grid.coords_val t 2 (by decide) rfl
    simp only [cond0_0, k0_cond1, e0, e1, e2]
    word_cmp
   : ∀ t : Fin grid0.N, cond0_0 (grid0.coords t) ↔ t.val % 9 = 0)

/-- The condition of the body's `scf.if` 1 (`k0_h2`), from the grid coordinates (the skeleton's scalar
    chain substituted). -/
abbrev cond0_1 (i : grid0.Coords) : Prop := k0_cond2 i = 1#1
/-- It holds at the points ≡ 1 (mod 9) — by arithmetic of the point. -/
theorem hcond0_1 : ∀ t : Fin cfg0.N, cond0_1 (grid0.coords t) ↔ t.val % 9 = 1 :=
  (fun t => by
    have ht : t.val < 108 := Nat.lt_of_lt_of_eq t.isLt N_0
    have e0 : (grid0.coords t 0).val = t.val / 54 % 2 := Pipeline.Grid.coords_val t 0 (by decide) rfl
    have e1 : (grid0.coords t 1).val = t.val / 9 % 6 := Pipeline.Grid.coords_val t 1 (by decide) rfl
    have e2 : (grid0.coords t 2).val = t.val / 1 % 9 := Pipeline.Grid.coords_val t 2 (by decide) rfl
    simp only [cond0_1, k0_cond2, e0, e1, e2]
    word_cmp
   : ∀ t : Fin grid0.N, cond0_1 (grid0.coords t) ↔ t.val % 9 = 1)

/-- The condition of the body's `scf.if` 2 (`k0_h3`), from the grid coordinates (the skeleton's scalar
    chain substituted). -/
abbrev cond0_2 (i : grid0.Coords) : Prop := k0_cond3 i = 1#1
/-- It holds at the points ≡ 2 (mod 9) — by arithmetic of the point. -/
theorem hcond0_2 : ∀ t : Fin cfg0.N, cond0_2 (grid0.coords t) ↔ t.val % 9 = 2 :=
  (fun t => by
    have ht : t.val < 108 := Nat.lt_of_lt_of_eq t.isLt N_0
    have e0 : (grid0.coords t 0).val = t.val / 54 % 2 := Pipeline.Grid.coords_val t 0 (by decide) rfl
    have e1 : (grid0.coords t 1).val = t.val / 9 % 6 := Pipeline.Grid.coords_val t 1 (by decide) rfl
    have e2 : (grid0.coords t 2).val = t.val / 1 % 9 := Pipeline.Grid.coords_val t 2 (by decide) rfl
    simp only [cond0_2, k0_cond3, e0, e1, e2]
    word_cmp
   : ∀ t : Fin grid0.N, cond0_2 (grid0.coords t) ↔ t.val % 9 = 2)

/-- The condition of the body's `scf.if` 3 (`k0_h4`), from the grid coordinates (the skeleton's scalar
    chain substituted). -/
abbrev cond0_3 (i : grid0.Coords) : Prop := k0_cond4 i = 1#1
/-- It holds at the points ≡ 3 (mod 9) — by arithmetic of the point. -/
theorem hcond0_3 : ∀ t : Fin cfg0.N, cond0_3 (grid0.coords t) ↔ t.val % 9 = 3 :=
  (fun t => by
    have ht : t.val < 108 := Nat.lt_of_lt_of_eq t.isLt N_0
    have e0 : (grid0.coords t 0).val = t.val / 54 % 2 := Pipeline.Grid.coords_val t 0 (by decide) rfl
    have e1 : (grid0.coords t 1).val = t.val / 9 % 6 := Pipeline.Grid.coords_val t 1 (by decide) rfl
    have e2 : (grid0.coords t 2).val = t.val / 1 % 9 := Pipeline.Grid.coords_val t 2 (by decide) rfl
    simp only [cond0_3, k0_cond4, e0, e1, e2]
    word_cmp
   : ∀ t : Fin grid0.N, cond0_3 (grid0.coords t) ↔ t.val % 9 = 3)

/-- The condition of the body's `scf.if` 4 (`k0_h5`), from the grid coordinates (the skeleton's scalar
    chain substituted). -/
abbrev cond0_4 (i : grid0.Coords) : Prop := k0_cond5 i = 1#1
/-- It holds at the points ≡ 4 (mod 9) — by arithmetic of the point. -/
theorem hcond0_4 : ∀ t : Fin cfg0.N, cond0_4 (grid0.coords t) ↔ t.val % 9 = 4 :=
  (fun t => by
    have ht : t.val < 108 := Nat.lt_of_lt_of_eq t.isLt N_0
    have e0 : (grid0.coords t 0).val = t.val / 54 % 2 := Pipeline.Grid.coords_val t 0 (by decide) rfl
    have e1 : (grid0.coords t 1).val = t.val / 9 % 6 := Pipeline.Grid.coords_val t 1 (by decide) rfl
    have e2 : (grid0.coords t 2).val = t.val / 1 % 9 := Pipeline.Grid.coords_val t 2 (by decide) rfl
    simp only [cond0_4, k0_cond5, e0, e1, e2]
    word_cmp
   : ∀ t : Fin grid0.N, cond0_4 (grid0.coords t) ↔ t.val % 9 = 4)

/-- The condition of the body's `scf.if` 5 (`k0_h6`), from the grid coordinates (the skeleton's scalar
    chain substituted). -/
abbrev cond0_5 (i : grid0.Coords) : Prop := k0_cond6 i = 1#1
/-- It holds at the points ≡ 5 (mod 9) — by arithmetic of the point. -/
theorem hcond0_5 : ∀ t : Fin cfg0.N, cond0_5 (grid0.coords t) ↔ t.val % 9 = 5 :=
  (fun t => by
    have ht : t.val < 108 := Nat.lt_of_lt_of_eq t.isLt N_0
    have e0 : (grid0.coords t 0).val = t.val / 54 % 2 := Pipeline.Grid.coords_val t 0 (by decide) rfl
    have e1 : (grid0.coords t 1).val = t.val / 9 % 6 := Pipeline.Grid.coords_val t 1 (by decide) rfl
    have e2 : (grid0.coords t 2).val = t.val / 1 % 9 := Pipeline.Grid.coords_val t 2 (by decide) rfl
    simp only [cond0_5, k0_cond6, e0, e1, e2]
    word_cmp
   : ∀ t : Fin grid0.N, cond0_5 (grid0.coords t) ↔ t.val % 9 = 5)

/-- The condition of the body's `scf.if` 6 (`k0_h7`), from the grid coordinates (the skeleton's scalar
    chain substituted). -/
abbrev cond0_6 (i : grid0.Coords) : Prop := k0_cond7 i = 1#1
/-- It holds at the points ≡ 6 (mod 9) — by arithmetic of the point. -/
theorem hcond0_6 : ∀ t : Fin cfg0.N, cond0_6 (grid0.coords t) ↔ t.val % 9 = 6 :=
  (fun t => by
    have ht : t.val < 108 := Nat.lt_of_lt_of_eq t.isLt N_0
    have e0 : (grid0.coords t 0).val = t.val / 54 % 2 := Pipeline.Grid.coords_val t 0 (by decide) rfl
    have e1 : (grid0.coords t 1).val = t.val / 9 % 6 := Pipeline.Grid.coords_val t 1 (by decide) rfl
    have e2 : (grid0.coords t 2).val = t.val / 1 % 9 := Pipeline.Grid.coords_val t 2 (by decide) rfl
    simp only [cond0_6, k0_cond7, e0, e1, e2]
    word_cmp
   : ∀ t : Fin grid0.N, cond0_6 (grid0.coords t) ↔ t.val % 9 = 6)

/-- The condition of the body's `scf.if` 7 (`k0_h8`), from the grid coordinates (the skeleton's scalar
    chain substituted). -/
abbrev cond0_7 (i : grid0.Coords) : Prop := k0_cond8 i = 1#1
/-- It holds at the points ≡ 7 (mod 9) — by arithmetic of the point. -/
theorem hcond0_7 : ∀ t : Fin cfg0.N, cond0_7 (grid0.coords t) ↔ t.val % 9 = 7 :=
  (fun t => by
    have ht : t.val < 108 := Nat.lt_of_lt_of_eq t.isLt N_0
    have e0 : (grid0.coords t 0).val = t.val / 54 % 2 := Pipeline.Grid.coords_val t 0 (by decide) rfl
    have e1 : (grid0.coords t 1).val = t.val / 9 % 6 := Pipeline.Grid.coords_val t 1 (by decide) rfl
    have e2 : (grid0.coords t 2).val = t.val / 1 % 9 := Pipeline.Grid.coords_val t 2 (by decide) rfl
    simp only [cond0_7, k0_cond8, e0, e1, e2]
    word_cmp
   : ∀ t : Fin grid0.N, cond0_7 (grid0.coords t) ↔ t.val % 9 = 7)

/-- The condition of the body's `scf.if` 8 (`k0_h9`), from the grid coordinates (the skeleton's scalar
    chain substituted). -/
abbrev cond0_8 (i : grid0.Coords) : Prop := k0_cond9 i = 1#1
/-- It holds at the points ≡ 8 (mod 9) — by arithmetic of the point. -/
theorem hcond0_8 : ∀ t : Fin cfg0.N, cond0_8 (grid0.coords t) ↔ t.val % 9 = 8 :=
  (fun t => by
    have ht : t.val < 108 := Nat.lt_of_lt_of_eq t.isLt N_0
    have e0 : (grid0.coords t 0).val = t.val / 54 % 2 := Pipeline.Grid.coords_val t 0 (by decide) rfl
    have e1 : (grid0.coords t 1).val = t.val / 9 % 6 := Pipeline.Grid.coords_val t 1 (by decide) rfl
    have e2 : (grid0.coords t 2).val = t.val / 1 % 9 := Pipeline.Grid.coords_val t 2 (by decide) rfl
    simp only [cond0_8, k0_cond9, e0, e1, e2]
    word_cmp
   : ∀ t : Fin grid0.N, cond0_8 (grid0.coords t) ↔ t.val % 9 = 8)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S2x60 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S2x6 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S2x6 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x10x256x128 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x2304x128 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x128x2304 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256x1280 .bf16 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S2x2304x256 .f32 := Memref.whole cc0_scratch0
abbrev scM0_1 : Memref sig .tc .vmem S8x256 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Run

end
-- ==== Proof.Bits.RunA.lean ====
/- One case of the body of the kernel: the grid points of query tile 0, whose body runs over the key chunks up to that tile. -/
module

public import proofs.«01_k».proof.Proof.Bits.Runs

@[expose] public section

-- membership in a rectangle of production extents (`View.cover_of_tiled`): the elaborator's structural look
-- recurses once per coordinate of the long axes
set_option maxRecDepth 16384

noncomputable section

namespace Cert.Kernel.Run

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE A (`scf.if` 0 taken, `scf.if` 1 not taken, `scf.if` 2 not taken, `scf.if` 3 not taken, `scf.if` 4 not taken, `scf.if` 5 not taken, `scf.if` 6 not taken, `scf.if` 7 not taken, `scf.if` 8 not taken: points 0, 9, … 99: 12 of 108): on whole staging memrefs — the inputs' at their contents,
    the FORGOTTEN outputs' (7) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg3 : Memref sig .tc .smem S2x60 .f32) (harg3 : arg3.IsWhole) (arg4 : Memref sig .tc .smem S2x6 .f32) (harg4 : arg4.IsWhole) (arg5 : Memref sig .tc .smem S2x6 .f32) (harg5 : arg5.IsWhole) (arg6 : Memref sig .tc .vmem S1x10x256x128 .fp8e4m3) (harg6 : arg6.IsWhole) (arg7 : Memref sig .tc .vmem S1x1x2304x128 .fp8e4m3) (harg7 : arg7.IsWhole) (arg8 : Memref sig .tc .vmem S1x1x128x2304 .fp8e4m3) (harg8 : arg8.IsWhole) (arg9 : Memref sig .tc .vmem S256x256 .f32) (harg9 : arg9.IsWhole) (arg10 : Memref sig .tc .vmem S1x256x1280 .bf16) (harg10 : arg10.IsWhole) (arg11 : Memref sig .tc .vmem S2x2304x256 .f32) (harg11 : arg11.IsWhole) (arg12 : Memref sig .tc .vmem S8x256 .f32) (harg12 : arg12.IsWhole) (hc0 : cond0_0 i) (hc1 : ¬cond0_1 i) (hc2 : ¬cond0_2 i) (hc3 : ¬cond0_3 i) (hc4 : ¬cond0_4 i) (hc5 : ¬cond0_5 i) (hc6 : ¬cond0_6 i) (hc7 : ¬cond0_7 i) (hc8 : ¬cond0_8 i)
    (x0 : Vec F S2x60 .f32) (x1 : Vec F S2x6 .f32) (x2 : Vec F S2x6 .f32) (x3 : Vec F S1x10x256x128 .fp8e4m3) (x4 : Vec F S1x1x2304x128 .fp8e4m3) (x5 : Vec F S1x1x128x2304 .fp8e4m3) (x6 : Vec F S256x256 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_causal_gqa i arg3 harg3 arg4 harg4 arg5 harg5 arg6 harg6 arg7 harg7 arg8 harg8 arg9 harg9 arg10 harg10 arg11 harg11 arg12 harg12) K := by
    intro E K
    simp only [cc0_causal_gqa_eq_skeleton]; unfold cc0_causal_gqa_skel
    simp only [k0_part61_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | sl_exact hc0 | sl_exact hc1 | sl_exact hc2 | sl_exact hc3 | sl_exact hc4 | sl_exact hc5 | sl_exact hc6 | sl_exact hc7 | sl_exact hc8)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _, _; isplitr; swap; · iexact H7
      ipureintro; rfl
    isplitl [HS0]
    · iexists _, _; isplitr; swap; · iexact HS0
      ipureintro; rfl
    iexists _, _; isplitr; swap; · iexact HS1
    ipureintro; rfl

end Cert.Kernel.Run

end
-- ==== Proof.Bits.RunB.lean ====
/- One case of the body of the kernel: the grid points of query tile 1, whose body runs over the key chunks up to that tile. -/
module

public import proofs.«01_k».proof.Proof.Bits.RunA

@[expose] public section

-- membership in a rectangle of production extents (`View.cover_of_tiled`): the elaborator's structural look
-- recurses once per coordinate of the long axes
set_option maxRecDepth 16384

noncomputable section

namespace Cert.Kernel.Run

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE B (`scf.if` 0 not taken, `scf.if` 1 taken, `scf.if` 2 not taken, `scf.if` 3 not taken, `scf.if` 4 not taken, `scf.if` 5 not taken, `scf.if` 6 not taken, `scf.if` 7 not taken, `scf.if` 8 not taken: points 1, 10, … 100: 12 of 108): on whole staging memrefs — the inputs' at their contents,
    the FORGOTTEN outputs' (7) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg3 : Memref sig .tc .smem S2x60 .f32) (harg3 : arg3.IsWhole) (arg4 : Memref sig .tc .smem S2x6 .f32) (harg4 : arg4.IsWhole) (arg5 : Memref sig .tc .smem S2x6 .f32) (harg5 : arg5.IsWhole) (arg6 : Memref sig .tc .vmem S1x10x256x128 .fp8e4m3) (harg6 : arg6.IsWhole) (arg7 : Memref sig .tc .vmem S1x1x2304x128 .fp8e4m3) (harg7 : arg7.IsWhole) (arg8 : Memref sig .tc .vmem S1x1x128x2304 .fp8e4m3) (harg8 : arg8.IsWhole) (arg9 : Memref sig .tc .vmem S256x256 .f32) (harg9 : arg9.IsWhole) (arg10 : Memref sig .tc .vmem S1x256x1280 .bf16) (harg10 : arg10.IsWhole) (arg11 : Memref sig .tc .vmem S2x2304x256 .f32) (harg11 : arg11.IsWhole) (arg12 : Memref sig .tc .vmem S8x256 .f32) (harg12 : arg12.IsWhole) (hc0 : ¬cond0_0 i) (hc1 : cond0_1 i) (hc2 : ¬cond0_2 i) (hc3 : ¬cond0_3 i) (hc4 : ¬cond0_4 i) (hc5 : ¬cond0_5 i) (hc6 : ¬cond0_6 i) (hc7 : ¬cond0_7 i) (hc8 : ¬cond0_8 i)
    (x0 : Vec F S2x60 .f32) (x1 : Vec F S2x6 .f32) (x2 : Vec F S2x6 .f32) (x3 : Vec F S1x10x256x128 .fp8e4m3) (x4 : Vec F S1x1x2304x128 .fp8e4m3) (x5 : Vec F S1x1x128x2304 .fp8e4m3) (x6 : Vec F S256x256 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_causal_gqa i arg3 harg3 arg4 harg4 arg5 harg5 arg6 harg6 arg7 harg7 arg8 harg8 arg9 harg9 arg10 harg10 arg11 harg11 arg12 harg12) K := by
    intro E K
    simp only [cc0_causal_gqa_eq_skeleton]; unfold cc0_causal_gqa_skel
    simp only [k0_part61_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | sl_exact hc0 | sl_exact hc1 | sl_exact hc2 | sl_exact hc3 | sl_exact hc4 | sl_exact hc5 | sl_exact hc6 | sl_exact hc7 | sl_exact hc8)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _, _; isplitr; swap; · iexact H7
      ipureintro; rfl
    isplitl [HS0]
    · iexists _, _; isplitr; swap; · iexact HS0
      ipureintro; rfl
    iexists _, _; isplitr; swap; · iexact HS1
    ipureintro; rfl

end Cert.Kernel.Run

end
-- ==== Proof.Bits.RunC.lean ====
/- One case of the body of the kernel: the grid points of query tile 2, whose body runs over the key chunks up to that tile. -/
module

public import proofs.«01_k».proof.Proof.Bits.RunB

@[expose] public section

-- membership in a rectangle of production extents (`View.cover_of_tiled`): the elaborator's structural look
-- recurses once per coordinate of the long axes
set_option maxRecDepth 16384

noncomputable section

namespace Cert.Kernel.Run

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE C (`scf.if` 0 not taken, `scf.if` 1 not taken, `scf.if` 2 taken, `scf.if` 3 not taken, `scf.if` 4 not taken, `scf.if` 5 not taken, `scf.if` 6 not taken, `scf.if` 7 not taken, `scf.if` 8 not taken: points 2, 11, … 101: 12 of 108): on whole staging memrefs — the inputs' at their contents,
    the FORGOTTEN outputs' (7) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_C (c : Dev nD) (i : grid0.Coords) (arg3 : Memref sig .tc .smem S2x60 .f32) (harg3 : arg3.IsWhole) (arg4 : Memref sig .tc .smem S2x6 .f32) (harg4 : arg4.IsWhole) (arg5 : Memref sig .tc .smem S2x6 .f32) (harg5 : arg5.IsWhole) (arg6 : Memref sig .tc .vmem S1x10x256x128 .fp8e4m3) (harg6 : arg6.IsWhole) (arg7 : Memref sig .tc .vmem S1x1x2304x128 .fp8e4m3) (harg7 : arg7.IsWhole) (arg8 : Memref sig .tc .vmem S1x1x128x2304 .fp8e4m3) (harg8 : arg8.IsWhole) (arg9 : Memref sig .tc .vmem S256x256 .f32) (harg9 : arg9.IsWhole) (arg10 : Memref sig .tc .vmem S1x256x1280 .bf16) (harg10 : arg10.IsWhole) (arg11 : Memref sig .tc .vmem S2x2304x256 .f32) (harg11 : arg11.IsWhole) (arg12 : Memref sig .tc .vmem S8x256 .f32) (harg12 : arg12.IsWhole) (hc0 : ¬cond0_0 i) (hc1 : ¬cond0_1 i) (hc2 : cond0_2 i) (hc3 : ¬cond0_3 i) (hc4 : ¬cond0_4 i) (hc5 : ¬cond0_5 i) (hc6 : ¬cond0_6 i) (hc7 : ¬cond0_7 i) (hc8 : ¬cond0_8 i)
    (x0 : Vec F S2x60 .f32) (x1 : Vec F S2x6 .f32) (x2 : Vec F S2x6 .f32) (x3 : Vec F S1x10x256x128 .fp8e4m3) (x4 : Vec F S1x1x2304x128 .fp8e4m3) (x5 : Vec F S1x1x128x2304 .fp8e4m3) (x6 : Vec F S256x256 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_causal_gqa i arg3 harg3 arg4 harg4 arg5 harg5 arg6 harg6 arg7 harg7 arg8 harg8 arg9 harg9 arg10 harg10 arg11 harg11 arg12 harg12) K := by
    intro E K
    simp only [cc0_causal_gqa_eq_skeleton]; unfold cc0_causal_gqa_skel
    simp only [k0_part61_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | sl_exact hc0 | sl_exact hc1 | sl_exact hc2 | sl_exact hc3 | sl_exact hc4 | sl_exact hc5 | sl_exact hc6 | sl_exact hc7 | sl_exact hc8)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _, _; isplitr; swap; · iexact H7
      ipureintro; rfl
    isplitl [HS0]
    · iexists _, _; isplitr; swap; · iexact HS0
      ipureintro; rfl
    iexists _, _; isplitr; swap; · iexact HS1
    ipureintro; rfl

end Cert.Kernel.Run

end
-- ==== Proof.Bits.RunD.lean ====
/- One case of the body of the kernel: the grid points of query tile 3, whose body runs over the key chunks up to that tile. -/
module

public import proofs.«01_k».proof.Proof.Bits.RunC

@[expose] public section

-- membership in a rectangle of production extents (`View.cover_of_tiled`): the elaborator's structural look
-- recurses once per coordinate of the long axes
set_option maxRecDepth 16384

noncomputable section

namespace Cert.Kernel.Run

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE D (`scf.if` 0 not taken, `scf.if` 1 not taken, `scf.if` 2 not taken, `scf.if` 3 taken, `scf.if` 4 not taken, `scf.if` 5 not taken, `scf.if` 6 not taken, `scf.if` 7 not taken, `scf.if` 8 not taken: points 3, 12, … 102: 12 of 108): on whole staging memrefs — the inputs' at their contents,
    the FORGOTTEN outputs' (7) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_D (c : Dev nD) (i : grid0.Coords) (arg3 : Memref sig .tc .smem S2x60 .f32) (harg3 : arg3.IsWhole) (arg4 : Memref sig .tc .smem S2x6 .f32) (harg4 : arg4.IsWhole) (arg5 : Memref sig .tc .smem S2x6 .f32) (harg5 : arg5.IsWhole) (arg6 : Memref sig .tc .vmem S1x10x256x128 .fp8e4m3) (harg6 : arg6.IsWhole) (arg7 : Memref sig .tc .vmem S1x1x2304x128 .fp8e4m3) (harg7 : arg7.IsWhole) (arg8 : Memref sig .tc .vmem S1x1x128x2304 .fp8e4m3) (harg8 : arg8.IsWhole) (arg9 : Memref sig .tc .vmem S256x256 .f32) (harg9 : arg9.IsWhole) (arg10 : Memref sig .tc .vmem S1x256x1280 .bf16) (harg10 : arg10.IsWhole) (arg11 : Memref sig .tc .vmem S2x2304x256 .f32) (harg11 : arg11.IsWhole) (arg12 : Memref sig .tc .vmem S8x256 .f32) (harg12 : arg12.IsWhole) (hc0 : ¬cond0_0 i) (hc1 : ¬cond0_1 i) (hc2 : ¬cond0_2 i) (hc3 : cond0_3 i) (hc4 : ¬cond0_4 i) (hc5 : ¬cond0_5 i) (hc6 : ¬cond0_6 i) (hc7 : ¬cond0_7 i) (hc8 : ¬cond0_8 i)
    (x0 : Vec F S2x60 .f32) (x1 : Vec F S2x6 .f32) (x2 : Vec F S2x6 .f32) (x3 : Vec F S1x10x256x128 .fp8e4m3) (x4 : Vec F S1x1x2304x128 .fp8e4m3) (x5 : Vec F S1x1x128x2304 .fp8e4m3) (x6 : Vec F S256x256 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_causal_gqa i arg3 harg3 arg4 harg4 arg5 harg5 arg6 harg6 arg7 harg7 arg8 harg8 arg9 harg9 arg10 harg10 arg11 harg11 arg12 harg12) K := by
    intro E K
    simp only [cc0_causal_gqa_eq_skeleton]; unfold cc0_causal_gqa_skel
    simp only [k0_part61_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | sl_exact hc0 | sl_exact hc1 | sl_exact hc2 | sl_exact hc3 | sl_exact hc4 | sl_exact hc5 | sl_exact hc6 | sl_exact hc7 | sl_exact hc8)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _, _; isplitr; swap; · iexact H7
      ipureintro; rfl
    isplitl [HS0]
    · iexists _, _; isplitr; swap; · iexact HS0
      ipureintro; rfl
    iexists _, _; isplitr; swap; · iexact HS1
    ipureintro; rfl

end Cert.Kernel.Run

end
-- ==== Proof.Bits.RunE.lean ====
/- One case of the body of the kernel: the grid points of query tile 4, whose body runs over the key chunks up to that tile. -/
module

public import proofs.«01_k».proof.Proof.Bits.RunD

@[expose] public section

-- membership in a rectangle of production extents (`View.cover_of_tiled`): the elaborator's structural look
-- recurses once per coordinate of the long axes
set_option maxRecDepth 16384

noncomputable section

namespace Cert.Kernel.Run

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE E (`scf.if` 0 not taken, `scf.if` 1 not taken, `scf.if` 2 not taken, `scf.if` 3 not taken, `scf.if` 4 taken, `scf.if` 5 not taken, `scf.if` 6 not taken, `scf.if` 7 not taken, `scf.if` 8 not taken: points 4, 13, … 103: 12 of 108): on whole staging memrefs — the inputs' at their contents,
    the FORGOTTEN outputs' (7) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_E (c : Dev nD) (i : grid0.Coords) (arg3 : Memref sig .tc .smem S2x60 .f32) (harg3 : arg3.IsWhole) (arg4 : Memref sig .tc .smem S2x6 .f32) (harg4 : arg4.IsWhole) (arg5 : Memref sig .tc .smem S2x6 .f32) (harg5 : arg5.IsWhole) (arg6 : Memref sig .tc .vmem S1x10x256x128 .fp8e4m3) (harg6 : arg6.IsWhole) (arg7 : Memref sig .tc .vmem S1x1x2304x128 .fp8e4m3) (harg7 : arg7.IsWhole) (arg8 : Memref sig .tc .vmem S1x1x128x2304 .fp8e4m3) (harg8 : arg8.IsWhole) (arg9 : Memref sig .tc .vmem S256x256 .f32) (harg9 : arg9.IsWhole) (arg10 : Memref sig .tc .vmem S1x256x1280 .bf16) (harg10 : arg10.IsWhole) (arg11 : Memref sig .tc .vmem S2x2304x256 .f32) (harg11 : arg11.IsWhole) (arg12 : Memref sig .tc .vmem S8x256 .f32) (harg12 : arg12.IsWhole) (hc0 : ¬cond0_0 i) (hc1 : ¬cond0_1 i) (hc2 : ¬cond0_2 i) (hc3 : ¬cond0_3 i) (hc4 : cond0_4 i) (hc5 : ¬cond0_5 i) (hc6 : ¬cond0_6 i) (hc7 : ¬cond0_7 i) (hc8 : ¬cond0_8 i)
    (x0 : Vec F S2x60 .f32) (x1 : Vec F S2x6 .f32) (x2 : Vec F S2x6 .f32) (x3 : Vec F S1x10x256x128 .fp8e4m3) (x4 : Vec F S1x1x2304x128 .fp8e4m3) (x5 : Vec F S1x1x128x2304 .fp8e4m3) (x6 : Vec F S256x256 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_causal_gqa i arg3 harg3 arg4 harg4 arg5 harg5 arg6 harg6 arg7 harg7 arg8 harg8 arg9 harg9 arg10 harg10 arg11 harg11 arg12 harg12) K := by
    intro E K
    simp only [cc0_causal_gqa_eq_skeleton]; unfold cc0_causal_gqa_skel
    simp only [k0_part61_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | sl_exact hc0 | sl_exact hc1 | sl_exact hc2 | sl_exact hc3 | sl_exact hc4 | sl_exact hc5 | sl_exact hc6 | sl_exact hc7 | sl_exact hc8)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _, _; isplitr; swap; · iexact H7
      ipureintro; rfl
    isplitl [HS0]
    · iexists _, _; isplitr; swap; · iexact HS0
      ipureintro; rfl
    iexists _, _; isplitr; swap; · iexact HS1
    ipureintro; rfl

end Cert.Kernel.Run

end
-- ==== Proof.Bits.RunF.lean ====
/- One case of the body of the kernel: the grid points of query tile 5, whose body runs over the key chunks up to that tile. -/
module

public import proofs.«01_k».proof.Proof.Bits.RunE

@[expose] public section

-- membership in a rectangle of production extents (`View.cover_of_tiled`): the elaborator's structural look
-- recurses once per coordinate of the long axes
set_option maxRecDepth 16384

noncomputable section

namespace Cert.Kernel.Run

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE F (`scf.if` 0 not taken, `scf.if` 1 not taken, `scf.if` 2 not taken, `scf.if` 3 not taken, `scf.if` 4 not taken, `scf.if` 5 taken, `scf.if` 6 not taken, `scf.if` 7 not taken, `scf.if` 8 not taken: points 5, 14, … 104: 12 of 108): on whole staging memrefs — the inputs' at their contents,
    the FORGOTTEN outputs' (7) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_F (c : Dev nD) (i : grid0.Coords) (arg3 : Memref sig .tc .smem S2x60 .f32) (harg3 : arg3.IsWhole) (arg4 : Memref sig .tc .smem S2x6 .f32) (harg4 : arg4.IsWhole) (arg5 : Memref sig .tc .smem S2x6 .f32) (harg5 : arg5.IsWhole) (arg6 : Memref sig .tc .vmem S1x10x256x128 .fp8e4m3) (harg6 : arg6.IsWhole) (arg7 : Memref sig .tc .vmem S1x1x2304x128 .fp8e4m3) (harg7 : arg7.IsWhole) (arg8 : Memref sig .tc .vmem S1x1x128x2304 .fp8e4m3) (harg8 : arg8.IsWhole) (arg9 : Memref sig .tc .vmem S256x256 .f32) (harg9 : arg9.IsWhole) (arg10 : Memref sig .tc .vmem S1x256x1280 .bf16) (harg10 : arg10.IsWhole) (arg11 : Memref sig .tc .vmem S2x2304x256 .f32) (harg11 : arg11.IsWhole) (arg12 : Memref sig .tc .vmem S8x256 .f32) (harg12 : arg12.IsWhole) (hc0 : ¬cond0_0 i) (hc1 : ¬cond0_1 i) (hc2 : ¬cond0_2 i) (hc3 : ¬cond0_3 i) (hc4 : ¬cond0_4 i) (hc5 : cond0_5 i) (hc6 : ¬cond0_6 i) (hc7 : ¬cond0_7 i) (hc8 : ¬cond0_8 i)
    (x0 : Vec F S2x60 .f32) (x1 : Vec F S2x6 .f32) (x2 : Vec F S2x6 .f32) (x3 : Vec F S1x10x256x128 .fp8e4m3) (x4 : Vec F S1x1x2304x128 .fp8e4m3) (x5 : Vec F S1x1x128x2304 .fp8e4m3) (x6 : Vec F S256x256 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_causal_gqa i arg3 harg3 arg4 harg4 arg5 harg5 arg6 harg6 arg7 harg7 arg8 harg8 arg9 harg9 arg10 harg10 arg11 harg11 arg12 harg12) K := by
    intro E K
    simp only [cc0_causal_gqa_eq_skeleton]; unfold cc0_causal_gqa_skel
    simp only [k0_part61_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | sl_exact hc0 | sl_exact hc1 | sl_exact hc2 | sl_exact hc3 | sl_exact hc4 | sl_exact hc5 | sl_exact hc6 | sl_exact hc7 | sl_exact hc8)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _, _; isplitr; swap; · iexact H7
      ipureintro; rfl
    isplitl [HS0]
    · iexists _, _; isplitr; swap; · iexact HS0
      ipureintro; rfl
    iexists _, _; isplitr; swap; · iexact HS1
    ipureintro; rfl

end Cert.Kernel.Run

end
-- ==== Proof.Bits.RunG.lean ====
/- One case of the body of the kernel: the grid points of query tile 6, whose body runs over the key chunks up to that tile. -/
module

public import proofs.«01_k».proof.Proof.Bits.RunF

@[expose] public section

-- membership in a rectangle of production extents (`View.cover_of_tiled`): the elaborator's structural look
-- recurses once per coordinate of the long axes
set_option maxRecDepth 16384

noncomputable section

namespace Cert.Kernel.Run

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE G (`scf.if` 0 not taken, `scf.if` 1 not taken, `scf.if` 2 not taken, `scf.if` 3 not taken, `scf.if` 4 not taken, `scf.if` 5 not taken, `scf.if` 6 taken, `scf.if` 7 not taken, `scf.if` 8 not taken: points 6, 15, … 105: 12 of 108): on whole staging memrefs — the inputs' at their contents,
    the FORGOTTEN outputs' (7) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_G (c : Dev nD) (i : grid0.Coords) (arg3 : Memref sig .tc .smem S2x60 .f32) (harg3 : arg3.IsWhole) (arg4 : Memref sig .tc .smem S2x6 .f32) (harg4 : arg4.IsWhole) (arg5 : Memref sig .tc .smem S2x6 .f32) (harg5 : arg5.IsWhole) (arg6 : Memref sig .tc .vmem S1x10x256x128 .fp8e4m3) (harg6 : arg6.IsWhole) (arg7 : Memref sig .tc .vmem S1x1x2304x128 .fp8e4m3) (harg7 : arg7.IsWhole) (arg8 : Memref sig .tc .vmem S1x1x128x2304 .fp8e4m3) (harg8 : arg8.IsWhole) (arg9 : Memref sig .tc .vmem S256x256 .f32) (harg9 : arg9.IsWhole) (arg10 : Memref sig .tc .vmem S1x256x1280 .bf16) (harg10 : arg10.IsWhole) (arg11 : Memref sig .tc .vmem S2x2304x256 .f32) (harg11 : arg11.IsWhole) (arg12 : Memref sig .tc .vmem S8x256 .f32) (harg12 : arg12.IsWhole) (hc0 : ¬cond0_0 i) (hc1 : ¬cond0_1 i) (hc2 : ¬cond0_2 i) (hc3 : ¬cond0_3 i) (hc4 : ¬cond0_4 i) (hc5 : ¬cond0_5 i) (hc6 : cond0_6 i) (hc7 : ¬cond0_7 i) (hc8 : ¬cond0_8 i)
    (x0 : Vec F S2x60 .f32) (x1 : Vec F S2x6 .f32) (x2 : Vec F S2x6 .f32) (x3 : Vec F S1x10x256x128 .fp8e4m3) (x4 : Vec F S1x1x2304x128 .fp8e4m3) (x5 : Vec F S1x1x128x2304 .fp8e4m3) (x6 : Vec F S256x256 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_causal_gqa i arg3 harg3 arg4 harg4 arg5 harg5 arg6 harg6 arg7 harg7 arg8 harg8 arg9 harg9 arg10 harg10 arg11 harg11 arg12 harg12) K := by
    intro E K
    simp only [cc0_causal_gqa_eq_skeleton]; unfold cc0_causal_gqa_skel
    simp only [k0_part61_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | sl_exact hc0 | sl_exact hc1 | sl_exact hc2 | sl_exact hc3 | sl_exact hc4 | sl_exact hc5 | sl_exact hc6 | sl_exact hc7 | sl_exact hc8)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _, _; isplitr; swap; · iexact H7
      ipureintro; rfl
    isplitl [HS0]
    · iexists _, _; isplitr; swap; · iexact HS0
      ipureintro; rfl
    iexists _, _; isplitr; swap; · iexact HS1
    ipureintro; rfl

end Cert.Kernel.Run

end
-- ==== Proof.Bits.RunH.lean ====
/- One case of the body of the kernel: the grid points of query tile 7, whose body runs over the key chunks up to that tile. -/
module

public import proofs.«01_k».proof.Proof.Bits.RunG

@[expose] public section

-- membership in a rectangle of production extents (`View.cover_of_tiled`): the elaborator's structural look
-- recurses once per coordinate of the long axes
set_option maxRecDepth 16384

noncomputable section

namespace Cert.Kernel.Run

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE H (`scf.if` 0 not taken, `scf.if` 1 not taken, `scf.if` 2 not taken, `scf.if` 3 not taken, `scf.if` 4 not taken, `scf.if` 5 not taken, `scf.if` 6 not taken, `scf.if` 7 taken, `scf.if` 8 not taken: points 7, 16, … 106: 12 of 108): on whole staging memrefs — the inputs' at their contents,
    the FORGOTTEN outputs' (7) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_H (c : Dev nD) (i : grid0.Coords) (arg3 : Memref sig .tc .smem S2x60 .f32) (harg3 : arg3.IsWhole) (arg4 : Memref sig .tc .smem S2x6 .f32) (harg4 : arg4.IsWhole) (arg5 : Memref sig .tc .smem S2x6 .f32) (harg5 : arg5.IsWhole) (arg6 : Memref sig .tc .vmem S1x10x256x128 .fp8e4m3) (harg6 : arg6.IsWhole) (arg7 : Memref sig .tc .vmem S1x1x2304x128 .fp8e4m3) (harg7 : arg7.IsWhole) (arg8 : Memref sig .tc .vmem S1x1x128x2304 .fp8e4m3) (harg8 : arg8.IsWhole) (arg9 : Memref sig .tc .vmem S256x256 .f32) (harg9 : arg9.IsWhole) (arg10 : Memref sig .tc .vmem S1x256x1280 .bf16) (harg10 : arg10.IsWhole) (arg11 : Memref sig .tc .vmem S2x2304x256 .f32) (harg11 : arg11.IsWhole) (arg12 : Memref sig .tc .vmem S8x256 .f32) (harg12 : arg12.IsWhole) (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : cond0_7 i) (hc8 : ¬cond0_8 i)
    (x0 : Vec F S2x60 .f32) (x1 : Vec F S2x6 .f32) (x2 : Vec F S2x6 .f32) (x3 : Vec F S1x10x256x128 .fp8e4m3) (x4 : Vec F S1x1x2304x128 .fp8e4m3) (x5 : Vec F S1x1x128x2304 .fp8e4m3) (x6 : Vec F S256x256 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_causal_gqa i arg3 harg3 arg4 harg4 arg5 harg5 arg6 harg6 arg7 harg7 arg8 harg8 arg9 harg9 arg10 harg10 arg11 harg11 arg12 harg12) K := by
    intro E K
    simp only [cc0_causal_gqa_eq_skeleton]; unfold cc0_causal_gqa_skel
    simp only [k0_part61_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | sl_exact hc0 | sl_exact hc1 | sl_exact hc2 | sl_exact hc3 | sl_exact hc4 | sl_exact hc5 | sl_exact hc6 | sl_exact hc7 | sl_exact hc8)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _, _; isplitr; swap; · iexact H7
      ipureintro; rfl
    isplitl [HS0]
    · iexists _, _; isplitr; swap; · iexact HS0
      ipureintro; rfl
    iexists _, _; isplitr; swap; · iexact HS1
    ipureintro; rfl

end Cert.Kernel.Run

end
-- ==== Proof.Bits.RunI.lean ====
/- One case of the body of the kernel: the grid points of query tile 8, whose body runs over the key chunks up to that tile. -/
module

public import proofs.«01_k».proof.Proof.Bits.RunH

@[expose] public section

-- membership in a rectangle of production extents (`View.cover_of_tiled`): the elaborator's structural look
-- recurses once per coordinate of the long axes
set_option maxRecDepth 16384

noncomputable section

namespace Cert.Kernel.Run

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE I (`scf.if` 0 not taken, `scf.if` 1 not taken, `scf.if` 2 not taken, `scf.if` 3 not taken, `scf.if` 4 not taken, `scf.if` 5 not taken, `scf.if` 6 not taken, `scf.if` 7 not taken, `scf.if` 8 taken: points 8, 17, … 107: 12 of 108): on whole staging memrefs — the inputs' at their contents,
    the FORGOTTEN outputs' (7) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_I (c : Dev nD) (i : grid0.Coords) (arg3 : Memref sig .tc .smem S2x60 .f32) (harg3 : arg3.IsWhole) (arg4 : Memref sig .tc .smem S2x6 .f32) (harg4 : arg4.IsWhole) (arg5 : Memref sig .tc .smem S2x6 .f32) (harg5 : arg5.IsWhole) (arg6 : Memref sig .tc .vmem S1x10x256x128 .fp8e4m3) (harg6 : arg6.IsWhole) (arg7 : Memref sig .tc .vmem S1x1x2304x128 .fp8e4m3) (harg7 : arg7.IsWhole) (arg8 : Memref sig .tc .vmem S1x1x128x2304 .fp8e4m3) (harg8 : arg8.IsWhole) (arg9 : Memref sig .tc .vmem S256x256 .f32) (harg9 : arg9.IsWhole) (arg10 : Memref sig .tc .vmem S1x256x1280 .bf16) (harg10 : arg10.IsWhole) (arg11 : Memref sig .tc .vmem S2x2304x256 .f32) (harg11 : arg11.IsWhole) (arg12 : Memref sig .tc .vmem S8x256 .f32) (harg12 : arg12.IsWhole) (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : ¬cond0_7 i) (hc8 : cond0_8 i)
    (x0 : Vec F S2x60 .f32) (x1 : Vec F S2x6 .f32) (x2 : Vec F S2x6 .f32) (x3 : Vec F S1x10x256x128 .fp8e4m3) (x4 : Vec F S1x1x2304x128 .fp8e4m3) (x5 : Vec F S1x1x128x2304 .fp8e4m3) (x6 : Vec F S256x256 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_causal_gqa i arg3 harg3 arg4 harg4 arg5 harg5 arg6 harg6 arg7 harg7 arg8 harg8 arg9 harg9 arg10 harg10 arg11 harg11 arg12 harg12) K := by
    intro E K
    simp only [cc0_causal_gqa_eq_skeleton]; unfold cc0_causal_gqa_skel
    simp only [k0_part61_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | sl_exact hc0 | sl_exact hc1 | sl_exact hc2 | sl_exact hc3 | sl_exact hc4 | sl_exact hc5 | sl_exact hc6 | sl_exact hc7 | sl_exact hc8)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _, _; isplitr; swap; · iexact H7
      ipureintro; rfl
    isplitl [HS0]
    · iexists _, _; isplitr; swap; · iexact HS0
      ipureintro; rfl
    iexists _, _; isplitr; swap; · iexact HS1
    ipureintro; rfl

end Cert.Kernel.Run

end
-- ==== Proof.Bits.Frame.lean ====
/- The body of the kernel at every grid point, the launch, and the frame: it ends without fault, its arguments unchanged and every counter at zero. -/
module

public import proofs.«01_k».proof.Proof.Bits.RunI
public import Idealize.ShloMosaic.Lib.Claim

@[expose] public section

-- membership in a rectangle of production extents (`View.cover_of_tiled`): the elaborator's structural look
-- recurses once per coordinate of the long axes
set_option maxRecDepth 16384

noncomputable section

namespace Cert.Kernel.Run

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (7): nothing reads what the kernel leaves in them, so nothing
    of it is named (Lib/Pipeline/Dat.lean `Dat.toRForget`). -/
def forgets0 : Fin 8 → Bool := fun w => w.val == 7

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (∃ d, owns (c : Thread nD τ) (ms0_7 t) fullShare d))

set_option maxHeartbeats 7200000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 108 := lt_of_lt_of_eq t.isLt (show cfg0.N = 108 from N_0)
  by_cases h0 : t.val % 9 = 0
  · by_cases h1 : t.val % 9 = 1
    · exfalso; omega
    · by_cases h2 : t.val % 9 = 2
      · exfalso; omega
      · by_cases h3 : t.val % 9 = 3
        · exfalso; omega
        · by_cases h4 : t.val % 9 = 4
          · exfalso; omega
          · by_cases h5 : t.val % 9 = 5
            · exfalso; omega
            · by_cases h6 : t.val % 9 = 6
              · exfalso; omega
              · by_cases h7 : t.val % 9 = 7
                · exfalso; omega
                · by_cases h8 : t.val % 9 = 8
                  · exfalso; omega
                  · rw [show (dats m 0 c).leavesExact 0 t = owns (c : Thread nD τ) (ms0_0 t) fullShare ((dats m 0 c).after 0 t) from by
      unfold Dat.leavesExact; rw [liveAt0_0 t], after0_0]
                    rw [show (dats m 0 c).leavesExact 1 t = owns (c : Thread nD τ) (ms0_1 t) fullShare ((dats m 0 c).after 1 t) from by
      unfold Dat.leavesExact; rw [liveAt0_1 t], after0_1]
                    rw [show (dats m 0 c).leavesExact 2 t = owns (c : Thread nD τ) (ms0_2 t) fullShare ((dats m 0 c).after 2 t) from by
      unfold Dat.leavesExact; rw [liveAt0_2 t], after0_2]
                    rw [show (dats m 0 c).leavesExact 3 t = owns (c : Thread nD τ) (ms0_3 t) fullShare ((dats m 0 c).after 3 t) from by
      unfold Dat.leavesExact; rw [liveAt0_3 t], after0_3]
                    rw [show (dats m 0 c).leavesExact 4 t = owns (c : Thread nD τ) (ms0_4 t) fullShare ((dats m 0 c).after 4 t) from by
      unfold Dat.leavesExact; rw [liveAt0_4 t], after0_4]
                    rw [show (dats m 0 c).leavesExact 5 t = owns (c : Thread nD τ) (ms0_5 t) fullShare ((dats m 0 c).after 5 t) from by
      unfold Dat.leavesExact; rw [liveAt0_5 t], after0_5]
                    rw [show (dats m 0 c).leavesExact 6 t = owns (c : Thread nD τ) (ms0_6 t) fullShare ((dats m 0 c).after 6 t) from by
      unfold Dat.leavesExact; rw [liveAt0_6 t], after0_6]
                    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
                    iapply ((kernelRun0_A c (grid0.coords t) _ _ _ _ _ _ _ _ _ _ _ _ _ _ _ _ _ _ _ _ ((hcond0_0 t).mpr h0) (fun h => h1 ((hcond0_1 t).mp h)) (fun h => h2 ((hcond0_2 t).mp h)) (fun h => h3 ((hcond0_3 t).mp h)) (fun h => h4 ((hcond0_4 t).mp h)) (fun h => h5 ((hcond0_5 t).mp h)) (fun h => h6 ((hcond0_6 t).mp h)) (fun h => h7 ((hcond0_7 t).mp h)) (fun h => h8 ((hcond0_8 t).mp h)) (iblk m c 0 t) (iblk m c 1 t) (iblk m c 2 t) (iblk m c 3 t) (iblk m c 4 t) (iblk m c 5 t) (iblk m c 6 t)) Set.univ _)
                    isplitl [H0]; · iexact H0
                    isplitl [H1]; · iexact H1
                    isplitl [H2]; · iexact H2
                    isplitl [H3]; · iexact H3
                    isplitl [H4]; · iexact H4
                    isplitl [H5]; · iexact H5
                    isplitl [H6]; · iexact H6
                    isplitl [H7]; · iexists _; iexact H7
                    isplitl [HS0]; · iexact HS0
                    isplitl [HS1]; · iexact HS1
                    iintro ⟨H0, H1, H2, H3, H4, H5, H6, H7, HS0, HS1⟩
                    isplitl [HS0 HS1 Hg]
                    · isplitl [HS0 HS1]
                      · isplitl [HS0]
                        · iexact HS0
                        iexact HS1
                      iexact Hg
                    isplitl [Ho]; · iexact Ho
                    isplitl [H0]; · iexact H0
                    isplitl [H1]; · iexact H1
                    isplitl [H2]; · iexact H2
                    isplitl [H3]; · iexact H3
                    isplitl [H4]; · iexact H4
                    isplitl [H5]; · iexact H5
                    isplitl [H6]; · iexact H6
                    iexact H7
  · by_cases h1 : t.val % 9 = 1
    · by_cases h2 : t.val % 9 = 2
      · exfalso; omega
      · by_cases h3 : t.val % 9 = 3
        · exfalso; omega
        · by_cases h4 : t.val % 9 = 4
          · exfalso; omega
          · by_cases h5 : t.val % 9 = 5
            · exfalso; omega
            · by_cases h6 : t.val % 9 = 6
              · exfalso; omega
              · by_cases h7 : t.val % 9 = 7
                · exfalso; omega
                · by_cases h8 : t.val % 9 = 8
                  · exfalso; omega
                  · rw [show (dats m 0 c).leavesExact 0 t = owns (c : Thread nD τ) (ms0_0 t) fullShare ((dats m 0 c).after 0 t) from by
      unfold Dat.leavesExact; rw [liveAt0_0 t], after0_0]
                    rw [show (dats m 0 c).leavesExact 1 t = owns (c : Thread nD τ) (ms0_1 t) fullShare ((dats m 0 c).after 1 t) from by
      unfold Dat.leavesExact; rw [liveAt0_1 t], after0_1]
                    rw [show (dats m 0 c).leavesExact 2 t = owns (c : Thread nD τ) (ms0_2 t) fullShare ((dats m 0 c).after 2 t) from by
      unfold Dat.leavesExact; rw [liveAt0_2 t], after0_2]
                    rw [show (dats m 0 c).leavesExact 3 t = owns (c : Thread nD τ) (ms0_3 t) fullShare ((dats m 0 c).after 3 t) from by
      unfold Dat.leavesExact; rw [liveAt0_3 t], after0_3]
                    rw [show (dats m 0 c).leavesExact 4 t = owns (c : Thread nD τ) (ms0_4 t) fullShare ((dats m 0 c).after 4 t) from by
      unfold Dat.leavesExact; rw [liveAt0_4 t], after0_4]
                    rw [show (dats m 0 c).leavesExact 5 t = owns (c : Thread nD τ) (ms0_5 t) fullShare ((dats m 0 c).after 5 t) from by
      unfold Dat.leavesExact; rw [liveAt0_5 t], after0_5]
                    rw [show (dats m 0 c).leavesExact 6 t = owns (c : Thread nD τ) (ms0_6 t) fullShare ((dats m 0 c).after 6 t) from by
      unfold Dat.leavesExact; rw [liveAt0_6 t], after0_6]
                    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
                    iapply ((kernelRun0_B c (grid0.coords t) _ _ _ _ _ _ _ _ _ _ _ _ _ _ _ _ _ _ _ _ (fun h => h0 ((hcond0_0 t).mp h)) ((hcond0_1 t).mpr h1) (fun h => h2 ((hcond0_2 t).mp h)) (fun h => h3 ((hcond0_3 t).mp h)) (fun h => h4 ((hcond0_4 t).mp h)) (fun h => h5 ((hcond0_5 t).mp h)) (fun h => h6 ((hcond0_6 t).mp h)) (fun h => h7 ((hcond0_7 t).mp h)) (fun h => h8 ((hcond0_8 t).mp h)) (iblk m c 0 t) (iblk m c 1 t) (iblk m c 2 t) (iblk m c 3 t) (iblk m c 4 t) (iblk m c 5 t) (iblk m c 6 t)) Set.univ _)
                    isplitl [H0]; · iexact H0
                    isplitl [H1]; · iexact H1
                    isplitl [H2]; · iexact H2
                    isplitl [H3]; · iexact H3
                    isplitl [H4]; · iexact H4
                    isplitl [H5]; · iexact H5
                    isplitl [H6]; · iexact H6
                    isplitl [H7]; · iexists _; iexact H7
                    isplitl [HS0]; · iexact HS0
                    isplitl [HS1]; · iexact HS1
                    iintro ⟨H0, H1, H2, H3, H4, H5, H6, H7, HS0, HS1⟩
                    isplitl [HS0 HS1 Hg]
                    · isplitl [HS0 HS1]
                      · isplitl [HS0]
                        · iexact HS0
                        iexact HS1
                      iexact Hg
                    isplitl [Ho]; · iexact Ho
                    isplitl [H0]; · iexact H0
                    isplitl [H1]; · iexact H1
                    isplitl [H2]; · iexact H2
                    isplitl [H3]; · iexact H3
                    isplitl [H4]; · iexact H4
                    isplitl [H5]; · iexact H5
                    isplitl [H6]; · iexact H6
                    iexact H7
    · by_cases h2 : t.val % 9 = 2
      · by_cases h3 : t.val % 9 = 3
        · exfalso; omega
        · by_cases h4 : t.val % 9 = 4
          · exfalso; omega
          · by_cases h5 : t.val % 9 = 5
            · exfalso; omega
            · by_cases h6 : t.val % 9 = 6
              · exfalso; omega
              · by_cases h7 : t.val % 9 = 7
                · exfalso; omega
                · by_cases h8 : t.val % 9 = 8
                  · exfalso; omega
                  · rw [show (dats m 0 c).leavesExact 0 t = owns (c : Thread nD τ) (ms0_0 t) fullShare ((dats m 0 c).after 0 t) from by
      unfold Dat.leavesExact; rw [liveAt0_0 t], after0_0]
                    rw [show (dats m 0 c).leavesExact 1 t = owns (c : Thread nD τ) (ms0_1 t) fullShare ((dats m 0 c).after 1 t) from by
      unfold Dat.leavesExact; rw [liveAt0_1 t], after0_1]
                    rw [show (dats m 0 c).leavesExact 2 t = owns (c : Thread nD τ) (ms0_2 t) fullShare ((dats m 0 c).after 2 t) from by
      unfold Dat.leavesExact; rw [liveAt0_2 t], after0_2]
                    rw [show (dats m 0 c).leavesExact 3 t = owns (c : Thread nD τ) (ms0_3 t) fullShare ((dats m 0 c).after 3 t) from by
      unfold Dat.leavesExact; rw [liveAt0_3 t], after0_3]
                    rw [show (dats m 0 c).leavesExact 4 t = owns (c : Thread nD τ) (ms0_4 t) fullShare ((dats m 0 c).after 4 t) from by
      unfold Dat.leavesExact; rw [liveAt0_4 t], after0_4]
                    rw [show (dats m 0 c).leavesExact 5 t = owns (c : Thread nD τ) (ms0_5 t) fullShare ((dats m 0 c).after 5 t) from by
      unfold Dat.leavesExact; rw [liveAt0_5 t], after0_5]
                    rw [show (dats m 0 c).leavesExact 6 t = owns (c : Thread nD τ) (ms0_6 t) fullShare ((dats m 0 c).after 6 t) from by
      unfold Dat.leavesExact; rw [liveAt0_6 t], after0_6]
                    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
                    iapply ((kernelRun0_C c (grid0.coords t) _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (fun h => h4 ((hcond0_4 t).mp h)) (fun h => h5 ((hcond0_5 t).mp h)) (fun h => h6 ((hcond0_6 t).mp h)) (fun h => h7 ((hcond0_7 t).mp h)) (fun h => h8 ((hcond0_8 t).mp h)) (iblk m c 0 t) (iblk m c 1 t) (iblk m c 2 t) (iblk m c 3 t) (iblk m c 4 t) (iblk m c 5 t) (iblk m c 6 t)) Set.univ _)
                    isplitl [H0]; · iexact H0
                    isplitl [H1]; · iexact H1
                    isplitl [H2]; · iexact H2
                    isplitl [H3]; · iexact H3
                    isplitl [H4]; · iexact H4
                    isplitl [H5]; · iexact H5
                    isplitl [H6]; · iexact H6
                    isplitl [H7]; · iexists _; iexact H7
                    isplitl [HS0]; · iexact HS0
                    isplitl [HS1]; · iexact HS1
                    iintro ⟨H0, H1, H2, H3, H4, H5, H6, H7, HS0, HS1⟩
                    isplitl [HS0 HS1 Hg]
                    · isplitl [HS0 HS1]
                      · isplitl [HS0]
                        · iexact HS0
                        iexact HS1
                      iexact Hg
                    isplitl [Ho]; · iexact Ho
                    isplitl [H0]; · iexact H0
                    isplitl [H1]; · iexact H1
                    isplitl [H2]; · iexact H2
                    isplitl [H3]; · iexact H3
                    isplitl [H4]; · iexact H4
                    isplitl [H5]; · iexact H5
                    isplitl [H6]; · iexact H6
                    iexact H7
      · by_cases h3 : t.val % 9 = 3
        · by_cases h4 : t.val % 9 = 4
          · exfalso; omega
          · by_cases h5 : t.val % 9 = 5
            · exfalso; omega
            · by_cases h6 : t.val % 9 = 6
              · exfalso; omega
              · by_cases h7 : t.val % 9 = 7
                · exfalso; omega
                · by_cases h8 : t.val % 9 = 8
                  · exfalso; omega
                  · rw [show (dats m 0 c).leavesExact 0 t = owns (c : Thread nD τ) (ms0_0 t) fullShare ((dats m 0 c).after 0 t) from by
      unfold Dat.leavesExact; rw [liveAt0_0 t], after0_0]
                    rw [show (dats m 0 c).leavesExact 1 t = owns (c : Thread nD τ) (ms0_1 t) fullShare ((dats m 0 c).after 1 t) from by
      unfold Dat.leavesExact; rw [liveAt0_1 t], after0_1]
                    rw [show (dats m 0 c).leavesExact 2 t = owns (c : Thread nD τ) (ms0_2 t) fullShare ((dats m 0 c).after 2 t) from by
      unfold Dat.leavesExact; rw [liveAt0_2 t], after0_2]
                    rw [show (dats m 0 c).leavesExact 3 t = owns (c : Thread nD τ) (ms0_3 t) fullShare ((dats m 0 c).after 3 t) from by
      unfold Dat.leavesExact; rw [liveAt0_3 t], after0_3]
                    rw [show (dats m 0 c).leavesExact 4 t = owns (c : Thread nD τ) (ms0_4 t) fullShare ((dats m 0 c).after 4 t) from by
      unfold Dat.leavesExact; rw [liveAt0_4 t], after0_4]
                    rw [show (dats m 0 c).leavesExact 5 t = owns (c : Thread nD τ) (ms0_5 t) fullShare ((dats m 0 c).after 5 t) from by
      unfold Dat.leavesExact; rw [liveAt0_5 t], after0_5]
                    rw [show (dats m 0 c).leavesExact 6 t = owns (c : Thread nD τ) (ms0_6 t) fullShare ((dats m 0 c).after 6 t) from by
      unfold Dat.leavesExact; rw [liveAt0_6 t], after0_6]
                    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
                    iapply ((kernelRun0_D c (grid0.coords t) _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (fun h => h4 ((hcond0_4 t).mp h)) (fun h => h5 ((hcond0_5 t).mp h)) (fun h => h6 ((hcond0_6 t).mp h)) (fun h => h7 ((hcond0_7 t).mp h)) (fun h => h8 ((hcond0_8 t).mp h)) (iblk m c 0 t) (iblk m c 1 t) (iblk m c 2 t) (iblk m c 3 t) (iblk m c 4 t) (iblk m c 5 t) (iblk m c 6 t)) Set.univ _)
                    isplitl [H0]; · iexact H0
                    isplitl [H1]; · iexact H1
                    isplitl [H2]; · iexact H2
                    isplitl [H3]; · iexact H3
                    isplitl [H4]; · iexact H4
                    isplitl [H5]; · iexact H5
                    isplitl [H6]; · iexact H6
                    isplitl [H7]; · iexists _; iexact H7
                    isplitl [HS0]; · iexact HS0
                    isplitl [HS1]; · iexact HS1
                    iintro ⟨H0, H1, H2, H3, H4, H5, H6, H7, HS0, HS1⟩
                    isplitl [HS0 HS1 Hg]
                    · isplitl [HS0 HS1]
                      · isplitl [HS0]
                        · iexact HS0
                        iexact HS1
                      iexact Hg
                    isplitl [Ho]; · iexact Ho
                    isplitl [H0]; · iexact H0
                    isplitl [H1]; · iexact H1
                    isplitl [H2]; · iexact H2
                    isplitl [H3]; · iexact H3
                    isplitl [H4]; · iexact H4
                    isplitl [H5]; · iexact H5
                    isplitl [H6]; · iexact H6
                    iexact H7
        · by_cases h4 : t.val % 9 = 4
          · by_cases h5 : t.val % 9 = 5
            · exfalso; omega
            · by_cases h6 : t.val % 9 = 6
              · exfalso; omega
              · by_cases h7 : t.val % 9 = 7
                · exfalso; omega
                · by_cases h8 : t.val % 9 = 8
                  · exfalso; omega
                  · rw [show (dats m 0 c).leavesExact 0 t = owns (c : Thread nD τ) (ms0_0 t) fullShare ((dats m 0 c).after 0 t) from by
      unfold Dat.leavesExact; rw [liveAt0_0 t], after0_0]
                    rw [show (dats m 0 c).leavesExact 1 t = owns (c : Thread nD τ) (ms0_1 t) fullShare ((dats m 0 c).after 1 t) from by
      unfold Dat.leavesExact; rw [liveAt0_1 t], after0_1]
                    rw [show (dats m 0 c).leavesExact 2 t = owns (c : Thread nD τ) (ms0_2 t) fullShare ((dats m 0 c).after 2 t) from by
      unfold Dat.leavesExact; rw [liveAt0_2 t], after0_2]
                    rw [show (dats m 0 c).leavesExact 3 t = owns (c : Thread nD τ) (ms0_3 t) fullShare ((dats m 0 c).after 3 t) from by
      unfold Dat.leavesExact; rw [liveAt0_3 t], after0_3]
                    rw [show (dats m 0 c).leavesExact 4 t = owns (c : Thread nD τ) (ms0_4 t) fullShare ((dats m 0 c).after 4 t) from by
      unfold Dat.leavesExact; rw [liveAt0_4 t], after0_4]
                    rw [show (dats m 0 c).leavesExact 5 t = owns (c : Thread nD τ) (ms0_5 t) fullShare ((dats m 0 c).after 5 t) from by
      unfold Dat.leavesExact; rw [liveAt0_5 t], after0_5]
                    rw [show (dats m 0 c).leavesExact 6 t = owns (c : Thread nD τ) (ms0_6 t) fullShare ((dats m 0 c).after 6 t) from by
      unfold Dat.leavesExact; rw [liveAt0_6 t], after0_6]
                    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
                    iapply ((kernelRun0_E c (grid0.coords t) _ _ _ _ _ _ _ _ _ _ _ _ _ _ _ _ _ _ _ _ (fun h => h0 ((hcond0_0 t).mp h)) (fun h => h1 ((hcond0_1 t).mp h)) (fun h => h2 ((hcond0_2 t).mp h)) (fun h => h3 ((hcond0_3 t).mp h)) ((hcond0_4 t).mpr h4) (fun h => h5 ((hcond0_5 t).mp h)) (fun h => h6 ((hcond0_6 t).mp h)) (fun h => h7 ((hcond0_7 t).mp h)) (fun h => h8 ((hcond0_8 t).mp h)) (iblk m c 0 t) (iblk m c 1 t) (iblk m c 2 t) (iblk m c 3 t) (iblk m c 4 t) (iblk m c 5 t) (iblk m c 6 t)) Set.univ _)
                    isplitl [H0]; · iexact H0
                    isplitl [H1]; · iexact H1
                    isplitl [H2]; · iexact H2
                    isplitl [H3]; · iexact H3
                    isplitl [H4]; · iexact H4
                    isplitl [H5]; · iexact H5
                    isplitl [H6]; · iexact H6
                    isplitl [H7]; · iexists _; iexact H7
                    isplitl [HS0]; · iexact HS0
                    isplitl [HS1]; · iexact HS1
                    iintro ⟨H0, H1, H2, H3, H4, H5, H6, H7, HS0, HS1⟩
                    isplitl [HS0 HS1 Hg]
                    · isplitl [HS0 HS1]
                      · isplitl [HS0]
                        · iexact HS0
                        iexact HS1
                      iexact Hg
                    isplitl [Ho]; · iexact Ho
                    isplitl [H0]; · iexact H0
                    isplitl [H1]; · iexact H1
                    isplitl [H2]; · iexact H2
                    isplitl [H3]; · iexact H3
                    isplitl [H4]; · iexact H4
                    isplitl [H5]; · iexact H5
                    isplitl [H6]; · iexact H6
                    iexact H7
          · by_cases h5 : t.val % 9 = 5
            · by_cases h6 : t.val % 9 = 6
              · exfalso; omega
              · by_cases h7 : t.val % 9 = 7
                · exfalso; omega
                · by_cases h8 : t.val % 9 = 8
                  · exfalso; omega
                  · rw [show (dats m 0 c).leavesExact 0 t = owns (c : Thread nD τ) (ms0_0 t) fullShare ((dats m 0 c).after 0 t) from by
      unfold Dat.leavesExact; rw [liveAt0_0 t], after0_0]
                    rw [show (dats m 0 c).leavesExact 1 t = owns (c : Thread nD τ) (ms0_1 t) fullShare ((dats m 0 c).after 1 t) from by
      unfold Dat.leavesExact; rw [liveAt0_1 t], after0_1]
                    rw [show (dats m 0 c).leavesExact 2 t = owns (c : Thread nD τ) (ms0_2 t) fullShare ((dats m 0 c).after 2 t) from by
      unfold Dat.leavesExact; rw [liveAt0_2 t], after0_2]
                    rw [show (dats m 0 c).leavesExact 3 t = owns (c : Thread nD τ) (ms0_3 t) fullShare ((dats m 0 c).after 3 t) from by
      unfold Dat.leavesExact; rw [liveAt0_3 t], after0_3]
                    rw [show (dats m 0 c).leavesExact 4 t = owns (c : Thread nD τ) (ms0_4 t) fullShare ((dats m 0 c).after 4 t) from by
      unfold Dat.leavesExact; rw [liveAt0_4 t], after0_4]
                    rw [show (dats m 0 c).leavesExact 5 t = owns (c : Thread nD τ) (ms0_5 t) fullShare ((dats m 0 c).after 5 t) from by
      unfold Dat.leavesExact; rw [liveAt0_5 t], after0_5]
                    rw [show (dats m 0 c).leavesExact 6 t = owns (c : Thread nD τ) (ms0_6 t) fullShare ((dats m 0 c).after 6 t) from by
      unfold Dat.leavesExact; rw [liveAt0_6 t], after0_6]
                    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
                    iapply ((kernelRun0_F c (grid0.coords t) _ _ _ _ _ _ _ _ _ _ _ _ _ _ _ _ _ _ _ _ (fun h => h0 ((hcond0_0 t).mp h)) (fun h => h1 ((hcond0_1 t).mp h)) (fun h => h2 ((hcond0_2 t).mp h)) (fun h => h3 ((hcond0_3 t).mp h)) (fun h => h4 ((hcond0_4 t).mp h)) ((hcond0_5 t).mpr h5) (fun h => h6 ((hcond0_6 t).mp h)) (fun h => h7 ((hcond0_7 t).mp h)) (fun h => h8 ((hcond0_8 t).mp h)) (iblk m c 0 t) (iblk m c 1 t) (iblk m c 2 t) (iblk m c 3 t) (iblk m c 4 t) (iblk m c 5 t) (iblk m c 6 t)) Set.univ _)
                    isplitl [H0]; · iexact H0
                    isplitl [H1]; · iexact H1
                    isplitl [H2]; · iexact H2
                    isplitl [H3]; · iexact H3
                    isplitl [H4]; · iexact H4
                    isplitl [H5]; · iexact H5
                    isplitl [H6]; · iexact H6
                    isplitl [H7]; · iexists _; iexact H7
                    isplitl [HS0]; · iexact HS0
                    isplitl [HS1]; · iexact HS1
                    iintro ⟨H0, H1, H2, H3, H4, H5, H6, H7, HS0, HS1⟩
                    isplitl [HS0 HS1 Hg]
                    · isplitl [HS0 HS1]
                      · isplitl [HS0]
                        · iexact HS0
                        iexact HS1
                      iexact Hg
                    isplitl [Ho]; · iexact Ho
                    isplitl [H0]; · iexact H0
                    isplitl [H1]; · iexact H1
                    isplitl [H2]; · iexact H2
                    isplitl [H3]; · iexact H3
                    isplitl [H4]; · iexact H4
                    isplitl [H5]; · iexact H5
                    isplitl [H6]; · iexact H6
                    iexact H7
            · by_cases h6 : t.val % 9 = 6
              · by_cases h7 : t.val % 9 = 7
                · exfalso; omega
                · by_cases h8 : t.val % 9 = 8
                  · exfalso; omega
                  · rw [show (dats m 0 c).leavesExact 0 t = owns (c : Thread nD τ) (ms0_0 t) fullShare ((dats m 0 c).after 0 t) from by
      unfold Dat.leavesExact; rw [liveAt0_0 t], after0_0]
                    rw [show (dats m 0 c).leavesExact 1 t = owns (c : Thread nD τ) (ms0_1 t) fullShare ((dats m 0 c).after 1 t) from by
      unfold Dat.leavesExact; rw [liveAt0_1 t], after0_1]
                    rw [show (dats m 0 c).leavesExact 2 t = owns (c : Thread nD τ) (ms0_2 t) fullShare ((dats m 0 c).after 2 t) from by
      unfold Dat.leavesExact; rw [liveAt0_2 t], after0_2]
                    rw [show (dats m 0 c).leavesExact 3 t = owns (c : Thread nD τ) (ms0_3 t) fullShare ((dats m 0 c).after 3 t) from by
      unfold Dat.leavesExact; rw [liveAt0_3 t], after0_3]
                    rw [show (dats m 0 c).leavesExact 4 t = owns (c : Thread nD τ) (ms0_4 t) fullShare ((dats m 0 c).after 4 t) from by
      unfold Dat.leavesExact; rw [liveAt0_4 t], after0_4]
                    rw [show (dats m 0 c).leavesExact 5 t = owns (c : Thread nD τ) (ms0_5 t) fullShare ((dats m 0 c).after 5 t) from by
      unfold Dat.leavesExact; rw [liveAt0_5 t], after0_5]
                    rw [show (dats m 0 c).leavesExact 6 t = owns (c : Thread nD τ) (ms0_6 t) fullShare ((dats m 0 c).after 6 t) from by
      unfold Dat.leavesExact; rw [liveAt0_6 t], after0_6]
                    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
                    iapply ((kernelRun0_G c (grid0.coords t) _ _ _ _ _ _ _ _ _ _ _ _ _ _ _ _ _ _ _ _ (fun h => h0 ((hcond0_0 t).mp h)) (fun h => h1 ((hcond0_1 t).mp h)) (fun h => h2 ((hcond0_2 t).mp h)) (fun h => h3 ((hcond0_3 t).mp h)) (fun h => h4 ((hcond0_4 t).mp h)) (fun h => h5 ((hcond0_5 t).mp h)) ((hcond0_6 t).mpr h6) (fun h => h7 ((hcond0_7 t).mp h)) (fun h => h8 ((hcond0_8 t).mp h)) (iblk m c 0 t) (iblk m c 1 t) (iblk m c 2 t) (iblk m c 3 t) (iblk m c 4 t) (iblk m c 5 t) (iblk m c 6 t)) Set.univ _)
                    isplitl [H0]; · iexact H0
                    isplitl [H1]; · iexact H1
                    isplitl [H2]; · iexact H2
                    isplitl [H3]; · iexact H3
                    isplitl [H4]; · iexact H4
                    isplitl [H5]; · iexact H5
                    isplitl [H6]; · iexact H6
                    isplitl [H7]; · iexists _; iexact H7
                    isplitl [HS0]; · iexact HS0
                    isplitl [HS1]; · iexact HS1
                    iintro ⟨H0, H1, H2, H3, H4, H5, H6, H7, HS0, HS1⟩
                    isplitl [HS0 HS1 Hg]
                    · isplitl [HS0 HS1]
                      · isplitl [HS0]
                        · iexact HS0
                        iexact HS1
                      iexact Hg
                    isplitl [Ho]; · iexact Ho
                    isplitl [H0]; · iexact H0
                    isplitl [H1]; · iexact H1
                    isplitl [H2]; · iexact H2
                    isplitl [H3]; · iexact H3
                    isplitl [H4]; · iexact H4
                    isplitl [H5]; · iexact H5
                    isplitl [H6]; · iexact H6
                    iexact H7
              · by_cases h7 : t.val % 9 = 7
                · by_cases h8 : t.val % 9 = 8
                  · exfalso; omega
                  · rw [show (dats m 0 c).leavesExact 0 t = owns (c : Thread nD τ) (ms0_0 t) fullShare ((dats m 0 c).after 0 t) from by
      unfold Dat.leavesExact; rw [liveAt0_0 t], after0_0]
                    rw [show (dats m 0 c).leavesExact 1 t = owns (c : Thread nD τ) (ms0_1 t) fullShare ((dats m 0 c).after 1 t) from by
      unfold Dat.leavesExact; rw [liveAt0_1 t], after0_1]
                    rw [show (dats m 0 c).leavesExact 2 t = owns (c : Thread nD τ) (ms0_2 t) fullShare ((dats m 0 c).after 2 t) from by
      unfold Dat.leavesExact; rw [liveAt0_2 t], after0_2]
                    rw [show (dats m 0 c).leavesExact 3 t = owns (c : Thread nD τ) (ms0_3 t) fullShare ((dats m 0 c).after 3 t) from by
      unfold Dat.leavesExact; rw [liveAt0_3 t], after0_3]
                    rw [show (dats m 0 c).leavesExact 4 t = owns (c : Thread nD τ) (ms0_4 t) fullShare ((dats m 0 c).after 4 t) from by
      unfold Dat.leavesExact; rw [liveAt0_4 t], after0_4]
                    rw [show (dats m 0 c).leavesExact 5 t = owns (c : Thread nD τ) (ms0_5 t) fullShare ((dats m 0 c).after 5 t) from by
      unfold Dat.leavesExact; rw [liveAt0_5 t], after0_5]
                    rw [show (dats m 0 c).leavesExact 6 t = owns (c : Thread nD τ) (ms0_6 t) fullShare ((dats m 0 c).after 6 t) from by
      unfold Dat.leavesExact; rw [liveAt0_6 t], after0_6]
                    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
                    iapply ((kernelRun0_H c (grid0.coords t) _ _ _ _ _ _ _ _ _ _ _ _ _ _ _ _ _ _ _ _ (fun h => h0 ((hcond0_0 t).mp h)) (fun h => h1 ((hcond0_1 t).mp h)) (fun h => h2 ((hcond0_2 t).mp h)) (fun h => h3 ((hcond0_3 t).mp h)) (fun h => h4 ((hcond0_4 t).mp h)) (fun h => h5 ((hcond0_5 t).mp h)) (fun h => h6 ((hcond0_6 t).mp h)) ((hcond0_7 t).mpr h7) (fun h => h8 ((hcond0_8 t).mp h)) (iblk m c 0 t) (iblk m c 1 t) (iblk m c 2 t) (iblk m c 3 t) (iblk m c 4 t) (iblk m c 5 t) (iblk m c 6 t)) Set.univ _)
                    isplitl [H0]; · iexact H0
                    isplitl [H1]; · iexact H1
                    isplitl [H2]; · iexact H2
                    isplitl [H3]; · iexact H3
                    isplitl [H4]; · iexact H4
                    isplitl [H5]; · iexact H5
                    isplitl [H6]; · iexact H6
                    isplitl [H7]; · iexists _; iexact H7
                    isplitl [HS0]; · iexact HS0
                    isplitl [HS1]; · iexact HS1
                    iintro ⟨H0, H1, H2, H3, H4, H5, H6, H7, HS0, HS1⟩
                    isplitl [HS0 HS1 Hg]
                    · isplitl [HS0 HS1]
                      · isplitl [HS0]
                        · iexact HS0
                        iexact HS1
                      iexact Hg
                    isplitl [Ho]; · iexact Ho
                    isplitl [H0]; · iexact H0
                    isplitl [H1]; · iexact H1
                    isplitl [H2]; · iexact H2
                    isplitl [H3]; · iexact H3
                    isplitl [H4]; · iexact H4
                    isplitl [H5]; · iexact H5
                    isplitl [H6]; · iexact H6
                    iexact H7
                · by_cases h8 : t.val % 9 = 8
                  · rw [show (dats m 0 c).leavesExact 0 t = owns (c : Thread nD τ) (ms0_0 t) fullShare ((dats m 0 c).after 0 t) from by
      unfold Dat.leavesExact; rw [liveAt0_0 t], after0_0]
                    rw [show (dats m 0 c).leavesExact 1 t = owns (c : Thread nD τ) (ms0_1 t) fullShare ((dats m 0 c).after 1 t) from by
      unfold Dat.leavesExact; rw [liveAt0_1 t], after0_1]
                    rw [show (dats m 0 c).leavesExact 2 t = owns (c : Thread nD τ) (ms0_2 t) fullShare ((dats m 0 c).after 2 t) from by
      unfold Dat.leavesExact; rw [liveAt0_2 t], after0_2]
                    rw [show (dats m 0 c).leavesExact 3 t = owns (c : Thread nD τ) (ms0_3 t) fullShare ((dats m 0 c).after 3 t) from by
      unfold Dat.leavesExact; rw [liveAt0_3 t], after0_3]
                    rw [show (dats m 0 c).leavesExact 4 t = owns (c : Thread nD τ) (ms0_4 t) fullShare ((dats m 0 c).after 4 t) from by
      unfold Dat.leavesExact; rw [liveAt0_4 t], after0_4]
                    rw [show (dats m 0 c).leavesExact 5 t = owns (c : Thread nD τ) (ms0_5 t) fullShare ((dats m 0 c).after 5 t) from by
      unfold Dat.leavesExact; rw [liveAt0_5 t], after0_5]
                    rw [show (dats m 0 c).leavesExact 6 t = owns (c : Thread nD τ) (ms0_6 t) fullShare ((dats m 0 c).after 6 t) from by
      unfold Dat.leavesExact; rw [liveAt0_6 t], after0_6]
                    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
                    iapply ((kernelRun0_I c (grid0.coords t) _ _ _ _ _ _ _ _ _ _ _ _ _ _ _ _ _ _ _ _ (fun h => h0 ((hcond0_0 t).mp h)) (fun h => h1 ((hcond0_1 t).mp h)) (fun h => h2 ((hcond0_2 t).mp h)) (fun h => h3 ((hcond0_3 t).mp h)) (fun h => h4 ((hcond0_4 t).mp h)) (fun h => h5 ((hcond0_5 t).mp h)) (fun h => h6 ((hcond0_6 t).mp h)) (fun h => h7 ((hcond0_7 t).mp h)) ((hcond0_8 t).mpr h8) (iblk m c 0 t) (iblk m c 1 t) (iblk m c 2 t) (iblk m c 3 t) (iblk m c 4 t) (iblk m c 5 t) (iblk m c 6 t)) Set.univ _)
                    isplitl [H0]; · iexact H0
                    isplitl [H1]; · iexact H1
                    isplitl [H2]; · iexact H2
                    isplitl [H3]; · iexact H3
                    isplitl [H4]; · iexact H4
                    isplitl [H5]; · iexact H5
                    isplitl [H6]; · iexact H6
                    isplitl [H7]; · iexists _; iexact H7
                    isplitl [HS0]; · iexact HS0
                    isplitl [HS1]; · iexact HS1
                    iintro ⟨H0, H1, H2, H3, H4, H5, H6, H7, HS0, HS1⟩
                    isplitl [HS0 HS1 Hg]
                    · isplitl [HS0 HS1]
                      · isplitl [HS0]
                        · iexact HS0
                        iexact HS1
                      iexact Hg
                    isplitl [Ho]; · iexact Ho
                    isplitl [H0]; · iexact H0
                    isplitl [H1]; · iexact H1
                    isplitl [H2]; · iexact H2
                    isplitl [H3]; · iexact H3
                    isplitl [H4]; · iexact H4
                    isplitl [H5]; · iexact H5
                    isplitl [H6]; · iexact H6
                    iexact H7
                  · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (window 7) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (fun c => (dats m 0 c).toRForget forgets0) (A_eq m) (run_main m ρ)

/-- The frame: the program ends without fault, its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel.Run

end
-- ==== Proof.Run.Runs.lean ====
/- The run of the idealized kernel outside the body: its memory at region entry, the windows' blocks and the loop's invariants. -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`. -/
abbrev V (c : Dev nD) (b : Ref sig .tc) : Buf (Elt F) ((c : Thread nD τ).loc b) :=
  StableHlo.after (List.flatten [hostOps0, hostOps0_1]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1] (by simp only [List.Forall]; exact ⟨hostOps0_sub, hostOps0_1_sub⟩)
    (by simp only [List.Forall]; exact ⟨hostOps0_fresh, hostOps0_1_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (V_main_arg0 m c),
      ((h c).1 0).trans (((dats 0 c).arrAt_in 0 rfl _).trans ((hA c 0).trans (V_main_arg1 m c))),
      ((h c).2 main_arg2 (Pipeline.mem_restRefs_of main_arg2 (by decide) (by decide))).trans (V_main_arg2 m c),
      ((h c).1 1).trans (((dats 0 c).arrAt_in 1 rfl _).trans ((hA c 1).trans (V_main_arg3 m c))),
      ((h c).2 main_arg4 (Pipeline.mem_restRefs_of main_arg4 (by decide) (by decide))).trans (V_main_arg4 m c),
      ((h c).1 2).trans (((dats 0 c).arrAt_in 2 rfl _).trans ((hA c 2).trans (V_main_arg5 m c)))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 9) — by arithmetic of the point. -/
theorem hcond0_0 : ∀ t : Fin cfg0.N, cond0_0 (grid0.coords t) ↔ t.val % 9 = 0 :=
  (fun t => by
    have ht : t.val < 108 := Nat.lt_of_lt_of_eq t.isLt N_0
    have e0 : (grid0.coords t 0).val = t.val / 54 % 2 := Pipeline.Grid.coords_val t 0 (by decide) rfl
    have e1 : (grid0.coords t 1).val = t.val / 9 % 6 := Pipeline.Grid.coords_val t 1 (by decide) rfl
    have e2 : (grid0.coords t 2).val = t.val / 1 % 9 := Pipeline.Grid.coords_val t 2 (by decide) rfl
    simp only [cond0_0, k0_cond1, e0, e1, e2]
    word_cmp
   : ∀ t : Fin grid0.N, cond0_0 (grid0.coords t) ↔ t.val % 9 = 0)

/-- The condition of the body's `scf.if` 1 (`k0_h2`), from the grid coordinates (the skeleton's scalar
    chain substituted). -/
abbrev cond0_1 (i : grid0.Coords) : Prop := k0_cond2 i = 1#1
/-- It holds at the points ≡ 1 (mod 9) — by arithmetic of the point. -/
theorem hcond0_1 : ∀ t : Fin cfg0.N, cond0_1 (grid0.coords t) ↔ t.val % 9 = 1 :=
  (fun t => by
    have ht : t.val < 108 := Nat.lt_of_lt_of_eq t.isLt N_0
    have e0 : (grid0.coords t 0).val = t.val / 54 % 2 := Pipeline.Grid.coords_val t 0 (by decide) rfl
    have e1 : (grid0.coords t 1).val = t.val / 9 % 6 := Pipeline.Grid.coords_val t 1 (by decide) rfl
    have e2 : (grid0.coords t 2).val = t.val / 1 % 9 := Pipeline.Grid.coords_val t 2 (by decide) rfl
    simp only [cond0_1, k0_cond2, e0, e1, e2]
    word_cmp
   : ∀ t : Fin grid0.N, cond0_1 (grid0.coords t) ↔ t.val % 9 = 1)

/-- The condition of the body's `scf.if` 2 (`k0_h3`), from the grid coordinates (the skeleton's scalar
    chain substituted). -/
abbrev cond0_2 (i : grid0.Coords) : Prop := k0_cond3 i = 1#1
/-- It holds at the points ≡ 2 (mod 9) — by arithmetic of the point. -/
theorem hcond0_2 : ∀ t : Fin cfg0.N, cond0_2 (grid0.coords t) ↔ t.val % 9 = 2 :=
  (fun t => by
    have ht : t.val < 108 := Nat.lt_of_lt_of_eq t.isLt N_0
    have e0 : (grid0.coords t 0).val = t.val / 54 % 2 := Pipeline.Grid.coords_val t 0 (by decide) rfl
    have e1 : (grid0.coords t 1).val = t.val / 9 % 6 := Pipeline.Grid.coords_val t 1 (by decide) rfl
    have e2 : (grid0.coords t 2).val = t.val / 1 % 9 := Pipeline.Grid.coords_val t 2 (by decide) rfl
    simp only [cond0_2, k0_cond3, e0, e1, e2]
    word_cmp
   : ∀ t : Fin grid0.N, cond0_2 (grid0.coords t) ↔ t.val % 9 = 2)

/-- The condition of the body's `scf.if` 3 (`k0_h4`), from the grid coordinates (the skeleton's scalar
    chain substituted). -/
abbrev cond0_3 (i : grid0.Coords) : Prop := k0_cond4 i = 1#1
/-- It holds at the points ≡ 3 (mod 9) — by arithmetic of the point. -/
theorem hcond0_3 : ∀ t : Fin cfg0.N, cond0_3 (grid0.coords t) ↔ t.val % 9 = 3 :=
  (fun t => by
    have ht : t.val < 108 := Nat.lt_of_lt_of_eq t.isLt N_0
    have e0 : (grid0.coords t 0).val = t.val / 54 % 2 := Pipeline.Grid.coords_val t 0 (by decide) rfl
    have e1 : (grid0.coords t 1).val = t.val / 9 % 6 := Pipeline.Grid.coords_val t 1 (by decide) rfl
    have e2 : (grid0.coords t 2).val = t.val / 1 % 9 := Pipeline.Grid.coords_val t 2 (by decide) rfl
    simp only [cond0_3, k0_cond4, e0, e1, e2]
    word_cmp
   : ∀ t : Fin grid0.N, cond0_3 (grid0.coords t) ↔ t.val % 9 = 3)

/-- The condition of the body's `scf.if` 4 (`k0_h5`), from the grid coordinates (the skeleton's scalar
    chain substituted). -/
abbrev cond0_4 (i : grid0.Coords) : Prop := k0_cond5 i = 1#1
/-- It holds at the points ≡ 4 (mod 9) — by arithmetic of the point. -/
theorem hcond0_4 : ∀ t : Fin cfg0.N, cond0_4 (grid0.coords t) ↔ t.val % 9 = 4 :=
  (fun t => by
    have ht : t.val < 108 := Nat.lt_of_lt_of_eq t.isLt N_0
    have e0 : (grid0.coords t 0).val = t.val / 54 % 2 := Pipeline.Grid.coords_val t 0 (by decide) rfl
    have e1 : (grid0.coords t 1).val = t.val / 9 % 6 := Pipeline.Grid.coords_val t 1 (by decide) rfl
    have e2 : (grid0.coords t 2).val = t.val / 1 % 9 := Pipeline.Grid.coords_val t 2 (by decide) rfl
    simp only [cond0_4, k0_cond5, e0, e1, e2]
    word_cmp
   : ∀ t : Fin grid0.N, cond0_4 (grid0.coords t) ↔ t.val % 9 = 4)

/-- The condition of the body's `scf.if` 5 (`k0_h6`), from the grid coordinates (the skeleton's scalar
    chain substituted). -/
abbrev cond0_5 (i : grid0.Coords) : Prop := k0_cond6 i = 1#1
/-- It holds at the points ≡ 5 (mod 9) — by arithmetic of the point. -/
theorem hcond0_5 : ∀ t : Fin cfg0.N, cond0_5 (grid0.coords t) ↔ t.val % 9 = 5 :=
  (fun t => by
    have ht : t.val < 108 := Nat.lt_of_lt_of_eq t.isLt N_0
    have e0 : (grid0.coords t 0).val = t.val / 54 % 2 := Pipeline.Grid.coords_val t 0 (by decide) rfl
    have e1 : (grid0.coords t 1).val = t.val / 9 % 6 := Pipeline.Grid.coords_val t 1 (by decide) rfl
    have e2 : (grid0.coords t 2).val = t.val / 1 % 9 := Pipeline.Grid.coords_val t 2 (by decide) rfl
    simp only [cond0_5, k0_cond6, e0, e1, e2]
    word_cmp
   : ∀ t : Fin grid0.N, cond0_5 (grid0.coords t) ↔ t.val % 9 = 5)

/-- The condition of the body's `scf.if` 6 (`k0_h7`), from the grid coordinates (the skeleton's scalar
    chain substituted). -/
abbrev cond0_6 (i : grid0.Coords) : Prop := k0_cond7 i = 1#1
/-- It holds at the points ≡ 6 (mod 9) — by arithmetic of the point. -/
theorem hcond0_6 : ∀ t : Fin cfg0.N, cond0_6 (grid0.coords t) ↔ t.val % 9 = 6 :=
  (fun t => by
    have ht : t.val < 108 := Nat.lt_of_lt_of_eq t.isLt N_0
    have e0 : (grid0.coords t 0).val = t.val / 54 % 2 := Pipeline.Grid.coords_val t 0 (by decide) rfl
    have e1 : (grid0.coords t 1).val = t.val / 9 % 6 := Pipeline.Grid.coords_val t 1 (by decide) rfl
    have e2 : (grid0.coords t 2).val = t.val / 1 % 9 := Pipeline.Grid.coords_val t 2 (by decide) rfl
    simp only [cond0_6, k0_cond7, e0, e1, e2]
    word_cmp
   : ∀ t : Fin grid0.N, cond0_6 (grid0.coords t) ↔ t.val % 9 = 6)

/-- The condition of the body's `scf.if` 7 (`k0_h8`), from the grid coordinates (the skeleton's scalar
    chain substituted). -/
abbrev cond0_7 (i : grid0.Coords) : Prop := k0_cond8 i = 1#1
/-- It holds at the points ≡ 7 (mod 9) — by arithmetic of the point. -/
theorem hcond0_7 : ∀ t : Fin cfg0.N, cond0_7 (grid0.coords t) ↔ t.val % 9 = 7 :=
  (fun t => by
    have ht : t.val < 108 := Nat.lt_of_lt_of_eq t.isLt N_0
    have e0 : (grid0.coords t 0).val = t.val / 54 % 2 := Pipeline.Grid.coords_val t 0 (by decide) rfl
    have e1 : (grid0.coords t 1).val = t.val / 9 % 6 := Pipeline.Grid.coords_val t 1 (by decide) rfl
    have e2 : (grid0.coords t 2).val = t.val / 1 % 9 := Pipeline.Grid.coords_val t 2 (by decide) rfl
    simp only [cond0_7, k0_cond8, e0, e1, e2]
    word_cmp
   : ∀ t : Fin grid0.N, cond0_7 (grid0.coords t) ↔ t.val % 9 = 7)

/-- The condition of the body's `scf.if` 8 (`k0_h9`), from the grid coordinates (the skeleton's scalar
    chain substituted). -/
abbrev cond0_8 (i : grid0.Coords) : Prop := k0_cond9 i = 1#1
/-- It holds at the points ≡ 8 (mod 9) — by arithmetic of the point. -/
theorem hcond0_8 : ∀ t : Fin cfg0.N, cond0_8 (grid0.coords t) ↔ t.val % 9 = 8 :=
  (fun t => by
    have ht : t.val < 108 := Nat.lt_of_lt_of_eq t.isLt N_0
    have e0 : (grid0.coords t 0).val = t.val / 54 % 2 := Pipeline.Grid.coords_val t 0 (by decide) rfl
    have e1 : (grid0.coords t 1).val = t.val / 9 % 6 := Pipeline.Grid.coords_val t 1 (by decide) rfl
    have e2 : (grid0.coords t 2).val = t.val / 1 % 9 := Pipeline.Grid.coords_val t 2 (by decide) rfl
    simp only [cond0_8, k0_cond9, e0, e1, e2]
    word_cmp
   : ∀ t : Fin grid0.N, cond0_8 (grid0.coords t) ↔ t.val % 9 = 8)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-! A case with many branch conditions on the grid states them as ONE proposition, its `Decidable` instance assembled
one condition at a time: the facts below about that case's points are decided under it and restated with one premise
per condition, so that the instance `decide` searches for does not grow with their number. -/

/-- Case A's branch conditions on the grid, as one proposition. -/
abbrev conds0_A (i : grid0.Coords) : Prop := cond0_0 i ∧ ¬cond0_1 i ∧ ¬cond0_2 i ∧ ¬cond0_3 i ∧ ¬cond0_4 i ∧ ¬cond0_5 i ∧ ¬cond0_6 i ∧ ¬cond0_7 i ∧ ¬cond0_8 i
instance conds0_A.dec (i : grid0.Coords) : Decidable (conds0_A i) :=
  @instDecidableAnd _ _ inferInstance (@instDecidableAnd _ _ inferInstance (@instDecidableAnd _ _ inferInstance (@instDecidableAnd _ _ inferInstance (@instDecidableAnd _ _ inferInstance (@instDecidableAnd _ _ inferInstance (@instDecidableAnd _ _ inferInstance (@instDecidableAnd _ _ inferInstance inferInstance)))))))
/-- Case B's branch conditions on the grid, as one proposition. -/
abbrev conds0_B (i : grid0.Coords) : Prop := ¬cond0_0 i ∧ cond0_1 i ∧ ¬cond0_2 i ∧ ¬cond0_3 i ∧ ¬cond0_4 i ∧ ¬cond0_5 i ∧ ¬cond0_6 i ∧ ¬cond0_7 i ∧ ¬cond0_8 i
instance conds0_B.dec (i : grid0.Coords) : Decidable (conds0_B i) :=
  @instDecidableAnd _ _ inferInstance (@instDecidableAnd _ _ inferInstance (@instDecidableAnd _ _ inferInstance (@instDecidableAnd _ _ inferInstance (@instDecidableAnd _ _ inferInstance (@instDecidableAnd _ _ inferInstance (@instDecidableAnd _ _ inferInstance (@instDecidableAnd _ _ inferInstance inferInstance)))))))
/-- Case C's branch conditions on the grid, as one proposition. -/
abbrev conds0_C (i : grid0.Coords) : Prop := ¬cond0_0 i ∧ ¬cond0_1 i ∧ cond0_2 i ∧ ¬cond0_3 i ∧ ¬cond0_4 i ∧ ¬cond0_5 i ∧ ¬cond0_6 i ∧ ¬cond0_7 i ∧ ¬cond0_8 i
instance conds0_C.dec (i : grid0.Coords) : Decidable (conds0_C i) :=
  @instDecidableAnd _ _ inferInstance (@instDecidableAnd _ _ inferInstance (@instDecidableAnd _ _ inferInstance (@instDecidableAnd _ _ inferInstance (@instDecidableAnd _ _ inferInstance (@instDecidableAnd _ _ inferInstance (@instDecidableAnd _ _ inferInstance (@instDecidableAnd _ _ inferInstance inferInstance)))))))
/-- Case D's branch conditions on the grid, as one proposition. -/
abbrev conds0_D (i : grid0.Coords) : Prop := ¬cond0_0 i ∧ ¬cond0_1 i ∧ ¬cond0_2 i ∧ cond0_3 i ∧ ¬cond0_4 i ∧ ¬cond0_5 i ∧ ¬cond0_6 i ∧ ¬cond0_7 i ∧ ¬cond0_8 i
instance conds0_D.dec (i : grid0.Coords) : Decidable (conds0_D i) :=
  @instDecidableAnd _ _ inferInstance (@instDecidableAnd _ _ inferInstance (@instDecidableAnd _ _ inferInstance (@instDecidableAnd _ _ inferInstance (@instDecidableAnd _ _ inferInstance (@instDecidableAnd _ _ inferInstance (@instDecidableAnd _ _ inferInstance (@instDecidableAnd _ _ inferInstance inferInstance)))))))
/-- Case E's branch conditions on the grid, as one proposition. -/
abbrev conds0_E (i : grid0.Coords) : Prop := ¬cond0_0 i ∧ ¬cond0_1 i ∧ ¬cond0_2 i ∧ ¬cond0_3 i ∧ cond0_4 i ∧ ¬cond0_5 i ∧ ¬cond0_6 i ∧ ¬cond0_7 i ∧ ¬cond0_8 i
instance conds0_E.dec (i : grid0.Coords) : Decidable (conds0_E i) :=
  @instDecidableAnd _ _ inferInstance (@instDecidableAnd _ _ inferInstance (@instDecidableAnd _ _ inferInstance (@instDecidableAnd _ _ inferInstance (@instDecidableAnd _ _ inferInstance (@instDecidableAnd _ _ inferInstance (@instDecidableAnd _ _ inferInstance (@instDecidableAnd _ _ inferInstance inferInstance)))))))
/-- Case F's branch conditions on the grid, as one proposition. -/
abbrev conds0_F (i : grid0.Coords) : Prop := ¬cond0_0 i ∧ ¬cond0_1 i ∧ ¬cond0_2 i ∧ ¬cond0_3 i ∧ ¬cond0_4 i ∧ cond0_5 i ∧ ¬cond0_6 i ∧ ¬cond0_7 i ∧ ¬cond0_8 i
instance conds0_F.dec (i : grid0.Coords) : Decidable (conds0_F i) :=
  @instDecidableAnd _ _ inferInstance (@instDecidableAnd _ _ inferInstance (@instDecidableAnd _ _ inferInstance (@instDecidableAnd _ _ inferInstance (@instDecidableAnd _ _ inferInstance (@instDecidableAnd _ _ inferInstance (@instDecidableAnd _ _ inferInstance (@instDecidableAnd _ _ inferInstance inferInstance)))))))
/-- Case G's branch conditions on the grid, as one proposition. -/
abbrev conds0_G (i : grid0.Coords) : Prop := ¬cond0_0 i ∧ ¬cond0_1 i ∧ ¬cond0_2 i ∧ ¬cond0_3 i ∧ ¬cond0_4 i ∧ ¬cond0_5 i ∧ cond0_6 i ∧ ¬cond0_7 i ∧ ¬cond0_8 i
instance conds0_G.dec (i : grid0.Coords) : Decidable (conds0_G i) :=
  @instDecidableAnd _ _ inferInstance (@instDecidableAnd _ _ inferInstance (@instDecidableAnd _ _ inferInstance (@instDecidableAnd _ _ inferInstance (@instDecidableAnd _ _ inferInstance (@instDecidableAnd _ _ inferInstance (@instDecidableAnd _ _ inferInstance (@instDecidableAnd _ _ inferInstance inferInstance)))))))
/-- Case H's branch conditions on the grid, as one proposition. -/
abbrev conds0_H (i : grid0.Coords) : Prop := ¬cond0_0 i ∧ ¬cond0_1 i ∧ ¬cond0_2 i ∧ ¬cond0_3 i ∧ ¬cond0_4 i ∧ ¬cond0_5 i ∧ ¬cond0_6 i ∧ cond0_7 i ∧ ¬cond0_8 i
instance conds0_H.dec (i : grid0.Coords) : Decidable (conds0_H i) :=
  @instDecidableAnd _ _ inferInstance (@instDecidableAnd _ _ inferInstance (@instDecidableAnd _ _ inferInstance (@instDecidableAnd _ _ inferInstance (@instDecidableAnd _ _ inferInstance (@instDecidableAnd _ _ inferInstance (@instDecidableAnd _ _ inferInstance (@instDecidableAnd _ _ inferInstance inferInstance)))))))
/-- Case I's branch conditions on the grid, as one proposition. -/
abbrev conds0_I (i : grid0.Coords) : Prop := ¬cond0_0 i ∧ ¬cond0_1 i ∧ ¬cond0_2 i ∧ ¬cond0_3 i ∧ ¬cond0_4 i ∧ ¬cond0_5 i ∧ ¬cond0_6 i ∧ ¬cond0_7 i ∧ cond0_8 i
instance conds0_I.dec (i : grid0.Coords) : Decidable (conds0_I i) :=
  @instDecidableAnd _ _ inferInstance (@instDecidableAnd _ _ inferInstance (@instDecidableAnd _ _ inferInstance (@instDecidableAnd _ _ inferInstance (@instDecidableAnd _ _ inferInstance (@instDecidableAnd _ _ inferInstance (@instDecidableAnd _ _ inferInstance (@instDecidableAnd _ _ inferInstance inferInstance)))))))
/-- At the points of case A the printed configuration (`Cfg.idle`) calls output 7 live: the case stores into it. -/
theorem liveAt0_7_A : ∀ t : Fin cfg0.N, cond0_0 (grid0.coords t) → ¬cond0_1 (grid0.coords t) → ¬cond0_2 (grid0.coords t) → ¬cond0_3 (grid0.coords t) → ¬cond0_4 (grid0.coords t) → ¬cond0_5 (grid0.coords t) → ¬cond0_6 (grid0.coords t) → ¬cond0_7 (grid0.coords t) → ¬cond0_8 (grid0.coords t) → cfg0.idle 7 (grid0.coords t) = false :=
  fun t h0 h1 h2 h3 h4 h5 h6 h7 h8 => (by decide +kernel : ∀ t : Fin cfg0.N, conds0_A (grid0.coords t) → cfg0.idle 7 (grid0.coords t) = false) t ⟨h0, h1, h2, h3, h4, h5, h6, h7, h8⟩
/-- At the points of case B the printed configuration (`Cfg.idle`) calls output 7 live: the case stores into it. -/
theorem liveAt0_7_B : ∀ t : Fin cfg0.N, ¬cond0_0 (grid0.coords t) → cond0_1 (grid0.coords t) → ¬cond0_2 (grid0.coords t) → ¬cond0_3 (grid0.coords t) → ¬cond0_4 (grid0.coords t) → ¬cond0_5 (grid0.coords t) → ¬cond0_6 (grid0.coords t) → ¬cond0_7 (grid0.coords t) → ¬cond0_8 (grid0.coords t) → cfg0.idle 7 (grid0.coords t) = false :=
  fun t h0 h1 h2 h3 h4 h5 h6 h7 h8 => (by decide +kernel : ∀ t : Fin cfg0.N, conds0_B (grid0.coords t) → cfg0.idle 7 (grid0.coords t) = false) t ⟨h0, h1, h2, h3, h4, h5, h6, h7, h8⟩
/-- At the points of case C the printed configuration (`Cfg.idle`) calls output 7 live: the case stores into it. -/
theorem liveAt0_7_C : ∀ t : Fin cfg0.N, ¬cond0_0 (grid0.coords t) → ¬cond0_1 (grid0.coords t) → cond0_2 (grid0.coords t) → ¬cond0_3 (grid0.coords t) → ¬cond0_4 (grid0.coords t) → ¬cond0_5 (grid0.coords t) → ¬cond0_6 (grid0.coords t) → ¬cond0_7 (grid0.coords t) → ¬cond0_8 (grid0.coords t) → cfg0.idle 7 (grid0.coords t) = false :=
  fun t h0 h1 h2 h3 h4 h5 h6 h7 h8 => (by decide +kernel : ∀ t : Fin cfg0.N, conds0_C (grid0.coords t) → cfg0.idle 7 (grid0.coords t) = false) t ⟨h0, h1, h2, h3, h4, h5, h6, h7, h8⟩
/-- At the points of case D the printed configuration (`Cfg.idle`) calls output 7 live: the case stores into it. -/
theorem liveAt0_7_D : ∀ t : Fin cfg0.N, ¬cond0_0 (grid0.coords t) → ¬cond0_1 (grid0.coords t) → ¬cond0_2 (grid0.coords t) → cond0_3 (grid0.coords t) → ¬cond0_4 (grid0.coords t) → ¬cond0_5 (grid0.coords t) → ¬cond0_6 (grid0.coords t) → ¬cond0_7 (grid0.coords t) → ¬cond0_8 (grid0.coords t) → cfg0.idle 7 (grid0.coords t) = false :=
  fun t h0 h1 h2 h3 h4 h5 h6 h7 h8 => (by decide +kernel : ∀ t : Fin cfg0.N, conds0_D (grid0.coords t) → cfg0.idle 7 (grid0.coords t) = false) t ⟨h0, h1, h2, h3, h4, h5, h6, h7, h8⟩
/-- At the points of case E the printed configuration (`Cfg.idle`) calls output 7 live: the case stores into it. -/
theorem liveAt0_7_E : ∀ t : Fin cfg0.N, ¬cond0_0 (grid0.coords t) → ¬cond0_1 (grid0.coords t) → ¬cond0_2 (grid0.coords t) → ¬cond0_3 (grid0.coords t) → cond0_4 (grid0.coords t) → ¬cond0_5 (grid0.coords t) → ¬cond0_6 (grid0.coords t) → ¬cond0_7 (grid0.coords t) → ¬cond0_8 (grid0.coords t) → cfg0.idle 7 (grid0.coords t) = false :=
  fun t h0 h1 h2 h3 h4 h5 h6 h7 h8 => (by decide +kernel : ∀ t : Fin cfg0.N, conds0_E (grid0.coords t) → cfg0.idle 7 (grid0.coords t) = false) t ⟨h0, h1, h2, h3, h4, h5, h6, h7, h8⟩
/-- At the points of case F the printed configuration (`Cfg.idle`) calls output 7 live: the case stores into it. -/
theorem liveAt0_7_F : ∀ t : Fin cfg0.N, ¬cond0_0 (grid0.coords t) → ¬cond0_1 (grid0.coords t) → ¬cond0_2 (grid0.coords t) → ¬cond0_3 (grid0.coords t) → ¬cond0_4 (grid0.coords t) → cond0_5 (grid0.coords t) → ¬cond0_6 (grid0.coords t) → ¬cond0_7 (grid0.coords t) → ¬cond0_8 (grid0.coords t) → cfg0.idle 7 (grid0.coords t) = false :=
  fun t h0 h1 h2 h3 h4 h5 h6 h7 h8 => (by decide +kernel : ∀ t : Fin cfg0.N, conds0_F (grid0.coords t) → cfg0.idle 7 (grid0.coords t) = false) t ⟨h0, h1, h2, h3, h4, h5, h6, h7, h8⟩
/-- At the points of case G the printed configuration (`Cfg.idle`) calls output 7 live: the case stores into it. -/
theorem liveAt0_7_G : ∀ t : Fin cfg0.N, ¬cond0_0 (grid0.coords t) → ¬cond0_1 (grid0.coords t) → ¬cond0_2 (grid0.coords t) → ¬cond0_3 (grid0.coords t) → ¬cond0_4 (grid0.coords t) → ¬cond0_5 (grid0.coords t) → cond0_6 (grid0.coords t) → ¬cond0_7 (grid0.coords t) → ¬cond0_8 (grid0.coords t) → cfg0.idle 7 (grid0.coords t) = false :=
  fun t h0 h1 h2 h3 h4 h5 h6 h7 h8 => (by decide +kernel : ∀ t : Fin cfg0.N, conds0_G (grid0.coords t) → cfg0.idle 7 (grid0.coords t) = false) t ⟨h0, h1, h2, h3, h4, h5, h6, h7, h8⟩
/-- At the points of case H the printed configuration (`Cfg.idle`) calls output 7 live: the case stores into it. -/
theorem liveAt0_7_H : ∀ t : Fin cfg0.N, ¬cond0_0 (grid0.coords t) → ¬cond0_1 (grid0.coords t) → ¬cond0_2 (grid0.coords t) → ¬cond0_3 (grid0.coords t) → ¬cond0_4 (grid0.coords t) → ¬cond0_5 (grid0.coords t) → ¬cond0_6 (grid0.coords t) → cond0_7 (grid0.coords t) → ¬cond0_8 (grid0.coords t) → cfg0.idle 7 (grid0.coords t) = false :=
  fun t h0 h1 h2 h3 h4 h5 h6 h7 h8 => (by decide +kernel : ∀ t : Fin cfg0.N, conds0_H (grid0.coords t) → cfg0.idle 7 (grid0.coords t) = false) t ⟨h0, h1, h2, h3, h4, h5, h6, h7, h8⟩
/-- At the points of case I the printed configuration (`Cfg.idle`) calls output 7 live: the case stores into it. -/
theorem liveAt0_7_I : ∀ t : Fin cfg0.N, ¬cond0_0 (grid0.coords t) → ¬cond0_1 (grid0.coords t) → ¬cond0_2 (grid0.coords t) → ¬cond0_3 (grid0.coords t) → ¬cond0_4 (grid0.coords t) → ¬cond0_5 (grid0.coords t) → ¬cond0_6 (grid0.coords t) → ¬cond0_7 (grid0.coords t) → cond0_8 (grid0.coords t) → cfg0.idle 7 (grid0.coords t) = false :=
  fun t h0 h1 h2 h3 h4 h5 h6 h7 h8 => (by decide +kernel : ∀ t : Fin cfg0.N, conds0_I (grid0.coords t) → cfg0.idle 7 (grid0.coords t) = false) t ⟨h0, h1, h2, h3, h4, h5, h6, h7, h8⟩

/-! ## The kernel body on any staging memrefs: a subtype the run finds -/

/-- One staging buffer of output window 7, through which its contents are stated (`View.read_writes_of_cover`: the
    choice does not matter). -/
abbrev VO0_7 : View sig .tc .vmem S1x256x1280 .bf16 := (Memref.whole cc0_stg7_0 : Memref sig .tc .vmem S1x256x1280 .bf16).view
/-- Each window's current staging memref at point `t`, spelled as the pipeline passes it (`bodyAt0`), and its wholeness. -/
abbrev ms0_0 (t : Fin cfg0.N) : Memref sig .tc .smem S2x60 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S2x6 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S2x6 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x10x256x128 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x2304x128 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x128x2304 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256x1280 .bf16 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S2x2304x256 .f32 := Memref.whole cc0_scratch0
abbrev scM0_1 : Memref sig .tc .vmem S8x256 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Run

end
-- ==== Proof.Entry.lean ====
/- What the kernel's loop over heads stores does not depend on what the output block and the scratch hold
   when the loop is entered: every trip stores the scratch chunks before it loads them. -/
module

public import proofs.«01_k».proof.Proof.Gen.KernelIdeal.Loops

@[expose] public section

noncomputable section

namespace Cert.KernelIdeal.Run

open Idealize.ShloMosaic Idealize.ShloMosaic.TcCoe Cert.KernelIdeal Cert.KernelIdeal.Gen

variable {F : FTy → Type} [FloatOps F] [Named F]
variable (𝒱 : Variants) (c : Dev nD) (bd : Option 𝒱.V) (i : grid0.Coords)
  (arg3 : Memref sig .tc .smem S2x60 .f32) (harg3 : arg3.IsWhole) (arg4 : Memref sig .tc .smem S2x6 .f32) (harg4 : arg4.IsWhole)
  (arg5 : Memref sig .tc .smem S2x6 .f32) (harg5 : arg5.IsWhole) (arg6 : Memref sig .tc .vmem S1x10x256x128 .fp8e4m3) (harg6 : arg6.IsWhole)
  (arg7 : Memref sig .tc .vmem S1x1x2304x128 .fp8e4m3) (harg7 : arg7.IsWhole) (arg8 : Memref sig .tc .vmem S1x1x128x2304 .fp8e4m3) (harg8 : arg8.IsWhole)
  (arg9 : Memref sig .tc .vmem S256x256 .f32) (harg9 : arg9.IsWhole) (arg10 : Memref sig .tc .vmem S1x256x1280 .bf16) (harg10 : arg10.IsWhole)
  (arg11 : Memref sig .tc .vmem S2x2304x256 .f32) (harg11 : arg11.IsWhole) (arg12 : Memref sig .tc .vmem S8x256 .f32) (harg12 : arg12.IsWhole)
  (arg0 arg1 : BitVec 32) (v2 v5 : Elt F .f32)
  (X3 : BufTy.Contents (Elt F) arg3.view.ty) (X6 : BufTy.Contents (Elt F) arg6.view.ty) (X7 : BufTy.Contents (Elt F) arg7.view.ty)
  (X8 : BufTy.Contents (Elt F) arg8.view.ty) (X9 : BufTy.Contents (Elt F) arg9.view.ty)
  (G G' : BufTy.Contents (Elt F) arg10.view.ty) (H H' : BufTy.Contents (Elt F) arg11.view.ty)

/-- A trip of loop 1 stores the same, whatever the output block and the scratch held. -/
theorem trip_entry1 (h : k0_cond1 i = 1#1) (k : Fin k0_t1_loop.trips) :
    tripL_k0_t1 (F := F) 𝒱 c bd i arg3 harg3 arg4 harg4 arg5 harg5 arg6 harg6 arg7 harg7 arg8 harg8 arg9 harg9 arg10 harg10 arg11 harg11 arg12 harg12 arg0 arg1 v2 v5 h X3 X6 X7 X8 X9 k G H = tripL_k0_t1 (F := F) 𝒱 c bd i arg3 harg3 arg4 harg4 arg5 harg5 arg6 harg6 arg7 harg7 arg8 harg8 arg9 harg9 arg10 harg10 arg11 harg11 arg12 harg12 arg0 arg1 v2 v5 h X3 X6 X7 X8 X9 k G' H' := by
  unfold tripL_k0_t1 trip_k0_t1
  exact rfl

/-- Loop 1 stores the same, whatever the output block and the scratch held. -/
theorem pb_entry1 (h : k0_cond1 i = 1#1) (n : ℕ) :
    pb_k0_t1 (F := F) 𝒱 c bd i arg3 harg3 arg4 harg4 arg5 harg5 arg6 harg6 arg7 harg7 arg8 harg8 arg9 harg9 arg10 harg10 arg11 harg11 arg12 harg12 arg0 arg1 v2 v5 h X3 X6 X7 X8 X9 G H n = pb_k0_t1 (F := F) 𝒱 c bd i arg3 harg3 arg4 harg4 arg5 harg5 arg6 harg6 arg7 harg7 arg8 harg8 arg9 harg9 arg10 harg10 arg11 harg11 arg12 harg12 arg0 arg1 v2 v5 h X3 X6 X7 X8 X9 G' H' n := by
  induction n with
  | zero => rfl
  | succ n ih =>
    rw [pb_k0_t1.eq_2, pb_k0_t1.eq_2, ih]
    unfold pb_k0_t1Step
    split
    · exact congrArg (fun p : _ × _ => (p.1 ++ _, p.2 ++ _)) (trip_entry1 ..)
    · rfl

/-- A trip of loop 2 stores the same, whatever the output block and the scratch held. -/
theorem trip_entry2 (h : k0_cond2 i = 1#1) (k : Fin k0_t2_loop.trips) :
    tripL_k0_t2 (F := F) 𝒱 c bd i arg3 harg3 arg4 harg4 arg5 harg5 arg6 harg6 arg7 harg7 arg8 harg8 arg9 harg9 arg10 harg10 arg11 harg11 arg12 harg12 arg0 arg1 v2 v5 h X3 X6 X7 X8 X9 k G H = tripL_k0_t2 (F := F) 𝒱 c bd i arg3 harg3 arg4 harg4 arg5 harg5 arg6 harg6 arg7 harg7 arg8 harg8 arg9 harg9 arg10 harg10 arg11 harg11 arg12 harg12 arg0 arg1 v2 v5 h X3 X6 X7 X8 X9 k G' H' := by
  unfold tripL_k0_t2 trip_k0_t2
  exact rfl

/-- Loop 2 stores the same, whatever the output block and the scratch held. -/
theorem pb_entry2 (h : k0_cond2 i = 1#1) (n : ℕ) :
    pb_k0_t2 (F := F) 𝒱 c bd i arg3 harg3 arg4 harg4 arg5 harg5 arg6 harg6 arg7 harg7 arg8 harg8 arg9 harg9 arg10 harg10 arg11 harg11 arg12 harg12 arg0 arg1 v2 v5 h X3 X6 X7 X8 X9 G H n = pb_k0_t2 (F := F) 𝒱 c bd i arg3 harg3 arg4 harg4 arg5 harg5 arg6 harg6 arg7 harg7 arg8 harg8 arg9 harg9 arg10 harg10 arg11 harg11 arg12 harg12 arg0 arg1 v2 v5 h X3 X6 X7 X8 X9 G' H' n := by
  induction n with
  | zero => rfl
  | succ n ih =>
    rw [pb_k0_t2.eq_2, pb_k0_t2.eq_2, ih]
    unfold pb_k0_t2Step
    split
    · exact congrArg (fun p : _ × _ => (p.1 ++ _, p.2 ++ _)) (trip_entry2 ..)
    · rfl

/-- A trip of loop 3 stores the same, whatever the output block and the scratch held. -/
theorem trip_entry3 (h : k0_cond3 i = 1#1) (k : Fin k0_t3_loop.trips) :
    tripL_k0_t3 (F := F) 𝒱 c bd i arg3 harg3 arg4 harg4 arg5 harg5 arg6 harg6 arg7 harg7 arg8 harg8 arg9 harg9 arg10 harg10 arg11 harg11 arg12 harg12 arg0 arg1 v2 v5 h X3 X6 X7 X8 X9 k G H = tripL_k0_t3 (F := F) 𝒱 c bd i arg3 harg3 arg4 harg4 arg5 harg5 arg6 harg6 arg7 harg7 arg8 harg8 arg9 harg9 arg10 harg10 arg11 harg11 arg12 harg12 arg0 arg1 v2 v5 h X3 X6 X7 X8 X9 k G' H' := by
  unfold tripL_k0_t3 trip_k0_t3
  exact rfl

/-- Loop 3 stores the same, whatever the output block and the scratch held. -/
theorem pb_entry3 (h : k0_cond3 i = 1#1) (n : ℕ) :
    pb_k0_t3 (F := F) 𝒱 c bd i arg3 harg3 arg4 harg4 arg5 harg5 arg6 harg6 arg7 harg7 arg8 harg8 arg9 harg9 arg10 harg10 arg11 harg11 arg12 harg12 arg0 arg1 v2 v5 h X3 X6 X7 X8 X9 G H n = pb_k0_t3 (F := F) 𝒱 c bd i arg3 harg3 arg4 harg4 arg5 harg5 arg6 harg6 arg7 harg7 arg8 harg8 arg9 harg9 arg10 harg10 arg11 harg11 arg12 harg12 arg0 arg1 v2 v5 h X3 X6 X7 X8 X9 G' H' n := by
  induction n with
  | zero => rfl
  | succ n ih =>
    rw [pb_k0_t3.eq_2, pb_k0_t3.eq_2, ih]
    unfold pb_k0_t3Step
    split
    · exact congrArg (fun p : _ × _ => (p.1 ++ _, p.2 ++ _)) (trip_entry3 ..)
    · rfl

/-- A trip of loop 4 stores the same, whatever the output block and the scratch held. -/
theorem trip_entry4 (h : k0_cond4 i = 1#1) (k : Fin k0_t4_loop.trips) :
    tripL_k0_t4 (F := F) 𝒱 c bd i arg3 harg3 arg4 harg4 arg5 harg5 arg6 harg6 arg7 harg7 arg8 harg8 arg9 harg9 arg10 harg10 arg11 harg11 arg12 harg12 arg0 arg1 v2 v5 h X3 X6 X7 X8 X9 k G H = tripL_k0_t4 (F := F) 𝒱 c bd i arg3 harg3 arg4 harg4 arg5 harg5 arg6 harg6 arg7 harg7 arg8 harg8 arg9 harg9 arg10 harg10 arg11 harg11 arg12 harg12 arg0 arg1 v2 v5 h X3 X6 X7 X8 X9 k G' H' := by
  unfold tripL_k0_t4 trip_k0_t4
  exact rfl

/-- Loop 4 stores the same, whatever the output block and the scratch held. -/
theorem pb_entry4 (h : k0_cond4 i = 1#1) (n : ℕ) :
    pb_k0_t4 (F := F) 𝒱 c bd i arg3 harg3 arg4 harg4 arg5 harg5 arg6 harg6 arg7 harg7 arg8 harg8 arg9 harg9 arg10 harg10 arg11 harg11 arg12 harg12 arg0 arg1 v2 v5 h X3 X6 X7 X8 X9 G H n = pb_k0_t4 (F := F) 𝒱 c bd i arg3 harg3 arg4 harg4 arg5 harg5 arg6 harg6 arg7 harg7 arg8 harg8 arg9 harg9 arg10 harg10 arg11 harg11 arg12 harg12 arg0 arg1 v2 v5 h X3 X6 X7 X8 X9 G' H' n := by
  induction n with
  | zero => rfl
  | succ n ih =>
    rw [pb_k0_t4.eq_2, pb_k0_t4.eq_2, ih]
    unfold pb_k0_t4Step
    split
    · exact congrArg (fun p : _ × _ => (p.1 ++ _, p.2 ++ _)) (trip_entry4 ..)
    · rfl

/-- A trip of loop 5 stores the same, whatever the output block and the scratch held. -/
theorem trip_entry5 (h : k0_cond5 i = 1#1) (k : Fin k0_t5_loop.trips) :
    tripL_k0_t5 (F := F) 𝒱 c bd i arg3 harg3 arg4 harg4 arg5 harg5 arg6 harg6 arg7 harg7 arg8 harg8 arg9 harg9 arg10 harg10 arg11 harg11 arg12 harg12 arg0 arg1 v2 v5 h X3 X6 X7 X8 X9 k G H = tripL_k0_t5 (F := F) 𝒱 c bd i arg3 harg3 arg4 harg4 arg5 harg5 arg6 harg6 arg7 harg7 arg8 harg8 arg9 harg9 arg10 harg10 arg11 harg11 arg12 harg12 arg0 arg1 v2 v5 h X3 X6 X7 X8 X9 k G' H' := by
  unfold tripL_k0_t5 trip_k0_t5
  exact rfl

/-- Loop 5 stores the same, whatever the output block and the scratch held. -/
theorem pb_entry5 (h : k0_cond5 i = 1#1) (n : ℕ) :
    pb_k0_t5 (F := F) 𝒱 c bd i arg3 harg3 arg4 harg4 arg5 harg5 arg6 harg6 arg7 harg7 arg8 harg8 arg9 harg9 arg10 harg10 arg11 harg11 arg12 harg12 arg0 arg1 v2 v5 h X3 X6 X7 X8 X9 G H n = pb_k0_t5 (F := F) 𝒱 c bd i arg3 harg3 arg4 harg4 arg5 harg5 arg6 harg6 arg7 harg7 arg8 harg8 arg9 harg9 arg10 harg10 arg11 harg11 arg12 harg12 arg0 arg1 v2 v5 h X3 X6 X7 X8 X9 G' H' n := by
  induction n with
  | zero => rfl
  | succ n ih =>
    rw [pb_k0_t5.eq_2, pb_k0_t5.eq_2, ih]
    unfold pb_k0_t5Step
    split
    · exact congrArg (fun p : _ × _ => (p.1 ++ _, p.2 ++ _)) (trip_entry5 ..)
    · rfl

/-- A trip of loop 6 stores the same, whatever the output block and the scratch held. -/
theorem trip_entry6 (h : k0_cond6 i = 1#1) (k : Fin k0_t6_loop.trips) :
    tripL_k0_t6 (F := F) 𝒱 c bd i arg3 harg3 arg4 harg4 arg5 harg5 arg6 harg6 arg7 harg7 arg8 harg8 arg9 harg9 arg10 harg10 arg11 harg11 arg12 harg12 arg0 arg1 v2 v5 h X3 X6 X7 X8 X9 k G H = tripL_k0_t6 (F := F) 𝒱 c bd i arg3 harg3 arg4 harg4 arg5 harg5 arg6 harg6 arg7 harg7 arg8 harg8 arg9 harg9 arg10 harg10 arg11 harg11 arg12 harg12 arg0 arg1 v2 v5 h X3 X6 X7 X8 X9 k G' H' := by
  unfold tripL_k0_t6 trip_k0_t6
  exact rfl

/-- Loop 6 stores the same, whatever the output block and the scratch held. -/
theorem pb_entry6 (h : k0_cond6 i = 1#1) (n : ℕ) :
    pb_k0_t6 (F := F) 𝒱 c bd i arg3 harg3 arg4 harg4 arg5 harg5 arg6 harg6 arg7 harg7 arg8 harg8 arg9 harg9 arg10 harg10 arg11 harg11 arg12 harg12 arg0 arg1 v2 v5 h X3 X6 X7 X8 X9 G H n = pb_k0_t6 (F := F) 𝒱 c bd i arg3 harg3 arg4 harg4 arg5 harg5 arg6 harg6 arg7 harg7 arg8 harg8 arg9 harg9 arg10 harg10 arg11 harg11 arg12 harg12 arg0 arg1 v2 v5 h X3 X6 X7 X8 X9 G' H' n := by
  induction n with
  | zero => rfl
  | succ n ih =>
    rw [pb_k0_t6.eq_2, pb_k0_t6.eq_2, ih]
    unfold pb_k0_t6Step
    split
    · exact congrArg (fun p : _ × _ => (p.1 ++ _, p.2 ++ _)) (trip_entry6 ..)
    · rfl

/-- A trip of loop 7 stores the same, whatever the output block and the scratch held. -/
theorem trip_entry7 (h : k0_cond7 i = 1#1) (k : Fin k0_t7_loop.trips) :
    tripL_k0_t7 (F := F) 𝒱 c bd i arg3 harg3 arg4 harg4 arg5 harg5 arg6 harg6 arg7 harg7 arg8 harg8 arg9 harg9 arg10 harg10 arg11 harg11 arg12 harg12 arg0 arg1 v2 v5 h X3 X6 X7 X8 X9 k G H = tripL_k0_t7 (F := F) 𝒱 c bd i arg3 harg3 arg4 harg4 arg5 harg5 arg6 harg6 arg7 harg7 arg8 harg8 arg9 harg9 arg10 harg10 arg11 harg11 arg12 harg12 arg0 arg1 v2 v5 h X3 X6 X7 X8 X9 k G' H' := by
  unfold tripL_k0_t7 trip_k0_t7
  exact rfl

/-- Loop 7 stores the same, whatever the output block and the scratch held. -/
theorem pb_entry7 (h : k0_cond7 i = 1#1) (n : ℕ) :
    pb_k0_t7 (F := F) 𝒱 c bd i arg3 harg3 arg4 harg4 arg5 harg5 arg6 harg6 arg7 harg7 arg8 harg8 arg9 harg9 arg10 harg10 arg11 harg11 arg12 harg12 arg0 arg1 v2 v5 h X3 X6 X7 X8 X9 G H n = pb_k0_t7 (F := F) 𝒱 c bd i arg3 harg3 arg4 harg4 arg5 harg5 arg6 harg6 arg7 harg7 arg8 harg8 arg9 harg9 arg10 harg10 arg11 harg11 arg12 harg12 arg0 arg1 v2 v5 h X3 X6 X7 X8 X9 G' H' n := by
  induction n with
  | zero => rfl
  | succ n ih =>
    rw [pb_k0_t7.eq_2, pb_k0_t7.eq_2, ih]
    unfold pb_k0_t7Step
    split
    · exact congrArg (fun p : _ × _ => (p.1 ++ _, p.2 ++ _)) (trip_entry7 ..)
    · rfl

/-- A trip of loop 8 stores the same, whatever the output block and the scratch held. -/
theorem trip_entry8 (h : k0_cond8 i = 1#1) (k : Fin k0_t8_loop.trips) :
    tripL_k0_t8 (F := F) 𝒱 c bd i arg3 harg3 arg4 harg4 arg5 harg5 arg6 harg6 arg7 harg7 arg8 harg8 arg9 harg9 arg10 harg10 arg11 harg11 arg12 harg12 arg0 arg1 v2 v5 h X3 X6 X7 X8 X9 k G H = tripL_k0_t8 (F := F) 𝒱 c bd i arg3 harg3 arg4 harg4 arg5 harg5 arg6 harg6 arg7 harg7 arg8 harg8 arg9 harg9 arg10 harg10 arg11 harg11 arg12 harg12 arg0 arg1 v2 v5 h X3 X6 X7 X8 X9 k G' H' := by
  unfold tripL_k0_t8 trip_k0_t8
  exact rfl

/-- Loop 8 stores the same, whatever the output block and the scratch held. -/
theorem pb_entry8 (h : k0_cond8 i = 1#1) (n : ℕ) :
    pb_k0_t8 (F := F) 𝒱 c bd i arg3 harg3 arg4 harg4 arg5 harg5 arg6 harg6 arg7 harg7 arg8 harg8 arg9 harg9 arg10 harg10 arg11 harg11 arg12 harg12 arg0 arg1 v2 v5 h X3 X6 X7 X8 X9 G H n = pb_k0_t8 (F := F) 𝒱 c bd i arg3 harg3 arg4 harg4 arg5 harg5 arg6 harg6 arg7 harg7 arg8 harg8 arg9 harg9 arg10 harg10 arg11 harg11 arg12 harg12 arg0 arg1 v2 v5 h X3 X6 X7 X8 X9 G' H' n := by
  induction n with
  | zero => rfl
  | succ n ih =>
    rw [pb_k0_t8.eq_2, pb_k0_t8.eq_2, ih]
    unfold pb_k0_t8Step
    split
    · exact congrArg (fun p : _ × _ => (p.1 ++ _, p.2 ++ _)) (trip_entry8 ..)
    · rfl

/-- A trip of loop 9 stores the same, whatever the output block and the scratch held. -/
theorem trip_entry9 (h : k0_cond9 i = 1#1) (k : Fin k0_t9_loop.trips) :
    tripL_k0_t9 (F := F) 𝒱 c bd i arg3 harg3 arg4 harg4 arg5 harg5 arg6 harg6 arg7 harg7 arg8 harg8 arg9 harg9 arg10 harg10 arg11 harg11 arg12 harg12 arg0 arg1 v2 v5 h X3 X6 X7 X8 X9 k G H = tripL_k0_t9 (F := F) 𝒱 c bd i arg3 harg3 arg4 harg4 arg5 harg5 arg6 harg6 arg7 harg7 arg8 harg8 arg9 harg9 arg10 harg10 arg11 harg11 arg12 harg12 arg0 arg1 v2 v5 h X3 X6 X7 X8 X9 k G' H' := by
  unfold tripL_k0_t9 trip_k0_t9
  exact rfl

/-- Loop 9 stores the same, whatever the output block and the scratch held. -/
theorem pb_entry9 (h : k0_cond9 i = 1#1) (n : ℕ) :
    pb_k0_t9 (F := F) 𝒱 c bd i arg3 harg3 arg4 harg4 arg5 harg5 arg6 harg6 arg7 harg7 arg8 harg8 arg9 harg9 arg10 harg10 arg11 harg11 arg12 harg12 arg0 arg1 v2 v5 h X3 X6 X7 X8 X9 G H n = pb_k0_t9 (F := F) 𝒱 c bd i arg3 harg3 arg4 harg4 arg5 harg5 arg6 harg6 arg7 harg7 arg8 harg8 arg9 harg9 arg10 harg10 arg11 harg11 arg12 harg12 arg0 arg1 v2 v5 h X3 X6 X7 X8 X9 G' H' n := by
  induction n with
  | zero => rfl
  | succ n ih =>
    rw [pb_k0_t9.eq_2, pb_k0_t9.eq_2, ih]
    unfold pb_k0_t9Step
    split
    · exact congrArg (fun p : _ × _ => (p.1 ++ _, p.2 ++ _)) (trip_entry9 ..)
    · rfl

end Cert.KernelIdeal.Run

end
-- ==== Proof.Run.RunA.lean ====
/- One case of the body of the idealized kernel: the grid points of query tile 0, whose body runs over the key chunks up to that tile. -/
module

public import proofs.«01_k».proof.Proof.Run.Runs
public import proofs.«01_k».proof.Proof.Entry

@[expose] public section

-- membership in a rectangle of production extents (`View.cover_of_tiled`): the elaborator's structural look
-- recurses once per coordinate of the long axes
set_option maxRecDepth 16384

noncomputable section

namespace Cert.KernelIdeal.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 not taken, `scf.if` 2 not taken, `scf.if` 3 not taken, `scf.if` 4 not taken, `scf.if` 5 not taken, `scf.if` 6 not taken, `scf.if` 7 not taken, `scf.if` 8 not taken: points 0, 9, … 99: 12 of 108), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg3 : Memref sig .tc .smem S2x60 .f32) (harg3 : arg3.IsWhole) (arg4 : Memref sig .tc .smem S2x6 .f32) (harg4 : arg4.IsWhole) (arg5 : Memref sig .tc .smem S2x6 .f32) (harg5 : arg5.IsWhole) (arg6 : Memref sig .tc .vmem S1x10x256x128 .fp8e4m3) (harg6 : arg6.IsWhole) (arg7 : Memref sig .tc .vmem S1x1x2304x128 .fp8e4m3) (harg7 : arg7.IsWhole) (arg8 : Memref sig .tc .vmem S1x1x128x2304 .fp8e4m3) (harg8 : arg8.IsWhole) (arg9 : Memref sig .tc .vmem S256x256 .f32) (harg9 : arg9.IsWhole) (arg10 : Memref sig .tc .vmem S1x256x1280 .bf16) (harg10 : arg10.IsWhole) (arg11 : Memref sig .tc .vmem S2x2304x256 .f32) (harg11 : arg11.IsWhole) (arg12 : Memref sig .tc .vmem S8x256 .f32) (harg12 : arg12.IsWhole) (hc0 : cond0_0 i) (hc1 : ¬cond0_1 i) (hc2 : ¬cond0_2 i) (hc3 : ¬cond0_3 i) (hc4 : ¬cond0_4 i) (hc5 : ¬cond0_5 i) (hc6 : ¬cond0_6 i) (hc7 : ¬cond0_7 i) (hc8 : ¬cond0_8 i)
    (x0 : Vec F S2x60 .f32) (x1 : Vec F S2x6 .f32) (x2 : Vec F S2x6 .f32) (x3 : Vec F S1x10x256x128 .fp8e4m3) (x4 : Vec F S1x1x2304x128 .fp8e4m3) (x5 : Vec F S1x1x128x2304 .fp8e4m3) (x6 : Vec F S256x256 .f32) :
    { L7 : List (View.Piece (Elt F) S1x256x1280 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ (∃ d, owns (c : Thread nD τ) arg11 fullShare d) ∗ (∃ d, owns (c : Thread nD τ) arg12 fullShare d)) -∗ K ⟨⟩))
          ⊢ wp frame (wpE (defs₀ (F := F)) Variants.none c none) E (cc0_causal_gqa i arg3 harg3 arg4 harg4 arg5 harg5 arg6 harg6 arg7 harg7 arg8 harg8 arg9 harg9 arg10 harg10 arg11 harg11 arg12 harg12) K } := by
  refine ⟨?_, fun E K => ?run⟩
  case run =>
    simp only [cc0_causal_gqa_eq_skeleton]; unfold cc0_causal_gqa_skel
    simp only [k0_part61_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | sl_exact hc0 | sl_exact hc1 | sl_exact hc2 | sl_exact hc3 | sl_exact hc4 | sl_exact hc5 | sl_exact hc6 | sl_exact hc7 | sl_exact hc8)
    sl_step
    rw [pb_entry1 (G := f7) (H := fs0) (G' := arg10.view.junk) (H' := arg11.view.junk)]
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [HS0]
    · iexists _, _; isplitr; swap; · iexact HS0
      ipureintro; rfl
    iexists _, _; isplitr; swap; · iexact HS1
    ipureintro; rfl

end Cert.KernelIdeal.Run

end
-- ==== Proof.Run.RunB.lean ====
/- One case of the body of the idealized kernel: the grid points of query tile 1, whose body runs over the key chunks up to that tile. -/
module

public import proofs.«01_k».proof.Proof.Run.RunA

@[expose] public section

-- membership in a rectangle of production extents (`View.cover_of_tiled`): the elaborator's structural look
-- recurses once per coordinate of the long axes
set_option maxRecDepth 16384

noncomputable section

namespace Cert.KernelIdeal.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 taken, `scf.if` 2 not taken, `scf.if` 3 not taken, `scf.if` 4 not taken, `scf.if` 5 not taken, `scf.if` 6 not taken, `scf.if` 7 not taken, `scf.if` 8 not taken: points 1, 10, … 100: 12 of 108), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg3 : Memref sig .tc .smem S2x60 .f32) (harg3 : arg3.IsWhole) (arg4 : Memref sig .tc .smem S2x6 .f32) (harg4 : arg4.IsWhole) (arg5 : Memref sig .tc .smem S2x6 .f32) (harg5 : arg5.IsWhole) (arg6 : Memref sig .tc .vmem S1x10x256x128 .fp8e4m3) (harg6 : arg6.IsWhole) (arg7 : Memref sig .tc .vmem S1x1x2304x128 .fp8e4m3) (harg7 : arg7.IsWhole) (arg8 : Memref sig .tc .vmem S1x1x128x2304 .fp8e4m3) (harg8 : arg8.IsWhole) (arg9 : Memref sig .tc .vmem S256x256 .f32) (harg9 : arg9.IsWhole) (arg10 : Memref sig .tc .vmem S1x256x1280 .bf16) (harg10 : arg10.IsWhole) (arg11 : Memref sig .tc .vmem S2x2304x256 .f32) (harg11 : arg11.IsWhole) (arg12 : Memref sig .tc .vmem S8x256 .f32) (harg12 : arg12.IsWhole) (hc0 : ¬cond0_0 i) (hc1 : cond0_1 i) (hc2 : ¬cond0_2 i) (hc3 : ¬cond0_3 i) (hc4 : ¬cond0_4 i) (hc5 : ¬cond0_5 i) (hc6 : ¬cond0_6 i) (hc7 : ¬cond0_7 i) (hc8 : ¬cond0_8 i)
    (x0 : Vec F S2x60 .f32) (x1 : Vec F S2x6 .f32) (x2 : Vec F S2x6 .f32) (x3 : Vec F S1x10x256x128 .fp8e4m3) (x4 : Vec F S1x1x2304x128 .fp8e4m3) (x5 : Vec F S1x1x128x2304 .fp8e4m3) (x6 : Vec F S256x256 .f32) :
    { L7 : List (View.Piece (Elt F) S1x256x1280 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ (∃ d, owns (c : Thread nD τ) arg11 fullShare d) ∗ (∃ d, owns (c : Thread nD τ) arg12 fullShare d)) -∗ K ⟨⟩))
          ⊢ wp frame (wpE (defs₀ (F := F)) Variants.none c none) E (cc0_causal_gqa i arg3 harg3 arg4 harg4 arg5 harg5 arg6 harg6 arg7 harg7 arg8 harg8 arg9 harg9 arg10 harg10 arg11 harg11 arg12 harg12) K } := by
  refine ⟨?_, fun E K => ?run⟩
  case run =>
    simp only [cc0_causal_gqa_eq_skeleton]; unfold cc0_causal_gqa_skel
    simp only [k0_part61_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | sl_exact hc0 | sl_exact hc1 | sl_exact hc2 | sl_exact hc3 | sl_exact hc4 | sl_exact hc5 | sl_exact hc6 | sl_exact hc7 | sl_exact hc8)
    sl_step
    rw [pb_entry2 (G := f7) (H := fs0) (G' := arg10.view.junk) (H' := arg11.view.junk)]
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [HS0]
    · iexists _, _; isplitr; swap; · iexact HS0
      ipureintro; rfl
    iexists _, _; isplitr; swap; · iexact HS1
    ipureintro; rfl

end Cert.KernelIdeal.Run

end
-- ==== Proof.Run.RunC.lean ====
/- One case of the body of the idealized kernel: the grid points of query tile 2, whose body runs over the key chunks up to that tile. -/
module

public import proofs.«01_k».proof.Proof.Run.RunB

@[expose] public section

-- membership in a rectangle of production extents (`View.cover_of_tiled`): the elaborator's structural look
-- recurses once per coordinate of the long axes
set_option maxRecDepth 16384

noncomputable section

namespace Cert.KernelIdeal.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 not taken, `scf.if` 2 taken, `scf.if` 3 not taken, `scf.if` 4 not taken, `scf.if` 5 not taken, `scf.if` 6 not taken, `scf.if` 7 not taken, `scf.if` 8 not taken: points 2, 11, … 101: 12 of 108), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg3 : Memref sig .tc .smem S2x60 .f32) (harg3 : arg3.IsWhole) (arg4 : Memref sig .tc .smem S2x6 .f32) (harg4 : arg4.IsWhole) (arg5 : Memref sig .tc .smem S2x6 .f32) (harg5 : arg5.IsWhole) (arg6 : Memref sig .tc .vmem S1x10x256x128 .fp8e4m3) (harg6 : arg6.IsWhole) (arg7 : Memref sig .tc .vmem S1x1x2304x128 .fp8e4m3) (harg7 : arg7.IsWhole) (arg8 : Memref sig .tc .vmem S1x1x128x2304 .fp8e4m3) (harg8 : arg8.IsWhole) (arg9 : Memref sig .tc .vmem S256x256 .f32) (harg9 : arg9.IsWhole) (arg10 : Memref sig .tc .vmem S1x256x1280 .bf16) (harg10 : arg10.IsWhole) (arg11 : Memref sig .tc .vmem S2x2304x256 .f32) (harg11 : arg11.IsWhole) (arg12 : Memref sig .tc .vmem S8x256 .f32) (harg12 : arg12.IsWhole) (hc0 : ¬cond0_0 i) (hc1 : ¬cond0_1 i) (hc2 : cond0_2 i) (hc3 : ¬cond0_3 i) (hc4 : ¬cond0_4 i) (hc5 : ¬cond0_5 i) (hc6 : ¬cond0_6 i) (hc7 : ¬cond0_7 i) (hc8 : ¬cond0_8 i)
    (x0 : Vec F S2x60 .f32) (x1 : Vec F S2x6 .f32) (x2 : Vec F S2x6 .f32) (x3 : Vec F S1x10x256x128 .fp8e4m3) (x4 : Vec F S1x1x2304x128 .fp8e4m3) (x5 : Vec F S1x1x128x2304 .fp8e4m3) (x6 : Vec F S256x256 .f32) :
    { L7 : List (View.Piece (Elt F) S1x256x1280 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ (∃ d, owns (c : Thread nD τ) arg11 fullShare d) ∗ (∃ d, owns (c : Thread nD τ) arg12 fullShare d)) -∗ K ⟨⟩))
          ⊢ wp frame (wpE (defs₀ (F := F)) Variants.none c none) E (cc0_causal_gqa i arg3 harg3 arg4 harg4 arg5 harg5 arg6 harg6 arg7 harg7 arg8 harg8 arg9 harg9 arg10 harg10 arg11 harg11 arg12 harg12) K } := by
  refine ⟨?_, fun E K => ?run⟩
  case run =>
    simp only [cc0_causal_gqa_eq_skeleton]; unfold cc0_causal_gqa_skel
    simp only [k0_part61_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | sl_exact hc0 | sl_exact hc1 | sl_exact hc2 | sl_exact hc3 | sl_exact hc4 | sl_exact hc5 | sl_exact hc6 | sl_exact hc7 | sl_exact hc8)
    sl_step
    rw [pb_entry3 (G := f7) (H := fs0) (G' := arg10.view.junk) (H' := arg11.view.junk)]
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [HS0]
    · iexists _, _; isplitr; swap; · iexact HS0
      ipureintro; rfl
    iexists _, _; isplitr; swap; · iexact HS1
    ipureintro; rfl

end Cert.KernelIdeal.Run

end
-- ==== Proof.Run.RunD.lean ====
/- One case of the body of the idealized kernel: the grid points of query tile 3, whose body runs over the key chunks up to that tile. -/
module

public import proofs.«01_k».proof.Proof.Run.RunC

@[expose] public section

-- membership in a rectangle of production extents (`View.cover_of_tiled`): the elaborator's structural look
-- recurses once per coordinate of the long axes
set_option maxRecDepth 16384

noncomputable section

namespace Cert.KernelIdeal.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE D (`scf.if` 0 not taken, `scf.if` 1 not taken, `scf.if` 2 not taken, `scf.if` 3 taken, `scf.if` 4 not taken, `scf.if` 5 not taken, `scf.if` 6 not taken, `scf.if` 7 not taken, `scf.if` 8 not taken: points 3, 12, … 102: 12 of 108), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_D (c : Dev nD) (i : grid0.Coords) (arg3 : Memref sig .tc .smem S2x60 .f32) (harg3 : arg3.IsWhole) (arg4 : Memref sig .tc .smem S2x6 .f32) (harg4 : arg4.IsWhole) (arg5 : Memref sig .tc .smem S2x6 .f32) (harg5 : arg5.IsWhole) (arg6 : Memref sig .tc .vmem S1x10x256x128 .fp8e4m3) (harg6 : arg6.IsWhole) (arg7 : Memref sig .tc .vmem S1x1x2304x128 .fp8e4m3) (harg7 : arg7.IsWhole) (arg8 : Memref sig .tc .vmem S1x1x128x2304 .fp8e4m3) (harg8 : arg8.IsWhole) (arg9 : Memref sig .tc .vmem S256x256 .f32) (harg9 : arg9.IsWhole) (arg10 : Memref sig .tc .vmem S1x256x1280 .bf16) (harg10 : arg10.IsWhole) (arg11 : Memref sig .tc .vmem S2x2304x256 .f32) (harg11 : arg11.IsWhole) (arg12 : Memref sig .tc .vmem S8x256 .f32) (harg12 : arg12.IsWhole) (hc0 : ¬cond0_0 i) (hc1 : ¬cond0_1 i) (hc2 : ¬cond0_2 i) (hc3 : cond0_3 i) (hc4 : ¬cond0_4 i) (hc5 : ¬cond0_5 i) (hc6 : ¬cond0_6 i) (hc7 : ¬cond0_7 i) (hc8 : ¬cond0_8 i)
    (x0 : Vec F S2x60 .f32) (x1 : Vec F S2x6 .f32) (x2 : Vec F S2x6 .f32) (x3 : Vec F S1x10x256x128 .fp8e4m3) (x4 : Vec F S1x1x2304x128 .fp8e4m3) (x5 : Vec F S1x1x128x2304 .fp8e4m3) (x6 : Vec F S256x256 .f32) :
    { L7 : List (View.Piece (Elt F) S1x256x1280 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ (∃ d, owns (c : Thread nD τ) arg11 fullShare d) ∗ (∃ d, owns (c : Thread nD τ) arg12 fullShare d)) -∗ K ⟨⟩))
          ⊢ wp frame (wpE (defs₀ (F := F)) Variants.none c none) E (cc0_causal_gqa i arg3 harg3 arg4 harg4 arg5 harg5 arg6 harg6 arg7 harg7 arg8 harg8 arg9 harg9 arg10 harg10 arg11 harg11 arg12 harg12) K } := by
  refine ⟨?_, fun E K => ?run⟩
  case run =>
    simp only [cc0_causal_gqa_eq_skeleton]; unfold cc0_causal_gqa_skel
    simp only [k0_part61_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | sl_exact hc0 | sl_exact hc1 | sl_exact hc2 | sl_exact hc3 | sl_exact hc4 | sl_exact hc5 | sl_exact hc6 | sl_exact hc7 | sl_exact hc8)
    sl_step
    rw [pb_entry4 (G := f7) (H := fs0) (G' := arg10.view.junk) (H' := arg11.view.junk)]
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [HS0]
    · iexists _, _; isplitr; swap; · iexact HS0
      ipureintro; rfl
    iexists _, _; isplitr; swap; · iexact HS1
    ipureintro; rfl

end Cert.KernelIdeal.Run

end
-- ==== Proof.Run.RunE.lean ====
/- One case of the body of the idealized kernel: the grid points of query tile 4, whose body runs over the key chunks up to that tile. -/
module

public import proofs.«01_k».proof.Proof.Run.RunD

@[expose] public section

-- membership in a rectangle of production extents (`View.cover_of_tiled`): the elaborator's structural look
-- recurses once per coordinate of the long axes
set_option maxRecDepth 16384

noncomputable section

namespace Cert.KernelIdeal.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE E (`scf.if` 0 not taken, `scf.if` 1 not taken, `scf.if` 2 not taken, `scf.if` 3 not taken, `scf.if` 4 taken, `scf.if` 5 not taken, `scf.if` 6 not taken, `scf.if` 7 not taken, `scf.if` 8 not taken: points 4, 13, … 103: 12 of 108), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_E (c : Dev nD) (i : grid0.Coords) (arg3 : Memref sig .tc .smem S2x60 .f32) (harg3 : arg3.IsWhole) (arg4 : Memref sig .tc .smem S2x6 .f32) (harg4 : arg4.IsWhole) (arg5 : Memref sig .tc .smem S2x6 .f32) (harg5 : arg5.IsWhole) (arg6 : Memref sig .tc .vmem S1x10x256x128 .fp8e4m3) (harg6 : arg6.IsWhole) (arg7 : Memref sig .tc .vmem S1x1x2304x128 .fp8e4m3) (harg7 : arg7.IsWhole) (arg8 : Memref sig .tc .vmem S1x1x128x2304 .fp8e4m3) (harg8 : arg8.IsWhole) (arg9 : Memref sig .tc .vmem S256x256 .f32) (harg9 : arg9.IsWhole) (arg10 : Memref sig .tc .vmem S1x256x1280 .bf16) (harg10 : arg10.IsWhole) (arg11 : Memref sig .tc .vmem S2x2304x256 .f32) (harg11 : arg11.IsWhole) (arg12 : Memref sig .tc .vmem S8x256 .f32) (harg12 : arg12.IsWhole) (hc0 : ¬cond0_0 i) (hc1 : ¬cond0_1 i) (hc2 : ¬cond0_2 i) (hc3 : ¬cond0_3 i) (hc4 : cond0_4 i) (hc5 : ¬cond0_5 i) (hc6 : ¬cond0_6 i) (hc7 : ¬cond0_7 i) (hc8 : ¬cond0_8 i)
    (x0 : Vec F S2x60 .f32) (x1 : Vec F S2x6 .f32) (x2 : Vec F S2x6 .f32) (x3 : Vec F S1x10x256x128 .fp8e4m3) (x4 : Vec F S1x1x2304x128 .fp8e4m3) (x5 : Vec F S1x1x128x2304 .fp8e4m3) (x6 : Vec F S256x256 .f32) :
    { L7 : List (View.Piece (Elt F) S1x256x1280 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ (∃ d, owns (c : Thread nD τ) arg11 fullShare d) ∗ (∃ d, owns (c : Thread nD τ) arg12 fullShare d)) -∗ K ⟨⟩))
          ⊢ wp frame (wpE (defs₀ (F := F)) Variants.none c none) E (cc0_causal_gqa i arg3 harg3 arg4 harg4 arg5 harg5 arg6 harg6 arg7 harg7 arg8 harg8 arg9 harg9 arg10 harg10 arg11 harg11 arg12 harg12) K } := by
  refine ⟨?_, fun E K => ?run⟩
  case run =>
    simp only [cc0_causal_gqa_eq_skeleton]; unfold cc0_causal_gqa_skel
    simp only [k0_part61_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | sl_exact hc0 | sl_exact hc1 | sl_exact hc2 | sl_exact hc3 | sl_exact hc4 | sl_exact hc5 | sl_exact hc6 | sl_exact hc7 | sl_exact hc8)
    sl_step
    rw [pb_entry5 (G := f7) (H := fs0) (G' := arg10.view.junk) (H' := arg11.view.junk)]
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [HS0]
    · iexists _, _; isplitr; swap; · iexact HS0
      ipureintro; rfl
    iexists _, _; isplitr; swap; · iexact HS1
    ipureintro; rfl

end Cert.KernelIdeal.Run

end
-- ==== Proof.Run.RunF.lean ====
/- One case of the body of the idealized kernel: the grid points of query tile 5, whose body runs over the key chunks up to that tile. -/
module

public import proofs.«01_k».proof.Proof.Run.RunE

@[expose] public section

-- membership in a rectangle of production extents (`View.cover_of_tiled`): the elaborator's structural look
-- recurses once per coordinate of the long axes
set_option maxRecDepth 16384

noncomputable section

namespace Cert.KernelIdeal.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE F (`scf.if` 0 not taken, `scf.if` 1 not taken, `scf.if` 2 not taken, `scf.if` 3 not taken, `scf.if` 4 not taken, `scf.if` 5 taken, `scf.if` 6 not taken, `scf.if` 7 not taken, `scf.if` 8 not taken: points 5, 14, … 104: 12 of 108), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_F (c : Dev nD) (i : grid0.Coords) (arg3 : Memref sig .tc .smem S2x60 .f32) (harg3 : arg3.IsWhole) (arg4 : Memref sig .tc .smem S2x6 .f32) (harg4 : arg4.IsWhole) (arg5 : Memref sig .tc .smem S2x6 .f32) (harg5 : arg5.IsWhole) (arg6 : Memref sig .tc .vmem S1x10x256x128 .fp8e4m3) (harg6 : arg6.IsWhole) (arg7 : Memref sig .tc .vmem S1x1x2304x128 .fp8e4m3) (harg7 : arg7.IsWhole) (arg8 : Memref sig .tc .vmem S1x1x128x2304 .fp8e4m3) (harg8 : arg8.IsWhole) (arg9 : Memref sig .tc .vmem S256x256 .f32) (harg9 : arg9.IsWhole) (arg10 : Memref sig .tc .vmem S1x256x1280 .bf16) (harg10 : arg10.IsWhole) (arg11 : Memref sig .tc .vmem S2x2304x256 .f32) (harg11 : arg11.IsWhole) (arg12 : Memref sig .tc .vmem S8x256 .f32) (harg12 : arg12.IsWhole) (hc0 : ¬cond0_0 i) (hc1 : ¬cond0_1 i) (hc2 : ¬cond0_2 i) (hc3 : ¬cond0_3 i) (hc4 : ¬cond0_4 i) (hc5 : cond0_5 i) (hc6 : ¬cond0_6 i) (hc7 : ¬cond0_7 i) (hc8 : ¬cond0_8 i)
    (x0 : Vec F S2x60 .f32) (x1 : Vec F S2x6 .f32) (x2 : Vec F S2x6 .f32) (x3 : Vec F S1x10x256x128 .fp8e4m3) (x4 : Vec F S1x1x2304x128 .fp8e4m3) (x5 : Vec F S1x1x128x2304 .fp8e4m3) (x6 : Vec F S256x256 .f32) :
    { L7 : List (View.Piece (Elt F) S1x256x1280 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ (∃ d, owns (c : Thread nD τ) arg11 fullShare d) ∗ (∃ d, owns (c : Thread nD τ) arg12 fullShare d)) -∗ K ⟨⟩))
          ⊢ wp frame (wpE (defs₀ (F := F)) Variants.none c none) E (cc0_causal_gqa i arg3 harg3 arg4 harg4 arg5 harg5 arg6 harg6 arg7 harg7 arg8 harg8 arg9 harg9 arg10 harg10 arg11 harg11 arg12 harg12) K } := by
  refine ⟨?_, fun E K => ?run⟩
  case run =>
    simp only [cc0_causal_gqa_eq_skeleton]; unfold cc0_causal_gqa_skel
    simp only [k0_part61_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | sl_exact hc0 | sl_exact hc1 | sl_exact hc2 | sl_exact hc3 | sl_exact hc4 | sl_exact hc5 | sl_exact hc6 | sl_exact hc7 | sl_exact hc8)
    sl_step
    rw [pb_entry6 (G := f7) (H := fs0) (G' := arg10.view.junk) (H' := arg11.view.junk)]
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [HS0]
    · iexists _, _; isplitr; swap; · iexact HS0
      ipureintro; rfl
    iexists _, _; isplitr; swap; · iexact HS1
    ipureintro; rfl

end Cert.KernelIdeal.Run

end
-- ==== Proof.Run.RunG.lean ====
/- One case of the body of the idealized kernel: the grid points of query tile 6, whose body runs over the key chunks up to that tile. -/
module

public import proofs.«01_k».proof.Proof.Run.RunF

@[expose] public section

-- membership in a rectangle of production extents (`View.cover_of_tiled`): the elaborator's structural look
-- recurses once per coordinate of the long axes
set_option maxRecDepth 16384

noncomputable section

namespace Cert.KernelIdeal.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE G (`scf.if` 0 not taken, `scf.if` 1 not taken, `scf.if` 2 not taken, `scf.if` 3 not taken, `scf.if` 4 not taken, `scf.if` 5 not taken, `scf.if` 6 taken, `scf.if` 7 not taken, `scf.if` 8 not taken: points 6, 15, … 105: 12 of 108), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_G (c : Dev nD) (i : grid0.Coords) (arg3 : Memref sig .tc .smem S2x60 .f32) (harg3 : arg3.IsWhole) (arg4 : Memref sig .tc .smem S2x6 .f32) (harg4 : arg4.IsWhole) (arg5 : Memref sig .tc .smem S2x6 .f32) (harg5 : arg5.IsWhole) (arg6 : Memref sig .tc .vmem S1x10x256x128 .fp8e4m3) (harg6 : arg6.IsWhole) (arg7 : Memref sig .tc .vmem S1x1x2304x128 .fp8e4m3) (harg7 : arg7.IsWhole) (arg8 : Memref sig .tc .vmem S1x1x128x2304 .fp8e4m3) (harg8 : arg8.IsWhole) (arg9 : Memref sig .tc .vmem S256x256 .f32) (harg9 : arg9.IsWhole) (arg10 : Memref sig .tc .vmem S1x256x1280 .bf16) (harg10 : arg10.IsWhole) (arg11 : Memref sig .tc .vmem S2x2304x256 .f32) (harg11 : arg11.IsWhole) (arg12 : Memref sig .tc .vmem S8x256 .f32) (harg12 : arg12.IsWhole) (hc0 : ¬cond0_0 i) (hc1 : ¬cond0_1 i) (hc2 : ¬cond0_2 i) (hc3 : ¬cond0_3 i) (hc4 : ¬cond0_4 i) (hc5 : ¬cond0_5 i) (hc6 : cond0_6 i) (hc7 : ¬cond0_7 i) (hc8 : ¬cond0_8 i)
    (x0 : Vec F S2x60 .f32) (x1 : Vec F S2x6 .f32) (x2 : Vec F S2x6 .f32) (x3 : Vec F S1x10x256x128 .fp8e4m3) (x4 : Vec F S1x1x2304x128 .fp8e4m3) (x5 : Vec F S1x1x128x2304 .fp8e4m3) (x6 : Vec F S256x256 .f32) :
    { L7 : List (View.Piece (Elt F) S1x256x1280 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ (∃ d, owns (c : Thread nD τ) arg11 fullShare d) ∗ (∃ d, owns (c : Thread nD τ) arg12 fullShare d)) -∗ K ⟨⟩))
          ⊢ wp frame (wpE (defs₀ (F := F)) Variants.none c none) E (cc0_causal_gqa i arg3 harg3 arg4 harg4 arg5 harg5 arg6 harg6 arg7 harg7 arg8 harg8 arg9 harg9 arg10 harg10 arg11 harg11 arg12 harg12) K } := by
  refine ⟨?_, fun E K => ?run⟩
  case run =>
    simp only [cc0_causal_gqa_eq_skeleton]; unfold cc0_causal_gqa_skel
    simp only [k0_part61_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | sl_exact hc0 | sl_exact hc1 | sl_exact hc2 | sl_exact hc3 | sl_exact hc4 | sl_exact hc5 | sl_exact hc6 | sl_exact hc7 | sl_exact hc8)
    sl_step
    rw [pb_entry7 (G := f7) (H := fs0) (G' := arg10.view.junk) (H' := arg11.view.junk)]
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [HS0]
    · iexists _, _; isplitr; swap; · iexact HS0
      ipureintro; rfl
    iexists _, _; isplitr; swap; · iexact HS1
    ipureintro; rfl

end Cert.KernelIdeal.Run

end
-- ==== Proof.Run.RunH.lean ====
/- One case of the body of the idealized kernel: the grid points of query tile 7, whose body runs over the key chunks up to that tile. -/
module

public import proofs.«01_k».proof.Proof.Run.RunG

@[expose] public section

-- membership in a rectangle of production extents (`View.cover_of_tiled`): the elaborator's structural look
-- recurses once per coordinate of the long axes
set_option maxRecDepth 16384

noncomputable section

namespace Cert.KernelIdeal.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE H (`scf.if` 0 not taken, `scf.if` 1 not taken, `scf.if` 2 not taken, `scf.if` 3 not taken, `scf.if` 4 not taken, `scf.if` 5 not taken, `scf.if` 6 not taken, `scf.if` 7 taken, `scf.if` 8 not taken: points 7, 16, … 106: 12 of 108), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_H (c : Dev nD) (i : grid0.Coords) (arg3 : Memref sig .tc .smem S2x60 .f32) (harg3 : arg3.IsWhole) (arg4 : Memref sig .tc .smem S2x6 .f32) (harg4 : arg4.IsWhole) (arg5 : Memref sig .tc .smem S2x6 .f32) (harg5 : arg5.IsWhole) (arg6 : Memref sig .tc .vmem S1x10x256x128 .fp8e4m3) (harg6 : arg6.IsWhole) (arg7 : Memref sig .tc .vmem S1x1x2304x128 .fp8e4m3) (harg7 : arg7.IsWhole) (arg8 : Memref sig .tc .vmem S1x1x128x2304 .fp8e4m3) (harg8 : arg8.IsWhole) (arg9 : Memref sig .tc .vmem S256x256 .f32) (harg9 : arg9.IsWhole) (arg10 : Memref sig .tc .vmem S1x256x1280 .bf16) (harg10 : arg10.IsWhole) (arg11 : Memref sig .tc .vmem S2x2304x256 .f32) (harg11 : arg11.IsWhole) (arg12 : Memref sig .tc .vmem S8x256 .f32) (harg12 : arg12.IsWhole) (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : cond0_7 i) (hc8 : ¬cond0_8 i)
    (x0 : Vec F S2x60 .f32) (x1 : Vec F S2x6 .f32) (x2 : Vec F S2x6 .f32) (x3 : Vec F S1x10x256x128 .fp8e4m3) (x4 : Vec F S1x1x2304x128 .fp8e4m3) (x5 : Vec F S1x1x128x2304 .fp8e4m3) (x6 : Vec F S256x256 .f32) :
    { L7 : List (View.Piece (Elt F) S1x256x1280 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ (∃ d, owns (c : Thread nD τ) arg11 fullShare d) ∗ (∃ d, owns (c : Thread nD τ) arg12 fullShare d)) -∗ K ⟨⟩))
          ⊢ wp frame (wpE (defs₀ (F := F)) Variants.none c none) E (cc0_causal_gqa i arg3 harg3 arg4 harg4 arg5 harg5 arg6 harg6 arg7 harg7 arg8 harg8 arg9 harg9 arg10 harg10 arg11 harg11 arg12 harg12) K } := by
  refine ⟨?_, fun E K => ?run⟩
  case run =>
    simp only [cc0_causal_gqa_eq_skeleton]; unfold cc0_causal_gqa_skel
    simp only [k0_part61_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | sl_exact hc0 | sl_exact hc1 | sl_exact hc2 | sl_exact hc3 | sl_exact hc4 | sl_exact hc5 | sl_exact hc6 | sl_exact hc7 | sl_exact hc8)
    sl_step
    rw [pb_entry8 (G := f7) (H := fs0) (G' := arg10.view.junk) (H' := arg11.view.junk)]
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [HS0]
    · iexists _, _; isplitr; swap; · iexact HS0
      ipureintro; rfl
    iexists _, _; isplitr; swap; · iexact HS1
    ipureintro; rfl

end Cert.KernelIdeal.Run

end
-- ==== Proof.Run.RunI.lean ====
/- One case of the body of the idealized kernel: the grid points of query tile 8, whose body runs over the key chunks up to that tile. -/
module

public import proofs.«01_k».proof.Proof.Run.RunH

@[expose] public section

-- membership in a rectangle of production extents (`View.cover_of_tiled`): the elaborator's structural look
-- recurses once per coordinate of the long axes
set_option maxRecDepth 16384

noncomputable section

namespace Cert.KernelIdeal.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE I (`scf.if` 0 not taken, `scf.if` 1 not taken, `scf.if` 2 not taken, `scf.if` 3 not taken, `scf.if` 4 not taken, `scf.if` 5 not taken, `scf.if` 6 not taken, `scf.if` 7 not taken, `scf.if` 8 taken: points 8, 17, … 107: 12 of 108), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_I (c : Dev nD) (i : grid0.Coords) (arg3 : Memref sig .tc .smem S2x60 .f32) (harg3 : arg3.IsWhole) (arg4 : Memref sig .tc .smem S2x6 .f32) (harg4 : arg4.IsWhole) (arg5 : Memref sig .tc .smem S2x6 .f32) (harg5 : arg5.IsWhole) (arg6 : Memref sig .tc .vmem S1x10x256x128 .fp8e4m3) (harg6 : arg6.IsWhole) (arg7 : Memref sig .tc .vmem S1x1x2304x128 .fp8e4m3) (harg7 : arg7.IsWhole) (arg8 : Memref sig .tc .vmem S1x1x128x2304 .fp8e4m3) (harg8 : arg8.IsWhole) (arg9 : Memref sig .tc .vmem S256x256 .f32) (harg9 : arg9.IsWhole) (arg10 : Memref sig .tc .vmem S1x256x1280 .bf16) (harg10 : arg10.IsWhole) (arg11 : Memref sig .tc .vmem S2x2304x256 .f32) (harg11 : arg11.IsWhole) (arg12 : Memref sig .tc .vmem S8x256 .f32) (harg12 : arg12.IsWhole) (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : ¬cond0_7 i) (hc8 : cond0_8 i)
    (x0 : Vec F S2x60 .f32) (x1 : Vec F S2x6 .f32) (x2 : Vec F S2x6 .f32) (x3 : Vec F S1x10x256x128 .fp8e4m3) (x4 : Vec F S1x1x2304x128 .fp8e4m3) (x5 : Vec F S1x1x128x2304 .fp8e4m3) (x6 : Vec F S256x256 .f32) :
    { L7 : List (View.Piece (Elt F) S1x256x1280 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ (∃ d, owns (c : Thread nD τ) arg11 fullShare d) ∗ (∃ d, owns (c : Thread nD τ) arg12 fullShare d)) -∗ K ⟨⟩))
          ⊢ wp frame (wpE (defs₀ (F := F)) Variants.none c none) E (cc0_causal_gqa i arg3 harg3 arg4 harg4 arg5 harg5 arg6 harg6 arg7 harg7 arg8 harg8 arg9 harg9 arg10 harg10 arg11 harg11 arg12 harg12) K } := by
  refine ⟨?_, fun E K => ?run⟩
  case run =>
    simp only [cc0_causal_gqa_eq_skeleton]; unfold cc0_causal_gqa_skel
    simp only [k0_part61_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | sl_exact hc0 | sl_exact hc1 | sl_exact hc2 | sl_exact hc3 | sl_exact hc4 | sl_exact hc5 | sl_exact hc6 | sl_exact hc7 | sl_exact hc8)
    sl_step
    rw [pb_entry9 (G := f7) (H := fs0) (G' := arg10.view.junk) (H' := arg11.view.junk)]
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [HS0]
    · iexists _, _; isplitr; swap; · iexact HS0
      ipureintro; rfl
    iexists _, _; isplitr; swap; · iexact HS1
    ipureintro; rfl

end Cert.KernelIdeal.Run

end
-- ==== Proof.Run.Frame.lean ====
/- The body of the idealized kernel at every grid point, the launch, and the frame: it ends without fault, its arguments unchanged and every counter at zero. -/
module

public import proofs.«01_k».proof.Proof.Run.RunI
public import Idealize.ShloMosaic.Lib.Claim

@[expose] public section

-- membership in a rectangle of production extents (`View.cover_of_tiled`): the elaborator's structural look
-- recurses once per coordinate of the long axes
set_option maxRecDepth 16384

noncomputable section

namespace Cert.KernelIdeal.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- Case A's pieces for output 7 tile its block (10 stores of `S1x256x128`, checked by the kernel's evaluation: Lib/Ring.lean `Piece.tiledL`, linear in the pieces, through a loop's `@[irreducible]` trip theorem too), so they cover it. -/
theorem cover0_A_7 (c : Dev nD) (i : grid0.Coords) (arg3 : Memref sig .tc .smem S2x60 .f32) (harg3 : arg3.IsWhole) (arg4 : Memref sig .tc .smem S2x6 .f32) (harg4 : arg4.IsWhole) (arg5 : Memref sig .tc .smem S2x6 .f32) (harg5 : arg5.IsWhole) (arg6 : Memref sig .tc .vmem S1x10x256x128 .fp8e4m3) (harg6 : arg6.IsWhole) (arg7 : Memref sig .tc .vmem S1x1x2304x128 .fp8e4m3) (harg7 : arg7.IsWhole) (arg8 : Memref sig .tc .vmem S1x1x128x2304 .fp8e4m3) (harg8 : arg8.IsWhole) (arg9 : Memref sig .tc .vmem S256x256 .f32) (harg9 : arg9.IsWhole) (arg10 : Memref sig .tc .vmem S1x256x1280 .bf16) (harg10 : arg10.IsWhole) (arg11 : Memref sig .tc .vmem S2x2304x256 .f32) (harg11 : arg11.IsWhole) (arg12 : Memref sig .tc .vmem S8x256 .f32) (harg12 : arg12.IsWhole) (hc0 : cond0_0 i) (hc1 : ¬cond0_1 i) (hc2 : ¬cond0_2 i) (hc3 : ¬cond0_3 i) (hc4 : ¬cond0_4 i) (hc5 : ¬cond0_5 i) (hc6 : ¬cond0_6 i) (hc7 : ¬cond0_7 i) (hc8 : ¬cond0_8 i)
    (x0 : Vec F S2x60 .f32) (x1 : Vec F S2x6 .f32) (x2 : Vec F S2x6 .f32) (x3 : Vec F S1x10x256x128 .fp8e4m3) (x4 : Vec F S1x1x2304x128 .fp8e4m3) (x5 : Vec F S1x1x128x2304 .fp8e4m3) (x6 : Vec F S256x256 .f32) (y : S1x256x1280.Idx) :
    ∃ pc ∈ (kernelRun0_A c i arg3 harg3 arg4 harg4 arg5 harg5 arg6 harg6 arg7 harg7 arg8 harg8 arg9 harg9 arg10 harg10 arg11 harg11 arg12 harg12 hc0 hc1 hc2 hc3 hc4 hc5 hc6 hc7 hc8 x0 x1 x2 x3 x4 x5 x6).1, y ∈ pc.1.set :=
  View.cover_of_tiledL (kernelRun0_A c i arg3 harg3 arg4 harg4 arg5 harg5 arg6 harg6 arg7 harg7 arg8 harg8 arg9 harg9 arg10 harg10 arg11 harg11 arg12 harg12 hc0 hc1 hc2 hc3 hc4 hc5 hc6 hc7 hc8 x0 x1 x2 x3 x4 x5 x6).1 S1x256x128.size (by sl_kernel_rfl) y

/-- What case A leaves in output 7's staging buffer: its pieces read back over junk. -/
def out0_A_7 (c : Dev nD) (i : grid0.Coords) (arg3 : Memref sig .tc .smem S2x60 .f32) (harg3 : arg3.IsWhole) (arg4 : Memref sig .tc .smem S2x6 .f32) (harg4 : arg4.IsWhole) (arg5 : Memref sig .tc .smem S2x6 .f32) (harg5 : arg5.IsWhole) (arg6 : Memref sig .tc .vmem S1x10x256x128 .fp8e4m3) (harg6 : arg6.IsWhole) (arg7 : Memref sig .tc .vmem S1x1x2304x128 .fp8e4m3) (harg7 : arg7.IsWhole) (arg8 : Memref sig .tc .vmem S1x1x128x2304 .fp8e4m3) (harg8 : arg8.IsWhole) (arg9 : Memref sig .tc .vmem S256x256 .f32) (harg9 : arg9.IsWhole) (arg10 : Memref sig .tc .vmem S1x256x1280 .bf16) (harg10 : arg10.IsWhole) (arg11 : Memref sig .tc .vmem S2x2304x256 .f32) (harg11 : arg11.IsWhole) (arg12 : Memref sig .tc .vmem S8x256 .f32) (harg12 : arg12.IsWhole) (hc0 : cond0_0 i) (hc1 : ¬cond0_1 i) (hc2 : ¬cond0_2 i) (hc3 : ¬cond0_3 i) (hc4 : ¬cond0_4 i) (hc5 : ¬cond0_5 i) (hc6 : ¬cond0_6 i) (hc7 : ¬cond0_7 i) (hc8 : ¬cond0_8 i)
    (x0 : Vec F S2x60 .f32) (x1 : Vec F S2x6 .f32) (x2 : Vec F S2x6 .f32) (x3 : Vec F S1x10x256x128 .fp8e4m3) (x4 : Vec F S1x1x2304x128 .fp8e4m3) (x5 : Vec F S1x1x128x2304 .fp8e4m3) (x6 : Vec F S256x256 .f32) : Vec F S1x256x1280 .bf16 :=
  VO0_7.read (Elt F) (VO0_7.writes (Elt F) VO0_7.junk (kernelRun0_A c i arg3 harg3 arg4 harg4 arg5 harg5 arg6 harg6 arg7 harg7 arg8 harg8 arg9 harg9 arg10 harg10 arg11 harg11 arg12 harg12 hc0 hc1 hc2 hc3 hc4 hc5 hc6 hc7 hc8 x0 x1 x2 x3 x4 x5 x6).1)

/-- Case B's pieces for output 7 tile its block (10 stores of `S1x256x128`, checked by the kernel's evaluation: Lib/Ring.lean `Piece.tiledL`, linear in the pieces, through a loop's `@[irreducible]` trip theorem too), so they cover it. -/
theorem cover0_B_7 (c : Dev nD) (i : grid0.Coords) (arg3 : Memref sig .tc .smem S2x60 .f32) (harg3 : arg3.IsWhole) (arg4 : Memref sig .tc .smem S2x6 .f32) (harg4 : arg4.IsWhole) (arg5 : Memref sig .tc .smem S2x6 .f32) (harg5 : arg5.IsWhole) (arg6 : Memref sig .tc .vmem S1x10x256x128 .fp8e4m3) (harg6 : arg6.IsWhole) (arg7 : Memref sig .tc .vmem S1x1x2304x128 .fp8e4m3) (harg7 : arg7.IsWhole) (arg8 : Memref sig .tc .vmem S1x1x128x2304 .fp8e4m3) (harg8 : arg8.IsWhole) (arg9 : Memref sig .tc .vmem S256x256 .f32) (harg9 : arg9.IsWhole) (arg10 : Memref sig .tc .vmem S1x256x1280 .bf16) (harg10 : arg10.IsWhole) (arg11 : Memref sig .tc .vmem S2x2304x256 .f32) (harg11 : arg11.IsWhole) (arg12 : Memref sig .tc .vmem S8x256 .f32) (harg12 : arg12.IsWhole) (hc0 : ¬cond0_0 i) (hc1 : cond0_1 i) (hc2 : ¬cond0_2 i) (hc3 : ¬cond0_3 i) (hc4 : ¬cond0_4 i) (hc5 : ¬cond0_5 i) (hc6 : ¬cond0_6 i) (hc7 : ¬cond0_7 i) (hc8 : ¬cond0_8 i)
    (x0 : Vec F S2x60 .f32) (x1 : Vec F S2x6 .f32) (x2 : Vec F S2x6 .f32) (x3 : Vec F S1x10x256x128 .fp8e4m3) (x4 : Vec F S1x1x2304x128 .fp8e4m3) (x5 : Vec F S1x1x128x2304 .fp8e4m3) (x6 : Vec F S256x256 .f32) (y : S1x256x1280.Idx) :
    ∃ pc ∈ (kernelRun0_B c i arg3 harg3 arg4 harg4 arg5 harg5 arg6 harg6 arg7 harg7 arg8 harg8 arg9 harg9 arg10 harg10 arg11 harg11 arg12 harg12 hc0 hc1 hc2 hc3 hc4 hc5 hc6 hc7 hc8 x0 x1 x2 x3 x4 x5 x6).1, y ∈ pc.1.set :=
  View.cover_of_tiledL (kernelRun0_B c i arg3 harg3 arg4 harg4 arg5 harg5 arg6 harg6 arg7 harg7 arg8 harg8 arg9 harg9 arg10 harg10 arg11 harg11 arg12 harg12 hc0 hc1 hc2 hc3 hc4 hc5 hc6 hc7 hc8 x0 x1 x2 x3 x4 x5 x6).1 S1x256x128.size (by sl_kernel_rfl) y

/-- What case B leaves in output 7's staging buffer: its pieces read back over junk. -/
def out0_B_7 (c : Dev nD) (i : grid0.Coords) (arg3 : Memref sig .tc .smem S2x60 .f32) (harg3 : arg3.IsWhole) (arg4 : Memref sig .tc .smem S2x6 .f32) (harg4 : arg4.IsWhole) (arg5 : Memref sig .tc .smem S2x6 .f32) (harg5 : arg5.IsWhole) (arg6 : Memref sig .tc .vmem S1x10x256x128 .fp8e4m3) (harg6 : arg6.IsWhole) (arg7 : Memref sig .tc .vmem S1x1x2304x128 .fp8e4m3) (harg7 : arg7.IsWhole) (arg8 : Memref sig .tc .vmem S1x1x128x2304 .fp8e4m3) (harg8 : arg8.IsWhole) (arg9 : Memref sig .tc .vmem S256x256 .f32) (harg9 : arg9.IsWhole) (arg10 : Memref sig .tc .vmem S1x256x1280 .bf16) (harg10 : arg10.IsWhole) (arg11 : Memref sig .tc .vmem S2x2304x256 .f32) (harg11 : arg11.IsWhole) (arg12 : Memref sig .tc .vmem S8x256 .f32) (harg12 : arg12.IsWhole) (hc0 : ¬cond0_0 i) (hc1 : cond0_1 i) (hc2 : ¬cond0_2 i) (hc3 : ¬cond0_3 i) (hc4 : ¬cond0_4 i) (hc5 : ¬cond0_5 i) (hc6 : ¬cond0_6 i) (hc7 : ¬cond0_7 i) (hc8 : ¬cond0_8 i)
    (x0 : Vec F S2x60 .f32) (x1 : Vec F S2x6 .f32) (x2 : Vec F S2x6 .f32) (x3 : Vec F S1x10x256x128 .fp8e4m3) (x4 : Vec F S1x1x2304x128 .fp8e4m3) (x5 : Vec F S1x1x128x2304 .fp8e4m3) (x6 : Vec F S256x256 .f32) : Vec F S1x256x1280 .bf16 :=
  VO0_7.read (Elt F) (VO0_7.writes (Elt F) VO0_7.junk (kernelRun0_B c i arg3 harg3 arg4 harg4 arg5 harg5 arg6 harg6 arg7 harg7 arg8 harg8 arg9 harg9 arg10 harg10 arg11 harg11 arg12 harg12 hc0 hc1 hc2 hc3 hc4 hc5 hc6 hc7 hc8 x0 x1 x2 x3 x4 x5 x6).1)

/-- Case C's pieces for output 7 tile its block (10 stores of `S1x256x128`, checked by the kernel's evaluation: Lib/Ring.lean `Piece.tiledL`, linear in the pieces, through a loop's `@[irreducible]` trip theorem too), so they cover it. -/
theorem cover0_C_7 (c : Dev nD) (i : grid0.Coords) (arg3 : Memref sig .tc .smem S2x60 .f32) (harg3 : arg3.IsWhole) (arg4 : Memref sig .tc .smem S2x6 .f32) (harg4 : arg4.IsWhole) (arg5 : Memref sig .tc .smem S2x6 .f32) (harg5 : arg5.IsWhole) (arg6 : Memref sig .tc .vmem S1x10x256x128 .fp8e4m3) (harg6 : arg6.IsWhole) (arg7 : Memref sig .tc .vmem S1x1x2304x128 .fp8e4m3) (harg7 : arg7.IsWhole) (arg8 : Memref sig .tc .vmem S1x1x128x2304 .fp8e4m3) (harg8 : arg8.IsWhole) (arg9 : Memref sig .tc .vmem S256x256 .f32) (harg9 : arg9.IsWhole) (arg10 : Memref sig .tc .vmem S1x256x1280 .bf16) (harg10 : arg10.IsWhole) (arg11 : Memref sig .tc .vmem S2x2304x256 .f32) (harg11 : arg11.IsWhole) (arg12 : Memref sig .tc .vmem S8x256 .f32) (harg12 : arg12.IsWhole) (hc0 : ¬cond0_0 i) (hc1 : ¬cond0_1 i) (hc2 : cond0_2 i) (hc3 : ¬cond0_3 i) (hc4 : ¬cond0_4 i) (hc5 : ¬cond0_5 i) (hc6 : ¬cond0_6 i) (hc7 : ¬cond0_7 i) (hc8 : ¬cond0_8 i)
    (x0 : Vec F S2x60 .f32) (x1 : Vec F S2x6 .f32) (x2 : Vec F S2x6 .f32) (x3 : Vec F S1x10x256x128 .fp8e4m3) (x4 : Vec F S1x1x2304x128 .fp8e4m3) (x5 : Vec F S1x1x128x2304 .fp8e4m3) (x6 : Vec F S256x256 .f32) (y : S1x256x1280.Idx) :
    ∃ pc ∈ (kernelRun0_C c i arg3 harg3 arg4 harg4 arg5 harg5 arg6 harg6 arg7 harg7 arg8 harg8 arg9 harg9 arg10 harg10 arg11 harg11 arg12 harg12 hc0 hc1 hc2 hc3 hc4 hc5 hc6 hc7 hc8 x0 x1 x2 x3 x4 x5 x6).1, y ∈ pc.1.set :=
  View.cover_of_tiledL (kernelRun0_C c i arg3 harg3 arg4 harg4 arg5 harg5 arg6 harg6 arg7 harg7 arg8 harg8 arg9 harg9 arg10 harg10 arg11 harg11 arg12 harg12 hc0 hc1 hc2 hc3 hc4 hc5 hc6 hc7 hc8 x0 x1 x2 x3 x4 x5 x6).1 S1x256x128.size (by sl_kernel_rfl) y

/-- What case C leaves in output 7's staging buffer: its pieces read back over junk. -/
def out0_C_7 (c : Dev nD) (i : grid0.Coords) (arg3 : Memref sig .tc .smem S2x60 .f32) (harg3 : arg3.IsWhole) (arg4 : Memref sig .tc .smem S2x6 .f32) (harg4 : arg4.IsWhole) (arg5 : Memref sig .tc .smem S2x6 .f32) (harg5 : arg5.IsWhole) (arg6 : Memref sig .tc .vmem S1x10x256x128 .fp8e4m3) (harg6 : arg6.IsWhole) (arg7 : Memref sig .tc .vmem S1x1x2304x128 .fp8e4m3) (harg7 : arg7.IsWhole) (arg8 : Memref sig .tc .vmem S1x1x128x2304 .fp8e4m3) (harg8 : arg8.IsWhole) (arg9 : Memref sig .tc .vmem S256x256 .f32) (harg9 : arg9.IsWhole) (arg10 : Memref sig .tc .vmem S1x256x1280 .bf16) (harg10 : arg10.IsWhole) (arg11 : Memref sig .tc .vmem S2x2304x256 .f32) (harg11 : arg11.IsWhole) (arg12 : Memref sig .tc .vmem S8x256 .f32) (harg12 : arg12.IsWhole) (hc0 : ¬cond0_0 i) (hc1 : ¬cond0_1 i) (hc2 : cond0_2 i) (hc3 : ¬cond0_3 i) (hc4 : ¬cond0_4 i) (hc5 : ¬cond0_5 i) (hc6 : ¬cond0_6 i) (hc7 : ¬cond0_7 i) (hc8 : ¬cond0_8 i)
    (x0 : Vec F S2x60 .f32) (x1 : Vec F S2x6 .f32) (x2 : Vec F S2x6 .f32) (x3 : Vec F S1x10x256x128 .fp8e4m3) (x4 : Vec F S1x1x2304x128 .fp8e4m3) (x5 : Vec F S1x1x128x2304 .fp8e4m3) (x6 : Vec F S256x256 .f32) : Vec F S1x256x1280 .bf16 :=
  VO0_7.read (Elt F) (VO0_7.writes (Elt F) VO0_7.junk (kernelRun0_C c i arg3 harg3 arg4 harg4 arg5 harg5 arg6 harg6 arg7 harg7 arg8 harg8 arg9 harg9 arg10 harg10 arg11 harg11 arg12 harg12 hc0 hc1 hc2 hc3 hc4 hc5 hc6 hc7 hc8 x0 x1 x2 x3 x4 x5 x6).1)

/-- Case D's pieces for output 7 tile its block (10 stores of `S1x256x128`, checked by the kernel's evaluation: Lib/Ring.lean `Piece.tiledL`, linear in the pieces, through a loop's `@[irreducible]` trip theorem too), so they cover it. -/
theorem cover0_D_7 (c : Dev nD) (i : grid0.Coords) (arg3 : Memref sig .tc .smem S2x60 .f32) (harg3 : arg3.IsWhole) (arg4 : Memref sig .tc .smem S2x6 .f32) (harg4 : arg4.IsWhole) (arg5 : Memref sig .tc .smem S2x6 .f32) (harg5 : arg5.IsWhole) (arg6 : Memref sig .tc .vmem S1x10x256x128 .fp8e4m3) (harg6 : arg6.IsWhole) (arg7 : Memref sig .tc .vmem S1x1x2304x128 .fp8e4m3) (harg7 : arg7.IsWhole) (arg8 : Memref sig .tc .vmem S1x1x128x2304 .fp8e4m3) (harg8 : arg8.IsWhole) (arg9 : Memref sig .tc .vmem S256x256 .f32) (harg9 : arg9.IsWhole) (arg10 : Memref sig .tc .vmem S1x256x1280 .bf16) (harg10 : arg10.IsWhole) (arg11 : Memref sig .tc .vmem S2x2304x256 .f32) (harg11 : arg11.IsWhole) (arg12 : Memref sig .tc .vmem S8x256 .f32) (harg12 : arg12.IsWhole) (hc0 : ¬cond0_0 i) (hc1 : ¬cond0_1 i) (hc2 : ¬cond0_2 i) (hc3 : cond0_3 i) (hc4 : ¬cond0_4 i) (hc5 : ¬cond0_5 i) (hc6 : ¬cond0_6 i) (hc7 : ¬cond0_7 i) (hc8 : ¬cond0_8 i)
    (x0 : Vec F S2x60 .f32) (x1 : Vec F S2x6 .f32) (x2 : Vec F S2x6 .f32) (x3 : Vec F S1x10x256x128 .fp8e4m3) (x4 : Vec F S1x1x2304x128 .fp8e4m3) (x5 : Vec F S1x1x128x2304 .fp8e4m3) (x6 : Vec F S256x256 .f32) (y : S1x256x1280.Idx) :
    ∃ pc ∈ (kernelRun0_D c i arg3 harg3 arg4 harg4 arg5 harg5 arg6 harg6 arg7 harg7 arg8 harg8 arg9 harg9 arg10 harg10 arg11 harg11 arg12 harg12 hc0 hc1 hc2 hc3 hc4 hc5 hc6 hc7 hc8 x0 x1 x2 x3 x4 x5 x6).1, y ∈ pc.1.set :=
  View.cover_of_tiledL (kernelRun0_D c i arg3 harg3 arg4 harg4 arg5 harg5 arg6 harg6 arg7 harg7 arg8 harg8 arg9 harg9 arg10 harg10 arg11 harg11 arg12 harg12 hc0 hc1 hc2 hc3 hc4 hc5 hc6 hc7 hc8 x0 x1 x2 x3 x4 x5 x6).1 S1x256x128.size (by sl_kernel_rfl) y

/-- What case D leaves in output 7's staging buffer: its pieces read back over junk. -/
def out0_D_7 (c : Dev nD) (i : grid0.Coords) (arg3 : Memref sig .tc .smem S2x60 .f32) (harg3 : arg3.IsWhole) (arg4 : Memref sig .tc .smem S2x6 .f32) (harg4 : arg4.IsWhole) (arg5 : Memref sig .tc .smem S2x6 .f32) (harg5 : arg5.IsWhole) (arg6 : Memref sig .tc .vmem S1x10x256x128 .fp8e4m3) (harg6 : arg6.IsWhole) (arg7 : Memref sig .tc .vmem S1x1x2304x128 .fp8e4m3) (harg7 : arg7.IsWhole) (arg8 : Memref sig .tc .vmem S1x1x128x2304 .fp8e4m3) (harg8 : arg8.IsWhole) (arg9 : Memref sig .tc .vmem S256x256 .f32) (harg9 : arg9.IsWhole) (arg10 : Memref sig .tc .vmem S1x256x1280 .bf16) (harg10 : arg10.IsWhole) (arg11 : Memref sig .tc .vmem S2x2304x256 .f32) (harg11 : arg11.IsWhole) (arg12 : Memref sig .tc .vmem S8x256 .f32) (harg12 : arg12.IsWhole) (hc0 : ¬cond0_0 i) (hc1 : ¬cond0_1 i) (hc2 : ¬cond0_2 i) (hc3 : cond0_3 i) (hc4 : ¬cond0_4 i) (hc5 : ¬cond0_5 i) (hc6 : ¬cond0_6 i) (hc7 : ¬cond0_7 i) (hc8 : ¬cond0_8 i)
    (x0 : Vec F S2x60 .f32) (x1 : Vec F S2x6 .f32) (x2 : Vec F S2x6 .f32) (x3 : Vec F S1x10x256x128 .fp8e4m3) (x4 : Vec F S1x1x2304x128 .fp8e4m3) (x5 : Vec F S1x1x128x2304 .fp8e4m3) (x6 : Vec F S256x256 .f32) : Vec F S1x256x1280 .bf16 :=
  VO0_7.read (Elt F) (VO0_7.writes (Elt F) VO0_7.junk (kernelRun0_D c i arg3 harg3 arg4 harg4 arg5 harg5 arg6 harg6 arg7 harg7 arg8 harg8 arg9 harg9 arg10 harg10 arg11 harg11 arg12 harg12 hc0 hc1 hc2 hc3 hc4 hc5 hc6 hc7 hc8 x0 x1 x2 x3 x4 x5 x6).1)

/-- Case E's pieces for output 7 tile its block (10 stores of `S1x256x128`, checked by the kernel's evaluation: Lib/Ring.lean `Piece.tiledL`, linear in the pieces, through a loop's `@[irreducible]` trip theorem too), so they cover it. -/
theorem cover0_E_7 (c : Dev nD) (i : grid0.Coords) (arg3 : Memref sig .tc .smem S2x60 .f32) (harg3 : arg3.IsWhole) (arg4 : Memref sig .tc .smem S2x6 .f32) (harg4 : arg4.IsWhole) (arg5 : Memref sig .tc .smem S2x6 .f32) (harg5 : arg5.IsWhole) (arg6 : Memref sig .tc .vmem S1x10x256x128 .fp8e4m3) (harg6 : arg6.IsWhole) (arg7 : Memref sig .tc .vmem S1x1x2304x128 .fp8e4m3) (harg7 : arg7.IsWhole) (arg8 : Memref sig .tc .vmem S1x1x128x2304 .fp8e4m3) (harg8 : arg8.IsWhole) (arg9 : Memref sig .tc .vmem S256x256 .f32) (harg9 : arg9.IsWhole) (arg10 : Memref sig .tc .vmem S1x256x1280 .bf16) (harg10 : arg10.IsWhole) (arg11 : Memref sig .tc .vmem S2x2304x256 .f32) (harg11 : arg11.IsWhole) (arg12 : Memref sig .tc .vmem S8x256 .f32) (harg12 : arg12.IsWhole) (hc0 : ¬cond0_0 i) (hc1 : ¬cond0_1 i) (hc2 : ¬cond0_2 i) (hc3 : ¬cond0_3 i) (hc4 : cond0_4 i) (hc5 : ¬cond0_5 i) (hc6 : ¬cond0_6 i) (hc7 : ¬cond0_7 i) (hc8 : ¬cond0_8 i)
    (x0 : Vec F S2x60 .f32) (x1 : Vec F S2x6 .f32) (x2 : Vec F S2x6 .f32) (x3 : Vec F S1x10x256x128 .fp8e4m3) (x4 : Vec F S1x1x2304x128 .fp8e4m3) (x5 : Vec F S1x1x128x2304 .fp8e4m3) (x6 : Vec F S256x256 .f32) (y : S1x256x1280.Idx) :
    ∃ pc ∈ (kernelRun0_E c i arg3 harg3 arg4 harg4 arg5 harg5 arg6 harg6 arg7 harg7 arg8 harg8 arg9 harg9 arg10 harg10 arg11 harg11 arg12 harg12 hc0 hc1 hc2 hc3 hc4 hc5 hc6 hc7 hc8 x0 x1 x2 x3 x4 x5 x6).1, y ∈ pc.1.set :=
  View.cover_of_tiledL (kernelRun0_E c i arg3 harg3 arg4 harg4 arg5 harg5 arg6 harg6 arg7 harg7 arg8 harg8 arg9 harg9 arg10 harg10 arg11 harg11 arg12 harg12 hc0 hc1 hc2 hc3 hc4 hc5 hc6 hc7 hc8 x0 x1 x2 x3 x4 x5 x6).1 S1x256x128.size (by sl_kernel_rfl) y

/-- What case E leaves in output 7's staging buffer: its pieces read back over junk. -/
def out0_E_7 (c : Dev nD) (i : grid0.Coords) (arg3 : Memref sig .tc .smem S2x60 .f32) (harg3 : arg3.IsWhole) (arg4 : Memref sig .tc .smem S2x6 .f32) (harg4 : arg4.IsWhole) (arg5 : Memref sig .tc .smem S2x6 .f32) (harg5 : arg5.IsWhole) (arg6 : Memref sig .tc .vmem S1x10x256x128 .fp8e4m3) (harg6 : arg6.IsWhole) (arg7 : Memref sig .tc .vmem S1x1x2304x128 .fp8e4m3) (harg7 : arg7.IsWhole) (arg8 : Memref sig .tc .vmem S1x1x128x2304 .fp8e4m3) (harg8 : arg8.IsWhole) (arg9 : Memref sig .tc .vmem S256x256 .f32) (harg9 : arg9.IsWhole) (arg10 : Memref sig .tc .vmem S1x256x1280 .bf16) (harg10 : arg10.IsWhole) (arg11 : Memref sig .tc .vmem S2x2304x256 .f32) (harg11 : arg11.IsWhole) (arg12 : Memref sig .tc .vmem S8x256 .f32) (harg12 : arg12.IsWhole) (hc0 : ¬cond0_0 i) (hc1 : ¬cond0_1 i) (hc2 : ¬cond0_2 i) (hc3 : ¬cond0_3 i) (hc4 : cond0_4 i) (hc5 : ¬cond0_5 i) (hc6 : ¬cond0_6 i) (hc7 : ¬cond0_7 i) (hc8 : ¬cond0_8 i)
    (x0 : Vec F S2x60 .f32) (x1 : Vec F S2x6 .f32) (x2 : Vec F S2x6 .f32) (x3 : Vec F S1x10x256x128 .fp8e4m3) (x4 : Vec F S1x1x2304x128 .fp8e4m3) (x5 : Vec F S1x1x128x2304 .fp8e4m3) (x6 : Vec F S256x256 .f32) : Vec F S1x256x1280 .bf16 :=
  VO0_7.read (Elt F) (VO0_7.writes (Elt F) VO0_7.junk (kernelRun0_E c i arg3 harg3 arg4 harg4 arg5 harg5 arg6 harg6 arg7 harg7 arg8 harg8 arg9 harg9 arg10 harg10 arg11 harg11 arg12 harg12 hc0 hc1 hc2 hc3 hc4 hc5 hc6 hc7 hc8 x0 x1 x2 x3 x4 x5 x6).1)

/-- Case F's pieces for output 7 tile its block (10 stores of `S1x256x128`, checked by the kernel's evaluation: Lib/Ring.lean `Piece.tiledL`, linear in the pieces, through a loop's `@[irreducible]` trip theorem too), so they cover it. -/
theorem cover0_F_7 (c : Dev nD) (i : grid0.Coords) (arg3 : Memref sig .tc .smem S2x60 .f32) (harg3 : arg3.IsWhole) (arg4 : Memref sig .tc .smem S2x6 .f32) (harg4 : arg4.IsWhole) (arg5 : Memref sig .tc .smem S2x6 .f32) (harg5 : arg5.IsWhole) (arg6 : Memref sig .tc .vmem S1x10x256x128 .fp8e4m3) (harg6 : arg6.IsWhole) (arg7 : Memref sig .tc .vmem S1x1x2304x128 .fp8e4m3) (harg7 : arg7.IsWhole) (arg8 : Memref sig .tc .vmem S1x1x128x2304 .fp8e4m3) (harg8 : arg8.IsWhole) (arg9 : Memref sig .tc .vmem S256x256 .f32) (harg9 : arg9.IsWhole) (arg10 : Memref sig .tc .vmem S1x256x1280 .bf16) (harg10 : arg10.IsWhole) (arg11 : Memref sig .tc .vmem S2x2304x256 .f32) (harg11 : arg11.IsWhole) (arg12 : Memref sig .tc .vmem S8x256 .f32) (harg12 : arg12.IsWhole) (hc0 : ¬cond0_0 i) (hc1 : ¬cond0_1 i) (hc2 : ¬cond0_2 i) (hc3 : ¬cond0_3 i) (hc4 : ¬cond0_4 i) (hc5 : cond0_5 i) (hc6 : ¬cond0_6 i) (hc7 : ¬cond0_7 i) (hc8 : ¬cond0_8 i)
    (x0 : Vec F S2x60 .f32) (x1 : Vec F S2x6 .f32) (x2 : Vec F S2x6 .f32) (x3 : Vec F S1x10x256x128 .fp8e4m3) (x4 : Vec F S1x1x2304x128 .fp8e4m3) (x5 : Vec F S1x1x128x2304 .fp8e4m3) (x6 : Vec F S256x256 .f32) (y : S1x256x1280.Idx) :
    ∃ pc ∈ (kernelRun0_F c i arg3 harg3 arg4 harg4 arg5 harg5 arg6 harg6 arg7 harg7 arg8 harg8 arg9 harg9 arg10 harg10 arg11 harg11 arg12 harg12 hc0 hc1 hc2 hc3 hc4 hc5 hc6 hc7 hc8 x0 x1 x2 x3 x4 x5 x6).1, y ∈ pc.1.set :=
  View.cover_of_tiledL (kernelRun0_F c i arg3 harg3 arg4 harg4 arg5 harg5 arg6 harg6 arg7 harg7 arg8 harg8 arg9 harg9 arg10 harg10 arg11 harg11 arg12 harg12 hc0 hc1 hc2 hc3 hc4 hc5 hc6 hc7 hc8 x0 x1 x2 x3 x4 x5 x6).1 S1x256x128.size (by sl_kernel_rfl) y

/-- What case F leaves in output 7's staging buffer: its pieces read back over junk. -/
def out0_F_7 (c : Dev nD) (i : grid0.Coords) (arg3 : Memref sig .tc .smem S2x60 .f32) (harg3 : arg3.IsWhole) (arg4 : Memref sig .tc .smem S2x6 .f32) (harg4 : arg4.IsWhole) (arg5 : Memref sig .tc .smem S2x6 .f32) (harg5 : arg5.IsWhole) (arg6 : Memref sig .tc .vmem S1x10x256x128 .fp8e4m3) (harg6 : arg6.IsWhole) (arg7 : Memref sig .tc .vmem S1x1x2304x128 .fp8e4m3) (harg7 : arg7.IsWhole) (arg8 : Memref sig .tc .vmem S1x1x128x2304 .fp8e4m3) (harg8 : arg8.IsWhole) (arg9 : Memref sig .tc .vmem S256x256 .f32) (harg9 : arg9.IsWhole) (arg10 : Memref sig .tc .vmem S1x256x1280 .bf16) (harg10 : arg10.IsWhole) (arg11 : Memref sig .tc .vmem S2x2304x256 .f32) (harg11 : arg11.IsWhole) (arg12 : Memref sig .tc .vmem S8x256 .f32) (harg12 : arg12.IsWhole) (hc0 : ¬cond0_0 i) (hc1 : ¬cond0_1 i) (hc2 : ¬cond0_2 i) (hc3 : ¬cond0_3 i) (hc4 : ¬cond0_4 i) (hc5 : cond0_5 i) (hc6 : ¬cond0_6 i) (hc7 : ¬cond0_7 i) (hc8 : ¬cond0_8 i)
    (x0 : Vec F S2x60 .f32) (x1 : Vec F S2x6 .f32) (x2 : Vec F S2x6 .f32) (x3 : Vec F S1x10x256x128 .fp8e4m3) (x4 : Vec F S1x1x2304x128 .fp8e4m3) (x5 : Vec F S1x1x128x2304 .fp8e4m3) (x6 : Vec F S256x256 .f32) : Vec F S1x256x1280 .bf16 :=
  VO0_7.read (Elt F) (VO0_7.writes (Elt F) VO0_7.junk (kernelRun0_F c i arg3 harg3 arg4 harg4 arg5 harg5 arg6 harg6 arg7 harg7 arg8 harg8 arg9 harg9 arg10 harg10 arg11 harg11 arg12 harg12 hc0 hc1 hc2 hc3 hc4 hc5 hc6 hc7 hc8 x0 x1 x2 x3 x4 x5 x6).1)

/-- Case G's pieces for output 7 tile its block (10 stores of `S1x256x128`, checked by the kernel's evaluation: Lib/Ring.lean `Piece.tiledL`, linear in the pieces, through a loop's `@[irreducible]` trip theorem too), so they cover it. -/
theorem cover0_G_7 (c : Dev nD) (i : grid0.Coords) (arg3 : Memref sig .tc .smem S2x60 .f32) (harg3 : arg3.IsWhole) (arg4 : Memref sig .tc .smem S2x6 .f32) (harg4 : arg4.IsWhole) (arg5 : Memref sig .tc .smem S2x6 .f32) (harg5 : arg5.IsWhole) (arg6 : Memref sig .tc .vmem S1x10x256x128 .fp8e4m3) (harg6 : arg6.IsWhole) (arg7 : Memref sig .tc .vmem S1x1x2304x128 .fp8e4m3) (harg7 : arg7.IsWhole) (arg8 : Memref sig .tc .vmem S1x1x128x2304 .fp8e4m3) (harg8 : arg8.IsWhole) (arg9 : Memref sig .tc .vmem S256x256 .f32) (harg9 : arg9.IsWhole) (arg10 : Memref sig .tc .vmem S1x256x1280 .bf16) (harg10 : arg10.IsWhole) (arg11 : Memref sig .tc .vmem S2x2304x256 .f32) (harg11 : arg11.IsWhole) (arg12 : Memref sig .tc .vmem S8x256 .f32) (harg12 : arg12.IsWhole) (hc0 : ¬cond0_0 i) (hc1 : ¬cond0_1 i) (hc2 : ¬cond0_2 i) (hc3 : ¬cond0_3 i) (hc4 : ¬cond0_4 i) (hc5 : ¬cond0_5 i) (hc6 : cond0_6 i) (hc7 : ¬cond0_7 i) (hc8 : ¬cond0_8 i)
    (x0 : Vec F S2x60 .f32) (x1 : Vec F S2x6 .f32) (x2 : Vec F S2x6 .f32) (x3 : Vec F S1x10x256x128 .fp8e4m3) (x4 : Vec F S1x1x2304x128 .fp8e4m3) (x5 : Vec F S1x1x128x2304 .fp8e4m3) (x6 : Vec F S256x256 .f32) (y : S1x256x1280.Idx) :
    ∃ pc ∈ (kernelRun0_G c i arg3 harg3 arg4 harg4 arg5 harg5 arg6 harg6 arg7 harg7 arg8 harg8 arg9 harg9 arg10 harg10 arg11 harg11 arg12 harg12 hc0 hc1 hc2 hc3 hc4 hc5 hc6 hc7 hc8 x0 x1 x2 x3 x4 x5 x6).1, y ∈ pc.1.set :=
  View.cover_of_tiledL (kernelRun0_G c i arg3 harg3 arg4 harg4 arg5 harg5 arg6 harg6 arg7 harg7 arg8 harg8 arg9 harg9 arg10 harg10 arg11 harg11 arg12 harg12 hc0 hc1 hc2 hc3 hc4 hc5 hc6 hc7 hc8 x0 x1 x2 x3 x4 x5 x6).1 S1x256x128.size (by sl_kernel_rfl) y

/-- What case G leaves in output 7's staging buffer: its pieces read back over junk. -/
def out0_G_7 (c : Dev nD) (i : grid0.Coords) (arg3 : Memref sig .tc .smem S2x60 .f32) (harg3 : arg3.IsWhole) (arg4 : Memref sig .tc .smem S2x6 .f32) (harg4 : arg4.IsWhole) (arg5 : Memref sig .tc .smem S2x6 .f32) (harg5 : arg5.IsWhole) (arg6 : Memref sig .tc .vmem S1x10x256x128 .fp8e4m3) (harg6 : arg6.IsWhole) (arg7 : Memref sig .tc .vmem S1x1x2304x128 .fp8e4m3) (harg7 : arg7.IsWhole) (arg8 : Memref sig .tc .vmem S1x1x128x2304 .fp8e4m3) (harg8 : arg8.IsWhole) (arg9 : Memref sig .tc .vmem S256x256 .f32) (harg9 : arg9.IsWhole) (arg10 : Memref sig .tc .vmem S1x256x1280 .bf16) (harg10 : arg10.IsWhole) (arg11 : Memref sig .tc .vmem S2x2304x256 .f32) (harg11 : arg11.IsWhole) (arg12 : Memref sig .tc .vmem S8x256 .f32) (harg12 : arg12.IsWhole) (hc0 : ¬cond0_0 i) (hc1 : ¬cond0_1 i) (hc2 : ¬cond0_2 i) (hc3 : ¬cond0_3 i) (hc4 : ¬cond0_4 i) (hc5 : ¬cond0_5 i) (hc6 : cond0_6 i) (hc7 : ¬cond0_7 i) (hc8 : ¬cond0_8 i)
    (x0 : Vec F S2x60 .f32) (x1 : Vec F S2x6 .f32) (x2 : Vec F S2x6 .f32) (x3 : Vec F S1x10x256x128 .fp8e4m3) (x4 : Vec F S1x1x2304x128 .fp8e4m3) (x5 : Vec F S1x1x128x2304 .fp8e4m3) (x6 : Vec F S256x256 .f32) : Vec F S1x256x1280 .bf16 :=
  VO0_7.read (Elt F) (VO0_7.writes (Elt F) VO0_7.junk (kernelRun0_G c i arg3 harg3 arg4 harg4 arg5 harg5 arg6 harg6 arg7 harg7 arg8 harg8 arg9 harg9 arg10 harg10 arg11 harg11 arg12 harg12 hc0 hc1 hc2 hc3 hc4 hc5 hc6 hc7 hc8 x0 x1 x2 x3 x4 x5 x6).1)

/-- Case H's pieces for output 7 tile its block (10 stores of `S1x256x128`, checked by the kernel's evaluation: Lib/Ring.lean `Piece.tiledL`, linear in the pieces, through a loop's `@[irreducible]` trip theorem too), so they cover it. -/
theorem cover0_H_7 (c : Dev nD) (i : grid0.Coords) (arg3 : Memref sig .tc .smem S2x60 .f32) (harg3 : arg3.IsWhole) (arg4 : Memref sig .tc .smem S2x6 .f32) (harg4 : arg4.IsWhole) (arg5 : Memref sig .tc .smem S2x6 .f32) (harg5 : arg5.IsWhole) (arg6 : Memref sig .tc .vmem S1x10x256x128 .fp8e4m3) (harg6 : arg6.IsWhole) (arg7 : Memref sig .tc .vmem S1x1x2304x128 .fp8e4m3) (harg7 : arg7.IsWhole) (arg8 : Memref sig .tc .vmem S1x1x128x2304 .fp8e4m3) (harg8 : arg8.IsWhole) (arg9 : Memref sig .tc .vmem S256x256 .f32) (harg9 : arg9.IsWhole) (arg10 : Memref sig .tc .vmem S1x256x1280 .bf16) (harg10 : arg10.IsWhole) (arg11 : Memref sig .tc .vmem S2x2304x256 .f32) (harg11 : arg11.IsWhole) (arg12 : Memref sig .tc .vmem S8x256 .f32) (harg12 : arg12.IsWhole) (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : cond0_7 i) (hc8 : ¬cond0_8 i)
    (x0 : Vec F S2x60 .f32) (x1 : Vec F S2x6 .f32) (x2 : Vec F S2x6 .f32) (x3 : Vec F S1x10x256x128 .fp8e4m3) (x4 : Vec F S1x1x2304x128 .fp8e4m3) (x5 : Vec F S1x1x128x2304 .fp8e4m3) (x6 : Vec F S256x256 .f32) (y : S1x256x1280.Idx) :
    ∃ pc ∈ (kernelRun0_H c i arg3 harg3 arg4 harg4 arg5 harg5 arg6 harg6 arg7 harg7 arg8 harg8 arg9 harg9 arg10 harg10 arg11 harg11 arg12 harg12 hc0 hc1 hc2 hc3 hc4 hc5 hc6 hc7 hc8 x0 x1 x2 x3 x4 x5 x6).1, y ∈ pc.1.set :=
  View.cover_of_tiledL (kernelRun0_H c i arg3 harg3 arg4 harg4 arg5 harg5 arg6 harg6 arg7 harg7 arg8 harg8 arg9 harg9 arg10 harg10 arg11 harg11 arg12 harg12 hc0 hc1 hc2 hc3 hc4 hc5 hc6 hc7 hc8 x0 x1 x2 x3 x4 x5 x6).1 S1x256x128.size (by sl_kernel_rfl) y

/-- What case H leaves in output 7's staging buffer: its pieces read back over junk. -/
def out0_H_7 (c : Dev nD) (i : grid0.Coords) (arg3 : Memref sig .tc .smem S2x60 .f32) (harg3 : arg3.IsWhole) (arg4 : Memref sig .tc .smem S2x6 .f32) (harg4 : arg4.IsWhole) (arg5 : Memref sig .tc .smem S2x6 .f32) (harg5 : arg5.IsWhole) (arg6 : Memref sig .tc .vmem S1x10x256x128 .fp8e4m3) (harg6 : arg6.IsWhole) (arg7 : Memref sig .tc .vmem S1x1x2304x128 .fp8e4m3) (harg7 : arg7.IsWhole) (arg8 : Memref sig .tc .vmem S1x1x128x2304 .fp8e4m3) (harg8 : arg8.IsWhole) (arg9 : Memref sig .tc .vmem S256x256 .f32) (harg9 : arg9.IsWhole) (arg10 : Memref sig .tc .vmem S1x256x1280 .bf16) (harg10 : arg10.IsWhole) (arg11 : Memref sig .tc .vmem S2x2304x256 .f32) (harg11 : arg11.IsWhole) (arg12 : Memref sig .tc .vmem S8x256 .f32) (harg12 : arg12.IsWhole) (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : cond0_7 i) (hc8 : ¬cond0_8 i)
    (x0 : Vec F S2x60 .f32) (x1 : Vec F S2x6 .f32) (x2 : Vec F S2x6 .f32) (x3 : Vec F S1x10x256x128 .fp8e4m3) (x4 : Vec F S1x1x2304x128 .fp8e4m3) (x5 : Vec F S1x1x128x2304 .fp8e4m3) (x6 : Vec F S256x256 .f32) : Vec F S1x256x1280 .bf16 :=
  VO0_7.read (Elt F) (VO0_7.writes (Elt F) VO0_7.junk (kernelRun0_H c i arg3 harg3 arg4 harg4 arg5 harg5 arg6 harg6 arg7 harg7 arg8 harg8 arg9 harg9 arg10 harg10 arg11 harg11 arg12 harg12 hc0 hc1 hc2 hc3 hc4 hc5 hc6 hc7 hc8 x0 x1 x2 x3 x4 x5 x6).1)

/-- Case I's pieces for output 7 tile its block (10 stores of `S1x256x128`, checked by the kernel's evaluation: Lib/Ring.lean `Piece.tiledL`, linear in the pieces, through a loop's `@[irreducible]` trip theorem too), so they cover it. -/
theorem cover0_I_7 (c : Dev nD) (i : grid0.Coords) (arg3 : Memref sig .tc .smem S2x60 .f32) (harg3 : arg3.IsWhole) (arg4 : Memref sig .tc .smem S2x6 .f32) (harg4 : arg4.IsWhole) (arg5 : Memref sig .tc .smem S2x6 .f32) (harg5 : arg5.IsWhole) (arg6 : Memref sig .tc .vmem S1x10x256x128 .fp8e4m3) (harg6 : arg6.IsWhole) (arg7 : Memref sig .tc .vmem S1x1x2304x128 .fp8e4m3) (harg7 : arg7.IsWhole) (arg8 : Memref sig .tc .vmem S1x1x128x2304 .fp8e4m3) (harg8 : arg8.IsWhole) (arg9 : Memref sig .tc .vmem S256x256 .f32) (harg9 : arg9.IsWhole) (arg10 : Memref sig .tc .vmem S1x256x1280 .bf16) (harg10 : arg10.IsWhole) (arg11 : Memref sig .tc .vmem S2x2304x256 .f32) (harg11 : arg11.IsWhole) (arg12 : Memref sig .tc .vmem S8x256 .f32) (harg12 : arg12.IsWhole) (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : ¬cond0_7 i) (hc8 : cond0_8 i)
    (x0 : Vec F S2x60 .f32) (x1 : Vec F S2x6 .f32) (x2 : Vec F S2x6 .f32) (x3 : Vec F S1x10x256x128 .fp8e4m3) (x4 : Vec F S1x1x2304x128 .fp8e4m3) (x5 : Vec F S1x1x128x2304 .fp8e4m3) (x6 : Vec F S256x256 .f32) (y : S1x256x1280.Idx) :
    ∃ pc ∈ (kernelRun0_I c i arg3 harg3 arg4 harg4 arg5 harg5 arg6 harg6 arg7 harg7 arg8 harg8 arg9 harg9 arg10 harg10 arg11 harg11 arg12 harg12 hc0 hc1 hc2 hc3 hc4 hc5 hc6 hc7 hc8 x0 x1 x2 x3 x4 x5 x6).1, y ∈ pc.1.set :=
  View.cover_of_tiledL (kernelRun0_I c i arg3 harg3 arg4 harg4 arg5 harg5 arg6 harg6 arg7 harg7 arg8 harg8 arg9 harg9 arg10 harg10 arg11 harg11 arg12 harg12 hc0 hc1 hc2 hc3 hc4 hc5 hc6 hc7 hc8 x0 x1 x2 x3 x4 x5 x6).1 S1x256x128.size (by sl_kernel_rfl) y

/-- What case I leaves in output 7's staging buffer: its pieces read back over junk. -/
def out0_I_7 (c : Dev nD) (i : grid0.Coords) (arg3 : Memref sig .tc .smem S2x60 .f32) (harg3 : arg3.IsWhole) (arg4 : Memref sig .tc .smem S2x6 .f32) (harg4 : arg4.IsWhole) (arg5 : Memref sig .tc .smem S2x6 .f32) (harg5 : arg5.IsWhole) (arg6 : Memref sig .tc .vmem S1x10x256x128 .fp8e4m3) (harg6 : arg6.IsWhole) (arg7 : Memref sig .tc .vmem S1x1x2304x128 .fp8e4m3) (harg7 : arg7.IsWhole) (arg8 : Memref sig .tc .vmem S1x1x128x2304 .fp8e4m3) (harg8 : arg8.IsWhole) (arg9 : Memref sig .tc .vmem S256x256 .f32) (harg9 : arg9.IsWhole) (arg10 : Memref sig .tc .vmem S1x256x1280 .bf16) (harg10 : arg10.IsWhole) (arg11 : Memref sig .tc .vmem S2x2304x256 .f32) (harg11 : arg11.IsWhole) (arg12 : Memref sig .tc .vmem S8x256 .f32) (harg12 : arg12.IsWhole) (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : ¬cond0_7 i) (hc8 : cond0_8 i)
    (x0 : Vec F S2x60 .f32) (x1 : Vec F S2x6 .f32) (x2 : Vec F S2x6 .f32) (x3 : Vec F S1x10x256x128 .fp8e4m3) (x4 : Vec F S1x1x2304x128 .fp8e4m3) (x5 : Vec F S1x1x128x2304 .fp8e4m3) (x6 : Vec F S256x256 .f32) : Vec F S1x256x1280 .bf16 :=
  VO0_7.read (Elt F) (VO0_7.writes (Elt F) VO0_7.junk (kernelRun0_I c i arg3 harg3 arg4 harg4 arg5 harg5 arg6 harg6 arg7 harg7 arg8 harg8 arg9 harg9 arg10 harg10 arg11 harg11 arg12 harg12 hc0 hc1 hc2 hc3 hc4 hc5 hc6 hc7 hc8 x0 x1 x2 x3 x4 x5 x6).1)

/-! ## What the outputs hold after each point -/

/-- THE ACCUMULATION. What the outputs' staging buffers hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x256x1280 .bf16
  | 0, hn => out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (fun h => (fun h => by (try dsimp only at h); omega) ((hcond0_3 ⟨0, hn⟩).mp h)) (fun h => (fun h => by (try dsimp only at h); omega) ((hcond0_4 ⟨0, hn⟩).mp h)) (fun h => (fun h => by (try dsimp only at h); omega) ((hcond0_5 ⟨0, hn⟩).mp h)) (fun h => (fun h => by (try dsimp only at h); omega) ((hcond0_6 ⟨0, hn⟩).mp h)) (fun h => (fun h => by (try dsimp only at h); omega) ((hcond0_7 ⟨0, hn⟩).mp h)) (fun h => (fun h => by (try dsimp only at h); omega) ((hcond0_8 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩)
  | n + 1, hn =>
    if h0 : (n + 1) % 9 = 0 then
      if h1 : (n + 1) % 9 = 1 then
        False.elim (by have hN : n + 1 < 108 := lt_of_lt_of_eq hn (show cfg0.N = 108 from N_0); omega)
      else
        if h2 : (n + 1) % 9 = 2 then
          False.elim (by have hN : n + 1 < 108 := lt_of_lt_of_eq hn (show cfg0.N = 108 from N_0); omega)
        else
          if h3 : (n + 1) % 9 = 3 then
            False.elim (by have hN : n + 1 < 108 := lt_of_lt_of_eq hn (show cfg0.N = 108 from N_0); omega)
          else
            if h4 : (n + 1) % 9 = 4 then
              False.elim (by have hN : n + 1 < 108 := lt_of_lt_of_eq hn (show cfg0.N = 108 from N_0); omega)
            else
              if h5 : (n + 1) % 9 = 5 then
                False.elim (by have hN : n + 1 < 108 := lt_of_lt_of_eq hn (show cfg0.N = 108 from N_0); omega)
              else
                if h6 : (n + 1) % 9 = 6 then
                  False.elim (by have hN : n + 1 < 108 := lt_of_lt_of_eq hn (show cfg0.N = 108 from N_0); omega)
                else
                  if h7 : (n + 1) % 9 = 7 then
                    False.elim (by have hN : n + 1 < 108 := lt_of_lt_of_eq hn (show cfg0.N = 108 from N_0); omega)
                  else
                    if h8 : (n + 1) % 9 = 8 then
                      False.elim (by have hN : n + 1 < 108 := lt_of_lt_of_eq hn (show cfg0.N = 108 from N_0); omega)
                    else
                      out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) (fun h => h1 ((hcond0_1 ⟨n + 1, hn⟩).mp h)) (fun h => h2 ((hcond0_2 ⟨n + 1, hn⟩).mp h)) (fun h => h3 ((hcond0_3 ⟨n + 1, hn⟩).mp h)) (fun h => h4 ((hcond0_4 ⟨n + 1, hn⟩).mp h)) (fun h => h5 ((hcond0_5 ⟨n + 1, hn⟩).mp h)) (fun h => h6 ((hcond0_6 ⟨n + 1, hn⟩).mp h)) (fun h => h7 ((hcond0_7 ⟨n + 1, hn⟩).mp h)) (fun h => h8 ((hcond0_8 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩)
    else
      if h1 : (n + 1) % 9 = 1 then
        if h2 : (n + 1) % 9 = 2 then
          False.elim (by have hN : n + 1 < 108 := lt_of_lt_of_eq hn (show cfg0.N = 108 from N_0); omega)
        else
          if h3 : (n + 1) % 9 = 3 then
            False.elim (by have hN : n + 1 < 108 := lt_of_lt_of_eq hn (show cfg0.N = 108 from N_0); omega)
          else
            if h4 : (n + 1) % 9 = 4 then
              False.elim (by have hN : n + 1 < 108 := lt_of_lt_of_eq hn (show cfg0.N = 108 from N_0); omega)
            else
              if h5 : (n + 1) % 9 = 5 then
                False.elim (by have hN : n + 1 < 108 := lt_of_lt_of_eq hn (show cfg0.N = 108 from N_0); omega)
              else
                if h6 : (n + 1) % 9 = 6 then
                  False.elim (by have hN : n + 1 < 108 := lt_of_lt_of_eq hn (show cfg0.N = 108 from N_0); omega)
                else
                  if h7 : (n + 1) % 9 = 7 then
                    False.elim (by have hN : n + 1 < 108 := lt_of_lt_of_eq hn (show cfg0.N = 108 from N_0); omega)
                  else
                    if h8 : (n + 1) % 9 = 8 then
                      False.elim (by have hN : n + 1 < 108 := lt_of_lt_of_eq hn (show cfg0.N = 108 from N_0); omega)
                    else
                      out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (fun h => h4 ((hcond0_4 ⟨n + 1, hn⟩).mp h)) (fun h => h5 ((hcond0_5 ⟨n + 1, hn⟩).mp h)) (fun h => h6 ((hcond0_6 ⟨n + 1, hn⟩).mp h)) (fun h => h7 ((hcond0_7 ⟨n + 1, hn⟩).mp h)) (fun h => h8 ((hcond0_8 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩)
      else
        if h2 : (n + 1) % 9 = 2 then
          if h3 : (n + 1) % 9 = 3 then
            False.elim (by have hN : n + 1 < 108 := lt_of_lt_of_eq hn (show cfg0.N = 108 from N_0); omega)
          else
            if h4 : (n + 1) % 9 = 4 then
              False.elim (by have hN : n + 1 < 108 := lt_of_lt_of_eq hn (show cfg0.N = 108 from N_0); omega)
            else
              if h5 : (n + 1) % 9 = 5 then
                False.elim (by have hN : n + 1 < 108 := lt_of_lt_of_eq hn (show cfg0.N = 108 from N_0); omega)
              else
                if h6 : (n + 1) % 9 = 6 then
                  False.elim (by have hN : n + 1 < 108 := lt_of_lt_of_eq hn (show cfg0.N = 108 from N_0); omega)
                else
                  if h7 : (n + 1) % 9 = 7 then
                    False.elim (by have hN : n + 1 < 108 := lt_of_lt_of_eq hn (show cfg0.N = 108 from N_0); omega)
                  else
                    if h8 : (n + 1) % 9 = 8 then
                      False.elim (by have hN : n + 1 < 108 := lt_of_lt_of_eq hn (show cfg0.N = 108 from N_0); omega)
                    else
                      out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (fun h => h4 ((hcond0_4 ⟨n + 1, hn⟩).mp h)) (fun h => h5 ((hcond0_5 ⟨n + 1, hn⟩).mp h)) (fun h => h6 ((hcond0_6 ⟨n + 1, hn⟩).mp h)) (fun h => h7 ((hcond0_7 ⟨n + 1, hn⟩).mp h)) (fun h => h8 ((hcond0_8 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩)
        else
          if h3 : (n + 1) % 9 = 3 then
            if h4 : (n + 1) % 9 = 4 then
              False.elim (by have hN : n + 1 < 108 := lt_of_lt_of_eq hn (show cfg0.N = 108 from N_0); omega)
            else
              if h5 : (n + 1) % 9 = 5 then
                False.elim (by have hN : n + 1 < 108 := lt_of_lt_of_eq hn (show cfg0.N = 108 from N_0); omega)
              else
                if h6 : (n + 1) % 9 = 6 then
                  False.elim (by have hN : n + 1 < 108 := lt_of_lt_of_eq hn (show cfg0.N = 108 from N_0); omega)
                else
                  if h7 : (n + 1) % 9 = 7 then
                    False.elim (by have hN : n + 1 < 108 := lt_of_lt_of_eq hn (show cfg0.N = 108 from N_0); omega)
                  else
                    if h8 : (n + 1) % 9 = 8 then
                      False.elim (by have hN : n + 1 < 108 := lt_of_lt_of_eq hn (show cfg0.N = 108 from N_0); omega)
                    else
                      out0_D_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (fun h => h4 ((hcond0_4 ⟨n + 1, hn⟩).mp h)) (fun h => h5 ((hcond0_5 ⟨n + 1, hn⟩).mp h)) (fun h => h6 ((hcond0_6 ⟨n + 1, hn⟩).mp h)) (fun h => h7 ((hcond0_7 ⟨n + 1, hn⟩).mp h)) (fun h => h8 ((hcond0_8 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩)
          else
            if h4 : (n + 1) % 9 = 4 then
              if h5 : (n + 1) % 9 = 5 then
                False.elim (by have hN : n + 1 < 108 := lt_of_lt_of_eq hn (show cfg0.N = 108 from N_0); omega)
              else
                if h6 : (n + 1) % 9 = 6 then
                  False.elim (by have hN : n + 1 < 108 := lt_of_lt_of_eq hn (show cfg0.N = 108 from N_0); omega)
                else
                  if h7 : (n + 1) % 9 = 7 then
                    False.elim (by have hN : n + 1 < 108 := lt_of_lt_of_eq hn (show cfg0.N = 108 from N_0); omega)
                  else
                    if h8 : (n + 1) % 9 = 8 then
                      False.elim (by have hN : n + 1 < 108 := lt_of_lt_of_eq hn (show cfg0.N = 108 from N_0); omega)
                    else
                      out0_E_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) ((hcond0_4 ⟨n + 1, hn⟩).mpr h4) (fun h => h5 ((hcond0_5 ⟨n + 1, hn⟩).mp h)) (fun h => h6 ((hcond0_6 ⟨n + 1, hn⟩).mp h)) (fun h => h7 ((hcond0_7 ⟨n + 1, hn⟩).mp h)) (fun h => h8 ((hcond0_8 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩)
            else
              if h5 : (n + 1) % 9 = 5 then
                if h6 : (n + 1) % 9 = 6 then
                  False.elim (by have hN : n + 1 < 108 := lt_of_lt_of_eq hn (show cfg0.N = 108 from N_0); omega)
                else
                  if h7 : (n + 1) % 9 = 7 then
                    False.elim (by have hN : n + 1 < 108 := lt_of_lt_of_eq hn (show cfg0.N = 108 from N_0); omega)
                  else
                    if h8 : (n + 1) % 9 = 8 then
                      False.elim (by have hN : n + 1 < 108 := lt_of_lt_of_eq hn (show cfg0.N = 108 from N_0); omega)
                    else
                      out0_F_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) (fun h => h4 ((hcond0_4 ⟨n + 1, hn⟩).mp h)) ((hcond0_5 ⟨n + 1, hn⟩).mpr h5) (fun h => h6 ((hcond0_6 ⟨n + 1, hn⟩).mp h)) (fun h => h7 ((hcond0_7 ⟨n + 1, hn⟩).mp h)) (fun h => h8 ((hcond0_8 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩)
              else
                if h6 : (n + 1) % 9 = 6 then
                  if h7 : (n + 1) % 9 = 7 then
                    False.elim (by have hN : n + 1 < 108 := lt_of_lt_of_eq hn (show cfg0.N = 108 from N_0); omega)
                  else
                    if h8 : (n + 1) % 9 = 8 then
                      False.elim (by have hN : n + 1 < 108 := lt_of_lt_of_eq hn (show cfg0.N = 108 from N_0); omega)
                    else
                      out0_G_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) (fun h => h4 ((hcond0_4 ⟨n + 1, hn⟩).mp h)) (fun h => h5 ((hcond0_5 ⟨n + 1, hn⟩).mp h)) ((hcond0_6 ⟨n + 1, hn⟩).mpr h6) (fun h => h7 ((hcond0_7 ⟨n + 1, hn⟩).mp h)) (fun h => h8 ((hcond0_8 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩)
                else
                  if h7 : (n + 1) % 9 = 7 then
                    if h8 : (n + 1) % 9 = 8 then
                      False.elim (by have hN : n + 1 < 108 := lt_of_lt_of_eq hn (show cfg0.N = 108 from N_0); omega)
                    else
                      out0_H_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) (fun h => h4 ((hcond0_4 ⟨n + 1, hn⟩).mp h)) (fun h => h5 ((hcond0_5 ⟨n + 1, hn⟩).mp h)) (fun h => h6 ((hcond0_6 ⟨n + 1, hn⟩).mp h)) ((hcond0_7 ⟨n + 1, hn⟩).mpr h7) (fun h => h8 ((hcond0_8 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩)
                  else
                    if h8 : (n + 1) % 9 = 8 then
                      out0_I_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) (fun h => h4 ((hcond0_4 ⟨n + 1, hn⟩).mp h)) (fun h => h5 ((hcond0_5 ⟨n + 1, hn⟩).mp h)) (fun h => h6 ((hcond0_6 ⟨n + 1, hn⟩).mp h)) (fun h => h7 ((hcond0_7 ⟨n + 1, hn⟩).mp h)) ((hcond0_8 ⟨n + 1, hn⟩).mpr h8) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩)
                    else
                      False.elim (by have hN : n + 1 < 108 := lt_of_lt_of_eq hn (show cfg0.N = 108 from N_0); omega)

/-- `outsAt0` at a point of case A: that case's contents. -/
theorem outsAt0_A (c : Dev nD) (t : Fin cfg0.N) (h0 : t.val % 9 = 0) (h1 : ¬t.val % 9 = 1) (h2 : ¬t.val % 9 = 2) (h3 : ¬t.val % 9 = 3) (h4 : ¬t.val % 9 = 4) (h5 : ¬t.val % 9 = 5) (h6 : ¬t.val % 9 = 6) (h7 : ¬t.val % 9 = 7) (h8 : ¬t.val % 9 = 8) :
    outsAt0 m c t.val t.isLt = out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (fun h => h2 ((hcond0_2 t).mp h)) (fun h => h3 ((hcond0_3 t).mp h)) (fun h => h4 ((hcond0_4 t).mp h)) (fun h => h5 ((hcond0_5 t).mp h)) (fun h => h6 ((hcond0_6 t).mp h)) (fun h => h7 ((hcond0_7 t).mp h)) (fun h => h8 ((hcond0_8 t).mp h)) (iblk m c 0 t) (iblk m c 1 t) (iblk m c 2 t) (iblk m c 3 t) (iblk m c 4 t) (iblk m c 5 t) (iblk m c 6 t) := by
  obtain ⟨n, hn⟩ := t
  cases n with
  | zero => exact rfl
  | succ n => exact (dif_pos h0).trans ((dif_neg h1).trans ((dif_neg h2).trans ((dif_neg h3).trans ((dif_neg h4).trans ((dif_neg h5).trans ((dif_neg h6).trans ((dif_neg h7).trans ((dif_neg h8).trans rfl))))))))

/-- `outsAt0` at a point of case B: that case's contents. -/
theorem outsAt0_B (c : Dev nD) (t : Fin cfg0.N) (h0 : ¬t.val % 9 = 0) (h1 : t.val % 9 = 1) (h2 : ¬t.val % 9 = 2) (h3 : ¬t.val % 9 = 3) (h4 : ¬t.val % 9 = 4) (h5 : ¬t.val % 9 = 5) (h6 : ¬t.val % 9 = 6) (h7 : ¬t.val % 9 = 7) (h8 : ¬t.val % 9 = 8) :
    outsAt0 m c t.val t.isLt = out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (fun h => h4 ((hcond0_4 t).mp h)) (fun h => h5 ((hcond0_5 t).mp h)) (fun h => h6 ((hcond0_6 t).mp h)) (fun h => h7 ((hcond0_7 t).mp h)) (fun h => h8 ((hcond0_8 t).mp h)) (iblk m c 0 t) (iblk m c 1 t) (iblk m c 2 t) (iblk m c 3 t) (iblk m c 4 t) (iblk m c 5 t) (iblk m c 6 t) := by
  obtain ⟨n, hn⟩ := t
  cases n with
  | zero => exact (by exfalso; (try dsimp only at h0); exact absurd (Nat.zero_mod _) h0)
  | succ n => exact (dif_neg h0).trans ((dif_pos h1).trans ((dif_neg h2).trans ((dif_neg h3).trans ((dif_neg h4).trans ((dif_neg h5).trans ((dif_neg h6).trans ((dif_neg h7).trans ((dif_neg h8).trans rfl))))))))

/-- `outsAt0` at a point of case C: that case's contents. -/
theorem outsAt0_C (c : Dev nD) (t : Fin cfg0.N) (h0 : ¬t.val % 9 = 0) (h1 : ¬t.val % 9 = 1) (h2 : t.val % 9 = 2) (h3 : ¬t.val % 9 = 3) (h4 : ¬t.val % 9 = 4) (h5 : ¬t.val % 9 = 5) (h6 : ¬t.val % 9 = 6) (h7 : ¬t.val % 9 = 7) (h8 : ¬t.val % 9 = 8) :
    outsAt0 m c t.val t.isLt = out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) (fun h => h5 ((hcond0_5 t).mp h)) (fun h => h6 ((hcond0_6 t).mp h)) (fun h => h7 ((hcond0_7 t).mp h)) (fun h => h8 ((hcond0_8 t).mp h)) (iblk m c 0 t) (iblk m c 1 t) (iblk m c 2 t) (iblk m c 3 t) (iblk m c 4 t) (iblk m c 5 t) (iblk m c 6 t) := by
  obtain ⟨n, hn⟩ := t
  cases n with
  | zero => exact (by exfalso; (try dsimp only at h0); exact absurd (Nat.zero_mod _) h0)
  | succ n => exact (dif_neg h0).trans ((dif_neg h1).trans ((dif_pos h2).trans ((dif_neg h3).trans ((dif_neg h4).trans ((dif_neg h5).trans ((dif_neg h6).trans ((dif_neg h7).trans ((dif_neg h8).trans rfl))))))))

/-- `outsAt0` at a point of case D: that case's contents. -/
theorem outsAt0_D (c : Dev nD) (t : Fin cfg0.N) (h0 : ¬t.val % 9 = 0) (h1 : ¬t.val % 9 = 1) (h2 : ¬t.val % 9 = 2) (h3 : t.val % 9 = 3) (h4 : ¬t.val % 9 = 4) (h5 : ¬t.val % 9 = 5) (h6 : ¬t.val % 9 = 6) (h7 : ¬t.val % 9 = 7) (h8 : ¬t.val % 9 = 8) :
    outsAt0 m c t.val t.isLt = out0_D_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (fun h => h5 ((hcond0_5 t).mp h)) (fun h => h6 ((hcond0_6 t).mp h)) (fun h => h7 ((hcond0_7 t).mp h)) (fun h => h8 ((hcond0_8 t).mp h)) (iblk m c 0 t) (iblk m c 1 t) (iblk m c 2 t) (iblk m c 3 t) (iblk m c 4 t) (iblk m c 5 t) (iblk m c 6 t) := by
  obtain ⟨n, hn⟩ := t
  cases n with
  | zero => exact (by exfalso; (try dsimp only at h0); exact absurd (Nat.zero_mod _) h0)
  | succ n => exact (dif_neg h0).trans ((dif_neg h1).trans ((dif_neg h2).trans ((dif_pos h3).trans ((dif_neg h4).trans ((dif_neg h5).trans ((dif_neg h6).trans ((dif_neg h7).trans ((dif_neg h8).trans rfl))))))))

/-- `outsAt0` at a point of case E: that case's contents. -/
theorem outsAt0_E (c : Dev nD) (t : Fin cfg0.N) (h0 : ¬t.val % 9 = 0) (h1 : ¬t.val % 9 = 1) (h2 : ¬t.val % 9 = 2) (h3 : ¬t.val % 9 = 3) (h4 : t.val % 9 = 4) (h5 : ¬t.val % 9 = 5) (h6 : ¬t.val % 9 = 6) (h7 : ¬t.val % 9 = 7) (h8 : ¬t.val % 9 = 8) :
    outsAt0 m c t.val t.isLt = out0_E_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (fun h => h2 ((hcond0_2 t).mp h)) (fun h => h3 ((hcond0_3 t).mp h)) ((hcond0_4 t).mpr h4) (fun h => h5 ((hcond0_5 t).mp h)) (fun h => h6 ((hcond0_6 t).mp h)) (fun h => h7 ((hcond0_7 t).mp h)) (fun h => h8 ((hcond0_8 t).mp h)) (iblk m c 0 t) (iblk m c 1 t) (iblk m c 2 t) (iblk m c 3 t) (iblk m c 4 t) (iblk m c 5 t) (iblk m c 6 t) := by
  obtain ⟨n, hn⟩ := t
  cases n with
  | zero => exact (by exfalso; (try dsimp only at h0); exact absurd (Nat.zero_mod _) h0)
  | succ n => exact (dif_neg h0).trans ((dif_neg h1).trans ((dif_neg h2).trans ((dif_neg h3).trans ((dif_pos h4).trans ((dif_neg h5).trans ((dif_neg h6).trans ((dif_neg h7).trans ((dif_neg h8).trans rfl))))))))

/-- `outsAt0` at a point of case F: that case's contents. -/
theorem outsAt0_F (c : Dev nD) (t : Fin cfg0.N) (h0 : ¬t.val % 9 = 0) (h1 : ¬t.val % 9 = 1) (h2 : ¬t.val % 9 = 2) (h3 : ¬t.val % 9 = 3) (h4 : ¬t.val % 9 = 4) (h5 : t.val % 9 = 5) (h6 : ¬t.val % 9 = 6) (h7 : ¬t.val % 9 = 7) (h8 : ¬t.val % 9 = 8) :
    outsAt0 m c t.val t.isLt = out0_F_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (fun h => h2 ((hcond0_2 t).mp h)) (fun h => h3 ((hcond0_3 t).mp h)) (fun h => h4 ((hcond0_4 t).mp h)) ((hcond0_5 t).mpr h5) (fun h => h6 ((hcond0_6 t).mp h)) (fun h => h7 ((hcond0_7 t).mp h)) (fun h => h8 ((hcond0_8 t).mp h)) (iblk m c 0 t) (iblk m c 1 t) (iblk m c 2 t) (iblk m c 3 t) (iblk m c 4 t) (iblk m c 5 t) (iblk m c 6 t) := by
  obtain ⟨n, hn⟩ := t
  cases n with
  | zero => exact (by exfalso; (try dsimp only at h0); exact absurd (Nat.zero_mod _) h0)
  | succ n => exact (dif_neg h0).trans ((dif_neg h1).trans ((dif_neg h2).trans ((dif_neg h3).trans ((dif_neg h4).trans ((dif_pos h5).trans ((dif_neg h6).trans ((dif_neg h7).trans ((dif_neg h8).trans rfl))))))))

/-- `outsAt0` at a point of case G: that case's contents. -/
theorem outsAt0_G (c : Dev nD) (t : Fin cfg0.N) (h0 : ¬t.val % 9 = 0) (h1 : ¬t.val % 9 = 1) (h2 : ¬t.val % 9 = 2) (h3 : ¬t.val % 9 = 3) (h4 : ¬t.val % 9 = 4) (h5 : ¬t.val % 9 = 5) (h6 : t.val % 9 = 6) (h7 : ¬t.val % 9 = 7) (h8 : ¬t.val % 9 = 8) :
    outsAt0 m c t.val t.isLt = out0_G_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (fun h => h2 ((hcond0_2 t).mp h)) (fun h => h3 ((hcond0_3 t).mp h)) (fun h => h4 ((hcond0_4 t).mp h)) (fun h => h5 ((hcond0_5 t).mp h)) ((hcond0_6 t).mpr h6) (fun h => h7 ((hcond0_7 t).mp h)) (fun h => h8 ((hcond0_8 t).mp h)) (iblk m c 0 t) (iblk m c 1 t) (iblk m c 2 t) (iblk m c 3 t) (iblk m c 4 t) (iblk m c 5 t) (iblk m c 6 t) := by
  obtain ⟨n, hn⟩ := t
  cases n with
  | zero => exact (by exfalso; (try dsimp only at h0); exact absurd (Nat.zero_mod _) h0)
  | succ n => exact (dif_neg h0).trans ((dif_neg h1).trans ((dif_neg h2).trans ((dif_neg h3).trans ((dif_neg h4).trans ((dif_neg h5).trans ((dif_pos h6).trans ((dif_neg h7).trans ((dif_neg h8).trans rfl))))))))

/-- `outsAt0` at a point of case H: that case's contents. -/
theorem outsAt0_H (c : Dev nD) (t : Fin cfg0.N) (h0 : ¬t.val % 9 = 0) (h1 : ¬t.val % 9 = 1) (h2 : ¬t.val % 9 = 2) (h3 : ¬t.val % 9 = 3) (h4 : ¬t.val % 9 = 4) (h5 : ¬t.val % 9 = 5) (h6 : ¬t.val % 9 = 6) (h7 : t.val % 9 = 7) (h8 : ¬t.val % 9 = 8) :
    outsAt0 m c t.val t.isLt = out0_H_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (fun h => h2 ((hcond0_2 t).mp h)) (fun h => h3 ((hcond0_3 t).mp h)) (fun h => h4 ((hcond0_4 t).mp h)) (fun h => h5 ((hcond0_5 t).mp h)) (fun h => h6 ((hcond0_6 t).mp h)) ((hcond0_7 t).mpr h7) (fun h => h8 ((hcond0_8 t).mp h)) (iblk m c 0 t) (iblk m c 1 t) (iblk m c 2 t) (iblk m c 3 t) (iblk m c 4 t) (iblk m c 5 t) (iblk m c 6 t) := by
  obtain ⟨n, hn⟩ := t
  cases n with
  | zero => exact (by exfalso; (try dsimp only at h0); exact absurd (Nat.zero_mod _) h0)
  | succ n => exact (dif_neg h0).trans ((dif_neg h1).trans ((dif_neg h2).trans ((dif_neg h3).trans ((dif_neg h4).trans ((dif_neg h5).trans ((dif_neg h6).trans ((dif_pos h7).trans ((dif_neg h8).trans rfl))))))))

/-- `outsAt0` at a point of case I: that case's contents. -/
theorem outsAt0_I (c : Dev nD) (t : Fin cfg0.N) (h0 : ¬t.val % 9 = 0) (h1 : ¬t.val % 9 = 1) (h2 : ¬t.val % 9 = 2) (h3 : ¬t.val % 9 = 3) (h4 : ¬t.val % 9 = 4) (h5 : ¬t.val % 9 = 5) (h6 : ¬t.val % 9 = 6) (h7 : ¬t.val % 9 = 7) (h8 : t.val % 9 = 8) :
    outsAt0 m c t.val t.isLt = out0_I_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (fun h => h2 ((hcond0_2 t).mp h)) (fun h => h3 ((hcond0_3 t).mp h)) (fun h => h4 ((hcond0_4 t).mp h)) (fun h => h5 ((hcond0_5 t).mp h)) (fun h => h6 ((hcond0_6 t).mp h)) (fun h => h7 ((hcond0_7 t).mp h)) ((hcond0_8 t).mpr h8) (iblk m c 0 t) (iblk m c 1 t) (iblk m c 2 t) (iblk m c 3 t) (iblk m c 4 t) (iblk m c 5 t) (iblk m c 6 t) := by
  obtain ⟨n, hn⟩ := t
  cases n with
  | zero => exact (by exfalso; (try dsimp only at h0); exact absurd (Nat.zero_mod _) h0)
  | succ n => exact (dif_neg h0).trans ((dif_neg h1).trans ((dif_neg h2).trans ((dif_neg h3).trans ((dif_neg h4).trans ((dif_neg h5).trans ((dif_neg h6).trans ((dif_neg h7).trans ((dif_pos h8).trans rfl))))))))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 7200000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 108 := lt_of_lt_of_eq t.isLt (show cfg0.N = 108 from N_0)
  by_cases h0 : t.val % 9 = 0
  · by_cases h1 : t.val % 9 = 1
    · exfalso; omega
    · by_cases h2 : t.val % 9 = 2
      · exfalso; omega
      · by_cases h3 : t.val % 9 = 3
        · exfalso; omega
        · by_cases h4 : t.val % 9 = 4
          · exfalso; omega
          · by_cases h5 : t.val % 9 = 5
            · exfalso; omega
            · by_cases h6 : t.val % 9 = 6
              · exfalso; omega
              · by_cases h7 : t.val % 9 = 7
                · exfalso; omega
                · by_cases h8 : t.val % 9 = 8
                  · exfalso; omega
                  · rw [show (dats m 0 c).leavesExact 0 t = owns (c : Thread nD τ) (ms0_0 t) fullShare ((dats m 0 c).after 0 t) from by
      unfold Dat.leavesExact; rw [liveAt0_0 t], after0_0]
                    rw [show (dats m 0 c).leavesExact 1 t = owns (c : Thread nD τ) (ms0_1 t) fullShare ((dats m 0 c).after 1 t) from by
      unfold Dat.leavesExact; rw [liveAt0_1 t], after0_1]
                    rw [show (dats m 0 c).leavesExact 2 t = owns (c : Thread nD τ) (ms0_2 t) fullShare ((dats m 0 c).after 2 t) from by
      unfold Dat.leavesExact; rw [liveAt0_2 t], after0_2]
                    rw [show (dats m 0 c).leavesExact 3 t = owns (c : Thread nD τ) (ms0_3 t) fullShare ((dats m 0 c).after 3 t) from by
      unfold Dat.leavesExact; rw [liveAt0_3 t], after0_3]
                    rw [show (dats m 0 c).leavesExact 4 t = owns (c : Thread nD τ) (ms0_4 t) fullShare ((dats m 0 c).after 4 t) from by
      unfold Dat.leavesExact; rw [liveAt0_4 t], after0_4]
                    rw [show (dats m 0 c).leavesExact 5 t = owns (c : Thread nD τ) (ms0_5 t) fullShare ((dats m 0 c).after 5 t) from by
      unfold Dat.leavesExact; rw [liveAt0_5 t], after0_5]
                    rw [show (dats m 0 c).leavesExact 6 t = owns (c : Thread nD τ) (ms0_6 t) fullShare ((dats m 0 c).after 6 t) from by
      unfold Dat.leavesExact; rw [liveAt0_6 t], after0_6]
                    rw [show (dats m 0 c).leavesExact 7 t = owns (c : Thread nD τ) (ms0_7 t) fullShare ((dats m 0 c).after 7 t) from by
      unfold Dat.leavesExact; rw [liveAt0_7_A t ((hcond0_0 t).mpr h0) (fun h => h1 ((hcond0_1 t).mp h)) (fun h => h2 ((hcond0_2 t).mp h)) (fun h => h3 ((hcond0_3 t).mp h)) (fun h => h4 ((hcond0_4 t).mp h)) (fun h => h5 ((hcond0_5 t).mp h)) (fun h => h6 ((hcond0_6 t).mp h)) (fun h => h7 ((hcond0_7 t).mp h)) (fun h => h8 ((hcond0_8 t).mp h))], after0_7]
                    rw [outsAt0_A m c t h0 h1 h2 h3 h4 h5 h6 h7 h8]
                    unfold out0_A_7
                    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
                    iapply ((kernelRun0_A c (grid0.coords t) _ _ _ _ _ _ _ _ _ _ _ _ _ _ _ _ _ _ _ _ ((hcond0_0 t).mpr h0) (fun h => h1 ((hcond0_1 t).mp h)) (fun h => h2 ((hcond0_2 t).mp h)) (fun h => h3 ((hcond0_3 t).mp h)) (fun h => h4 ((hcond0_4 t).mp h)) (fun h => h5 ((hcond0_5 t).mp h)) (fun h => h6 ((hcond0_6 t).mp h)) (fun h => h7 ((hcond0_7 t).mp h)) (fun h => h8 ((hcond0_8 t).mp h)) (iblk m c 0 t) (iblk m c 1 t) (iblk m c 2 t) (iblk m c 3 t) (iblk m c 4 t) (iblk m c 5 t) (iblk m c 6 t)).2 Set.univ _)
                    isplitl [H0]; · iexact H0
                    isplitl [H1]; · iexact H1
                    isplitl [H2]; · iexact H2
                    isplitl [H3]; · iexact H3
                    isplitl [H4]; · iexact H4
                    isplitl [H5]; · iexact H5
                    isplitl [H6]; · iexact H6
                    isplitl [H7]; · iexists _; iexact H7
                    isplitl [HS0]; · iexact HS0
                    isplitl [HS1]; · iexact HS1
                    iintro ⟨H0, H1, H2, H3, H4, H5, H6, ⟨%e7, H7⟩, HS0, HS1⟩
                    isplitl [HS0 HS1 Hg]
                    · isplitl [HS0 HS1]
                      · isplitl [HS0]
                        · iexact HS0
                        iexact HS1
                      iexact Hg
                    isplitl [Ho]; · iexact Ho
                    isplitl [H0]; · iexact H0
                    isplitl [H1]; · iexact H1
                    isplitl [H2]; · iexact H2
                    isplitl [H3]; · iexact H3
                    isplitl [H4]; · iexact H4
                    isplitl [H5]; · iexact H5
                    isplitl [H6]; · iexact H6
                    unfold owns; iexists _; isplitr
                    swap; · iexact H7
                    ipureintro; exact View.read_writes_of_cover _ _ _ _ _ (cover0_A_7 c _ _ _ _ _ _ _ _ _ _ _ _ _ _ _ _ _ _ _ _ _ _ _ _ _ _ _ _ _ _ _ _ _ _ _ _ _)
  · by_cases h1 : t.val % 9 = 1
    · by_cases h2 : t.val % 9 = 2
      · exfalso; omega
      · by_cases h3 : t.val % 9 = 3
        · exfalso; omega
        · by_cases h4 : t.val % 9 = 4
          · exfalso; omega
          · by_cases h5 : t.val % 9 = 5
            · exfalso; omega
            · by_cases h6 : t.val % 9 = 6
              · exfalso; omega
              · by_cases h7 : t.val % 9 = 7
                · exfalso; omega
                · by_cases h8 : t.val % 9 = 8
                  · exfalso; omega
                  · rw [show (dats m 0 c).leavesExact 0 t = owns (c : Thread nD τ) (ms0_0 t) fullShare ((dats m 0 c).after 0 t) from by
      unfold Dat.leavesExact; rw [liveAt0_0 t], after0_0]
                    rw [show (dats m 0 c).leavesExact 1 t = owns (c : Thread nD τ) (ms0_1 t) fullShare ((dats m 0 c).after 1 t) from by
      unfold Dat.leavesExact; rw [liveAt0_1 t], after0_1]
                    rw [show (dats m 0 c).leavesExact 2 t = owns (c : Thread nD τ) (ms0_2 t) fullShare ((dats m 0 c).after 2 t) from by
      unfold Dat.leavesExact; rw [liveAt0_2 t], after0_2]
                    rw [show (dats m 0 c).leavesExact 3 t = owns (c : Thread nD τ) (ms0_3 t) fullShare ((dats m 0 c).after 3 t) from by
      unfold Dat.leavesExact; rw [liveAt0_3 t], after0_3]
                    rw [show (dats m 0 c).leavesExact 4 t = owns (c : Thread nD τ) (ms0_4 t) fullShare ((dats m 0 c).after 4 t) from by
      unfold Dat.leavesExact; rw [liveAt0_4 t], after0_4]
                    rw [show (dats m 0 c).leavesExact 5 t = owns (c : Thread nD τ) (ms0_5 t) fullShare ((dats m 0 c).after 5 t) from by
      unfold Dat.leavesExact; rw [liveAt0_5 t], after0_5]
                    rw [show (dats m 0 c).leavesExact 6 t = owns (c : Thread nD τ) (ms0_6 t) fullShare ((dats m 0 c).after 6 t) from by
      unfold Dat.leavesExact; rw [liveAt0_6 t], after0_6]
                    rw [show (dats m 0 c).leavesExact 7 t = owns (c : Thread nD τ) (ms0_7 t) fullShare ((dats m 0 c).after 7 t) from by
      unfold Dat.leavesExact; rw [liveAt0_7_B t (fun h => h0 ((hcond0_0 t).mp h)) ((hcond0_1 t).mpr h1) (fun h => h2 ((hcond0_2 t).mp h)) (fun h => h3 ((hcond0_3 t).mp h)) (fun h => h4 ((hcond0_4 t).mp h)) (fun h => h5 ((hcond0_5 t).mp h)) (fun h => h6 ((hcond0_6 t).mp h)) (fun h => h7 ((hcond0_7 t).mp h)) (fun h => h8 ((hcond0_8 t).mp h))], after0_7]
                    rw [outsAt0_B m c t h0 h1 h2 h3 h4 h5 h6 h7 h8]
                    unfold out0_B_7
                    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
                    iapply ((kernelRun0_B c (grid0.coords t) _ _ _ _ _ _ _ _ _ _ _ _ _ _ _ _ _ _ _ _ (fun h => h0 ((hcond0_0 t).mp h)) ((hcond0_1 t).mpr h1) (fun h => h2 ((hcond0_2 t).mp h)) (fun h => h3 ((hcond0_3 t).mp h)) (fun h => h4 ((hcond0_4 t).mp h)) (fun h => h5 ((hcond0_5 t).mp h)) (fun h => h6 ((hcond0_6 t).mp h)) (fun h => h7 ((hcond0_7 t).mp h)) (fun h => h8 ((hcond0_8 t).mp h)) (iblk m c 0 t) (iblk m c 1 t) (iblk m c 2 t) (iblk m c 3 t) (iblk m c 4 t) (iblk m c 5 t) (iblk m c 6 t)).2 Set.univ _)
                    isplitl [H0]; · iexact H0
                    isplitl [H1]; · iexact H1
                    isplitl [H2]; · iexact H2
                    isplitl [H3]; · iexact H3
                    isplitl [H4]; · iexact H4
                    isplitl [H5]; · iexact H5
                    isplitl [H6]; · iexact H6
                    isplitl [H7]; · iexists _; iexact H7
                    isplitl [HS0]; · iexact HS0
                    isplitl [HS1]; · iexact HS1
                    iintro ⟨H0, H1, H2, H3, H4, H5, H6, ⟨%e7, H7⟩, HS0, HS1⟩
                    isplitl [HS0 HS1 Hg]
                    · isplitl [HS0 HS1]
                      · isplitl [HS0]
                        · iexact HS0
                        iexact HS1
                      iexact Hg
                    isplitl [Ho]; · iexact Ho
                    isplitl [H0]; · iexact H0
                    isplitl [H1]; · iexact H1
                    isplitl [H2]; · iexact H2
                    isplitl [H3]; · iexact H3
                    isplitl [H4]; · iexact H4
                    isplitl [H5]; · iexact H5
                    isplitl [H6]; · iexact H6
                    unfold owns; iexists _; isplitr
                    swap; · iexact H7
                    ipureintro; exact View.read_writes_of_cover _ _ _ _ _ (cover0_B_7 c _ _ _ _ _ _ _ _ _ _ _ _ _ _ _ _ _ _ _ _ _ _ _ _ _ _ _ _ _ _ _ _ _ _ _ _ _)
    · by_cases h2 : t.val % 9 = 2
      · by_cases h3 : t.val % 9 = 3
        · exfalso; omega
        · by_cases h4 : t.val % 9 = 4
          · exfalso; omega
          · by_cases h5 : t.val % 9 = 5
            · exfalso; omega
            · by_cases h6 : t.val % 9 = 6
              · exfalso; omega
              · by_cases h7 : t.val % 9 = 7
                · exfalso; omega
                · by_cases h8 : t.val % 9 = 8
                  · exfalso; omega
                  · rw [show (dats m 0 c).leavesExact 0 t = owns (c : Thread nD τ) (ms0_0 t) fullShare ((dats m 0 c).after 0 t) from by
      unfold Dat.leavesExact; rw [liveAt0_0 t], after0_0]
                    rw [show (dats m 0 c).leavesExact 1 t = owns (c : Thread nD τ) (ms0_1 t) fullShare ((dats m 0 c).after 1 t) from by
      unfold Dat.leavesExact; rw [liveAt0_1 t], after0_1]
                    rw [show (dats m 0 c).leavesExact 2 t = owns (c : Thread nD τ) (ms0_2 t) fullShare ((dats m 0 c).after 2 t) from by
      unfold Dat.leavesExact; rw [liveAt0_2 t], after0_2]
                    rw [show (dats m 0 c).leavesExact 3 t = owns (c : Thread nD τ) (ms0_3 t) fullShare ((dats m 0 c).after 3 t) from by
      unfold Dat.leavesExact; rw [liveAt0_3 t], after0_3]
                    rw [show (dats m 0 c).leavesExact 4 t = owns (c : Thread nD τ) (ms0_4 t) fullShare ((dats m 0 c).after 4 t) from by
      unfold Dat.leavesExact; rw [liveAt0_4 t], after0_4]
                    rw [show (dats m 0 c).leavesExact 5 t = owns (c : Thread nD τ) (ms0_5 t) fullShare ((dats m 0 c).after 5 t) from by
      unfold Dat.leavesExact; rw [liveAt0_5 t], after0_5]
                    rw [show (dats m 0 c).leavesExact 6 t = owns (c : Thread nD τ) (ms0_6 t) fullShare ((dats m 0 c).after 6 t) from by
      unfold Dat.leavesExact; rw [liveAt0_6 t], after0_6]
                    rw [show (dats m 0 c).leavesExact 7 t = owns (c : Thread nD τ) (ms0_7 t) fullShare ((dats m 0 c).after 7 t) from by
      unfold Dat.leavesExact; rw [liveAt0_7_C t (fun h => h0 ((hcond0_0 t).mp h)) (fun h => h1 ((hcond0_1 t).mp h)) ((hcond0_2 t).mpr h2) (fun h => h3 ((hcond0_3 t).mp h)) (fun h => h4 ((hcond0_4 t).mp h)) (fun h => h5 ((hcond0_5 t).mp h)) (fun h => h6 ((hcond0_6 t).mp h)) (fun h => h7 ((hcond0_7 t).mp h)) (fun h => h8 ((hcond0_8 t).mp h))], after0_7]
                    rw [outsAt0_C m c t h0 h1 h2 h3 h4 h5 h6 h7 h8]
                    unfold out0_C_7
                    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
                    iapply ((kernelRun0_C c (grid0.coords t) _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (fun h => h4 ((hcond0_4 t).mp h)) (fun h => h5 ((hcond0_5 t).mp h)) (fun h => h6 ((hcond0_6 t).mp h)) (fun h => h7 ((hcond0_7 t).mp h)) (fun h => h8 ((hcond0_8 t).mp h)) (iblk m c 0 t) (iblk m c 1 t) (iblk m c 2 t) (iblk m c 3 t) (iblk m c 4 t) (iblk m c 5 t) (iblk m c 6 t)).2 Set.univ _)
                    isplitl [H0]; · iexact H0
                    isplitl [H1]; · iexact H1
                    isplitl [H2]; · iexact H2
                    isplitl [H3]; · iexact H3
                    isplitl [H4]; · iexact H4
                    isplitl [H5]; · iexact H5
                    isplitl [H6]; · iexact H6
                    isplitl [H7]; · iexists _; iexact H7
                    isplitl [HS0]; · iexact HS0
                    isplitl [HS1]; · iexact HS1
                    iintro ⟨H0, H1, H2, H3, H4, H5, H6, ⟨%e7, H7⟩, HS0, HS1⟩
                    isplitl [HS0 HS1 Hg]
                    · isplitl [HS0 HS1]
                      · isplitl [HS0]
                        · iexact HS0
                        iexact HS1
                      iexact Hg
                    isplitl [Ho]; · iexact Ho
                    isplitl [H0]; · iexact H0
                    isplitl [H1]; · iexact H1
                    isplitl [H2]; · iexact H2
                    isplitl [H3]; · iexact H3
                    isplitl [H4]; · iexact H4
                    isplitl [H5]; · iexact H5
                    isplitl [H6]; · iexact H6
                    unfold owns; iexists _; isplitr
                    swap; · iexact H7
                    ipureintro; exact View.read_writes_of_cover _ _ _ _ _ (cover0_C_7 c _ _ _ _ _ _ _ _ _ _ _ _ _ _ _ _ _ _ _ _ _ _ _ _ _ _ _ _ _ _ _ _ _ _ _ _ _)
      · by_cases h3 : t.val % 9 = 3
        · by_cases h4 : t.val % 9 = 4
          · exfalso; omega
          · by_cases h5 : t.val % 9 = 5
            · exfalso; omega
            · by_cases h6 : t.val % 9 = 6
              · exfalso; omega
              · by_cases h7 : t.val % 9 = 7
                · exfalso; omega
                · by_cases h8 : t.val % 9 = 8
                  · exfalso; omega
                  · rw [show (dats m 0 c).leavesExact 0 t = owns (c : Thread nD τ) (ms0_0 t) fullShare ((dats m 0 c).after 0 t) from by
      unfold Dat.leavesExact; rw [liveAt0_0 t], after0_0]
                    rw [show (dats m 0 c).leavesExact 1 t = owns (c : Thread nD τ) (ms0_1 t) fullShare ((dats m 0 c).after 1 t) from by
      unfold Dat.leavesExact; rw [liveAt0_1 t], after0_1]
                    rw [show (dats m 0 c).leavesExact 2 t = owns (c : Thread nD τ) (ms0_2 t) fullShare ((dats m 0 c).after 2 t) from by
      unfold Dat.leavesExact; rw [liveAt0_2 t], after0_2]
                    rw [show (dats m 0 c).leavesExact 3 t = owns (c : Thread nD τ) (ms0_3 t) fullShare ((dats m 0 c).after 3 t) from by
      unfold Dat.leavesExact; rw [liveAt0_3 t], after0_3]
                    rw [show (dats m 0 c).leavesExact 4 t = owns (c : Thread nD τ) (ms0_4 t) fullShare ((dats m 0 c).after 4 t) from by
      unfold Dat.leavesExact; rw [liveAt0_4 t], after0_4]
                    rw [show (dats m 0 c).leavesExact 5 t = owns (c : Thread nD τ) (ms0_5 t) fullShare ((dats m 0 c).after 5 t) from by
      unfold Dat.leavesExact; rw [liveAt0_5 t], after0_5]
                    rw [show (dats m 0 c).leavesExact 6 t = owns (c : Thread nD τ) (ms0_6 t) fullShare ((dats m 0 c).after 6 t) from by
      unfold Dat.leavesExact; rw [liveAt0_6 t], after0_6]
                    rw [show (dats m 0 c).leavesExact 7 t = owns (c : Thread nD τ) (ms0_7 t) fullShare ((dats m 0 c).after 7 t) from by
      unfold Dat.leavesExact; rw [liveAt0_7_D t (fun h => h0 ((hcond0_0 t).mp h)) (fun h => h1 ((hcond0_1 t).mp h)) (fun h => h2 ((hcond0_2 t).mp h)) ((hcond0_3 t).mpr h3) (fun h => h4 ((hcond0_4 t).mp h)) (fun h => h5 ((hcond0_5 t).mp h)) (fun h => h6 ((hcond0_6 t).mp h)) (fun h => h7 ((hcond0_7 t).mp h)) (fun h => h8 ((hcond0_8 t).mp h))], after0_7]
                    rw [outsAt0_D m c t h0 h1 h2 h3 h4 h5 h6 h7 h8]
                    unfold out0_D_7
                    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
                    iapply ((kernelRun0_D c (grid0.coords t) _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (fun h => h4 ((hcond0_4 t).mp h)) (fun h => h5 ((hcond0_5 t).mp h)) (fun h => h6 ((hcond0_6 t).mp h)) (fun h => h7 ((hcond0_7 t).mp h)) (fun h => h8 ((hcond0_8 t).mp h)) (iblk m c 0 t) (iblk m c 1 t) (iblk m c 2 t) (iblk m c 3 t) (iblk m c 4 t) (iblk m c 5 t) (iblk m c 6 t)).2 Set.univ _)
                    isplitl [H0]; · iexact H0
                    isplitl [H1]; · iexact H1
                    isplitl [H2]; · iexact H2
                    isplitl [H3]; · iexact H3
                    isplitl [H4]; · iexact H4
                    isplitl [H5]; · iexact H5
                    isplitl [H6]; · iexact H6
                    isplitl [H7]; · iexists _; iexact H7
                    isplitl [HS0]; · iexact HS0
                    isplitl [HS1]; · iexact HS1
                    iintro ⟨H0, H1, H2, H3, H4, H5, H6, ⟨%e7, H7⟩, HS0, HS1⟩
                    isplitl [HS0 HS1 Hg]
                    · isplitl [HS0 HS1]
                      · isplitl [HS0]
                        · iexact HS0
                        iexact HS1
                      iexact Hg
                    isplitl [Ho]; · iexact Ho
                    isplitl [H0]; · iexact H0
                    isplitl [H1]; · iexact H1
                    isplitl [H2]; · iexact H2
                    isplitl [H3]; · iexact H3
                    isplitl [H4]; · iexact H4
                    isplitl [H5]; · iexact H5
                    isplitl [H6]; · iexact H6
                    unfold owns; iexists _; isplitr
                    swap; · iexact H7
                    ipureintro; exact View.read_writes_of_cover _ _ _ _ _ (cover0_D_7 c _ _ _ _ _ _ _ _ _ _ _ _ _ _ _ _ _ _ _ _ _ _ _ _ _ _ _ _ _ _ _ _ _ _ _ _ _)
        · by_cases h4 : t.val % 9 = 4
          · by_cases h5 : t.val % 9 = 5
            · exfalso; omega
            · by_cases h6 : t.val % 9 = 6
              · exfalso; omega
              · by_cases h7 : t.val % 9 = 7
                · exfalso; omega
                · by_cases h8 : t.val % 9 = 8
                  · exfalso; omega
                  · rw [show (dats m 0 c).leavesExact 0 t = owns (c : Thread nD τ) (ms0_0 t) fullShare ((dats m 0 c).after 0 t) from by
      unfold Dat.leavesExact; rw [liveAt0_0 t], after0_0]
                    rw [show (dats m 0 c).leavesExact 1 t = owns (c : Thread nD τ) (ms0_1 t) fullShare ((dats m 0 c).after 1 t) from by
      unfold Dat.leavesExact; rw [liveAt0_1 t], after0_1]
                    rw [show (dats m 0 c).leavesExact 2 t = owns (c : Thread nD τ) (ms0_2 t) fullShare ((dats m 0 c).after 2 t) from by
      unfold Dat.leavesExact; rw [liveAt0_2 t], after0_2]
                    rw [show (dats m 0 c).leavesExact 3 t = owns (c : Thread nD τ) (ms0_3 t) fullShare ((dats m 0 c).after 3 t) from by
      unfold Dat.leavesExact; rw [liveAt0_3 t], after0_3]
                    rw [show (dats m 0 c).leavesExact 4 t = owns (c : Thread nD τ) (ms0_4 t) fullShare ((dats m 0 c).after 4 t) from by
      unfold Dat.leavesExact; rw [liveAt0_4 t], after0_4]
                    rw [show (dats m 0 c).leavesExact 5 t = owns (c : Thread nD τ) (ms0_5 t) fullShare ((dats m 0 c).after 5 t) from by
      unfold Dat.leavesExact; rw [liveAt0_5 t], after0_5]
                    rw [show (dats m 0 c).leavesExact 6 t = owns (c : Thread nD τ) (ms0_6 t) fullShare ((dats m 0 c).after 6 t) from by
      unfold Dat.leavesExact; rw [liveAt0_6 t], after0_6]
                    rw [show (dats m 0 c).leavesExact 7 t = owns (c : Thread nD τ) (ms0_7 t) fullShare ((dats m 0 c).after 7 t) from by
      unfold Dat.leavesExact; rw [liveAt0_7_E t (fun h => h0 ((hcond0_0 t).mp h)) (fun h => h1 ((hcond0_1 t).mp h)) (fun h => h2 ((hcond0_2 t).mp h)) (fun h => h3 ((hcond0_3 t).mp h)) ((hcond0_4 t).mpr h4) (fun h => h5 ((hcond0_5 t).mp h)) (fun h => h6 ((hcond0_6 t).mp h)) (fun h => h7 ((hcond0_7 t).mp h)) (fun h => h8 ((hcond0_8 t).mp h))], after0_7]
                    rw [outsAt0_E m c t h0 h1 h2 h3 h4 h5 h6 h7 h8]
                    unfold out0_E_7
                    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
                    iapply ((kernelRun0_E c (grid0.coords t) _ _ _ _ _ _ _ _ _ _ _ _ _ _ _ _ _ _ _ _ (fun h => h0 ((hcond0_0 t).mp h)) (fun h => h1 ((hcond0_1 t).mp h)) (fun h => h2 ((hcond0_2 t).mp h)) (fun h => h3 ((hcond0_3 t).mp h)) ((hcond0_4 t).mpr h4) (fun h => h5 ((hcond0_5 t).mp h)) (fun h => h6 ((hcond0_6 t).mp h)) (fun h => h7 ((hcond0_7 t).mp h)) (fun h => h8 ((hcond0_8 t).mp h)) (iblk m c 0 t) (iblk m c 1 t) (iblk m c 2 t) (iblk m c 3 t) (iblk m c 4 t) (iblk m c 5 t) (iblk m c 6 t)).2 Set.univ _)
                    isplitl [H0]; · iexact H0
                    isplitl [H1]; · iexact H1
                    isplitl [H2]; · iexact H2
                    isplitl [H3]; · iexact H3
                    isplitl [H4]; · iexact H4
                    isplitl [H5]; · iexact H5
                    isplitl [H6]; · iexact H6
                    isplitl [H7]; · iexists _; iexact H7
                    isplitl [HS0]; · iexact HS0
                    isplitl [HS1]; · iexact HS1
                    iintro ⟨H0, H1, H2, H3, H4, H5, H6, ⟨%e7, H7⟩, HS0, HS1⟩
                    isplitl [HS0 HS1 Hg]
                    · isplitl [HS0 HS1]
                      · isplitl [HS0]
                        · iexact HS0
                        iexact HS1
                      iexact Hg
                    isplitl [Ho]; · iexact Ho
                    isplitl [H0]; · iexact H0
                    isplitl [H1]; · iexact H1
                    isplitl [H2]; · iexact H2
                    isplitl [H3]; · iexact H3
                    isplitl [H4]; · iexact H4
                    isplitl [H5]; · iexact H5
                    isplitl [H6]; · iexact H6
                    unfold owns; iexists _; isplitr
                    swap; · iexact H7
                    ipureintro; exact View.read_writes_of_cover _ _ _ _ _ (cover0_E_7 c _ _ _ _ _ _ _ _ _ _ _ _ _ _ _ _ _ _ _ _ _ _ _ _ _ _ _ _ _ _ _ _ _ _ _ _ _)
          · by_cases h5 : t.val % 9 = 5
            · by_cases h6 : t.val % 9 = 6
              · exfalso; omega
              · by_cases h7 : t.val % 9 = 7
                · exfalso; omega
                · by_cases h8 : t.val % 9 = 8
                  · exfalso; omega
                  · rw [show (dats m 0 c).leavesExact 0 t = owns (c : Thread nD τ) (ms0_0 t) fullShare ((dats m 0 c).after 0 t) from by
      unfold Dat.leavesExact; rw [liveAt0_0 t], after0_0]
                    rw [show (dats m 0 c).leavesExact 1 t = owns (c : Thread nD τ) (ms0_1 t) fullShare ((dats m 0 c).after 1 t) from by
      unfold Dat.leavesExact; rw [liveAt0_1 t], after0_1]
                    rw [show (dats m 0 c).leavesExact 2 t = owns (c : Thread nD τ) (ms0_2 t) fullShare ((dats m 0 c).after 2 t) from by
      unfold Dat.leavesExact; rw [liveAt0_2 t], after0_2]
                    rw [show (dats m 0 c).leavesExact 3 t = owns (c : Thread nD τ) (ms0_3 t) fullShare ((dats m 0 c).after 3 t) from by
      unfold Dat.leavesExact; rw [liveAt0_3 t], after0_3]
                    rw [show (dats m 0 c).leavesExact 4 t = owns (c : Thread nD τ) (ms0_4 t) fullShare ((dats m 0 c).after 4 t) from by
      unfold Dat.leavesExact; rw [liveAt0_4 t], after0_4]
                    rw [show (dats m 0 c).leavesExact 5 t = owns (c : Thread nD τ) (ms0_5 t) fullShare ((dats m 0 c).after 5 t) from by
      unfold Dat.leavesExact; rw [liveAt0_5 t], after0_5]
                    rw [show (dats m 0 c).leavesExact 6 t = owns (c : Thread nD τ) (ms0_6 t) fullShare ((dats m 0 c).after 6 t) from by
      unfold Dat.leavesExact; rw [liveAt0_6 t], after0_6]
                    rw [show (dats m 0 c).leavesExact 7 t = owns (c : Thread nD τ) (ms0_7 t) fullShare ((dats m 0 c).after 7 t) from by
      unfold Dat.leavesExact; rw [liveAt0_7_F t (fun h => h0 ((hcond0_0 t).mp h)) (fun h => h1 ((hcond0_1 t).mp h)) (fun h => h2 ((hcond0_2 t).mp h)) (fun h => h3 ((hcond0_3 t).mp h)) (fun h => h4 ((hcond0_4 t).mp h)) ((hcond0_5 t).mpr h5) (fun h => h6 ((hcond0_6 t).mp h)) (fun h => h7 ((hcond0_7 t).mp h)) (fun h => h8 ((hcond0_8 t).mp h))], after0_7]
                    rw [outsAt0_F m c t h0 h1 h2 h3 h4 h5 h6 h7 h8]
                    unfold out0_F_7
                    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
                    iapply ((kernelRun0_F c (grid0.coords t) _ _ _ _ _ _ _ _ _ _ _ _ _ _ _ _ _ _ _ _ (fun h => h0 ((hcond0_0 t).mp h)) (fun h => h1 ((hcond0_1 t).mp h)) (fun h => h2 ((hcond0_2 t).mp h)) (fun h => h3 ((hcond0_3 t).mp h)) (fun h => h4 ((hcond0_4 t).mp h)) ((hcond0_5 t).mpr h5) (fun h => h6 ((hcond0_6 t).mp h)) (fun h => h7 ((hcond0_7 t).mp h)) (fun h => h8 ((hcond0_8 t).mp h)) (iblk m c 0 t) (iblk m c 1 t) (iblk m c 2 t) (iblk m c 3 t) (iblk m c 4 t) (iblk m c 5 t) (iblk m c 6 t)).2 Set.univ _)
                    isplitl [H0]; · iexact H0
                    isplitl [H1]; · iexact H1
                    isplitl [H2]; · iexact H2
                    isplitl [H3]; · iexact H3
                    isplitl [H4]; · iexact H4
                    isplitl [H5]; · iexact H5
                    isplitl [H6]; · iexact H6
                    isplitl [H7]; · iexists _; iexact H7
                    isplitl [HS0]; · iexact HS0
                    isplitl [HS1]; · iexact HS1
                    iintro ⟨H0, H1, H2, H3, H4, H5, H6, ⟨%e7, H7⟩, HS0, HS1⟩
                    isplitl [HS0 HS1 Hg]
                    · isplitl [HS0 HS1]
                      · isplitl [HS0]
                        · iexact HS0
                        iexact HS1
                      iexact Hg
                    isplitl [Ho]; · iexact Ho
                    isplitl [H0]; · iexact H0
                    isplitl [H1]; · iexact H1
                    isplitl [H2]; · iexact H2
                    isplitl [H3]; · iexact H3
                    isplitl [H4]; · iexact H4
                    isplitl [H5]; · iexact H5
                    isplitl [H6]; · iexact H6
                    unfold owns; iexists _; isplitr
                    swap; · iexact H7
                    ipureintro; exact View.read_writes_of_cover _ _ _ _ _ (cover0_F_7 c _ _ _ _ _ _ _ _ _ _ _ _ _ _ _ _ _ _ _ _ _ _ _ _ _ _ _ _ _ _ _ _ _ _ _ _ _)
            · by_cases h6 : t.val % 9 = 6
              · by_cases h7 : t.val % 9 = 7
                · exfalso; omega
                · by_cases h8 : t.val % 9 = 8
                  · exfalso; omega
                  · rw [show (dats m 0 c).leavesExact 0 t = owns (c : Thread nD τ) (ms0_0 t) fullShare ((dats m 0 c).after 0 t) from by
      unfold Dat.leavesExact; rw [liveAt0_0 t], after0_0]
                    rw [show (dats m 0 c).leavesExact 1 t = owns (c : Thread nD τ) (ms0_1 t) fullShare ((dats m 0 c).after 1 t) from by
      unfold Dat.leavesExact; rw [liveAt0_1 t], after0_1]
                    rw [show (dats m 0 c).leavesExact 2 t = owns (c : Thread nD τ) (ms0_2 t) fullShare ((dats m 0 c).after 2 t) from by
      unfold Dat.leavesExact; rw [liveAt0_2 t], after0_2]
                    rw [show (dats m 0 c).leavesExact 3 t = owns (c : Thread nD τ) (ms0_3 t) fullShare ((dats m 0 c).after 3 t) from by
      unfold Dat.leavesExact; rw [liveAt0_3 t], after0_3]
                    rw [show (dats m 0 c).leavesExact 4 t = owns (c : Thread nD τ) (ms0_4 t) fullShare ((dats m 0 c).after 4 t) from by
      unfold Dat.leavesExact; rw [liveAt0_4 t], after0_4]
                    rw [show (dats m 0 c).leavesExact 5 t = owns (c : Thread nD τ) (ms0_5 t) fullShare ((dats m 0 c).after 5 t) from by
      unfold Dat.leavesExact; rw [liveAt0_5 t], after0_5]
                    rw [show (dats m 0 c).leavesExact 6 t = owns (c : Thread nD τ) (ms0_6 t) fullShare ((dats m 0 c).after 6 t) from by
      unfold Dat.leavesExact; rw [liveAt0_6 t], after0_6]
                    rw [show (dats m 0 c).leavesExact 7 t = owns (c : Thread nD τ) (ms0_7 t) fullShare ((dats m 0 c).after 7 t) from by
      unfold Dat.leavesExact; rw [liveAt0_7_G t (fun h => h0 ((hcond0_0 t).mp h)) (fun h => h1 ((hcond0_1 t).mp h)) (fun h => h2 ((hcond0_2 t).mp h)) (fun h => h3 ((hcond0_3 t).mp h)) (fun h => h4 ((hcond0_4 t).mp h)) (fun h => h5 ((hcond0_5 t).mp h)) ((hcond0_6 t).mpr h6) (fun h => h7 ((hcond0_7 t).mp h)) (fun h => h8 ((hcond0_8 t).mp h))], after0_7]
                    rw [outsAt0_G m c t h0 h1 h2 h3 h4 h5 h6 h7 h8]
                    unfold out0_G_7
                    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
                    iapply ((kernelRun0_G c (grid0.coords t) _ _ _ _ _ _ _ _ _ _ _ _ _ _ _ _ _ _ _ _ (fun h => h0 ((hcond0_0 t).mp h)) (fun h => h1 ((hcond0_1 t).mp h)) (fun h => h2 ((hcond0_2 t).mp h)) (fun h => h3 ((hcond0_3 t).mp h)) (fun h => h4 ((hcond0_4 t).mp h)) (fun h => h5 ((hcond0_5 t).mp h)) ((hcond0_6 t).mpr h6) (fun h => h7 ((hcond0_7 t).mp h)) (fun h => h8 ((hcond0_8 t).mp h)) (iblk m c 0 t) (iblk m c 1 t) (iblk m c 2 t) (iblk m c 3 t) (iblk m c 4 t) (iblk m c 5 t) (iblk m c 6 t)).2 Set.univ _)
                    isplitl [H0]; · iexact H0
                    isplitl [H1]; · iexact H1
                    isplitl [H2]; · iexact H2
                    isplitl [H3]; · iexact H3
                    isplitl [H4]; · iexact H4
                    isplitl [H5]; · iexact H5
                    isplitl [H6]; · iexact H6
                    isplitl [H7]; · iexists _; iexact H7
                    isplitl [HS0]; · iexact HS0
                    isplitl [HS1]; · iexact HS1
                    iintro ⟨H0, H1, H2, H3, H4, H5, H6, ⟨%e7, H7⟩, HS0, HS1⟩
                    isplitl [HS0 HS1 Hg]
                    · isplitl [HS0 HS1]
                      · isplitl [HS0]
                        · iexact HS0
                        iexact HS1
                      iexact Hg
                    isplitl [Ho]; · iexact Ho
                    isplitl [H0]; · iexact H0
                    isplitl [H1]; · iexact H1
                    isplitl [H2]; · iexact H2
                    isplitl [H3]; · iexact H3
                    isplitl [H4]; · iexact H4
                    isplitl [H5]; · iexact H5
                    isplitl [H6]; · iexact H6
                    unfold owns; iexists _; isplitr
                    swap; · iexact H7
                    ipureintro; exact View.read_writes_of_cover _ _ _ _ _ (cover0_G_7 c _ _ _ _ _ _ _ _ _ _ _ _ _ _ _ _ _ _ _ _ _ _ _ _ _ _ _ _ _ _ _ _ _ _ _ _ _)
              · by_cases h7 : t.val % 9 = 7
                · by_cases h8 : t.val % 9 = 8
                  · exfalso; omega
                  · rw [show (dats m 0 c).leavesExact 0 t = owns (c : Thread nD τ) (ms0_0 t) fullShare ((dats m 0 c).after 0 t) from by
      unfold Dat.leavesExact; rw [liveAt0_0 t], after0_0]
                    rw [show (dats m 0 c).leavesExact 1 t = owns (c : Thread nD τ) (ms0_1 t) fullShare ((dats m 0 c).after 1 t) from by
      unfold Dat.leavesExact; rw [liveAt0_1 t], after0_1]
                    rw [show (dats m 0 c).leavesExact 2 t = owns (c : Thread nD τ) (ms0_2 t) fullShare ((dats m 0 c).after 2 t) from by
      unfold Dat.leavesExact; rw [liveAt0_2 t], after0_2]
                    rw [show (dats m 0 c).leavesExact 3 t = owns (c : Thread nD τ) (ms0_3 t) fullShare ((dats m 0 c).after 3 t) from by
      unfold Dat.leavesExact; rw [liveAt0_3 t], after0_3]
                    rw [show (dats m 0 c).leavesExact 4 t = owns (c : Thread nD τ) (ms0_4 t) fullShare ((dats m 0 c).after 4 t) from by
      unfold Dat.leavesExact; rw [liveAt0_4 t], after0_4]
                    rw [show (dats m 0 c).leavesExact 5 t = owns (c : Thread nD τ) (ms0_5 t) fullShare ((dats m 0 c).after 5 t) from by
      unfold Dat.leavesExact; rw [liveAt0_5 t], after0_5]
                    rw [show (dats m 0 c).leavesExact 6 t = owns (c : Thread nD τ) (ms0_6 t) fullShare ((dats m 0 c).after 6 t) from by
      unfold Dat.leavesExact; rw [liveAt0_6 t], after0_6]
                    rw [show (dats m 0 c).leavesExact 7 t = owns (c : Thread nD τ) (ms0_7 t) fullShare ((dats m 0 c).after 7 t) from by
      unfold Dat.leavesExact; rw [liveAt0_7_H t (fun h => h0 ((hcond0_0 t).mp h)) (fun h => h1 ((hcond0_1 t).mp h)) (fun h => h2 ((hcond0_2 t).mp h)) (fun h => h3 ((hcond0_3 t).mp h)) (fun h => h4 ((hcond0_4 t).mp h)) (fun h => h5 ((hcond0_5 t).mp h)) (fun h => h6 ((hcond0_6 t).mp h)) ((hcond0_7 t).mpr h7) (fun h => h8 ((hcond0_8 t).mp h))], after0_7]
                    rw [outsAt0_H m c t h0 h1 h2 h3 h4 h5 h6 h7 h8]
                    unfold out0_H_7
                    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
                    iapply ((kernelRun0_H c (grid0.coords t) _ _ _ _ _ _ _ _ _ _ _ _ _ _ _ _ _ _ _ _ (fun h => h0 ((hcond0_0 t).mp h)) (fun h => h1 ((hcond0_1 t).mp h)) (fun h => h2 ((hcond0_2 t).mp h)) (fun h => h3 ((hcond0_3 t).mp h)) (fun h => h4 ((hcond0_4 t).mp h)) (fun h => h5 ((hcond0_5 t).mp h)) (fun h => h6 ((hcond0_6 t).mp h)) ((hcond0_7 t).mpr h7) (fun h => h8 ((hcond0_8 t).mp h)) (iblk m c 0 t) (iblk m c 1 t) (iblk m c 2 t) (iblk m c 3 t) (iblk m c 4 t) (iblk m c 5 t) (iblk m c 6 t)).2 Set.univ _)
                    isplitl [H0]; · iexact H0
                    isplitl [H1]; · iexact H1
                    isplitl [H2]; · iexact H2
                    isplitl [H3]; · iexact H3
                    isplitl [H4]; · iexact H4
                    isplitl [H5]; · iexact H5
                    isplitl [H6]; · iexact H6
                    isplitl [H7]; · iexists _; iexact H7
                    isplitl [HS0]; · iexact HS0
                    isplitl [HS1]; · iexact HS1
                    iintro ⟨H0, H1, H2, H3, H4, H5, H6, ⟨%e7, H7⟩, HS0, HS1⟩
                    isplitl [HS0 HS1 Hg]
                    · isplitl [HS0 HS1]
                      · isplitl [HS0]
                        · iexact HS0
                        iexact HS1
                      iexact Hg
                    isplitl [Ho]; · iexact Ho
                    isplitl [H0]; · iexact H0
                    isplitl [H1]; · iexact H1
                    isplitl [H2]; · iexact H2
                    isplitl [H3]; · iexact H3
                    isplitl [H4]; · iexact H4
                    isplitl [H5]; · iexact H5
                    isplitl [H6]; · iexact H6
                    unfold owns; iexists _; isplitr
                    swap; · iexact H7
                    ipureintro; exact View.read_writes_of_cover _ _ _ _ _ (cover0_H_7 c _ _ _ _ _ _ _ _ _ _ _ _ _ _ _ _ _ _ _ _ _ _ _ _ _ _ _ _ _ _ _ _ _ _ _ _ _)
                · by_cases h8 : t.val % 9 = 8
                  · rw [show (dats m 0 c).leavesExact 0 t = owns (c : Thread nD τ) (ms0_0 t) fullShare ((dats m 0 c).after 0 t) from by
      unfold Dat.leavesExact; rw [liveAt0_0 t], after0_0]
                    rw [show (dats m 0 c).leavesExact 1 t = owns (c : Thread nD τ) (ms0_1 t) fullShare ((dats m 0 c).after 1 t) from by
      unfold Dat.leavesExact; rw [liveAt0_1 t], after0_1]
                    rw [show (dats m 0 c).leavesExact 2 t = owns (c : Thread nD τ) (ms0_2 t) fullShare ((dats m 0 c).after 2 t) from by
      unfold Dat.leavesExact; rw [liveAt0_2 t], after0_2]
                    rw [show (dats m 0 c).leavesExact 3 t = owns (c : Thread nD τ) (ms0_3 t) fullShare ((dats m 0 c).after 3 t) from by
      unfold Dat.leavesExact; rw [liveAt0_3 t], after0_3]
                    rw [show (dats m 0 c).leavesExact 4 t = owns (c : Thread nD τ) (ms0_4 t) fullShare ((dats m 0 c).after 4 t) from by
      unfold Dat.leavesExact; rw [liveAt0_4 t], after0_4]
                    rw [show (dats m 0 c).leavesExact 5 t = owns (c : Thread nD τ) (ms0_5 t) fullShare ((dats m 0 c).after 5 t) from by
      unfold Dat.leavesExact; rw [liveAt0_5 t], after0_5]
                    rw [show (dats m 0 c).leavesExact 6 t = owns (c : Thread nD τ) (ms0_6 t) fullShare ((dats m 0 c).after 6 t) from by
      unfold Dat.leavesExact; rw [liveAt0_6 t], after0_6]
                    rw [show (dats m 0 c).leavesExact 7 t = owns (c : Thread nD τ) (ms0_7 t) fullShare ((dats m 0 c).after 7 t) from by
      unfold Dat.leavesExact; rw [liveAt0_7_I t (fun h => h0 ((hcond0_0 t).mp h)) (fun h => h1 ((hcond0_1 t).mp h)) (fun h => h2 ((hcond0_2 t).mp h)) (fun h => h3 ((hcond0_3 t).mp h)) (fun h => h4 ((hcond0_4 t).mp h)) (fun h => h5 ((hcond0_5 t).mp h)) (fun h => h6 ((hcond0_6 t).mp h)) (fun h => h7 ((hcond0_7 t).mp h)) ((hcond0_8 t).mpr h8)], after0_7]
                    rw [outsAt0_I m c t h0 h1 h2 h3 h4 h5 h6 h7 h8]
                    unfold out0_I_7
                    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
                    iapply ((kernelRun0_I c (grid0.coords t) _ _ _ _ _ _ _ _ _ _ _ _ _ _ _ _ _ _ _ _ (fun h => h0 ((hcond0_0 t).mp h)) (fun h => h1 ((hcond0_1 t).mp h)) (fun h => h2 ((hcond0_2 t).mp h)) (fun h => h3 ((hcond0_3 t).mp h)) (fun h => h4 ((hcond0_4 t).mp h)) (fun h => h5 ((hcond0_5 t).mp h)) (fun h => h6 ((hcond0_6 t).mp h)) (fun h => h7 ((hcond0_7 t).mp h)) ((hcond0_8 t).mpr h8) (iblk m c 0 t) (iblk m c 1 t) (iblk m c 2 t) (iblk m c 3 t) (iblk m c 4 t) (iblk m c 5 t) (iblk m c 6 t)).2 Set.univ _)
                    isplitl [H0]; · iexact H0
                    isplitl [H1]; · iexact H1
                    isplitl [H2]; · iexact H2
                    isplitl [H3]; · iexact H3
                    isplitl [H4]; · iexact H4
                    isplitl [H5]; · iexact H5
                    isplitl [H6]; · iexact H6
                    isplitl [H7]; · iexists _; iexact H7
                    isplitl [HS0]; · iexact HS0
                    isplitl [HS1]; · iexact HS1
                    iintro ⟨H0, H1, H2, H3, H4, H5, H6, ⟨%e7, H7⟩, HS0, HS1⟩
                    isplitl [HS0 HS1 Hg]
                    · isplitl [HS0 HS1]
                      · isplitl [HS0]
                        · iexact HS0
                        iexact HS1
                      iexact Hg
                    isplitl [Ho]; · iexact Ho
                    isplitl [H0]; · iexact H0
                    isplitl [H1]; · iexact H1
                    isplitl [H2]; · iexact H2
                    isplitl [H3]; · iexact H3
                    isplitl [H4]; · iexact H4
                    isplitl [H5]; · iexact H5
                    isplitl [H6]; · iexact H6
                    unfold owns; iexists _; isplitr
                    swap; · iexact H7
                    ipureintro; exact View.read_writes_of_cover _ _ _ _ _ (cover0_I_7 c _ _ _ _ _ _ _ _ _ _ _ _ _ _ _ _ _ _ _ _ _ _ _ _ _ _ _ _ _ _ _ _ _ _ _ _ _)
                  · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame: the program ends without fault, its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Run

end
-- ==== Proof.Run.Value.lean ====
/- The idealized kernel's result array after the run: each grid point's block is what that point wrote back. -/
module

public import proofs.«01_k».proof.Proof.Run.Frame
public import Idealize.ShloMosaic.Lib.Pipeline.Value

@[expose] public section

noncomputable section

namespace Cert.KernelIdeal.Run

open Cert.KernelIdeal Cert.KernelIdeal.Gen

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 7's array: the run's contents for that window after the body (`Gen.outsAt0`), read through the window's block. -/
theorem flushed7 (c : Dev nD) (t : Fin cfg0.N) :
    (dats m 0 c).flushed 7 t = (cfg0.win 7).cut (grid0.coords t) (outsAt0 m c t.val t.isLt) := by
  show (cfg0.win 7).cut (grid0.coords t) ((dats m 0 c).after 7 t) = _
  rw [after0_7]

/-- … so at a point where case A runs, what its write-back would write is that case's NAMED TERM for the window (`Gen.out0_A_7`: the pieces
    its run found, read back) at the point's memrefs and input blocks, and for an output the case reads back what the point before left (`Gen.outsAt0` at `t - 1`) — by the frame's rewriting lemma for the case. -/
theorem flushed7_A (c : Dev nD) (t : Fin cfg0.N) (h0 : t.val % 9 = 0) (h1 : ¬t.val % 9 = 1) (h2 : ¬t.val % 9 = 2) (h3 : ¬t.val % 9 = 3) (h4 : ¬t.val % 9 = 4) (h5 : ¬t.val % 9 = 5) (h6 : ¬t.val % 9 = 6) (h7 : ¬t.val % 9 = 7) (h8 : ¬t.val % 9 = 8) :
    (dats m 0 c).flushed 7 t = (cfg0.win 7).cut (grid0.coords t) (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (fun h => h2 ((hcond0_2 t).mp h)) (fun h => h3 ((hcond0_3 t).mp h)) (fun h => h4 ((hcond0_4 t).mp h)) (fun h => h5 ((hcond0_5 t).mp h)) (fun h => h6 ((hcond0_6 t).mp h)) (fun h => h7 ((hcond0_7 t).mp h)) (fun h => h8 ((hcond0_8 t).mp h)) (iblk m c 0 t) (iblk m c 1 t) (iblk m c 2 t) (iblk m c 3 t) (iblk m c 4 t) (iblk m c 5 t) (iblk m c 6 t)) := by
  simp only [flushed7, outsAt0_A m c t h0 h1 h2 h3 h4 h5 h6 h7 h8]

/-- … so at a point where case B runs, what its write-back would write is that case's NAMED TERM for the window (`Gen.out0_B_7`: the pieces
    its run found, read back) at the point's memrefs and input blocks, and for an output the case reads back what the point before left (`Gen.outsAt0` at `t - 1`) — by the frame's rewriting lemma for the case. -/
theorem flushed7_B (c : Dev nD) (t : Fin cfg0.N) (h0 : ¬t.val % 9 = 0) (h1 : t.val % 9 = 1) (h2 : ¬t.val % 9 = 2) (h3 : ¬t.val % 9 = 3) (h4 : ¬t.val % 9 = 4) (h5 : ¬t.val % 9 = 5) (h6 : ¬t.val % 9 = 6) (h7 : ¬t.val % 9 = 7) (h8 : ¬t.val % 9 = 8) :
    (dats m 0 c).flushed 7 t = (cfg0.win 7).cut (grid0.coords t) (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (fun h => h4 ((hcond0_4 t).mp h)) (fun h => h5 ((hcond0_5 t).mp h)) (fun h => h6 ((hcond0_6 t).mp h)) (fun h => h7 ((hcond0_7 t).mp h)) (fun h => h8 ((hcond0_8 t).mp h)) (iblk m c 0 t) (iblk m c 1 t) (iblk m c 2 t) (iblk m c 3 t) (iblk m c 4 t) (iblk m c 5 t) (iblk m c 6 t)) := by
  simp only [flushed7, outsAt0_B m c t h0 h1 h2 h3 h4 h5 h6 h7 h8]

/-- … so at a point where case C runs, what its write-back would write is that case's NAMED TERM for the window (`Gen.out0_C_7`: the pieces
    its run found, read back) at the point's memrefs and input blocks, and for an output the case reads back what the point before left (`Gen.outsAt0` at `t - 1`) — by the frame's rewriting lemma for the case. -/
theorem flushed7_C (c : Dev nD) (t : Fin cfg0.N) (h0 : ¬t.val % 9 = 0) (h1 : ¬t.val % 9 = 1) (h2 : t.val % 9 = 2) (h3 : ¬t.val % 9 = 3) (h4 : ¬t.val % 9 = 4) (h5 : ¬t.val % 9 = 5) (h6 : ¬t.val % 9 = 6) (h7 : ¬t.val % 9 = 7) (h8 : ¬t.val % 9 = 8) :
    (dats m 0 c).flushed 7 t = (cfg0.win 7).cut (grid0.coords t) (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) (fun h => h5 ((hcond0_5 t).mp h)) (fun h => h6 ((hcond0_6 t).mp h)) (fun h => h7 ((hcond0_7 t).mp h)) (fun h => h8 ((hcond0_8 t).mp h)) (iblk m c 0 t) (iblk m c 1 t) (iblk m c 2 t) (iblk m c 3 t) (iblk m c 4 t) (iblk m c 5 t) (iblk m c 6 t)) := by
  simp only [flushed7, outsAt0_C m c t h0 h1 h2 h3 h4 h5 h6 h7 h8]

/-- … so at a point where case D runs, what its write-back would write is that case's NAMED TERM for the window (`Gen.out0_D_7`: the pieces
    its run found, read back) at the point's memrefs and input blocks, and for an output the case reads back what the point before left (`Gen.outsAt0` at `t - 1`) — by the frame's rewriting lemma for the case. -/
theorem flushed7_D (c : Dev nD) (t : Fin cfg0.N) (h0 : ¬t.val % 9 = 0) (h1 : ¬t.val % 9 = 1) (h2 : ¬t.val % 9 = 2) (h3 : t.val % 9 = 3) (h4 : ¬t.val % 9 = 4) (h5 : ¬t.val % 9 = 5) (h6 : ¬t.val % 9 = 6) (h7 : ¬t.val % 9 = 7) (h8 : ¬t.val % 9 = 8) :
    (dats m 0 c).flushed 7 t = (cfg0.win 7).cut (grid0.coords t) (out0_D_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (fun h => h5 ((hcond0_5 t).mp h)) (fun h => h6 ((hcond0_6 t).mp h)) (fun h => h7 ((hcond0_7 t).mp h)) (fun h => h8 ((hcond0_8 t).mp h)) (iblk m c 0 t) (iblk m c 1 t) (iblk m c 2 t) (iblk m c 3 t) (iblk m c 4 t) (iblk m c 5 t) (iblk m c 6 t)) := by
  simp only [flushed7, outsAt0_D m c t h0 h1 h2 h3 h4 h5 h6 h7 h8]

/-- … so at a point where case E runs, what its write-back would write is that case's NAMED TERM for the window (`Gen.out0_E_7`: the pieces
    its run found, read back) at the point's memrefs and input blocks, and for an output the case reads back what the point before left (`Gen.outsAt0` at `t - 1`) — by the frame's rewriting lemma for the case. -/
theorem flushed7_E (c : Dev nD) (t : Fin cfg0.N) (h0 : ¬t.val % 9 = 0) (h1 : ¬t.val % 9 = 1) (h2 : ¬t.val % 9 = 2) (h3 : ¬t.val % 9 = 3) (h4 : t.val % 9 = 4) (h5 : ¬t.val % 9 = 5) (h6 : ¬t.val % 9 = 6) (h7 : ¬t.val % 9 = 7) (h8 : ¬t.val % 9 = 8) :
    (dats m 0 c).flushed 7 t = (cfg0.win 7).cut (grid0.coords t) (out0_E_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (fun h => h2 ((hcond0_2 t).mp h)) (fun h => h3 ((hcond0_3 t).mp h)) ((hcond0_4 t).mpr h4) (fun h => h5 ((hcond0_5 t).mp h)) (fun h => h6 ((hcond0_6 t).mp h)) (fun h => h7 ((hcond0_7 t).mp h)) (fun h => h8 ((hcond0_8 t).mp h)) (iblk m c 0 t) (iblk m c 1 t) (iblk m c 2 t) (iblk m c 3 t) (iblk m c 4 t) (iblk m c 5 t) (iblk m c 6 t)) := by
  simp only [flushed7, outsAt0_E m c t h0 h1 h2 h3 h4 h5 h6 h7 h8]

/-- … so at a point where case F runs, what its write-back would write is that case's NAMED TERM for the window (`Gen.out0_F_7`: the pieces
    its run found, read back) at the point's memrefs and input blocks, and for an output the case reads back what the point before left (`Gen.outsAt0` at `t - 1`) — by the frame's rewriting lemma for the case. -/
theorem flushed7_F (c : Dev nD) (t : Fin cfg0.N) (h0 : ¬t.val % 9 = 0) (h1 : ¬t.val % 9 = 1) (h2 : ¬t.val % 9 = 2) (h3 : ¬t.val % 9 = 3) (h4 : ¬t.val % 9 = 4) (h5 : t.val % 9 = 5) (h6 : ¬t.val % 9 = 6) (h7 : ¬t.val % 9 = 7) (h8 : ¬t.val % 9 = 8) :
    (dats m 0 c).flushed 7 t = (cfg0.win 7).cut (grid0.coords t) (out0_F_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (fun h => h2 ((hcond0_2 t).mp h)) (fun h => h3 ((hcond0_3 t).mp h)) (fun h => h4 ((hcond0_4 t).mp h)) ((hcond0_5 t).mpr h5) (fun h => h6 ((hcond0_6 t).mp h)) (fun h => h7 ((hcond0_7 t).mp h)) (fun h => h8 ((hcond0_8 t).mp h)) (iblk m c 0 t) (iblk m c 1 t) (iblk m c 2 t) (iblk m c 3 t) (iblk m c 4 t) (iblk m c 5 t) (iblk m c 6 t)) := by
  simp only [flushed7, outsAt0_F m c t h0 h1 h2 h3 h4 h5 h6 h7 h8]

/-- … so at a point where case G runs, what its write-back would write is that case's NAMED TERM for the window (`Gen.out0_G_7`: the pieces
    its run found, read back) at the point's memrefs and input blocks, and for an output the case reads back what the point before left (`Gen.outsAt0` at `t - 1`) — by the frame's rewriting lemma for the case. -/
theorem flushed7_G (c : Dev nD) (t : Fin cfg0.N) (h0 : ¬t.val % 9 = 0) (h1 : ¬t.val % 9 = 1) (h2 : ¬t.val % 9 = 2) (h3 : ¬t.val % 9 = 3) (h4 : ¬t.val % 9 = 4) (h5 : ¬t.val % 9 = 5) (h6 : t.val % 9 = 6) (h7 : ¬t.val % 9 = 7) (h8 : ¬t.val % 9 = 8) :
    (dats m 0 c).flushed 7 t = (cfg0.win 7).cut (grid0.coords t) (out0_G_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (fun h => h2 ((hcond0_2 t).mp h)) (fun h => h3 ((hcond0_3 t).mp h)) (fun h => h4 ((hcond0_4 t).mp h)) (fun h => h5 ((hcond0_5 t).mp h)) ((hcond0_6 t).mpr h6) (fun h => h7 ((hcond0_7 t).mp h)) (fun h => h8 ((hcond0_8 t).mp h)) (iblk m c 0 t) (iblk m c 1 t) (iblk m c 2 t) (iblk m c 3 t) (iblk m c 4 t) (iblk m c 5 t) (iblk m c 6 t)) := by
  simp only [flushed7, outsAt0_G m c t h0 h1 h2 h3 h4 h5 h6 h7 h8]

/-- … so at a point where case H runs, what its write-back would write is that case's NAMED TERM for the window (`Gen.out0_H_7`: the pieces
    its run found, read back) at the point's memrefs and input blocks, and for an output the case reads back what the point before left (`Gen.outsAt0` at `t - 1`) — by the frame's rewriting lemma for the case. -/
theorem flushed7_H (c : Dev nD) (t : Fin cfg0.N) (h0 : ¬t.val % 9 = 0) (h1 : ¬t.val % 9 = 1) (h2 : ¬t.val % 9 = 2) (h3 : ¬t.val % 9 = 3) (h4 : ¬t.val % 9 = 4) (h5 : ¬t.val % 9 = 5) (h6 : ¬t.val % 9 = 6) (h7 : t.val % 9 = 7) (h8 : ¬t.val % 9 = 8) :
    (dats m 0 c).flushed 7 t = (cfg0.win 7).cut (grid0.coords t) (out0_H_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (fun h => h2 ((hcond0_2 t).mp h)) (fun h => h3 ((hcond0_3 t).mp h)) (fun h => h4 ((hcond0_4 t).mp h)) (fun h => h5 ((hcond0_5 t).mp h)) (fun h => h6 ((hcond0_6 t).mp h)) ((hcond0_7 t).mpr h7) (fun h => h8 ((hcond0_8 t).mp h)) (iblk m c 0 t) (iblk m c 1 t) (iblk m c 2 t) (iblk m c 3 t) (iblk m c 4 t) (iblk m c 5 t) (iblk m c 6 t)) := by
  simp only [flushed7, outsAt0_H m c t h0 h1 h2 h3 h4 h5 h6 h7 h8]

/-- … so at a point where case I runs, what its write-back would write is that case's NAMED TERM for the window (`Gen.out0_I_7`: the pieces
    its run found, read back) at the point's memrefs and input blocks, and for an output the case reads back what the point before left (`Gen.outsAt0` at `t - 1`) — by the frame's rewriting lemma for the case. -/
theorem flushed7_I (c : Dev nD) (t : Fin cfg0.N) (h0 : ¬t.val % 9 = 0) (h1 : ¬t.val % 9 = 1) (h2 : ¬t.val % 9 = 2) (h3 : ¬t.val % 9 = 3) (h4 : ¬t.val % 9 = 4) (h5 : ¬t.val % 9 = 5) (h6 : ¬t.val % 9 = 6) (h7 : ¬t.val % 9 = 7) (h8 : t.val % 9 = 8) :
    (dats m 0 c).flushed 7 t = (cfg0.win 7).cut (grid0.coords t) (out0_I_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (fun h => h2 ((hcond0_2 t).mp h)) (fun h => h3 ((hcond0_3 t).mp h)) (fun h => h4 ((hcond0_4 t).mp h)) (fun h => h5 ((hcond0_5 t).mp h)) (fun h => h6 ((hcond0_6 t).mp h)) (fun h => h7 ((hcond0_7 t).mp h)) ((hcond0_8 t).mpr h8) (iblk m c 0 t) (iblk m c 1 t) (iblk m c 2 t) (iblk m c 3 t) (iblk m c 4 t) (iblk m c 5 t) (iblk m c 6 t)) := by
  simp only [flushed7, outsAt0_I m c t h0 h1 h2 h3 h4 h5 h6 h7 h8]

/-- The index map sends distinct grid points to distinct block indices (decided over the 108 points). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S2x2304x7680.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v10) = (dats m 0 c).arrAt 7 cfg0.N :=
  (h c).1 7

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: input window 0 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 0).trans (((dats m 0 c).arrAt_in 0 rfl _).trans ((A_eq m c 0).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: input window 1 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 1).trans (((dats m 0 c).arrAt_in 1 rfl _).trans ((A_eq m c 1).trans (V_main_arg3 m c)))

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: input window 2 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 2).trans (((dats m 0 c).arrAt_in 2 rfl _).trans ((A_eq m c 2).trans (V_main_arg5 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v10) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post7 m r h c,
      kept_main_arg0 m r h c,
      kept_main_arg1 m r h c,
      kept_main_arg2 m r h c,
      kept_main_arg3 m r h c,
      kept_main_arg4 m r h c,
      kept_main_arg5 m r h c⟩)
    (run_main m ρ)

end Cert.KernelIdeal.Run

end
-- ==== Proof.Math.lean ====
/- The arithmetic of one output entry, apart from any program: a causal softmax column, its
   quantiser's exponent and the weighted sum of values, as the tiled kernel computes it and as the
   plain reference does. -/
module

public import Idealize.ShloMosaic.Lib.WordCmp
public import Idealize.ShloMosaic.Lib.Pointwise

@[expose] public section

noncomputable section

namespace Cert.Column

open Idealize.ShloMosaic

/-! ### The constants -/

/-- The largest finite 32-bit float. -/
def big : ℝ := 16777215 * 2 ^ 104

/-- The quantiser's `1/448`, as the 32-bit float it is written with. -/
def c448 : ℝ := 9586981 / 2 ^ 32

/-- A 32-bit float's pattern is read by its fields. -/
theorem ofBits_f32 (b : BitVec 32) : Ideal.ofBits .f32 b = Ideal.ieee 8 23 b := rfl

/-- The running maxima start at the least finite float. -/
theorem ofBits_mask : Ideal.ofBits .f32 0xFF7FFFFF#32 = ((-big : ℝ) : EReal) := by
  rw [ofBits_f32]
  simp only [Ideal.ieee, show (BitVec.extractLsb' (8 + 23) 1 0xFF7FFFFF#32 == 1#1) = true by decide,
    show (BitVec.extractLsb' 23 8 0xFF7FFFFF#32).toNat = 254 by decide,
    show (BitVec.extractLsb' 0 23 0xFF7FFFFF#32).toNat = 8388607 by decide]
  norm_num [big]

/-- The quantiser's `1/448`. -/
theorem ofBits_c448 : Ideal.ofBits .f32 0x3B124925#32 = ((c448 : ℝ) : EReal) := by
  rw [ofBits_f32]
  simp only [Ideal.ieee, show (BitVec.extractLsb' (8 + 23) 1 0x3B124925#32 == 1#1) = false by decide,
    show (BitVec.extractLsb' 23 8 0x3B124925#32).toNat = 118 by decide,
    show (BitVec.extractLsb' 0 23 0x3B124925#32).toNat = 1198373 by decide]
  norm_num [c448]

/-- The largest code. -/
theorem ofBits_448 : Ideal.ofBits .f32 0x43E00000#32 = ((448 : ℝ) : EReal) := by
  rw [ofBits_f32]
  simp only [Ideal.ieee, show (BitVec.extractLsb' (8 + 23) 1 0x43E00000#32 == 1#1) = false by decide,
    show (BitVec.extractLsb' 23 8 0x43E00000#32).toNat = 135 by decide,
    show (BitVec.extractLsb' 0 23 0x43E00000#32).toNat = 6291456 by decide]
  norm_num

/-- The float one. -/
theorem ofBits_one : Ideal.ofBits .f32 0x3F800000#32 = 1 := by
  rw [ofBits_f32]
  simp only [Ideal.ieee, show (BitVec.extractLsb' (8 + 23) 1 0x3F800000#32 == 1#1) = false by decide,
    show (BitVec.extractLsb' 23 8 0x3F800000#32).toNat = 127 by decide,
    show (BitVec.extractLsb' 0 23 0x3F800000#32).toNat = 0 by decide]
  norm_num

/-- The least code. -/
theorem ofBits_neg448 : Ideal.ofBits .f32 0xC3E00000#32 = ((-448 : ℝ) : EReal) := by
  rw [ofBits_f32]
  simp only [Ideal.ieee, show (BitVec.extractLsb' (8 + 23) 1 0xC3E00000#32 == 1#1) = true by decide,
    show (BitVec.extractLsb' 23 8 0xC3E00000#32).toNat = 135 by decide,
    show (BitVec.extractLsb' 0 23 0xC3E00000#32).toNat = 6291456 by decide]
  norm_num

/-- Minus infinity. -/
theorem ofBits_ninf : Ideal.ofBits .f32 0xFF800000#32 = ⊥ := by
  rw [ofBits_f32]
  simp only [Ideal.ieee, show (BitVec.extractLsb' (8 + 23) 1 0xFF800000#32 == 1#1) = true by decide,
    show (BitVec.extractLsb' 23 8 0xFF800000#32).toNat = 255 by decide,
    show (BitVec.extractLsb' 0 23 0xFF800000#32).toNat = 0 by decide]
  norm_num

/-- Plus infinity. -/
theorem ofBits_pinf : Ideal.ofBits .f32 0x7F800000#32 = ⊤ := by
  rw [ofBits_f32]
  simp only [Ideal.ieee, show (BitVec.extractLsb' (8 + 23) 1 0x7F800000#32 == 1#1) = false by decide,
    show (BitVec.extractLsb' 23 8 0x7F800000#32).toNat = 255 by decide,
    show (BitVec.extractLsb' 0 23 0x7F800000#32).toNat = 0 by decide]
  norm_num

/-- A choice by the signed comparison of two small words. -/
theorem sel_sle {α : Type} {a b : ℕ} (A B : α) (ha : a < 2 ^ 31) (hb : b < 2 ^ 31) :
    Scalar.select (IntOp.cmpi .sle (BitVec.ofNat 32 a) (BitVec.ofNat 32 b)) A B = if a ≤ b then A else B := by
  have e : (IntOp.cmpi .sle (BitVec.ofNat 32 a) (BitVec.ofNat 32 b) = 1#1) ↔ a ≤ b := WordCmp.cmpi_sle_ofNat_eq_one_iff ha hb
  by_cases h : a ≤ b
  · rw [e.2 h, if_pos h]
    rfl
  · rw [if_neg h]
    exact if_neg fun h' => h (e.1 h')

/-- Writing `e + 127` into the exponent field of a 32-bit float gives `2 ^ e`, in the exponent's
    range here. -/
theorem pow_bits (e : ℤ) (h : -20 ≤ e ∧ e ≤ 20) :
    Ideal.ofBits .f32 ((BitVec.ofInt 32 e + 127#32) <<< (23#32)) = (((2 : ℝ) ^ e : ℝ) : EReal) := by
  obtain ⟨h1, h2⟩ := h
  rw [ofBits_f32]
  have key : ∀ b : BitVec 32, (BitVec.extractLsb' (8 + 23) 1 b == 1#1) = false →
      ((BitVec.extractLsb' 23 8 b).toNat : ℤ) = e + 127 → (BitVec.extractLsb' 0 23 b).toNat = 0 →
      Ideal.ieee 8 23 b = (((2 : ℝ) ^ e : ℝ) : EReal) := by
    intro b ha hb hc
    simp only [Ideal.ieee, ha, hc]
    rw [if_neg (by omega), if_neg (by omega), hb]
    congr 1
    rw [show e + 127 - (2 ^ (8 - 1) - 1) - ((23 : ℕ) : ℤ) = e - 23 by norm_num, zpow_sub₀ (by norm_num)]
    norm_num
    field_simp
  apply key
  · interval_cases e <;> decide
  · interval_cases e <;> decide
  · interval_cases e <;> decide

/-! ### Sums over runs of keys -/

/-- A sum over `w * m` terms, run by run of `w`. -/
theorem sum_runs {M : Type*} [AddCommMonoid M] (w : ℕ) (f : ℕ → M) (m : ℕ) :
    ∑ k ∈ Finset.range (w * m), f k = ∑ a ∈ Finset.range m, ∑ b : Fin w, f (w * a + b) := by
  induction m with
  | zero => simp
  | succ m ih =>
    rw [Nat.mul_succ, Finset.sum_range_add, ih, Finset.sum_range_succ, Fin.sum_univ_eq_sum_range (fun b => f (w * m + b))]

/-- A sum of reals is their sum as extended reals. -/
theorem coe_sum {ι : Type*} (s : Finset ι) (f : ι → ℝ) : ((∑ k ∈ s, f k : ℝ) : EReal) = ∑ k ∈ s, (f k : EReal) := by
  induction s using Finset.cons_induction with
  | empty => simp
  | cons a s ha ih => simp [Finset.sum_cons, EReal.coe_add, ih]

/-! ### The kernel's column -/

/-- The running maximum of one of the eight key classes after the chunks `0 … n`. -/
def kM (t : ℕ → EReal) (b : ℕ) : ℕ → EReal
  | 0 => max (Ideal.ofBits .f32 0xFF7FFFFF#32) (Finset.univ.fold max ⊥ fun a : Fin 32 => t (256 * 0 + (8 * a + b)))
  | n + 1 => max (kM t b n) (Finset.univ.fold max ⊥ fun a : Fin 32 => t (256 * (n + 1) + (8 * a + b)))

/-- The running sum of one of the eight key classes after the chunks `0 … n`. -/
def kL (t : ℕ → EReal) (b : ℕ) (m : EReal) : ℕ → EReal
  | 0 => 0 + ∑ a : Fin 32, Ideal.exp2 (t (256 * 0 + (8 * a + b)) - m)
  | n + 1 => kL t b m n + ∑ a : Fin 32, Ideal.exp2 (t (256 * (n + 1) + (8 * a + b)) - m)

/-- The column's maximum. -/
def kRow (t : ℕ → EReal) (n : ℕ) : EReal := Finset.univ.fold max ⊥ fun b : Fin 8 => kM t b n

/-- A class's factor to the column's maximum. -/
def kW (t : ℕ → EReal) (n b : ℕ) : EReal := Ideal.exp2 (kM t b n - kRow t n)

/-- The largest probability of the column. -/
def kP (t : ℕ → EReal) (n : ℕ) : EReal := Ideal.div 1 (∑ b : Fin 8, kL t b (kM t b n) n * kW t n b)

/-- The quantiser's exponent, an integer. -/
def kE (t : ℕ → EReal) (n : ℕ) : BitVec 32 :=
  Ideal.fptosi 32 (Ideal.liftRound (fun r => ⌊r⌋) (Ideal.log (kP t n * Ideal.ofBits .f32 0x3B124925#32) * (((Real.log 2)⁻¹ : ℝ) : EReal))) + 1#32

/-- A class's factor from exponentials to codes. -/
def kR (t : ℕ → EReal) (n b : ℕ) : EReal :=
  min (Ideal.ofBits .f32 0x43E00000#32) (max (Ideal.ofBits .f32 0xC3E00000#32)
    (kP t n * Ideal.ofBits .f32 ((0#32 - kE t n + 127#32) <<< (23#32)) * kW t n b))

/-- A key's code. -/
def kCode (t : ℕ → EReal) (n k : ℕ) : EReal := Ideal.exp2 (t k - kM t (k % 8) n) * kR t n (k % 8)

/-- The weighted sum of values after the chunks `0 … m`. -/
def kAcc (t v : ℕ → EReal) (n : ℕ) : ℕ → EReal
  | 0 => ∑ c : Fin 256, v (256 * 0 + c) * kCode t n (256 * 0 + c)
  | m + 1 => kAcc t v n m + ∑ c : Fin 256, v (256 * (m + 1) + c) * kCode t n (256 * (m + 1) + c)

/-- The entry the kernel writes. -/
def kOut (t v : ℕ → EReal) (vs : EReal) (n : ℕ) : EReal :=
  kAcc t v n n * (Ideal.ofBits .f32 ((kE t n + 127#32) <<< (23#32)) * vs)

/-! ### The reference's column -/

/-- The maximum of the scores. -/
def rM (s : ℕ → EReal) : EReal := max ⊥ (Finset.univ.fold max ⊥ fun k : Fin 2304 => s k)

/-- A softmax probability. -/
def rP (s : ℕ → EReal) (k : ℕ) : EReal :=
  Ideal.div (Ideal.exp (s k - rM s)) (∑ j : Fin 2304, Ideal.exp (s j - rM s))

/-- The quantiser's exponent. -/
def rE (s : ℕ → EReal) : EReal :=
  Ideal.liftRound (fun r => ⌊r⌋) (Ideal.log ((Finset.univ.fold max ⊥ fun k : Fin 2304 => rP s k) * Ideal.ofBits .f32 0x3B124925#32) * (((Real.log 2)⁻¹ : ℝ) : EReal)) + 1

/-- The entry the reference computes. -/
def rOut (s v : ℕ → EReal) (vs : EReal) : EReal :=
  (∑ k : Fin 2304, min (Ideal.ofBits .f32 0x43E00000#32) (max (Ideal.ofBits .f32 0xC3E00000#32) (rP s k * Ideal.exp2 (0 - rE s))) * v k)
    * (Ideal.exp2 (rE s) * vs)

/-! ### The common real column -/

section Common

variable (σ : ℕ → ℝ) (S : Finset ℕ)

/-- The score in powers of two. -/
def tau (k : ℕ) : ℝ := σ k * (Real.log 2)⁻¹

/-- The largest of the finite scores, those of the keys in `S`, in powers of two. -/
def top : ℝ := if h : S.Nonempty then S.sup' h (tau σ) else 0

/-- A key's unnormalised weight. -/
def wt (k : ℕ) : ℝ := if k ∈ S then (2 : ℝ) ^ (tau σ k - top σ S) else 0

/-- The sum of the weights. -/
def tot : ℝ := ∑ k ∈ S, wt σ S k

/-- The quantiser's exponent. -/
def expo : ℤ := ⌊Real.log (1 / tot σ S * c448) * (Real.log 2)⁻¹⌋ + 1

/-- A key's code. -/
def code (k : ℕ) : ℝ := wt σ S k * (1 / tot σ S) * (2 : ℝ) ^ (-expo σ S)

/-- `log 2` is positive. -/
theorem log2_pos : 0 < Real.log 2 := Real.log_pos (by norm_num)

/-- No finite score exceeds the top. -/
theorem tau_le_top {k : ℕ} (h : k ∈ S) : tau σ k ≤ top σ S :=
  (Finset.le_sup' (tau σ) h).trans (by rw [top, dif_pos ⟨k, h⟩])

/-- The top is one of the scores. -/
theorem top_attained (hS : S.Nonempty) : ∃ k ∈ S, top σ S = tau σ k := by
  obtain ⟨k, hk, h⟩ := Finset.exists_mem_eq_sup' hS (tau σ)
  exact ⟨k, hk, by rw [top, dif_pos hS, h]⟩

/-- A weight is not negative. -/
theorem wt_nonneg (k : ℕ) : 0 ≤ wt σ S k := by
  unfold wt; split
  · positivity
  · exact le_rfl

/-- A weight is at most one. -/
theorem wt_le_one (k : ℕ) : wt σ S k ≤ 1 := by
  unfold wt; split
  · next h => exact Real.rpow_le_one_of_one_le_of_nonpos (by norm_num) (sub_nonpos.2 (tau_le_top σ S h))
  · norm_num

/-- The weight as an exponential of the score. -/
theorem wt_exp {k : ℕ} (h : k ∈ S) : Real.exp (σ k - Real.log 2 * top σ S) = wt σ S k := by
  rw [wt, if_pos h, Real.rpow_def_of_pos (by norm_num), tau]
  congr 1
  have := log2_pos.ne'
  field_simp

/-- A key without a finite score weighs nothing. -/
theorem wt_out {k : ℕ} (h : k ∉ S) : wt σ S k = 0 := if_neg h

/-- Some weight is one. -/
theorem wt_attained (hS : S.Nonempty) : ∃ k ∈ S, wt σ S k = 1 := by
  obtain ⟨k, hk, h⟩ := top_attained σ S hS
  exact ⟨k, hk, by rw [wt, if_pos hk, h, sub_self, Real.rpow_zero]⟩

/-- The weights sum to at least one. -/
theorem one_le_tot (hS : S.Nonempty) : 1 ≤ tot σ S := by
  obtain ⟨k, hk, h⟩ := wt_attained σ S hS
  rw [← h]
  exact Finset.single_le_sum (f := wt σ S) (fun i _ => wt_nonneg σ S i) hk

/-- The weights sum to at most the number of keys. -/
theorem tot_le (hg : S ⊆ Finset.range 2304) : tot σ S ≤ 2304 := by
  have : tot σ S ≤ ∑ k ∈ S, (1 : ℝ) := Finset.sum_le_sum fun k _ => wt_le_one σ S k
  refine this.trans ?_
  simp only [Finset.sum_const, nsmul_eq_mul, mul_one]
  exact_mod_cast (Finset.card_le_card hg).trans_eq (Finset.card_range _)

/-- A sum over all keys whose terms vanish off the finite ones is the sum over those. -/
theorem sum_on {M : Type*} [AddCommMonoid M] (f : ℕ → M) {N : ℕ} (h : S ⊆ Finset.range N) (h0 : ∀ k, k ∉ S → f k = 0) :
    ∑ k ∈ Finset.range N, f k = ∑ k ∈ S, f k :=
  (Finset.sum_subset h fun k _ hk => h0 k hk).symm

/-- The quantiser's argument is positive. -/
theorem amax_pos (hS : S.Nonempty) : 0 < 1 / tot σ S * c448 := by
  have := one_le_tot σ S hS
  unfold c448
  positivity

/-- The quantiser's exponent is a small integer. -/
theorem expo_range (hS : S.Nonempty) (hg : S ⊆ Finset.range 2304) : -20 ≤ expo σ S ∧ expo σ S ≤ 20 := by
  have h1 := one_le_tot σ S hS
  have h2 := tot_le σ S hg
  have hp := amax_pos σ S hS
  have hl := log2_pos
  have hlo : (2 : ℝ) ^ (-20 : ℝ) ≤ 1 / tot σ S * c448 := by
    have : (1 : ℝ) / 2304 ≤ 1 / tot σ S := one_div_le_one_div_of_le (by linarith) h2
    refine le_trans ?_ (mul_le_mul_of_nonneg_right this (by unfold c448; positivity))
    rw [show (-20 : ℝ) = ((-20 : ℤ) : ℝ) by norm_num, Real.rpow_intCast]
    norm_num [c448]
  have hhi : 1 / tot σ S * c448 ≤ 1 := by
    have : 1 / tot σ S ≤ 1 := by rw [div_le_one (by linarith)]; exact h1
    refine le_trans (mul_le_mul_of_nonneg_right this (by unfold c448; positivity)) ?_
    norm_num [c448]
  have hL : -20 * Real.log 2 ≤ Real.log (1 / tot σ S * c448) := by
    have := Real.log_le_log (by positivity) hlo
    rwa [Real.log_rpow (by norm_num)] at this
  have hH : Real.log (1 / tot σ S * c448) ≤ 0 := Real.log_nonpos hp.le hhi
  unfold expo
  constructor
  · have : (-20 : ℤ) ≤ ⌊Real.log (1 / tot σ S * c448) * (Real.log 2)⁻¹⌋ := by
      rw [Int.le_floor, ← div_eq_mul_inv, le_div_iff₀ hl]
      exact_mod_cast hL
    omega
  · have : ⌊Real.log (1 / tot σ S * c448) * (Real.log 2)⁻¹⌋ ≤ (0 : ℤ) := by
      rw [← Int.lt_add_one_iff, Int.floor_lt]
      have : Real.log (1 / tot σ S * c448) * (Real.log 2)⁻¹ ≤ 0 := mul_nonpos_of_nonpos_of_nonneg hH (by positivity)
      push_cast
      linarith
    omega

/-- The exponent leaves every code within the format's range, so no code is clipped. -/
theorem scaled_le (hS : S.Nonempty) : 1 / tot σ S * (2 : ℝ) ^ (-expo σ S) ≤ 448 := by
  have hp := amax_pos σ S hS
  have hl := log2_pos
  have hlt : 1 / tot σ S * c448 < (2 : ℝ) ^ (expo σ S) := by
    rw [← Real.rpow_intCast, ← Real.log_lt_log_iff hp (by positivity), Real.log_rpow (by norm_num),
      ← div_lt_iff₀ hl, div_eq_mul_inv]
    unfold expo
    push_cast
    exact Int.lt_floor_add_one _
  have hz : (0 : ℝ) < (2 : ℝ) ^ (expo σ S) := by positivity
  rw [zpow_neg, ← div_eq_mul_inv, div_le_iff₀ hz]
  have hc : 1 ≤ 448 * c448 := by norm_num [c448]
  have h0 : 0 < 1 / tot σ S := by have := one_le_tot σ S hS; positivity
  nlinarith

/-- Within the clip's range. -/
theorem code_bounds (hS : S.Nonempty) {x : ℝ} (h0 : 0 ≤ x) (h1 : x ≤ 1) :
    -448 ≤ 1 / tot σ S * (2 : ℝ) ^ (-expo σ S) * x ∧ 1 / tot σ S * (2 : ℝ) ^ (-expo σ S) * x ≤ 448 := by
  have hs := scaled_le σ S hS
  have h : 0 ≤ 1 / tot σ S * (2 : ℝ) ^ (-expo σ S) := by have := one_le_tot σ S hS; positivity
  constructor
  · have := mul_nonneg h h0; linarith
  · nlinarith

/-- The clip leaves what is in range. -/
theorem clip_eq {x : ℝ} (h : -448 ≤ x ∧ x ≤ 448) :
    min (Ideal.ofBits .f32 0x43E00000#32) (max (Ideal.ofBits .f32 0xC3E00000#32) (x : EReal)) = (x : EReal) := by
  rw [ofBits_448, ofBits_neg448, max_eq_right (by exact_mod_cast h.1), min_eq_right (by exact_mod_cast h.2)]

/-- The logarithm of a positive real. -/
theorem log_coe_pos {x : ℝ} (h : 0 < x) : Ideal.log (x : EReal) = ((Real.log x : ℝ) : EReal) := by
  rw [Ideal.log_coe, if_neg (not_le.2 h)]

end Common

/-! ### The reference's column is the common one -/

section Ref

variable {σ : ℕ → ℝ} {S : Finset ℕ} {s : ℕ → EReal}

/-- The reference's row maximum. -/
theorem rM_eq (hS : S.Nonempty) (hg : S ⊆ Finset.range 2304) (hs : ∀ k < 2304, s k = if k ∈ S then (σ k : EReal) else ⊥) :
    rM s = ((Real.log 2 * top σ S : ℝ) : EReal) := by
  have hl := log2_pos
  refine eq_of_forall_ge_iff fun x => ?_
  rw [rM, max_le_iff, Finset.fold_max_le]
  constructor
  · rintro ⟨-, -, h⟩
    obtain ⟨k, hk, hkt⟩ := top_attained σ S hS
    have hk' := Finset.mem_range.1 (hg hk)
    have := h ⟨k, hk'⟩ (Finset.mem_univ _)
    rw [hs k hk', if_pos hk] at this
    convert this using 2
    rw [hkt, tau]; field_simp
  · intro h
    refine ⟨bot_le, bot_le, fun k _ => ?_⟩
    rw [hs k k.2]
    split
    · next hk =>
      refine le_trans ?_ h
      rw [EReal.coe_le_coe_iff]
      have := tau_le_top σ S hk
      rw [tau, ← div_eq_mul_inv, div_le_iff₀ hl] at this
      linarith
    · exact bot_le

/-- The reference's exponentials are the weights. -/
theorem rExp_eq (hS : S.Nonempty) (hg : S ⊆ Finset.range 2304) (hs : ∀ k < 2304, s k = if k ∈ S then (σ k : EReal) else ⊥) {k : ℕ} (hk : k < 2304) :
    Ideal.exp (s k - rM s) = ((wt σ S k : ℝ) : EReal) := by
  rw [rM_eq hS hg hs, hs k hk]
  split
  · next h => rw [← EReal.coe_sub, Ideal.exp_coe, wt_exp σ S h]
  · next h => rw [EReal.bot_sub, Ideal.exp_bot, wt_out σ S h]; rfl

/-- The reference's denominator. -/
theorem rTot_eq (hS : S.Nonempty) (hg : S ⊆ Finset.range 2304) (hs : ∀ k < 2304, s k = if k ∈ S then (σ k : EReal) else ⊥) :
    ∑ j : Fin 2304, Ideal.exp (s j - rM s) = ((tot σ S : ℝ) : EReal) := by
  rw [Finset.sum_congr rfl fun j _ => rExp_eq hS hg hs j.2, ← coe_sum,
    Fin.sum_univ_eq_sum_range (fun k => wt σ S k), sum_on S _ hg (fun k hk => wt_out σ S hk)]
  rfl

/-- The reference's probabilities. -/
theorem rP_eq (hS : S.Nonempty) (hg : S ⊆ Finset.range 2304) (hs : ∀ k < 2304, s k = if k ∈ S then (σ k : EReal) else ⊥) {k : ℕ} (hk : k < 2304) :
    rP s k = ((wt σ S k * (1 / tot σ S) : ℝ) : EReal) := by
  have := one_le_tot σ S hS
  rw [rP, rTot_eq hS hg hs, rExp_eq hS hg hs hk, Ideal.div_coe (by positivity), ← EReal.coe_mul]

/-- The reference's largest probability. -/
theorem rMaxP_eq (hS : S.Nonempty) (hg : S ⊆ Finset.range 2304) (hs : ∀ k < 2304, s k = if k ∈ S then (σ k : EReal) else ⊥) :
    (Finset.univ.fold max ⊥ fun k : Fin 2304 => rP s k) = ((1 / tot σ S : ℝ) : EReal) := by
  have h1 := one_le_tot σ S hS
  refine eq_of_forall_ge_iff fun x => ?_
  rw [Finset.fold_max_le]
  constructor
  · rintro ⟨-, h⟩
    obtain ⟨k, hk, hw⟩ := wt_attained σ S hS
    have hk' := Finset.mem_range.1 (hg hk)
    have := h ⟨k, hk'⟩ (Finset.mem_univ _)
    rwa [rP_eq hS hg hs hk', hw, one_mul] at this
  · intro h
    refine ⟨bot_le, fun k _ => le_trans ?_ h⟩
    rw [rP_eq hS hg hs k.2, EReal.coe_le_coe_iff]
    exact mul_le_of_le_one_left (by positivity) (wt_le_one σ S k)

/-- The reference's exponent. -/
theorem rE_eq (hS : S.Nonempty) (hg : S ⊆ Finset.range 2304) (hs : ∀ k < 2304, s k = if k ∈ S then (σ k : EReal) else ⊥) :
    rE s = ((expo σ S : ℝ) : EReal) := by
  rw [rE, rMaxP_eq hS hg hs, ofBits_c448, ← EReal.coe_mul, log_coe_pos (amax_pos σ S hS), ← EReal.coe_mul, Ideal.liftRound_coe]
  rw [expo]; push_cast; rfl

/-- The reference's entry from the common column. -/
theorem rOut_eq (hS : S.Nonempty) (hg : S ⊆ Finset.range 2304) (hs : ∀ k < 2304, s k = if k ∈ S then (σ k : EReal) else ⊥) (v : ℕ → EReal) (vs : EReal) :
    rOut s v vs = (∑ k ∈ S, v k * ((code σ S k : ℝ) : EReal)) * ((((2 : ℝ) ^ (expo σ S) : ℝ) : EReal) * vs) := by
  rw [rOut, rE_eq hS hg hs, Ideal.exp2_coe]
  have h2 : Ideal.exp2 (0 - ((expo σ S : ℝ) : EReal)) = (((2 : ℝ) ^ (-expo σ S) : ℝ) : EReal) := by
    rw [← EReal.coe_zero, ← EReal.coe_sub, Ideal.exp2_coe, zero_sub, ← Real.rpow_intCast]
    push_cast; rfl
  have hterm : ∀ k : Fin 2304, min (Ideal.ofBits .f32 0x43E00000#32) (max (Ideal.ofBits .f32 0xC3E00000#32) (rP s k * Ideal.exp2 (0 - ((expo σ S : ℝ) : EReal)))) * v k
      = v k * ((code σ S k : ℝ) : EReal) := by
    intro k
    rw [rP_eq hS hg hs k.2, h2, ← EReal.coe_mul, clip_eq, mul_comm, code]
    have := code_bounds σ S hS (wt_nonneg σ S k) (wt_le_one σ S k)
    convert this using 2 <;> ring
  rw [Finset.sum_congr rfl fun k _ => hterm k, Fin.sum_univ_eq_sum_range (fun k => v k * ((code σ S k : ℝ) : EReal)),
    sum_on S _ hg (fun k hk => by rw [code, wt_out σ S hk]; simp)]
  congr 2
  rw [← Real.rpow_intCast]; rfl

end Ref

/-! ### The kernel's column is the common one -/

section Ker

variable {σ : ℕ → ℝ} {S : Finset ℕ} {n : ℕ} {t : ℕ → EReal}

/-- The keys of a class up to chunk `n`, by chunks. -/
theorem chunk_keys (n b : ℕ) (hb : b < 8) (x : EReal) :
    (∀ k < 256 * n, k % 8 = b → t k ≤ x) ∧ (∀ a : Fin 32, t (256 * n + (8 * a + b)) ≤ x)
      ↔ ∀ k < 256 * (n + 1), k % 8 = b → t k ≤ x := by
  constructor
  · rintro ⟨h1, h2⟩ k hk hkb
    by_cases hlt : k < 256 * n
    · exact h1 k hlt hkb
    · have := h2 ⟨(k - 256 * n) / 8, by omega⟩
      convert this using 2
      simp only
      omega
  · intro h
    exact ⟨fun k hk hkb => h k (by omega) hkb, fun a => h _ (by omega) (by omega)⟩

/-- What bounds a class's running maximum. -/
theorem kM_le (n b : ℕ) (hb : b < 8) (x : EReal) :
    kM t b n ≤ x ↔ ((-big : ℝ) : EReal) ≤ x ∧ ∀ k < 256 * (n + 1), k % 8 = b → t k ≤ x := by
  induction n with
  | zero =>
    rw [kM, max_le_iff, ofBits_mask, Finset.fold_max_le, ← chunk_keys 0 b hb]
    simp
  | succ n ih =>
    rw [kM, max_le_iff, ih, Finset.fold_max_le, ← chunk_keys (n + 1) b hb]
    simp [and_assoc]

variable (hS : S.Nonempty) (hg : S ⊆ Finset.range (256 * (n + 1))) (ht : ∀ k < 256 * (n + 1), t k = if k ∈ S then (tau σ k : EReal) else ⊥)
  (hb : ∀ k ∈ S, -big ≤ tau σ k)

include hS hg ht hb

/-- A class's running maximum is a real number between the start and the top. -/
theorem kM_real (b : ℕ) (hb8 : b < 8) : ∃ μ : ℝ, kM t b n = (μ : EReal) ∧ -big ≤ μ ∧ (∀ k ∈ S, k % 8 = b → tau σ k ≤ μ) ∧ μ ≤ top σ S := by
  have hlo := ((kM_le (t := t) n b hb8 _).1 le_rfl).1
  have h2 := ((kM_le (t := t) n b hb8 _).1 le_rfl).2
  have hhi : kM t b n ≤ ((top σ S : ℝ) : EReal) := by
    rw [kM_le n b hb8]
    obtain ⟨k, hk, hkt⟩ := top_attained σ S hS
    refine ⟨?_, fun k hk' _ => ?_⟩
    · rw [hkt, EReal.coe_le_coe_iff]; exact hb k hk
    · rw [ht k hk']
      split
      · next h => rw [EReal.coe_le_coe_iff]; exact tau_le_top σ S h
      · exact bot_le
  generalize kM t b n = y at *
  induction y with
  | bot => exact absurd (le_bot_iff.1 hlo) (EReal.coe_ne_bot _)
  | top => exact absurd (top_le_iff.1 hhi) (EReal.coe_ne_top _)
  | coe μ =>
    refine ⟨μ, rfl, by exact_mod_cast hlo, fun k hk hkb => ?_, by exact_mod_cast hhi⟩
    have hk' := Finset.mem_range.1 (hg hk)
    have := h2 k hk' hkb
    rw [ht k hk', if_pos hk] at this
    exact_mod_cast this

/-- The maximum over the classes is the top. -/
theorem kRow_eq : kRow t n = ((top σ S : ℝ) : EReal) := by
  refine eq_of_forall_ge_iff fun x => ?_
  rw [kRow, Finset.fold_max_le]
  constructor
  · rintro ⟨-, h⟩
    obtain ⟨k, hk, hkt⟩ := top_attained σ S hS
    have hk' := Finset.mem_range.1 (hg hk)
    have := ((kM_le n (k % 8) (by omega) x).1 (h ⟨k % 8, by omega⟩ (Finset.mem_univ _))).2 k hk' rfl
    rwa [ht k hk', if_pos hk, ← hkt] at this
  · intro h
    refine ⟨bot_le, fun b _ => ?_⟩
    obtain ⟨μ, hμ, -, -, h4⟩ := kM_real hS hg ht hb b b.2
    rw [hμ]
    exact le_trans (by exact_mod_cast h4) h

/-- A class's maximum as a real. -/
def mu (t : ℕ → EReal) (n b : ℕ) : ℝ := (kM t b n).toReal

/-- A class's running maximum, as a real. -/
theorem kM_mu (b : ℕ) (hb8 : b < 8) : kM t b n = ((mu t n b : ℝ) : EReal) := by
  obtain ⟨μ, hμ, -⟩ := kM_real hS hg ht hb b hb8
  rw [mu, hμ, EReal.toReal_coe]

/-- It is at most the top. -/
theorem mu_le (b : ℕ) (hb8 : b < 8) : mu t n b ≤ top σ S := by
  obtain ⟨μ, hμ, -, -, h⟩ := kM_real hS hg ht hb b hb8
  rw [mu, hμ, EReal.toReal_coe]; exact h

/-- A class's weight, as a real. -/
theorem kW_eq (b : ℕ) (hb8 : b < 8) : kW t n b = (((2 : ℝ) ^ (mu t n b - top σ S) : ℝ) : EReal) := by
  rw [kW, kRow_eq hS hg ht hb, kM_mu hS hg ht hb b hb8, ← EReal.coe_sub, Ideal.exp2_coe]; rfl

/-- A key's exponential, off its class's maximum. -/
theorem kExp_eq (k : ℕ) (hk : k < 256 * (n + 1)) (b : ℕ) (hb8 : b < 8) :
    Ideal.exp2 (t k - kM t b n) = ((if k ∈ S then (2 : ℝ) ^ (tau σ k - mu t n b) else 0 : ℝ) : EReal) := by
  rw [ht k hk, kM_mu hS hg ht hb b hb8]
  split
  · rw [← EReal.coe_sub, Ideal.exp2_coe]; rfl
  · rw [EReal.bot_sub, Ideal.exp2_bot]; rfl

/-- A class's running sum, as a real. -/
theorem kL_eq (b : ℕ) (hb8 : b < 8) (m : ℕ) (hm : m ≤ n) :
    kL t b (kM t b n) m = ((∑ a ∈ Finset.range (32 * (m + 1)), if 8 * a + b ∈ S then (2 : ℝ) ^ (tau σ (8 * a + b) - mu t n b) else 0 : ℝ) : EReal) := by
  have hstep : ∀ m ≤ n, ∑ a : Fin 32, Ideal.exp2 (t (256 * m + (8 * a + b)) - kM t b n)
      = ((∑ a : Fin 32, if 8 * (32 * m + (a : ℕ)) + b ∈ S then (2 : ℝ) ^ (tau σ (8 * (32 * m + a) + b) - mu t n b) else 0 : ℝ) : EReal) := by
    intro m hm
    rw [coe_sum]
    refine Finset.sum_congr rfl fun a _ => ?_
    rw [kExp_eq hS hg ht hb _ (by omega) b hb8, show 256 * m + (8 * (a : ℕ) + b) = 8 * (32 * m + a) + b by ring]
  rw [sum_runs 32]
  induction m with
  | zero => rw [kL, hstep 0 hm, zero_add]; simp
  | succ m ih =>
    rw [kL, ih (by omega), hstep (m + 1) hm, Finset.sum_range_succ _ (m + 1), EReal.coe_add]

/-- The classes' sums, reweighted, add up to the denominator. -/
theorem kTot_eq : ∑ b : Fin 8, kL t b (kM t b n) n * kW t n b = ((tot σ S : ℝ) : EReal) := by
  have h1 : ∀ b : Fin 8, kL t b (kM t b n) n * kW t n b = ((∑ a ∈ Finset.range (32 * (n + 1)), wt σ S (8 * a + b) : ℝ) : EReal) := by
    intro b
    rw [kL_eq hS hg ht hb b b.2 n le_rfl, kW_eq hS hg ht hb b b.2, ← EReal.coe_mul, Finset.sum_mul]
    congr 1
    refine Finset.sum_congr rfl fun a _ => ?_
    rw [wt]
    split
    · rw [← Real.rpow_add (by norm_num)]; congr 1; ring
    · rw [zero_mul]
  rw [Finset.sum_congr rfl fun b _ => h1 b, ← coe_sum, Finset.sum_comm, ← sum_runs 8 (wt σ S),
    show 8 * (32 * (n + 1)) = 256 * (n + 1) by ring, sum_on S _ hg (fun k hk => wt_out σ S hk)]
  rfl

/-- The kernel's largest probability is one over the denominator. -/
theorem kP_eq : kP t n = ((1 / tot σ S : ℝ) : EReal) := by
  have := one_le_tot σ S hS
  rw [kP, kTot_eq hS hg ht hb, Ideal.div_coe (by positivity), one_mul]

/-- The kernel's exponent is the reference's. -/
theorem kE_eq (hg' : S ⊆ Finset.range 2304) : kE t n = BitVec.ofInt 32 (expo σ S) := by
  have hr := expo_range σ S hS hg'
  rw [kE, kP_eq hS hg ht hb, ofBits_c448, ← EReal.coe_mul, log_coe_pos (amax_pos σ S hS), ← EReal.coe_mul, Ideal.liftRound_coe,
    Ideal.fptosi, Ideal.toIntClamped_coe]
  set z := ⌊Real.log (1 / tot σ S * c448) * (Real.log 2)⁻¹⌋ with hz
  have hexp : expo σ S = z + 1 := rfl
  have : (if (0 : ℝ) ≤ (z : ℝ) then ⌊(z : ℝ)⌋ else ⌈(z : ℝ)⌉) = z := by simp
  rw [this, hexp, BitVec.ofInt_add]
  rw [hexp] at hr
  congr 2
  have e1 : min ((2 ^ (32 - 1) : ℕ) - 1 : ℤ) z = z := min_eq_right (by norm_num; omega)
  have e2 : max (-((2 ^ (32 - 1) : ℕ) : ℤ)) z = z := max_eq_right (by norm_num; omega)
  rw [e1, e2]

/-- A class's factor, unclipped. -/
theorem kR_eq (hg' : S ⊆ Finset.range 2304) (b : ℕ) (hb8 : b < 8) :
    kR t n b = ((1 / tot σ S * (2 : ℝ) ^ (-expo σ S) * (2 : ℝ) ^ (mu t n b - top σ S) : ℝ) : EReal) := by
  have hr := expo_range σ S hS hg'
  rw [kR, kE_eq hS hg ht hb hg', show 0#32 - BitVec.ofInt 32 (expo σ S) = BitVec.ofInt 32 (-expo σ S) by
    rw [BitVec.zero_sub, BitVec.ofInt_neg], pow_bits _ (by omega), kP_eq hS hg ht hb, kW_eq hS hg ht hb b hb8, ← EReal.coe_mul, ← EReal.coe_mul, clip_eq]
  exact code_bounds σ S hS (by positivity) (Real.rpow_le_one_of_one_le_of_nonpos (by norm_num) (sub_nonpos.2 (mu_le hS hg ht hb b hb8)))

/-- The kernel's codes are the reference's. -/
theorem kCode_eq (hg' : S ⊆ Finset.range 2304) (k : ℕ) (hk : k < 256 * (n + 1)) : kCode t n k = ((code σ S k : ℝ) : EReal) := by
  have h8 : k % 8 < 8 := Nat.mod_lt _ (by norm_num)
  rw [kCode, kExp_eq hS hg ht hb k hk _ h8, kR_eq hS hg ht hb hg' _ h8, ← EReal.coe_mul, code, wt]
  congr 1
  split
  · rw [show tau σ k - top σ S = (tau σ k - mu t n (k % 8)) + (mu t n (k % 8) - top σ S) by ring, Real.rpow_add (by norm_num)]; ring
  · simp

/-- The kernel's accumulated products. -/
theorem kAcc_eq (hg' : S ⊆ Finset.range 2304) (v : ℕ → EReal) (m : ℕ) (hm : m ≤ n) :
    kAcc t v n m = ∑ k ∈ Finset.range (256 * (m + 1)), v k * ((code σ S k : ℝ) : EReal) := by
  rw [sum_runs 256]
  have hstep : ∀ m ≤ n, ∑ c : Fin 256, v (256 * m + c) * kCode t n (256 * m + c) = ∑ c : Fin 256, v (256 * m + c) * ((code σ S (256 * m + c) : ℝ) : EReal) :=
    fun m hm => Finset.sum_congr rfl fun c _ => by rw [kCode_eq hS hg ht hb hg' _ (by omega)]
  induction m with
  | zero => rw [kAcc, hstep 0 hm]; simp
  | succ m ih => rw [kAcc, ih (by omega), hstep (m + 1) hm, Finset.sum_range_succ _ (m + 1)]

/-- The kernel's entry from the common column. -/
theorem kOut_eq (hg' : S ⊆ Finset.range 2304) (v : ℕ → EReal) (vs : EReal) :
    kOut t v vs n = (∑ k ∈ S, v k * ((code σ S k : ℝ) : EReal)) * ((((2 : ℝ) ^ (expo σ S) : ℝ) : EReal) * vs) := by
  rw [kOut, kAcc_eq hS hg ht hb hg' v n le_rfl, kE_eq hS hg ht hb hg', pow_bits _ (expo_range σ S hS hg'),
    sum_on S _ hg (fun k hk => by rw [code, wt_out σ S hk]; simp)]

end Ker

/-- Where every score is real or minus infinity and some are real, the kernel's entry is the reference's. -/
theorem out_finite {σ : ℕ → ℝ} {S : Finset ℕ} {n : ℕ} {t s v v' : ℕ → EReal} {vs : EReal} (hS : S.Nonempty) (hg : S ⊆ Finset.range (256 * (n + 1)))
    (hg' : S ⊆ Finset.range 2304) (ht : ∀ k < 256 * (n + 1), t k = if k ∈ S then (tau σ k : EReal) else ⊥) (hb : ∀ k ∈ S, -big ≤ tau σ k)
    (hs : ∀ k < 2304, s k = if k ∈ S then (σ k : EReal) else ⊥) (hv : ∀ k < 2304, v k = v' k) :
    kOut t v vs n = rOut s v' vs := by
  rw [kOut_eq hS hg ht hb hg', rOut_eq hS hg' hs]
  congr 1
  exact Finset.sum_congr rfl fun k hk => by rw [hv k (Finset.mem_range.1 (hg' hk))]

/-! ### Columns without a finite maximum -/

/-- Where no exponential is positive the reference's entry is zero. -/
theorem rOut_zero {s v : ℕ → EReal} {vs : EReal} (h : ∀ k < 2304, Ideal.exp (s k - rM s) = 0) : rOut s v vs = 0 := by
  have hp : ∀ k : Fin 2304, rP s k = ⊥ := fun k => by
    rw [rP, Finset.sum_congr rfl fun (j : Fin 2304) _ => h j j.2, h k k.2, Finset.sum_const_zero, Ideal.div, if_pos rfl, if_neg (lt_irrefl _)]
  have hm : (Finset.univ.fold max ⊥ fun k : Fin 2304 => rP s k) = ⊥ :=
    le_bot_iff.1 ((Finset.fold_max_le _).2 ⟨le_rfl, fun k _ => (hp k).le⟩)
  have he : rE s = ⊥ := by
    rw [rE, hm, ofBits_c448, EReal.bot_mul_coe_of_pos (by norm_num [c448]), show Ideal.log ⊥ = ⊥ from rfl, EReal.bot_mul_coe_of_pos (inv_pos.2 log2_pos), show Ideal.liftRound (fun r => ⌊r⌋) ⊥ = ⊥ from rfl, EReal.bot_add]
  rw [rOut, he, Ideal.exp2_bot, zero_mul, mul_zero]

/-- Where every code is zero the kernel's entry is zero. -/
theorem kOut_zero {t v : ℕ → EReal} {vs : EReal} {n : ℕ} (h : ∀ k < 256 * (n + 1), kCode t n k = 0) : kOut t v vs n = 0 := by
  have ha : ∀ m ≤ n, kAcc t v n m = 0 := by
    intro m hm
    induction m with
    | zero => rw [kAcc]; exact Finset.sum_eq_zero fun c _ => by rw [h _ (by omega), mul_zero]
    | succ m ih => rw [kAcc, ih (by omega), zero_add]; exact Finset.sum_eq_zero fun c _ => by rw [h _ (by omega), mul_zero]
  rw [kOut, ha n le_rfl, zero_mul]

/-- The difference with plus infinity. -/
theorem sub_top' (x : EReal) : x - ⊤ = ⊥ := by
  rw [sub_eq_add_neg, EReal.neg_top, EReal.add_bot]

/-- A score of plus infinity makes every code zero. -/
theorem kCode_top {t : ℕ → EReal} {n k₀ : ℕ} (h₀ : k₀ < 256 * (n + 1)) (ht : t k₀ = ⊤) (k : ℕ) : kCode t n k = 0 := by
  have hM : kM t (k₀ % 8) n = ⊤ := top_le_iff.1 (by rw [← ht]; exact ((kM_le n (k₀ % 8) (Nat.mod_lt _ (by norm_num)) _).1 le_rfl).2 k₀ h₀ rfl)
  have hR : kRow t n = ⊤ := top_le_iff.1 (by
    rw [← hM]
    exact ((Finset.fold_max_le _).1 (le_refl (kRow t n))).2 ⟨k₀ % 8, Nat.mod_lt _ (by norm_num)⟩ (Finset.mem_univ _))
  by_cases h : kM t (k % 8) n = ⊤
  · rw [kCode, h, sub_top', Ideal.exp2_bot, zero_mul]
  · rw [kCode, kR, kW, hR, sub_top', Ideal.exp2_bot, mul_zero, ← EReal.coe_zero, clip_eq (by norm_num), EReal.coe_zero, mul_zero]

/-- The kernel's entry is the reference's: on the chunks up to the query's, the kernel's scores are the
    reference's over `log 2`, the later keys are masked in both, and no finite score lies below the start of
    the running maxima. -/
theorem kOut_eq_rOut {x : ℕ → EReal} {g n : ℕ} {t s v v' : ℕ → EReal} {vs : EReal} (hg : g < 256 * (n + 1)) (hg' : g < 2304)
    (ht : ∀ k < 256 * (n + 1), t k = if k ≤ g then x k * (((Real.log 2)⁻¹ : ℝ) : EReal) else ⊥)
    (hb : ∀ k ≤ g, ∀ r : ℝ, x k = (r : EReal) → |r| * (Real.log 2)⁻¹ ≤ big)
    (hs : ∀ k < 2304, s k = if k ≤ g then x k else ⊥) (hv : ∀ k < 2304, v k = v' k) :
    kOut t v vs n = rOut s v' vs := by
  have hl : 0 < (Real.log 2)⁻¹ := inv_pos.2 log2_pos
  by_cases htop : ∃ k ≤ g, x k = ⊤
  · obtain ⟨k₀, hk₀, hx₀⟩ := htop
    have hrM : rM s = ⊤ := top_le_iff.1 (by
      have h2 := ((Finset.fold_max_le _).1 (max_le_iff.1 (le_refl (rM s))).2).2 ⟨k₀, by omega⟩ (Finset.mem_univ _)
      rw [hs k₀ (by omega), if_pos hk₀, hx₀] at h2
      exact h2)
    rw [rOut_zero fun k _ => by rw [hrM, sub_top', Ideal.exp_bot],
      kOut_zero fun k _ => kCode_top (k₀ := k₀) (by omega) (by rw [ht k₀ (by omega), if_pos hk₀, hx₀, EReal.top_mul_coe_of_pos hl]) k]
  · have hx : ∀ k ≤ g, x k = ⊥ ∨ x k = ((x k).toReal : EReal) := fun k hk => by
      by_cases h : x k = ⊥
      · exact .inl h
      · exact .inr (EReal.coe_toReal (fun e => htop ⟨k, hk, e⟩) h).symm
    let S : Finset ℕ := (Finset.range (g + 1)).filter fun k => x k ≠ ⊥
    have hmem : ∀ k, k ∈ S ↔ k ≤ g ∧ x k ≠ ⊥ := fun k => by
      simp only [S, Finset.mem_filter, Finset.mem_range, Nat.lt_succ_iff]
    by_cases hS : S.Nonempty
    · refine out_finite (σ := fun k => (x k).toReal) hS (fun k hk => Finset.mem_range.2 (by have := ((hmem k).1 hk).1; omega))
        (fun k hk => Finset.mem_range.2 (by have := ((hmem k).1 hk).1; omega)) (fun k hk => ?_) (fun k hk => ?_) (fun k hk => ?_) hv
      · rw [ht k hk]
        by_cases hkg : k ≤ g
        · rw [if_pos hkg]
          rcases hx k hkg with h | h
          · rw [if_neg (fun e => ((hmem k).1 e).2 h), h, EReal.bot_mul_coe_of_pos hl]
          · rw [if_pos ((hmem k).2 ⟨hkg, fun e => by rw [e] at h; exact absurd h (by simp)⟩), tau, EReal.coe_mul, ← h]
        · rw [if_neg hkg, if_neg (fun e => hkg ((hmem k).1 e).1)]
      · have hk' := (hmem k).1 hk
        have h := (hx k hk'.1).resolve_left hk'.2
        have hB := hb k hk'.1 _ h
        have := mul_le_mul_of_nonneg_right (neg_abs_le (x k).toReal) hl.le
        unfold tau
        linarith
      · rw [hs k hk]
        by_cases hkg : k ≤ g
        · rw [if_pos hkg]
          rcases hx k hkg with h | h
          · rw [if_neg (fun e => ((hmem k).1 e).2 h), h]
          · rw [if_pos ((hmem k).2 ⟨hkg, fun e => by rw [e] at h; exact absurd h (by simp)⟩), ← h]
        · rw [if_neg hkg, if_neg (fun e => hkg ((hmem k).1 e).1)]
    · have hbot : ∀ k ≤ g, x k = ⊥ := fun k hk => by
        by_contra h
        exact hS ⟨k, (hmem k).2 ⟨hk, h⟩⟩
      rw [rOut_zero fun k hk => by
          rw [hs k hk, show (if k ≤ g then x k else ⊥) = ⊥ by split; exacts [hbot k ‹_›, rfl], EReal.bot_sub, Ideal.exp_bot],
        kOut_zero fun k hk => by
          rw [kCode, ht k hk, show (if k ≤ g then x k * (((Real.log 2)⁻¹ : ℝ) : EReal) else ⊥) = ⊥ by
            split; exacts [by rw [hbot k ‹_›, EReal.bot_mul_coe_of_pos hl], rfl], EReal.bot_sub, Ideal.exp2_bot, zero_mul]]

end Cert.Column

end
-- ==== Proof.Head.lean ====
/- What one trip of the kernel's loop over heads computes, for any number of key chunks: the kernel's
   nine unrolled bodies are one chain of vector operations over a list of chunks. Read at an entry,
   the chain is the column of `Math.lean`. -/
module

public import proofs.«01_k».proof.Proof.Gen.KernelIdeal.Skeleton
public import proofs.«01_k».proof.Proof.Math

@[expose] public section

noncomputable section

namespace Cert.KernelIdeal.Head

open Idealize.ShloMosaic Cert.KernelIdeal Cert.KernelIdeal.Gen Cert.Column

/-- A chunk's scores: keys by queries, scaled. -/
def sc (fac : EReal) (kk qq : FVec Ideal S1x1x256x128 .fp8e4m3) : FVec Ideal S256x256 .f32 :=
  mulf (matmul dot_S256x128_S256x128_S256x256_1_1_0_0_n_n none (shapeCast S256x128 kk shapeCasts_S1x1x256x128_S256x128)
    (shapeCast S256x128 qq shapeCasts_S1x1x256x128_S256x128) (constant S256x256 .f32 0x00000000#32)) (broadcast S256x256 fac)

/-- The diagonal chunk's scores: the smaller of the scores and the mask. -/
def scm (fac : EReal) (kk qq : FVec Ideal S1x1x256x128 .fp8e4m3) (mask : FVec Ideal S256x256 .f32) : FVec Ideal S256x256 .f32 :=
  minimumf (sc fac kk qq) (shapeCast S256x256 mask shapeCasts_S256x256_S256x256)

variable (U : ℕ → FVec Ideal S256x256 .f32)

/-- The maxima of the eight key classes over the chunks `0 … n`. -/
def mx : ℕ → FVec Ideal S8x256 .f32
  | 0 => maximumf (broadcast S8x256 (Scalar.ofBits (F := Ideal) .f32 0xFF7FFFFF#32)) (multiReduction .maximumf [0] S8x256
      (shapeCast S32x8x256 (U 0) shapeCasts_S256x256_S32x8x256) 0xFF800000#32 reduces_S32x8x256_S8x256 (.inl rfl) rfl)
  | n + 1 => maximumf (mx n) (multiReduction .maximumf [0] S8x256
      (shapeCast S32x8x256 (U (n + 1)) shapeCasts_S256x256_S32x8x256) 0xFF800000#32 reduces_S32x8x256_S8x256 (.inl rfl) rfl)

/-- A chunk's exponentials, off the class maxima `m`. -/
def ex (m : FVec Ideal S8x256 .f32) (j : ℕ) : FVec Ideal S32x8x256 .f32 :=
  exp2 (subf (shapeCast S32x8x256 (shapeCast S256x256 (shapeCast S1x256x256 (U j) shapeCasts_S256x256_S1x256x256) shapeCasts_S1x256x256_S256x256) shapeCasts_S256x256_S32x8x256)
    (broadcastTo S32x8x256 (shapeCast S1x8x256 m shapeCasts_S8x256_S1x8x256) broadcasts_S1x8x256_S32x8x256))

/-- The sums of the eight key classes over the chunks `0 … n`. -/
def sm (m : FVec Ideal S8x256 .f32) : ℕ → FVec Ideal S8x256 .f32
  | 0 => addf (broadcast S8x256 (Scalar.ofBits (F := Ideal) .f32 0x00000000#32)) (multiReduction .add [0] S8x256 (ex U m 0) 0x00000000#32 reduces_S32x8x256_S8x256 (.inl rfl) rfl)
  | n + 1 => addf (sm m n) (multiReduction .add [0] S8x256 (ex U m (n + 1)) 0x00000000#32 reduces_S32x8x256_S8x256 (.inl rfl) rfl)

/-- The columns' maxima. -/
def row (m : FVec Ideal S8x256 .f32) : FVec Ideal S1x256 .f32 :=
  shapeCast S1x256 (multiReduction .maximumf [0] S256 m 0xFF800000#32 reduces_S8x256_S256 (.inl rfl) rfl) shapeCasts_S256_S1x256

/-- The classes' factors to the columns' maxima. -/
def cw (m : FVec Ideal S8x256 .f32) : FVec Ideal S8x256 .f32 := exp2 (subf m (broadcastTo S8x256 (row m) broadcasts_S1x256_S8x256))

/-- The columns' largest probabilities. -/
def pm (m l : FVec Ideal S8x256 .f32) : FVec Ideal S1x256 .f32 :=
  divf (broadcast S1x256 (Scalar.ofBits (F := Ideal) .f32 0x3F800000#32))
    (shapeCast S1x256 (multiReduction .add [0] S256 (mulf l (cw m)) 0x00000000#32 reduces_S8x256_S256 (.inl rfl) rfl) shapeCasts_S256_S1x256)

/-- The quantiser's exponents. -/
def ee (m l : FVec Ideal S8x256 .f32) : IVec S1x256 32 :=
  addi (fptosi 32 (floor (mulf (log (mulf (pm m l) (broadcast S1x256 (Scalar.ofBits (F := Ideal) .f32 0x3B124925#32))))
    (broadcast S1x256 (Named.named (F := Ideal) κ "log2_e" 0x3FB8AA3B#32))))) (broadcast S1x256 1#32)

/-- The classes' factors from exponentials to codes. -/
def rr (m l : FVec Ideal S8x256 .f32) : FVec Ideal S8x256 .f32 :=
  minimumf (broadcast S8x256 (Scalar.ofBits (F := Ideal) .f32 0x43E00000#32)) (maximumf (broadcast S8x256 (Scalar.ofBits (F := Ideal) .f32 0xC3E00000#32))
    (mulf (broadcastTo S8x256 (mulf (pm m l) (bitcastToFloat .f32 (shli (addi (subi (broadcast S1x256 0#32) (ee m l)) (broadcast S1x256 127#32)) (broadcast S1x256 23#32)))) broadcasts_S1x256_S8x256) (cw m)))

/-- The quantiser's scales. -/
def ps (m l : FVec Ideal S8x256 .f32) : FVec Ideal S1x256 .f32 :=
  bitcastToFloat .f32 (shli (addi (ee m l) (broadcast S1x256 127#32)) (broadcast S1x256 23#32))

/-- A chunk's codes. -/
def cd (m r : FVec Ideal S8x256 .f32) (j : ℕ) : FVec Ideal S256x256 .fp8e4m3 :=
  truncf .fp8e4m3 (shapeCast S256x256 (mulf (shapeCast S32x8x256 (shapeCast S256x256 (shapeCast S1x256x256
      (shapeCast S256x256 (ex U m j) shapeCasts_S32x8x256_S256x256) shapeCasts_S256x256_S1x256x256) shapeCasts_S1x256x256_S256x256) shapeCasts_S256x256_S32x8x256)
    (broadcastTo S32x8x256 (shapeCast S1x8x256 r shapeCasts_S8x256_S1x8x256) broadcasts_S1x8x256_S32x8x256)) shapeCasts_S32x8x256_S256x256) bitsLt_fp8e4m3_f32

/-- A chunk's weighted values. -/
def wv (m r : FVec Ideal S8x256 .f32) (V : ℕ → FVec Ideal S1x1x128x256 .fp8e4m3) (j : ℕ) : FVec Ideal S128x256 .f32 :=
  matmul dot_S128x256_S256x256_S128x256_1_0_0_1_n_n none (shapeCast S128x256 (V j) shapeCasts_S1x1x128x256_S128x256) (cd U m r j) (constant S128x256 .f32 0x00000000#32)

/-- The weighted sum of values over the chunks `0 … n`. -/
def ac (m r : FVec Ideal S8x256 .f32) (V : ℕ → FVec Ideal S1x1x128x256 .fp8e4m3) : ℕ → FVec Ideal S128x256 .f32
  | 0 => wv U m r V 0
  | n + 1 => addf (ac m r V n) (wv U m r V (n + 1))

/-- The head's block of the output, from the chunks' scores and values. -/
def out (V : ℕ → FVec Ideal S1x1x128x256 .fp8e4m3) (vs : EReal) (n : ℕ) : FVec Ideal S1x256x128 .bf16 :=
  shapeCast S1x256x128 (transpose S256x128 [1, 0] (truncf .bf16 (mulf (ac U (mx U n) (rr (mx U n) (sm U (mx U n) n)) V n)
    (broadcastTo S128x256 (mulf (ps (mx U n) (sm U (mx U n) n)) (broadcast S1x256 vs)) broadcasts_S1x256_S128x256)) bitsLt_bf16_f32)
    transposes_S128x256_p1_0_S256x128) shapeCasts_S256x128_S1x256x128

/-! ### Read at an entry -/

/-- The scores of query `x` by key. -/
def col (x : Fin 256) (k : ℕ) : EReal := U (k / 256) (ix2 ⟨k % 256, Nat.mod_lt _ (by norm_num)⟩ x)

/-- The values of channel `d` by key. -/
def vcol (V : ℕ → FVec Ideal S1x1x128x256 .fp8e4m3) (d : Fin 128) (k : ℕ) : EReal :=
  V (k / 256) (ix4 0 0 d ⟨k % 256, Nat.mod_lt _ (by norm_num)⟩)

/-- The column at a key of chunk `j`. -/
theorem col_at (x : Fin 256) (j : ℕ) (c : Fin 256) : col U x (256 * j + c) = U j (ix2 c x) := by
  have h1 : (256 * j + c) / 256 = j := by omega
  have h2 : (256 * j + (c : ℕ)) % 256 = c := by omega
  unfold col
  simp only [h1, h2]

/-- The values at a key of chunk `j`. -/
theorem vcol_at (V : ℕ → FVec Ideal S1x1x128x256 .fp8e4m3) (d : Fin 128) (j : ℕ) (c : Fin 256) : vcol V d (256 * j + c) = V j (ix4 0 0 d c) := by
  have h1 : (256 * j + c) / 256 = j := by omega
  have h2 : (256 * j + (c : ℕ)) % 256 = c := by omega
  unfold vcol
  simp only [h1, h2]

/-- An entry of the unmasked scores. -/
theorem sc_at (fac : EReal) (kk qq : FVec Ideal S1x1x256x128 .fp8e4m3) (c x : Fin 256) :
    sc fac kk qq (ix2 c x) = (∑ e : Fin 128, kk (ix4 0 0 c e) * qq (ix4 0 0 x e)) * fac := by
  pointwise [sc]

/-- The column at the key in row `a` and class `b` of chunk `j`. -/
theorem key_at (x : Fin 256) (j : ℕ) (a : Fin 32) (b : Fin 8) (h : (a : ℕ) * 8 + (b : ℕ) < 256) :
    U j (ix2 ⟨(a : ℕ) * 8 + (b : ℕ), h⟩ x) = col U x (256 * j + (8 * a + b)) := by
  exact (col_at U x j ⟨(a : ℕ) * 8 + (b : ℕ), h⟩).symm.trans (congrArg (fun k => col U x (256 * j + k)) (by simp only; ring))

/-- The classes' running maxima. -/
theorem mx_at (n : ℕ) (b : Fin 8) (x : Fin 256) : mx U n (ix2 b x) = kM (col U x) b n := by
  induction n with
  | zero => pointwise [mx]; simp only [key_at, ofBits_ninf]; rfl
  | succ n ih => pointwise [mx]; simp only [key_at, ofBits_ninf, ih]; rfl

/-- The exponentials against a class's maximum. -/
theorem ex_at (m : FVec Ideal S8x256 .f32) (j : ℕ) (a : Fin 32) (b : Fin 8) (x : Fin 256) :
    ex U m j (ix3 a b x) = Ideal.exp2 (col U x (256 * j + (8 * a + b)) - m (ix2 b x)) := by
  pointwise [ex]; simp only [key_at]; rfl

/-- The classes' running sums. -/
theorem sm_at (m : FVec Ideal S8x256 .f32) (n : ℕ) (b : Fin 8) (x : Fin 256) :
    sm U m n (ix2 b x) = kL (col U x) b (m (ix2 b x)) n := by
  induction n with
  | zero => pointwise [sm]; simp only [ex_at, kL, zero_add]
  | succ n ih => pointwise [sm]; simp only [ex_at, ih]; rfl

/-- A query's maximum over its classes. -/
theorem row_at (n : ℕ) (x : Fin 256) : row (mx U n) (ix2 0 x) = kRow (col U x) n := by
  pointwise [row]; simp only [mx_at, ofBits_ninf]; rfl

/-- A class's weight against the query's maximum. -/
theorem cw_at (n : ℕ) (b : Fin 8) (x : Fin 256) : cw (mx U n) (ix2 b x) = kW (col U x) n b := by
  pointwise [cw]; simp only [mx_at, row_at]; rfl

/-- The largest probability of a query. -/
theorem pm_at (n : ℕ) (x : Fin 256) : pm (mx U n) (sm U (mx U n) n) (ix2 0 x) = kP (col U x) n := by
  pointwise [pm]; simp only [sm_at, cw_at, mx_at]; rfl

/-- The named constant is `1 / log 2`. -/
theorem log2_e : (Named.named κ "log2_e" 0x3FB8AA3B#32 : Ideal .f32) = (((Real.log 2)⁻¹ : ℝ) : EReal) :=
  IdealRules.named_const.ideal_named_scalar _ _ _ _ rfl

/-- The word whose bits are a power of two. -/
theorem shl_bits (a : BitVec 32) : IntOp.shli .vector (IntOp.addi a 127#32) 23#32 = (a + 127#32) <<< (23#32) := rfl

/-- The quantiser's exponent. -/
theorem ee_at (n : ℕ) (x : Fin 256) : ee (mx U n) (sm U (mx U n) n) (ix2 0 x) = kE (col U x) n := by
  pointwise [ee]; simp only [pm_at, log2_e]; rfl

/-- A class's factor from exponentials to codes. -/
theorem rr_at (n : ℕ) (b : Fin 8) (x : Fin 256) : rr (mx U n) (sm U (mx U n) n) (ix2 b x) = kR (col U x) n b := by
  pointwise [rr]; simp only [pm_at, ee_at, cw_at, shl_bits]; rfl

/-- The quantiser's scale. -/
theorem ps_at (n : ℕ) (x : Fin 256) : ps (mx U n) (sm U (mx U n) n) (ix2 0 x) = Ideal.ofBits .f32 ((kE (col U x) n + 127#32) <<< (23#32)) := by
  pointwise [ps]; simp only [ee_at, shl_bits]

/-- The codes of a chunk. -/
theorem cd_at (n j : ℕ) (c x : Fin 256) : cd U (mx U n) (rr (mx U n) (sm U (mx U n) n)) j (ix2 c x) = kCode (col U x) n (256 * j + c) := by
  have h8 : (256 * j + (c : ℕ)) % 8 = c % 8 := by omega
  have h9 : 8 * ((c : ℕ) / 8) + c % 8 = c := by omega
  pointwise [cd]; simp only [ex_at, rr_at, mx_at, kCode, h8, h9]

/-- The codes' products with the values, accumulated over the chunks. -/
theorem ac_at (V : ℕ → FVec Ideal S1x1x128x256 .fp8e4m3) (n m : ℕ) (d : Fin 128) (x : Fin 256) :
    ac U (mx U n) (rr (mx U n) (sm U (mx U n) n)) V m (ix2 d x) = kAcc (col U x) (vcol V d) n m := by
  induction m with
  | zero => pointwise [ac, wv]; simp only [cd_at, ← vcol_at]; rfl
  | succ m ih => pointwise [ac, wv]; simp only [cd_at, ih, ← vcol_at]; rfl

/-- The head's block at an entry: the kernel's column. -/
theorem out_at (V : ℕ → FVec Ideal S1x1x128x256 .fp8e4m3) (vs : EReal) (n : ℕ) (x : Fin 256) (d : Fin 128) :
    out U V vs n (ix3 0 x d) = kOut (col U x) (vcol V d) vs n := by
  pointwise [out]; simp only [ac_at, ps_at]; rfl

end Cert.KernelIdeal.Head

end
-- ==== Proof.Chunks.lean ====
/- The chunks of the key and value blocks, the scores of a head's chunks, and what the kernel's loads
   of its scratch buffer read. -/
module

public import proofs.«01_k».proof.Proof.Head
public import Idealize.ShloMosaic.Lib.Pipeline.Kit

@[expose] public section

noncomputable section

namespace Cert.KernelIdeal.Head

open Idealize.ShloMosaic Idealize.ShloMosaic.Tactic Cert.KernelIdeal Cert.KernelIdeal.Gen

/-- Chunk `j` of a key block. -/
def kch (x : FVec Ideal S1x1x2304x128 .fp8e4m3) (j : ℕ) : FVec Ideal S1x1x256x128 .fp8e4m3 :=
  fun i => x (ix4 0 0 ⟨(256 * j + (i 2).val) % 2304, Nat.mod_lt _ (by norm_num)⟩ ⟨(i 3).val, (i 3).isLt⟩)

/-- Chunk `j` of a transposed value block. -/
def vch (x : FVec Ideal S1x1x128x2304 .fp8e4m3) (j : ℕ) : FVec Ideal S1x1x128x256 .fp8e4m3 :=
  fun i => x (ix4 0 0 ⟨(i 2).val, (i 2).isLt⟩ ⟨(256 * j + (i 3).val) % 2304, Nat.mod_lt _ (by norm_num)⟩)

/-- The scores of chunk `j`, the last of `n + 1` masked. -/
def chunks (fac : EReal) (K : ℕ → FVec Ideal S1x1x256x128 .fp8e4m3) (Q : FVec Ideal S1x1x256x128 .fp8e4m3) (mask : FVec Ideal S256x256 .f32) (n j : ℕ) :
    FVec Ideal S256x256 .f32 :=
  if j = n then scm fac (K j) Q mask else sc fac (K j) Q

/-- The last chunk is masked. -/
theorem chunks_last (fac : EReal) (K : ℕ → FVec Ideal S1x1x256x128 .fp8e4m3) (Q : FVec Ideal S1x1x256x128 .fp8e4m3) (mask : FVec Ideal S256x256 .f32) (n : ℕ) :
    chunks fac K Q mask n n = scm fac (K n) Q mask := if_pos rfl

/-- An earlier chunk is not. -/
theorem chunks_lt (fac : EReal) (K : ℕ → FVec Ideal S1x1x256x128 .fp8e4m3) (Q : FVec Ideal S1x1x256x128 .fp8e4m3) (mask : FVec Ideal S256x256 .f32) {n j : ℕ} (h : j < n) :
    chunks fac K Q mask n j = sc fac (K j) Q := if_neg (Nat.ne_of_lt h)

/-- The factor of a head's scores. -/
def facOf (qs ks : Ideal .f32) : Ideal .f32 :=
  Scalar.mulf (Scalar.mulf (Scalar.mulf (φ := .f32) qs ks) (FloatOps.ofBits (F := Ideal) .f32 0x3DB504F3#32))
    (Named.named (F := Ideal) (φ := .f32) κ "log2_e" 0x3FB8AA3B#32)

variable {sig' : RefSig} {κ' : Kind} {sp : Space}

/-- A load of 256 keys at a chunk's offset reads that chunk. -/
theorem kld (j o : ℕ) (h : o = 256 * j) (hj : j < 9) (v : View sig' κ' sp S1x1x2304x128 .fp8e4m3) (X : BufTy.Contents (Elt Ideal) v.ty)
    (inb : ∀ a, (![0, 0, o, 0] : Fin 4 → ℕ) a + S1x1x256x128.size a ≤ S1x1x2304x128.size a) :
    v.readAt (Elt Ideal) (Rect.unit (s := S1x1x2304x128) ![0, 0, o, 0] S1x1x256x128.size inb).toLoadRect X = kch (v.read (Elt Ideal) X) j := by
  subst h
  rw [View.readAt_eq_ld]
  funext i
  refine congrArg (v.read (Elt Ideal) X) (funext fun a => Fin.ext ?_)
  have h2 : (i 2).val < 256 := (i 2).isLt
  have h0 : (i 0).val < 1 := (i 0).isLt
  have h1 : (i 1).val < 1 := (i 1).isLt
  fin_cases a
  · show 0 + 1 * (i 0).val = 0
    omega
  · show 0 + 1 * (i 1).val = 0
    omega
  · show 256 * j + 1 * (i 2).val = (256 * j + (i 2).val) % 2304
    omega
  · show 0 + 1 * (i 3).val = (i 3).val
    omega

/-- A load of 256 values at a chunk's offset reads that chunk. -/
theorem vld (j o : ℕ) (h : o = 256 * j) (hj : j < 9) (v : View sig' κ' sp S1x1x128x2304 .fp8e4m3) (X : BufTy.Contents (Elt Ideal) v.ty)
    (inb : ∀ a, (![0, 0, 0, o] : Fin 4 → ℕ) a + S1x1x128x256.size a ≤ S1x1x128x2304.size a) :
    v.readAt (Elt Ideal) (Rect.unit (s := S1x1x128x2304) ![0, 0, 0, o] S1x1x128x256.size inb).toLoadRect X = vch (v.read (Elt Ideal) X) j := by
  subst h
  rw [View.readAt_eq_ld]
  funext i
  refine congrArg (v.read (Elt Ideal) X) (funext fun a => Fin.ext ?_)
  have h3 : (i 3).val < 256 := (i 3).isLt
  have h0 : (i 0).val < 1 := (i 0).isLt
  have h1 : (i 1).val < 1 := (i 1).isLt
  fin_cases a
  · show 0 + 1 * (i 0).val = 0
    omega
  · show 0 + 1 * (i 1).val = 0
    omega
  · show 0 + 1 * (i 2).val = (i 2).val
    omega
  · show 256 * j + 1 * (i 3).val = (256 * j + (i 3).val) % 2304
    omega

/-- A load of the whole mask reads the mask. -/
theorem mld (v : View sig' κ' sp S256x256 .f32) (X : BufTy.Contents (Elt Ideal) v.ty)
    (inb : ∀ a, (![0, 0] : Fin 2 → ℕ) a + S256x256.size a ≤ S256x256.size a) :
    v.readAt (Elt Ideal) (Rect.unit (s := S256x256) ![0, 0] (no_index S256x256.size) inb).toLoadRect X = v.read (Elt Ideal) X := by
  rw [View.readAt_eq_ld]
  funext i
  refine congrArg (v.read (Elt Ideal) X) (funext fun a => Fin.ext ?_)
  fin_cases a
  · show 0 + 1 * (i 0).val = (i 0).val
    omega
  · show 0 + 1 * (i 1).val = (i 1).val
    omega

/-- Head `o` of a block of query codes. -/
def hd (x : FVec Ideal S1x10x256x128 .fp8e4m3) (o : ℕ) : FVec Ideal S1x1x256x128 .fp8e4m3 :=
  fun i => x (ix4 0 ⟨o % 10, Nat.mod_lt _ (by norm_num)⟩ ⟨(i 2).val, (i 2).isLt⟩ ⟨(i 3).val, (i 3).isLt⟩)

/-- The scale at an offset of the query scales. -/
def at2 (x : FVec Ideal S2x60 .f32) (o : Fin 2 → ℕ) : Ideal .f32 := x (ix2 ⟨o 0 % 2, Nat.mod_lt _ (by norm_num)⟩ ⟨o 1 % 60, Nat.mod_lt _ (by norm_num)⟩)

/-- A load of one head's queries reads that head. -/
theorem qld (v : View sig' κ' sp S1x10x256x128 .fp8e4m3) (X : BufTy.Contents (Elt Ideal) v.ty) (o : Fin 4 → ℕ)
    (inb : ∀ a, o a + S1x1x256x128.size a ≤ S1x10x256x128.size a) :
    v.readAt (Elt Ideal) (Rect.unit (s := S1x10x256x128) o (no_index S1x1x256x128.size) inb).toLoadRect X = hd (v.read (Elt Ideal) X) (o 1) := by
  rw [View.readAt_eq_ld]
  funext i
  refine congrArg (v.read (Elt Ideal) X) (funext fun a => Fin.ext ?_)
  have h0 : (i 0).val < 1 := (i 0).isLt
  have h1 : (i 1).val < 1 := (i 1).isLt
  have b0 : o 0 + 1 ≤ 1 := inb 0
  have b1 : o 1 + 1 ≤ 10 := inb 1
  have b2 : o 2 + 256 ≤ 256 := inb 2
  have b3 : o 3 + 128 ≤ 128 := inb 3
  fin_cases a
  · show o 0 + 1 * (i 0).val = 0
    omega
  · show o 1 + 1 * (i 1).val = o 1 % 10
    omega
  · show o 2 + 1 * (i 2).val = (i 2).val
    omega
  · show o 3 + 1 * (i 3).val = (i 3).val
    omega

/-- A load of one query scale reads it. -/
theorem sld (v : View sig' κ' sp S2x60 .f32) (X : BufTy.Contents (Elt Ideal) v.ty) (o : Fin 2 → ℕ)
    (inb : ∀ a, o a + S1x1.size a ≤ S2x60.size a) (j : (Rect.unit (s := S2x60) o (no_index S1x1.size) inb).toLoadRect.shape.Idx) :
    v.readAt (Elt Ideal) (Rect.unit (s := S2x60) o (no_index S1x1.size) inb).toLoadRect X j = at2 (v.read (Elt Ideal) X) o := by
  rw [View.readAt_eq_ld]
  refine congrArg (v.read (Elt Ideal) X) (funext fun a => Fin.ext ?_)
  have h0 : (j 0).val < 1 := (j 0).isLt
  have h1 : (j 1).val < 1 := (j 1).isLt
  have b0 : o 0 + 1 ≤ 2 := inb 0
  have b1 : o 1 + 1 ≤ 60 := inb 1
  fin_cases a
  · show o 0 + 1 * (j 0).val = o 0 % 2
    omega
  · show o 1 + 1 * (j 1).val = o 1 % 60
    omega

/-- A load of a scratch chunk just stored reads what was stored. -/
theorem scr_hit (v : View sig' κ' sp S2x2304x256 .f32) (o : Fin 3 → ℕ) (inb inb' : ∀ x, o x + S1x256x256.size x ≤ S2x2304x256.size x)
    (w : (Rect.unit (s := S2x2304x256) o (no_index S1x256x256.size) inb).shape.Idx → Elt Ideal .f32) (L : List (View.Piece (Elt Ideal) S2x2304x256 .f32)) :
    v.readCov (⟨Rect.unit (s := S2x2304x256) o (no_index S1x256x256.size) inb, w⟩ :: L) (Rect.unit (s := S2x2304x256) o (no_index S1x256x256.size) inb').toLoadRect = w :=
  View.readCov_cons_toLoadRect v (Rect.unit (s := S2x2304x256) o S1x256x256.size inb) w L

/-- A load of a scratch chunk passes by a store of another chunk. -/
theorem scr_miss (v : View sig' κ' sp S2x2304x256 .f32) (a b : ℕ) (inb : ∀ x, (![0, a, 0] : Fin 3 → ℕ) x + S1x256x256.size x ≤ S2x2304x256.size x)
    (inb' : ∀ x, (![0, b, 0] : Fin 3 → ℕ) x + S1x256x256.size x ≤ S2x2304x256.size x)
    (w : (Rect.unit (s := S2x2304x256) ![0, a, 0] (no_index S1x256x256.size) inb).shape.Idx → Elt Ideal .f32) (L : List (View.Piece (Elt Ideal) S2x2304x256 .f32)) (h : a + 256 ≤ b ∨ b + 256 ≤ a) :
    v.readCov (⟨Rect.unit (s := S2x2304x256) ![0, a, 0] (no_index S1x256x256.size) inb, w⟩ :: L) (Rect.unit (s := S2x2304x256) ![0, b, 0] (no_index S1x256x256.size) inb').toLoadRect
      = v.readCov L (Rect.unit (s := S2x2304x256) ![0, b, 0] (no_index S1x256x256.size) inb').toLoadRect :=
  View.readCov_cons_of_disjoint v _ L _ (Rect.unit_disjoint (inb := inb) (inb' := inb') 1 h)

end Cert.KernelIdeal.Head

end
-- ==== Proof.Trips.lean ====
/- What a trip of the kernel's loop over heads stores, for each of the nine numbers of key chunks. -/
module

public import proofs.«01_k».proof.Proof.Gen.KernelIdeal.Loops
public import proofs.«01_k».proof.Proof.Chunks

@[expose] public section

noncomputable section

namespace Cert.KernelIdeal.Head

open Idealize.ShloMosaic Idealize.ShloMosaic.TcCoe Idealize.ShloMosaic.Tactic Cert.KernelIdeal Cert.KernelIdeal.Gen

variable (𝒱 : Variants) (c : Dev nD) (bd : Option 𝒱.V) (i : grid0.Coords)
  (arg3 : Memref sig .tc .smem S2x60 .f32) (harg3 : arg3.IsWhole) (arg4 : Memref sig .tc .smem S2x6 .f32) (harg4 : arg4.IsWhole)
  (arg5 : Memref sig .tc .smem S2x6 .f32) (harg5 : arg5.IsWhole) (arg6 : Memref sig .tc .vmem S1x10x256x128 .fp8e4m3) (harg6 : arg6.IsWhole)
  (arg7 : Memref sig .tc .vmem S1x1x2304x128 .fp8e4m3) (harg7 : arg7.IsWhole) (arg8 : Memref sig .tc .vmem S1x1x128x2304 .fp8e4m3) (harg8 : arg8.IsWhole)
  (arg9 : Memref sig .tc .vmem S256x256 .f32) (harg9 : arg9.IsWhole) (arg10 : Memref sig .tc .vmem S1x256x1280 .bf16) (harg10 : arg10.IsWhole)
  (arg11 : Memref sig .tc .vmem S2x2304x256 .f32) (harg11 : arg11.IsWhole) (arg12 : Memref sig .tc .vmem S8x256 .f32) (harg12 : arg12.IsWhole)
  (arg0 arg1 : BitVec 32) (v2 v5 : Elt Ideal .f32)
  (X3 : BufTy.Contents (Elt Ideal) arg3.view.ty) (X6 : BufTy.Contents (Elt Ideal) arg6.view.ty) (X7 : BufTy.Contents (Elt Ideal) arg7.view.ty)
  (X8 : BufTy.Contents (Elt Ideal) arg8.view.ty) (X9 : BufTy.Contents (Elt Ideal) arg9.view.ty)
  (G : BufTy.Contents (Elt Ideal) arg10.view.ty) (H : BufTy.Contents (Elt Ideal) arg11.view.ty)

set_option maxRecDepth 100000 in
set_option maxHeartbeats 2000000 in
/-- A trip of loop 1 stores the head's block: the block of 1 chunk, the last one masked. -/
theorem trip1 (h : k0_cond1 i = 1#1) (k : Fin k0_t1_loop.trips) :
    (tripL_k0_t1 (F := Ideal) 𝒱 c bd i arg3 harg3 arg4 harg4 arg5 harg5 arg6 harg6 arg7 harg7 arg8 harg8 arg9 harg9 arg10 harg10 arg11 harg11 arg12 harg12 arg0 arg1 v2 v5 h X3 X6 X7 X8 X9 k G H).1 =
      [⟨Rect.unit (s := S1x256x1280) (k0_off4 k) S1x256x128.size (k0_off4_inb i k h),
        out (chunks (facOf (at2 (arg3.view.read (Elt Ideal) X3) (k0_off2 i k)) v2)
          (kch (arg7.view.read (Elt Ideal) X7)) (hd (arg6.view.read (Elt Ideal) X6) (k0_off3 k 1))
          (arg9.view.read (Elt Ideal) X9) 0) (vch (arg8.view.read (Elt Ideal) X8)) v5 0⟩] := by
  unfold tripL_k0_t1 trip_k0_t1
  dsimp only
  sl_unfold_run_names
  simp (disch := decide) only [scr_hit, scr_miss, kld 0 0 rfl (by decide), vld 0 0 rfl (by decide), mld, qld, sld]
  simp only [k0_pay2, k0_pay3, k0_pay4, k0_pay5, k0_pay6, k0_pay7, k0_pay8, k0_pay9, k0_pay10, k0_pay11, k0_pay12, k0_pay13, k0_pay337]
  simp only [out, ac, mx, sm, rr, ps, ee, wv, cd, pm, cw, row, ex, chunks_last, sc, scm, facOf]

set_option maxRecDepth 100000 in
set_option maxHeartbeats 2000000 in
/-- A trip of loop 2 stores the head's block: the block of 2 chunks, the last one masked. -/
theorem trip2 (h : k0_cond2 i = 1#1) (k : Fin k0_t2_loop.trips) :
    (tripL_k0_t2 (F := Ideal) 𝒱 c bd i arg3 harg3 arg4 harg4 arg5 harg5 arg6 harg6 arg7 harg7 arg8 harg8 arg9 harg9 arg10 harg10 arg11 harg11 arg12 harg12 arg0 arg1 v2 v5 h X3 X6 X7 X8 X9 k G H).1 =
      [⟨Rect.unit (s := S1x256x1280) (k0_off7 k) S1x256x128.size (k0_off7_inb i k h),
        out (chunks (facOf (at2 (arg3.view.read (Elt Ideal) X3) (k0_off5 i k)) v2)
          (kch (arg7.view.read (Elt Ideal) X7)) (hd (arg6.view.read (Elt Ideal) X6) (k0_off6 k 1))
          (arg9.view.read (Elt Ideal) X9) 1) (vch (arg8.view.read (Elt Ideal) X8)) v5 1⟩] := by
  unfold tripL_k0_t2 trip_k0_t2
  dsimp only
  sl_unfold_run_names
  simp (disch := decide) only [scr_hit, scr_miss, kld 0 0 rfl (by decide), vld 0 0 rfl (by decide), kld 1 256 rfl (by decide), vld 1 256 rfl (by decide), mld, qld, sld]
  simp only [k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay338]
  simp only [out, ac, mx, sm, rr, ps, ee, wv, cd, pm, cw, row, ex, chunks_last, chunks_lt _ _ _ _ (show 0 < 1 by decide), sc, scm, facOf]

set_option maxRecDepth 100000 in
set_option maxHeartbeats 2000000 in
/-- A trip of loop 3 stores the head's block: the block of 3 chunks, the last one masked. -/
theorem trip3 (h : k0_cond3 i = 1#1) (k : Fin k0_t3_loop.trips) :
    (tripL_k0_t3 (F := Ideal) 𝒱 c bd i arg3 harg3 arg4 harg4 arg5 harg5 arg6 harg6 arg7 harg7 arg8 harg8 arg9 harg9 arg10 harg10 arg11 harg11 arg12 harg12 arg0 arg1 v2 v5 h X3 X6 X7 X8 X9 k G H).1 =
      [⟨Rect.unit (s := S1x256x1280) (k0_off10 k) S1x256x128.size (k0_off10_inb i k h),
        out (chunks (facOf (at2 (arg3.view.read (Elt Ideal) X3) (k0_off8 i k)) v2)
          (kch (arg7.view.read (Elt Ideal) X7)) (hd (arg6.view.read (Elt Ideal) X6) (k0_off9 k 1))
          (arg9.view.read (Elt Ideal) X9) 2) (vch (arg8.view.read (Elt Ideal) X8)) v5 2⟩] := by
  unfold tripL_k0_t3 trip_k0_t3
  dsimp only
  sl_unfold_run_names
  simp (disch := decide) only [scr_hit, scr_miss, kld 0 0 rfl (by decide), vld 0 0 rfl (by decide), kld 1 256 rfl (by decide), vld 1 256 rfl (by decide), kld 2 512 rfl (by decide), vld 2 512 rfl (by decide), mld, qld, sld]
  simp only [k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay339]
  simp only [out, ac, mx, sm, rr, ps, ee, wv, cd, pm, cw, row, ex, chunks_last, chunks_lt _ _ _ _ (show 0 < 2 by decide), chunks_lt _ _ _ _ (show 1 < 2 by decide), sc, scm, facOf]

set_option maxRecDepth 100000 in
set_option maxHeartbeats 2000000 in
/-- A trip of loop 4 stores the head's block: the block of 4 chunks, the last one masked. -/
theorem trip4 (h : k0_cond4 i = 1#1) (k : Fin k0_t4_loop.trips) :
    (tripL_k0_t4 (F := Ideal) 𝒱 c bd i arg3 harg3 arg4 harg4 arg5 harg5 arg6 harg6 arg7 harg7 arg8 harg8 arg9 harg9 arg10 harg10 arg11 harg11 arg12 harg12 arg0 arg1 v2 v5 h X3 X6 X7 X8 X9 k G H).1 =
      [⟨Rect.unit (s := S1x256x1280) (k0_off13 k) S1x256x128.size (k0_off13_inb i k h),
        out (chunks (facOf (at2 (arg3.view.read (Elt Ideal) X3) (k0_off11 i k)) v2)
          (kch (arg7.view.read (Elt Ideal) X7)) (hd (arg6.view.read (Elt Ideal) X6) (k0_off12 k 1))
          (arg9.view.read (Elt Ideal) X9) 3) (vch (arg8.view.read (Elt Ideal) X8)) v5 3⟩] := by
  unfold tripL_k0_t4 trip_k0_t4
  dsimp only
  sl_unfold_run_names
  simp (disch := decide) only [scr_hit, scr_miss, kld 0 0 rfl (by decide), vld 0 0 rfl (by decide), kld 1 256 rfl (by decide), vld 1 256 rfl (by decide), kld 2 512 rfl (by decide), vld 2 512 rfl (by decide), kld 3 768 rfl (by decide), vld 3 768 rfl (by decide), mld, qld, sld]
  simp only [k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay340]
  simp only [out, ac, mx, sm, rr, ps, ee, wv, cd, pm, cw, row, ex, chunks_last, chunks_lt _ _ _ _ (show 0 < 3 by decide), chunks_lt _ _ _ _ (show 1 < 3 by decide), chunks_lt _ _ _ _ (show 2 < 3 by decide), sc, scm, facOf]

set_option maxRecDepth 100000 in
set_option maxHeartbeats 2000000 in
/-- A trip of loop 5 stores the head's block: the block of 5 chunks, the last one masked. -/
theorem trip5 (h : k0_cond5 i = 1#1) (k : Fin k0_t5_loop.trips) :
    (tripL_k0_t5 (F := Ideal) 𝒱 c bd i arg3 harg3 arg4 harg4 arg5 harg5 arg6 harg6 arg7 harg7 arg8 harg8 arg9 harg9 arg10 harg10 arg11 harg11 arg12 harg12 arg0 arg1 v2 v5 h X3 X6 X7 X8 X9 k G H).1 =
      [⟨Rect.unit (s := S1x256x1280) (k0_off16 k) S1x256x128.size (k0_off16_inb i k h),
        out (chunks (facOf (at2 (arg3.view.read (Elt Ideal) X3) (k0_off14 i k)) v2)
          (kch (arg7.view.read (Elt Ideal) X7)) (hd (arg6.view.read (Elt Ideal) X6) (k0_off15 k 1))
          (arg9.view.read (Elt Ideal) X9) 4) (vch (arg8.view.read (Elt Ideal) X8)) v5 4⟩] := by
  unfold tripL_k0_t5 trip_k0_t5
  dsimp only
  sl_unfold_run_names
  simp (disch := decide) only [scr_hit, scr_miss, kld 0 0 rfl (by decide), vld 0 0 rfl (by decide), kld 1 256 rfl (by decide), vld 1 256 rfl (by decide), kld 2 512 rfl (by decide), vld 2 512 rfl (by decide), kld 3 768 rfl (by decide), vld 3 768 rfl (by decide), kld 4 1024 rfl (by decide), vld 4 1024 rfl (by decide), mld, qld, sld]
  simp only [k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay341]
  simp only [out, ac, mx, sm, rr, ps, ee, wv, cd, pm, cw, row, ex, chunks_last, chunks_lt _ _ _ _ (show 0 < 4 by decide), chunks_lt _ _ _ _ (show 1 < 4 by decide), chunks_lt _ _ _ _ (show 2 < 4 by decide), chunks_lt _ _ _ _ (show 3 < 4 by decide), sc, scm, facOf]

set_option maxRecDepth 100000 in
set_option maxHeartbeats 2000000 in
/-- A trip of loop 6 stores the head's block: the block of 6 chunks, the last one masked. -/
theorem trip6 (h : k0_cond6 i = 1#1) (k : Fin k0_t6_loop.trips) :
    (tripL_k0_t6 (F := Ideal) 𝒱 c bd i arg3 harg3 arg4 harg4 arg5 harg5 arg6 harg6 arg7 harg7 arg8 harg8 arg9 harg9 arg10 harg10 arg11 harg11 arg12 harg12 arg0 arg1 v2 v5 h X3 X6 X7 X8 X9 k G H).1 =
      [⟨Rect.unit (s := S1x256x1280) (k0_off19 k) S1x256x128.size (k0_off19_inb i k h),
        out (chunks (facOf (at2 (arg3.view.read (Elt Ideal) X3) (k0_off17 i k)) v2)
          (kch (arg7.view.read (Elt Ideal) X7)) (hd (arg6.view.read (Elt Ideal) X6) (k0_off18 k 1))
          (arg9.view.read (Elt Ideal) X9) 5) (vch (arg8.view.read (Elt Ideal) X8)) v5 5⟩] := by
  unfold tripL_k0_t6 trip_k0_t6
  dsimp only
  sl_unfold_run_names
  simp (disch := decide) only [scr_hit, scr_miss, kld 0 0 rfl (by decide), vld 0 0 rfl (by decide), kld 1 256 rfl (by decide), vld 1 256 rfl (by decide), kld 2 512 rfl (by decide), vld 2 512 rfl (by decide), kld 3 768 rfl (by decide), vld 3 768 rfl (by decide), kld 4 1024 rfl (by decide), vld 4 1024 rfl (by decide), kld 5 1280 rfl (by decide), vld 5 1280 rfl (by decide), mld, qld, sld]
  simp only [k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay342]
  simp only [out, ac, mx, sm, rr, ps, ee, wv, cd, pm, cw, row, ex, chunks_last, chunks_lt _ _ _ _ (show 0 < 5 by decide), chunks_lt _ _ _ _ (show 1 < 5 by decide), chunks_lt _ _ _ _ (show 2 < 5 by decide), chunks_lt _ _ _ _ (show 3 < 5 by decide), chunks_lt _ _ _ _ (show 4 < 5 by decide), sc, scm, facOf]

set_option maxRecDepth 100000 in
set_option maxHeartbeats 2000000 in
/-- A trip of loop 7 stores the head's block: the block of 7 chunks, the last one masked. -/
theorem trip7 (h : k0_cond7 i = 1#1) (k : Fin k0_t7_loop.trips) :
    (tripL_k0_t7 (F := Ideal) 𝒱 c bd i arg3 harg3 arg4 harg4 arg5 harg5 arg6 harg6 arg7 harg7 arg8 harg8 arg9 harg9 arg10 harg10 arg11 harg11 arg12 harg12 arg0 arg1 v2 v5 h X3 X6 X7 X8 X9 k G H).1 =
      [⟨Rect.unit (s := S1x256x1280) (k0_off22 k) S1x256x128.size (k0_off22_inb i k h),
        out (chunks (facOf (at2 (arg3.view.read (Elt Ideal) X3) (k0_off20 i k)) v2)
          (kch (arg7.view.read (Elt Ideal) X7)) (hd (arg6.view.read (Elt Ideal) X6) (k0_off21 k 1))
          (arg9.view.read (Elt Ideal) X9) 6) (vch (arg8.view.read (Elt Ideal) X8)) v5 6⟩] := by
  unfold tripL_k0_t7 trip_k0_t7
  dsimp only
  sl_unfold_run_names
  simp (disch := decide) only [scr_hit, scr_miss, kld 0 0 rfl (by decide), vld 0 0 rfl (by decide), kld 1 256 rfl (by decide), vld 1 256 rfl (by decide), kld 2 512 rfl (by decide), vld 2 512 rfl (by decide), kld 3 768 rfl (by decide), vld 3 768 rfl (by decide), kld 4 1024 rfl (by decide), vld 4 1024 rfl (by decide), kld 5 1280 rfl (by decide), vld 5 1280 rfl (by decide), kld 6 1536 rfl (by decide), vld 6 1536 rfl (by decide), mld, qld, sld]
  simp only [k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay343]
  simp only [out, ac, mx, sm, rr, ps, ee, wv, cd, pm, cw, row, ex, chunks_last, chunks_lt _ _ _ _ (show 0 < 6 by decide), chunks_lt _ _ _ _ (show 1 < 6 by decide), chunks_lt _ _ _ _ (show 2 < 6 by decide), chunks_lt _ _ _ _ (show 3 < 6 by decide), chunks_lt _ _ _ _ (show 4 < 6 by decide), chunks_lt _ _ _ _ (show 5 < 6 by decide), sc, scm, facOf]

set_option maxRecDepth 100000 in
set_option maxHeartbeats 2000000 in
/-- A trip of loop 8 stores the head's block: the block of 8 chunks, the last one masked. -/
theorem trip8 (h : k0_cond8 i = 1#1) (k : Fin k0_t8_loop.trips) :
    (tripL_k0_t8 (F := Ideal) 𝒱 c bd i arg3 harg3 arg4 harg4 arg5 harg5 arg6 harg6 arg7 harg7 arg8 harg8 arg9 harg9 arg10 harg10 arg11 harg11 arg12 harg12 arg0 arg1 v2 v5 h X3 X6 X7 X8 X9 k G H).1 =
      [⟨Rect.unit (s := S1x256x1280) (k0_off25 k) S1x256x128.size (k0_off25_inb i k h),
        out (chunks (facOf (at2 (arg3.view.read (Elt Ideal) X3) (k0_off23 i k)) v2)
          (kch (arg7.view.read (Elt Ideal) X7)) (hd (arg6.view.read (Elt Ideal) X6) (k0_off24 k 1))
          (arg9.view.read (Elt Ideal) X9) 7) (vch (arg8.view.read (Elt Ideal) X8)) v5 7⟩] := by
  unfold tripL_k0_t8 trip_k0_t8
  dsimp only
  sl_unfold_run_names
  simp (disch := decide) only [scr_hit, scr_miss, kld 0 0 rfl (by decide), vld 0 0 rfl (by decide), kld 1 256 rfl (by decide), vld 1 256 rfl (by decide), kld 2 512 rfl (by decide), vld 2 512 rfl (by decide), kld 3 768 rfl (by decide), vld 3 768 rfl (by decide), kld 4 1024 rfl (by decide), vld 4 1024 rfl (by decide), kld 5 1280 rfl (by decide), vld 5 1280 rfl (by decide), kld 6 1536 rfl (by decide), vld 6 1536 rfl (by decide), kld 7 1792 rfl (by decide), vld 7 1792 rfl (by decide), mld, qld, sld]
  simp only [k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay344]
  simp only [out, ac, mx, sm, rr, ps, ee, wv, cd, pm, cw, row, ex, chunks_last, chunks_lt _ _ _ _ (show 0 < 7 by decide), chunks_lt _ _ _ _ (show 1 < 7 by decide), chunks_lt _ _ _ _ (show 2 < 7 by decide), chunks_lt _ _ _ _ (show 3 < 7 by decide), chunks_lt _ _ _ _ (show 4 < 7 by decide), chunks_lt _ _ _ _ (show 5 < 7 by decide), chunks_lt _ _ _ _ (show 6 < 7 by decide), sc, scm, facOf]

set_option maxRecDepth 100000 in
set_option maxHeartbeats 2000000 in
/-- A trip of loop 9 stores the head's block: the block of 9 chunks, the last one masked. -/
theorem trip9 (h : k0_cond9 i = 1#1) (k : Fin k0_t9_loop.trips) :
    (tripL_k0_t9 (F := Ideal) 𝒱 c bd i arg3 harg3 arg4 harg4 arg5 harg5 arg6 harg6 arg7 harg7 arg8 harg8 arg9 harg9 arg10 harg10 arg11 harg11 arg12 harg12 arg0 arg1 v2 v5 h X3 X6 X7 X8 X9 k G H).1 =
      [⟨Rect.unit (s := S1x256x1280) (k0_off28 k) S1x256x128.size (k0_off28_inb i k h),
        out (chunks (facOf (at2 (arg3.view.read (Elt Ideal) X3) (k0_off26 i k)) v2)
          (kch (arg7.view.read (Elt Ideal) X7)) (hd (arg6.view.read (Elt Ideal) X6) (k0_off27 k 1))
          (arg9.view.read (Elt Ideal) X9) 8) (vch (arg8.view.read (Elt Ideal) X8)) v5 8⟩] := by
  unfold tripL_k0_t9 trip_k0_t9
  dsimp only
  sl_unfold_run_names
  simp (disch := decide) only [scr_hit, scr_miss, kld 0 0 rfl (by decide), vld 0 0 rfl (by decide), kld 1 256 rfl (by decide), vld 1 256 rfl (by decide), kld 2 512 rfl (by decide), vld 2 512 rfl (by decide), kld 3 768 rfl (by decide), vld 3 768 rfl (by decide), kld 4 1024 rfl (by decide), vld 4 1024 rfl (by decide), kld 5 1280 rfl (by decide), vld 5 1280 rfl (by decide), kld 6 1536 rfl (by decide), vld 6 1536 rfl (by decide), kld 7 1792 rfl (by decide), vld 7 1792 rfl (by decide), kld 8 2048 rfl (by decide), vld 8 2048 rfl (by decide), mld, qld, sld]
  simp only [k0_pay1, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336]
  simp only [out, ac, mx, sm, rr, ps, ee, wv, cd, pm, cw, row, ex, chunks_last, chunks_lt _ _ _ _ (show 0 < 8 by decide), chunks_lt _ _ _ _ (show 1 < 8 by decide), chunks_lt _ _ _ _ (show 2 < 8 by decide), chunks_lt _ _ _ _ (show 3 < 8 by decide), chunks_lt _ _ _ _ (show 4 < 8 by decide), chunks_lt _ _ _ _ (show 5 < 8 by decide), chunks_lt _ _ _ _ (show 6 < 8 by decide), chunks_lt _ _ _ _ (show 7 < 8 by decide), sc, scm, facOf]

end Cert.KernelIdeal.Head

end
-- ==== Proof.Blocks.lean ====
/- What the kernel's body leaves in the output's block: ten heads side by side, each the block of
   `Head.lean`, for the tile's number of key chunks. -/
module

public import proofs.«01_k».proof.Proof.Trips
public import proofs.«01_k».proof.Proof.Run.Value

@[expose] public section

set_option maxRecDepth 16384

noncomputable section

namespace Cert.KernelIdeal.Head

open Idealize.ShloMosaic Idealize.ShloMosaic.TcCoe Idealize.ShloMosaic.Tactic Cert.KernelIdeal Cert.KernelIdeal.Gen Cert.KernelIdeal.Run

/-- The scale of key or value head `i 1` of batch `i 0`. -/
def at6 (x : FVec Ideal S2x6 .f32) (i : grid0.Coords) : Ideal .f32 := x (ix2 ⟨(i 0).val, (i 0).isLt⟩ ⟨(i 1).val, (i 1).isLt⟩)

/-- Head `a` of the group's output, for the tile of `n + 1` key chunks. -/
def headOut (n : ℕ) (i : grid0.Coords) (qs : FVec Ideal S2x60 .f32) (ks vs : Ideal .f32) (Q : FVec Ideal S1x10x256x128 .fp8e4m3)
    (K : FVec Ideal S1x1x2304x128 .fp8e4m3) (V : FVec Ideal S1x1x128x2304 .fp8e4m3) (M : FVec Ideal S256x256 .f32) (a : ℕ) : FVec Ideal S1x256x128 .bf16 :=
  out (chunks (facOf (at2 qs ![(i 0).val, 10 * (i 1).val + a]) ks) (kch K) (hd Q a) M n) (vch V) vs n

/-- Ten heads side by side. -/
def beside (W : ℕ → FVec Ideal S1x256x128 .bf16) : FVec Ideal S1x256x1280 .bf16 :=
  fun y => W ((y 2).val / 128) (ix3 0 ⟨(y 1).val, (y 1).isLt⟩ ⟨(y 2).val % 128, Nat.mod_lt _ (by norm_num)⟩)

/-- A head's piece, at its offset, is its part of the heads side by side. -/
theorem piece_at (W : ℕ → FVec Ideal S1x256x128 .bf16) (o : Fin 3 → ℕ) (a : ℕ) (ho : o = ![0, 0, 128 * a])
    (inb : ∀ x, o x + S1x256x128.size x ≤ S1x256x1280.size x) (w : FVec Ideal S1x256x128 .bf16) (hw : w = W a)
    (x : (Rect.unit (s := S1x256x1280) o S1x256x128.size inb).shape.Idx) :
    w x = beside W ((Rect.unit (s := S1x256x1280) o S1x256x128.size inb).emb x) := by
  subst hw ho
  have h0 : (x 0).val < 1 := (x 0).isLt
  have h1 : (x 1).val < 256 := (x 1).isLt
  have h2 : (x 2).val < 128 := (x 2).isLt
  have e1 : ((Rect.unit (s := S1x256x1280) ![0, 0, 128 * a] S1x256x128.size inb).emb x 1).val = 0 + 1 * (x 1).val := rfl
  have e2 : ((Rect.unit (s := S1x256x1280) ![0, 0, 128 * a] S1x256x128.size inb).emb x 2).val = 128 * a + 1 * (x 2).val := rfl
  have ea : ((Rect.unit (s := S1x256x1280) ![0, 0, 128 * a] S1x256x128.size inb).emb x 2).val / 128 = a := by omega
  unfold beside
  simp only [ea]
  refine congrArg (W a) (funext fun b => Fin.ext ?_)
  fin_cases b
  · show (x 0).val = 0
    omega
  · show (x 1).val = ((Rect.unit (s := S1x256x1280) ![0, 0, 128 * a] S1x256x128.size inb).emb x 1).val
    omega
  · show (x 2).val = ((Rect.unit (s := S1x256x1280) ![0, 0, 128 * a] S1x256x128.size inb).emb x 2).val % 128
    omega

variable {sig' : RefSig} {κ' : Kind} {sp : Space}

/-- A load of one scale of the key or value heads. -/
theorem sld6 (v : View sig' κ' sp S2x6 .f32) (X : BufTy.Contents (Elt Ideal) v.ty) (x : FVec Ideal S2x6 .f32) (hx : v.read (Elt Ideal) X = x)
    (i : grid0.Coords) (o : Fin 2 → ℕ) (ho : o = ![(i 0).val, (i 1).val])
    (inb : ∀ a, o a + S1x1.size a ≤ S2x6.size a) (j : (Rect.unit (s := S2x6) o S1x1.size inb).toLoadRect.shape.Idx) :
    v.readAt (Elt Ideal) (Rect.unit (s := S2x6) o S1x1.size inb).toLoadRect X j = at6 x i := by
  subst hx ho
  rw [View.readAt_eq_ld]
  refine congrArg (v.read (Elt Ideal) X) (funext fun a => Fin.ext ?_)
  have h0 : (j 0).val < 1 := (j 0).isLt
  have h1 : (j 1).val < 1 := (j 1).isLt
  fin_cases a
  · show (i 0).val + 1 * (j 0).val = (i 0).val
    omega
  · show (i 1).val + 1 * (j 1).val = (i 1).val
    omega

variable (𝒱 : Variants) (c : Dev nD) (bd : Option 𝒱.V) (i : grid0.Coords)
  (arg3 : Memref sig .tc .smem S2x60 .f32) (harg3 : arg3.IsWhole) (arg4 : Memref sig .tc .smem S2x6 .f32) (harg4 : arg4.IsWhole)
  (arg5 : Memref sig .tc .smem S2x6 .f32) (harg5 : arg5.IsWhole) (arg6 : Memref sig .tc .vmem S1x10x256x128 .fp8e4m3) (harg6 : arg6.IsWhole)
  (arg7 : Memref sig .tc .vmem S1x1x2304x128 .fp8e4m3) (harg7 : arg7.IsWhole) (arg8 : Memref sig .tc .vmem S1x1x128x2304 .fp8e4m3) (harg8 : arg8.IsWhole)
  (arg9 : Memref sig .tc .vmem S256x256 .f32) (harg9 : arg9.IsWhole) (arg10 : Memref sig .tc .vmem S1x256x1280 .bf16) (harg10 : arg10.IsWhole)
  (arg11 : Memref sig .tc .vmem S2x2304x256 .f32) (harg11 : arg11.IsWhole) (arg12 : Memref sig .tc .vmem S8x256 .f32) (harg12 : arg12.IsWhole)
  (arg0 arg1 : BitVec 32) (v2 v5 : Elt Ideal .f32)
  (X3 : BufTy.Contents (Elt Ideal) arg3.view.ty) (X6 : BufTy.Contents (Elt Ideal) arg6.view.ty) (X7 : BufTy.Contents (Elt Ideal) arg7.view.ty)
  (X8 : BufTy.Contents (Elt Ideal) arg8.view.ty) (X9 : BufTy.Contents (Elt Ideal) arg9.view.ty)
  (G : BufTy.Contents (Elt Ideal) arg10.view.ty) (H : BufTy.Contents (Elt Ideal) arg11.view.ty)

/-- Loop 1's pieces are parts of its heads side by side. -/
theorem pieces1 (h : k0_cond1 i = 1#1) (a : ℕ) (ha : a ≤ k0_t1_loop.trips) :
    ∀ p ∈ (pb_k0_t1 (F := Ideal) 𝒱 c bd i arg3 harg3 arg4 harg4 arg5 harg5 arg6 harg6 arg7 harg7 arg8 harg8 arg9 harg9 arg10 harg10 arg11 harg11 arg12 harg12 arg0 arg1 v2 v5 h X3 X6 X7 X8 X9 G H a).1, ∀ x : p.1.shape.Idx,
      p.2 x = beside (headOut 0 i (arg3.view.read (Elt Ideal) X3) v2 v5 (arg6.view.read (Elt Ideal) X6) (arg7.view.read (Elt Ideal) X7)
        (arg8.view.read (Elt Ideal) X8) (arg9.view.read (Elt Ideal) X9)) (p.1.emb x) := by
  induction a with
  | zero => intro p hp; exact absurd hp List.not_mem_nil
  | succ a ih =>
    intro p hp x
    rw [pb_k0_t1_succ (k := ⟨a, ha⟩)] at hp
    rcases List.mem_append.mp hp with hp | hp
    · rw [trip1] at hp
      obtain rfl := List.mem_singleton.mp hp
      exact piece_at _ _ a (k0_off4_eq ⟨a, ha⟩) (k0_off4_inb i ⟨a, ha⟩ h) _ (by unfold headOut; rw [k0_off2_eq, k0_off3_eq]; rfl) x
    · exact ih (Nat.le_of_succ_le ha) p hp x

/-- Loop 2's pieces are parts of its heads side by side. -/
theorem pieces2 (h : k0_cond2 i = 1#1) (a : ℕ) (ha : a ≤ k0_t2_loop.trips) :
    ∀ p ∈ (pb_k0_t2 (F := Ideal) 𝒱 c bd i arg3 harg3 arg4 harg4 arg5 harg5 arg6 harg6 arg7 harg7 arg8 harg8 arg9 harg9 arg10 harg10 arg11 harg11 arg12 harg12 arg0 arg1 v2 v5 h X3 X6 X7 X8 X9 G H a).1, ∀ x : p.1.shape.Idx,
      p.2 x = beside (headOut 1 i (arg3.view.read (Elt Ideal) X3) v2 v5 (arg6.view.read (Elt Ideal) X6) (arg7.view.read (Elt Ideal) X7)
        (arg8.view.read (Elt Ideal) X8) (arg9.view.read (Elt Ideal) X9)) (p.1.emb x) := by
  induction a with
  | zero => intro p hp; exact absurd hp List.not_mem_nil
  | succ a ih =>
    intro p hp x
    rw [pb_k0_t2_succ (k := ⟨a, ha⟩)] at hp
    rcases List.mem_append.mp hp with hp | hp
    · rw [trip2] at hp
      obtain rfl := List.mem_singleton.mp hp
      exact piece_at _ _ a (k0_off7_eq ⟨a, ha⟩) (k0_off7_inb i ⟨a, ha⟩ h) _ (by unfold headOut; rw [k0_off5_eq, k0_off6_eq]; rfl) x
    · exact ih (Nat.le_of_succ_le ha) p hp x

/-- Loop 3's pieces are parts of its heads side by side. -/
theorem pieces3 (h : k0_cond3 i = 1#1) (a : ℕ) (ha : a ≤ k0_t3_loop.trips) :
    ∀ p ∈ (pb_k0_t3 (F := Ideal) 𝒱 c bd i arg3 harg3 arg4 harg4 arg5 harg5 arg6 harg6 arg7 harg7 arg8 harg8 arg9 harg9 arg10 harg10 arg11 harg11 arg12 harg12 arg0 arg1 v2 v5 h X3 X6 X7 X8 X9 G H a).1, ∀ x : p.1.shape.Idx,
      p.2 x = beside (headOut 2 i (arg3.view.read (Elt Ideal) X3) v2 v5 (arg6.view.read (Elt Ideal) X6) (arg7.view.read (Elt Ideal) X7)
        (arg8.view.read (Elt Ideal) X8) (arg9.view.read (Elt Ideal) X9)) (p.1.emb x) := by
  induction a with
  | zero => intro p hp; exact absurd hp List.not_mem_nil
  | succ a ih =>
    intro p hp x
    rw [pb_k0_t3_succ (k := ⟨a, ha⟩)] at hp
    rcases List.mem_append.mp hp with hp | hp
    · rw [trip3] at hp
      obtain rfl := List.mem_singleton.mp hp
      exact piece_at _ _ a (k0_off10_eq ⟨a, ha⟩) (k0_off10_inb i ⟨a, ha⟩ h) _ (by unfold headOut; rw [k0_off8_eq, k0_off9_eq]; rfl) x
    · exact ih (Nat.le_of_succ_le ha) p hp x

/-- Loop 4's pieces are parts of its heads side by side. -/
theorem pieces4 (h : k0_cond4 i = 1#1) (a : ℕ) (ha : a ≤ k0_t4_loop.trips) :
    ∀ p ∈ (pb_k0_t4 (F := Ideal) 𝒱 c bd i arg3 harg3 arg4 harg4 arg5 harg5 arg6 harg6 arg7 harg7 arg8 harg8 arg9 harg9 arg10 harg10 arg11 harg11 arg12 harg12 arg0 arg1 v2 v5 h X3 X6 X7 X8 X9 G H a).1, ∀ x : p.1.shape.Idx,
      p.2 x = beside (headOut 3 i (arg3.view.read (Elt Ideal) X3) v2 v5 (arg6.view.read (Elt Ideal) X6) (arg7.view.read (Elt Ideal) X7)
        (arg8.view.read (Elt Ideal) X8) (arg9.view.read (Elt Ideal) X9)) (p.1.emb x) := by
  induction a with
  | zero => intro p hp; exact absurd hp List.not_mem_nil
  | succ a ih =>
    intro p hp x
    rw [pb_k0_t4_succ (k := ⟨a, ha⟩)] at hp
    rcases List.mem_append.mp hp with hp | hp
    · rw [trip4] at hp
      obtain rfl := List.mem_singleton.mp hp
      exact piece_at _ _ a (k0_off13_eq ⟨a, ha⟩) (k0_off13_inb i ⟨a, ha⟩ h) _ (by unfold headOut; rw [k0_off11_eq, k0_off12_eq]; rfl) x
    · exact ih (Nat.le_of_succ_le ha) p hp x

/-- Loop 5's pieces are parts of its heads side by side. -/
theorem pieces5 (h : k0_cond5 i = 1#1) (a : ℕ) (ha : a ≤ k0_t5_loop.trips) :
    ∀ p ∈ (pb_k0_t5 (F := Ideal) 𝒱 c bd i arg3 harg3 arg4 harg4 arg5 harg5 arg6 harg6 arg7 harg7 arg8 harg8 arg9 harg9 arg10 harg10 arg11 harg11 arg12 harg12 arg0 arg1 v2 v5 h X3 X6 X7 X8 X9 G H a).1, ∀ x : p.1.shape.Idx,
      p.2 x = beside (headOut 4 i (arg3.view.read (Elt Ideal) X3) v2 v5 (arg6.view.read (Elt Ideal) X6) (arg7.view.read (Elt Ideal) X7)
        (arg8.view.read (Elt Ideal) X8) (arg9.view.read (Elt Ideal) X9)) (p.1.emb x) := by
  induction a with
  | zero => intro p hp; exact absurd hp List.not_mem_nil
  | succ a ih =>
    intro p hp x
    rw [pb_k0_t5_succ (k := ⟨a, ha⟩)] at hp
    rcases List.mem_append.mp hp with hp | hp
    · rw [trip5] at hp
      obtain rfl := List.mem_singleton.mp hp
      exact piece_at _ _ a (k0_off16_eq ⟨a, ha⟩) (k0_off16_inb i ⟨a, ha⟩ h) _ (by unfold headOut; rw [k0_off14_eq, k0_off15_eq]; rfl) x
    · exact ih (Nat.le_of_succ_le ha) p hp x

/-- Loop 6's pieces are parts of its heads side by side. -/
theorem pieces6 (h : k0_cond6 i = 1#1) (a : ℕ) (ha : a ≤ k0_t6_loop.trips) :
    ∀ p ∈ (pb_k0_t6 (F := Ideal) 𝒱 c bd i arg3 harg3 arg4 harg4 arg5 harg5 arg6 harg6 arg7 harg7 arg8 harg8 arg9 harg9 arg10 harg10 arg11 harg11 arg12 harg12 arg0 arg1 v2 v5 h X3 X6 X7 X8 X9 G H a).1, ∀ x : p.1.shape.Idx,
      p.2 x = beside (headOut 5 i (arg3.view.read (Elt Ideal) X3) v2 v5 (arg6.view.read (Elt Ideal) X6) (arg7.view.read (Elt Ideal) X7)
        (arg8.view.read (Elt Ideal) X8) (arg9.view.read (Elt Ideal) X9)) (p.1.emb x) := by
  induction a with
  | zero => intro p hp; exact absurd hp List.not_mem_nil
  | succ a ih =>
    intro p hp x
    rw [pb_k0_t6_succ (k := ⟨a, ha⟩)] at hp
    rcases List.mem_append.mp hp with hp | hp
    · rw [trip6] at hp
      obtain rfl := List.mem_singleton.mp hp
      exact piece_at _ _ a (k0_off19_eq ⟨a, ha⟩) (k0_off19_inb i ⟨a, ha⟩ h) _ (by unfold headOut; rw [k0_off17_eq, k0_off18_eq]; rfl) x
    · exact ih (Nat.le_of_succ_le ha) p hp x

/-- Loop 7's pieces are parts of its heads side by side. -/
theorem pieces7 (h : k0_cond7 i = 1#1) (a : ℕ) (ha : a ≤ k0_t7_loop.trips) :
    ∀ p ∈ (pb_k0_t7 (F := Ideal) 𝒱 c bd i arg3 harg3 arg4 harg4 arg5 harg5 arg6 harg6 arg7 harg7 arg8 harg8 arg9 harg9 arg10 harg10 arg11 harg11 arg12 harg12 arg0 arg1 v2 v5 h X3 X6 X7 X8 X9 G H a).1, ∀ x : p.1.shape.Idx,
      p.2 x = beside (headOut 6 i (arg3.view.read (Elt Ideal) X3) v2 v5 (arg6.view.read (Elt Ideal) X6) (arg7.view.read (Elt Ideal) X7)
        (arg8.view.read (Elt Ideal) X8) (arg9.view.read (Elt Ideal) X9)) (p.1.emb x) := by
  induction a with
  | zero => intro p hp; exact absurd hp List.not_mem_nil
  | succ a ih =>
    intro p hp x
    rw [pb_k0_t7_succ (k := ⟨a, ha⟩)] at hp
    rcases List.mem_append.mp hp with hp | hp
    · rw [trip7] at hp
      obtain rfl := List.mem_singleton.mp hp
      exact piece_at _ _ a (k0_off22_eq ⟨a, ha⟩) (k0_off22_inb i ⟨a, ha⟩ h) _ (by unfold headOut; rw [k0_off20_eq, k0_off21_eq]; rfl) x
    · exact ih (Nat.le_of_succ_le ha) p hp x

/-- Loop 8's pieces are parts of its heads side by side. -/
theorem pieces8 (h : k0_cond8 i = 1#1) (a : ℕ) (ha : a ≤ k0_t8_loop.trips) :
    ∀ p ∈ (pb_k0_t8 (F := Ideal) 𝒱 c bd i arg3 harg3 arg4 harg4 arg5 harg5 arg6 harg6 arg7 harg7 arg8 harg8 arg9 harg9 arg10 harg10 arg11 harg11 arg12 harg12 arg0 arg1 v2 v5 h X3 X6 X7 X8 X9 G H a).1, ∀ x : p.1.shape.Idx,
      p.2 x = beside (headOut 7 i (arg3.view.read (Elt Ideal) X3) v2 v5 (arg6.view.read (Elt Ideal) X6) (arg7.view.read (Elt Ideal) X7)
        (arg8.view.read (Elt Ideal) X8) (arg9.view.read (Elt Ideal) X9)) (p.1.emb x) := by
  induction a with
  | zero => intro p hp; exact absurd hp List.not_mem_nil
  | succ a ih =>
    intro p hp x
    rw [pb_k0_t8_succ (k := ⟨a, ha⟩)] at hp
    rcases List.mem_append.mp hp with hp | hp
    · rw [trip8] at hp
      obtain rfl := List.mem_singleton.mp hp
      exact piece_at _ _ a (k0_off25_eq ⟨a, ha⟩) (k0_off25_inb i ⟨a, ha⟩ h) _ (by unfold headOut; rw [k0_off23_eq, k0_off24_eq]; rfl) x
    · exact ih (Nat.le_of_succ_le ha) p hp x

/-- Loop 9's pieces are parts of its heads side by side. -/
theorem pieces9 (h : k0_cond9 i = 1#1) (a : ℕ) (ha : a ≤ k0_t9_loop.trips) :
    ∀ p ∈ (pb_k0_t9 (F := Ideal) 𝒱 c bd i arg3 harg3 arg4 harg4 arg5 harg5 arg6 harg6 arg7 harg7 arg8 harg8 arg9 harg9 arg10 harg10 arg11 harg11 arg12 harg12 arg0 arg1 v2 v5 h X3 X6 X7 X8 X9 G H a).1, ∀ x : p.1.shape.Idx,
      p.2 x = beside (headOut 8 i (arg3.view.read (Elt Ideal) X3) v2 v5 (arg6.view.read (Elt Ideal) X6) (arg7.view.read (Elt Ideal) X7)
        (arg8.view.read (Elt Ideal) X8) (arg9.view.read (Elt Ideal) X9)) (p.1.emb x) := by
  induction a with
  | zero => intro p hp; exact absurd hp List.not_mem_nil
  | succ a ih =>
    intro p hp x
    rw [pb_k0_t9_succ (k := ⟨a, ha⟩)] at hp
    rcases List.mem_append.mp hp with hp | hp
    · rw [trip9] at hp
      obtain rfl := List.mem_singleton.mp hp
      exact piece_at _ _ a (k0_off28_eq ⟨a, ha⟩) (k0_off28_inb i ⟨a, ha⟩ h) _ (by unfold headOut; rw [k0_off26_eq, k0_off27_eq]; rfl) x
    · exact ih (Nat.le_of_succ_le ha) p hp x

/-- What the body leaves in the output's block on a tile of 1 chunk. -/
theorem case1 (c : Dev nD) (i : grid0.Coords) (arg3 : Memref sig .tc .smem S2x60 .f32) (harg3 : arg3.IsWhole) (arg4 : Memref sig .tc .smem S2x6 .f32) (harg4 : arg4.IsWhole) (arg5 : Memref sig .tc .smem S2x6 .f32) (harg5 : arg5.IsWhole) (arg6 : Memref sig .tc .vmem S1x10x256x128 .fp8e4m3) (harg6 : arg6.IsWhole) (arg7 : Memref sig .tc .vmem S1x1x2304x128 .fp8e4m3) (harg7 : arg7.IsWhole) (arg8 : Memref sig .tc .vmem S1x1x128x2304 .fp8e4m3) (harg8 : arg8.IsWhole) (arg9 : Memref sig .tc .vmem S256x256 .f32) (harg9 : arg9.IsWhole) (arg10 : Memref sig .tc .vmem S1x256x1280 .bf16) (harg10 : arg10.IsWhole) (arg11 : Memref sig .tc .vmem S2x2304x256 .f32) (harg11 : arg11.IsWhole) (arg12 : Memref sig .tc .vmem S8x256 .f32) (harg12 : arg12.IsWhole) (hc0 : cond0_0 i) (hc1 : ¬cond0_1 i) (hc2 : ¬cond0_2 i) (hc3 : ¬cond0_3 i) (hc4 : ¬cond0_4 i) (hc5 : ¬cond0_5 i) (hc6 : ¬cond0_6 i) (hc7 : ¬cond0_7 i) (hc8 : ¬cond0_8 i)
    (x0 : Vec Ideal S2x60 .f32) (x1 : Vec Ideal S2x6 .f32) (x2 : Vec Ideal S2x6 .f32) (x3 : Vec Ideal S1x10x256x128 .fp8e4m3) (x4 : Vec Ideal S1x1x2304x128 .fp8e4m3) (x5 : Vec Ideal S1x1x128x2304 .fp8e4m3) (x6 : Vec Ideal S256x256 .f32) :
    out0_A_7 c i arg3 harg3 arg4 harg4 arg5 harg5 arg6 harg6 arg7 harg7 arg8 harg8 arg9 harg9 arg10 harg10 arg11 harg11 arg12 harg12 hc0 hc1 hc2 hc3 hc4 hc5 hc6 hc7 hc8 x0 x1 x2 x3 x4 x5 x6 = beside (headOut 0 i x0 (at6 x1 i) (at6 x2 i) x3 x4 x5 x6) := by
  funext y
  unfold out0_A_7
  rw [View.read_writes_eq_canon _ _ _ (cover0_A_7 c i arg3 harg3 arg4 harg4 arg5 harg5 arg6 harg6 arg7 harg7 arg8 harg8 arg9 harg9 arg10 harg10 arg11 harg11 arg12 harg12 hc0 hc1 hc2 hc3 hc4 hc5 hc6 hc7 hc8 x0 x1 x2 x3 x4 x5 x6)]
  refine View.canon_apply_of_pieces _ _ ?_ y (cover0_A_7 c i arg3 harg3 arg4 harg4 arg5 harg5 arg6 harg6 arg7 harg7 arg8 harg8 arg9 harg9 arg10 harg10 arg11 harg11 arg12 harg12 hc0 hc1 hc2 hc3 hc4 hc5 hc6 hc7 hc8 x0 x1 x2 x3 x4 x5 x6 y)
  have e := fun v2 v5 => pieces1 Variants.none c none i arg3 harg3 arg4 harg4 arg5 harg5 arg6 harg6 arg7 harg7 arg8 harg8 arg9 harg9 arg10 harg10 arg11 harg11 arg12 harg12
    (BitVec.ofNat 32 (i 0).val) (BitVec.ofNat 32 (i 1).val) v2 v5 (harg3.unread x0) (harg6.unread x3) (harg7.unread x4) (harg8.unread x5) (harg9.unread x6)
    arg10.view.junk arg11.view.junk hc0 k0_t1_loop.trips le_rfl
  simp only [harg3.read_unread, harg6.read_unread, harg7.read_unread, harg8.read_unread, harg9.read_unread] at e
  rw [← sld6 arg4.view (harg4.unread x1) x1 (harg4.read_unread x1) i (k0_off1 i) (k0_off1_eq i) (k0_off1_inb i) (Shape.Idx.first (show 0 < S1x1.numel by decide)),
    ← sld6 arg5.view (harg5.unread x2) x2 (harg5.read_unread x2) i (k0_off1 i) (k0_off1_eq i) (k0_off1_inb i) (Shape.Idx.first (show 0 < S1x1.numel by decide))]
  exact e _ _

/-- What the body leaves in the output's block on a tile of 2 chunks. -/
theorem case2 (c : Dev nD) (i : grid0.Coords) (arg3 : Memref sig .tc .smem S2x60 .f32) (harg3 : arg3.IsWhole) (arg4 : Memref sig .tc .smem S2x6 .f32) (harg4 : arg4.IsWhole) (arg5 : Memref sig .tc .smem S2x6 .f32) (harg5 : arg5.IsWhole) (arg6 : Memref sig .tc .vmem S1x10x256x128 .fp8e4m3) (harg6 : arg6.IsWhole) (arg7 : Memref sig .tc .vmem S1x1x2304x128 .fp8e4m3) (harg7 : arg7.IsWhole) (arg8 : Memref sig .tc .vmem S1x1x128x2304 .fp8e4m3) (harg8 : arg8.IsWhole) (arg9 : Memref sig .tc .vmem S256x256 .f32) (harg9 : arg9.IsWhole) (arg10 : Memref sig .tc .vmem S1x256x1280 .bf16) (harg10 : arg10.IsWhole) (arg11 : Memref sig .tc .vmem S2x2304x256 .f32) (harg11 : arg11.IsWhole) (arg12 : Memref sig .tc .vmem S8x256 .f32) (harg12 : arg12.IsWhole) (hc0 : ¬cond0_0 i) (hc1 : cond0_1 i) (hc2 : ¬cond0_2 i) (hc3 : ¬cond0_3 i) (hc4 : ¬cond0_4 i) (hc5 : ¬cond0_5 i) (hc6 : ¬cond0_6 i) (hc7 : ¬cond0_7 i) (hc8 : ¬cond0_8 i)
    (x0 : Vec Ideal S2x60 .f32) (x1 : Vec Ideal S2x6 .f32) (x2 : Vec Ideal S2x6 .f32) (x3 : Vec Ideal S1x10x256x128 .fp8e4m3) (x4 : Vec Ideal S1x1x2304x128 .fp8e4m3) (x5 : Vec Ideal S1x1x128x2304 .fp8e4m3) (x6 : Vec Ideal S256x256 .f32) :
    out0_B_7 c i arg3 harg3 arg4 harg4 arg5 harg5 arg6 harg6 arg7 harg7 arg8 harg8 arg9 harg9 arg10 harg10 arg11 harg11 arg12 harg12 hc0 hc1 hc2 hc3 hc4 hc5 hc6 hc7 hc8 x0 x1 x2 x3 x4 x5 x6 = beside (headOut 1 i x0 (at6 x1 i) (at6 x2 i) x3 x4 x5 x6) := by
  funext y
  unfold out0_B_7
  rw [View.read_writes_eq_canon _ _ _ (cover0_B_7 c i arg3 harg3 arg4 harg4 arg5 harg5 arg6 harg6 arg7 harg7 arg8 harg8 arg9 harg9 arg10 harg10 arg11 harg11 arg12 harg12 hc0 hc1 hc2 hc3 hc4 hc5 hc6 hc7 hc8 x0 x1 x2 x3 x4 x5 x6)]
  refine View.canon_apply_of_pieces _ _ ?_ y (cover0_B_7 c i arg3 harg3 arg4 harg4 arg5 harg5 arg6 harg6 arg7 harg7 arg8 harg8 arg9 harg9 arg10 harg10 arg11 harg11 arg12 harg12 hc0 hc1 hc2 hc3 hc4 hc5 hc6 hc7 hc8 x0 x1 x2 x3 x4 x5 x6 y)
  have e := fun v2 v5 => pieces2 Variants.none c none i arg3 harg3 arg4 harg4 arg5 harg5 arg6 harg6 arg7 harg7 arg8 harg8 arg9 harg9 arg10 harg10 arg11 harg11 arg12 harg12
    (BitVec.ofNat 32 (i 0).val) (BitVec.ofNat 32 (i 1).val) v2 v5 (harg3.unread x0) (harg6.unread x3) (harg7.unread x4) (harg8.unread x5) (harg9.unread x6)
    arg10.view.junk arg11.view.junk hc1 k0_t2_loop.trips le_rfl
  simp only [harg3.read_unread, harg6.read_unread, harg7.read_unread, harg8.read_unread, harg9.read_unread] at e
  rw [← sld6 arg4.view (harg4.unread x1) x1 (harg4.read_unread x1) i (k0_off1 i) (k0_off1_eq i) (k0_off1_inb i) (Shape.Idx.first (show 0 < S1x1.numel by decide)),
    ← sld6 arg5.view (harg5.unread x2) x2 (harg5.read_unread x2) i (k0_off1 i) (k0_off1_eq i) (k0_off1_inb i) (Shape.Idx.first (show 0 < S1x1.numel by decide))]
  exact e _ _

/-- What the body leaves in the output's block on a tile of 3 chunks. -/
theorem case3 (c : Dev nD) (i : grid0.Coords) (arg3 : Memref sig .tc .smem S2x60 .f32) (harg3 : arg3.IsWhole) (arg4 : Memref sig .tc .smem S2x6 .f32) (harg4 : arg4.IsWhole) (arg5 : Memref sig .tc .smem S2x6 .f32) (harg5 : arg5.IsWhole) (arg6 : Memref sig .tc .vmem S1x10x256x128 .fp8e4m3) (harg6 : arg6.IsWhole) (arg7 : Memref sig .tc .vmem S1x1x2304x128 .fp8e4m3) (harg7 : arg7.IsWhole) (arg8 : Memref sig .tc .vmem S1x1x128x2304 .fp8e4m3) (harg8 : arg8.IsWhole) (arg9 : Memref sig .tc .vmem S256x256 .f32) (harg9 : arg9.IsWhole) (arg10 : Memref sig .tc .vmem S1x256x1280 .bf16) (harg10 : arg10.IsWhole) (arg11 : Memref sig .tc .vmem S2x2304x256 .f32) (harg11 : arg11.IsWhole) (arg12 : Memref sig .tc .vmem S8x256 .f32) (harg12 : arg12.IsWhole) (hc0 : ¬cond0_0 i) (hc1 : ¬cond0_1 i) (hc2 : cond0_2 i) (hc3 : ¬cond0_3 i) (hc4 : ¬cond0_4 i) (hc5 : ¬cond0_5 i) (hc6 : ¬cond0_6 i) (hc7 : ¬cond0_7 i) (hc8 : ¬cond0_8 i)
    (x0 : Vec Ideal S2x60 .f32) (x1 : Vec Ideal S2x6 .f32) (x2 : Vec Ideal S2x6 .f32) (x3 : Vec Ideal S1x10x256x128 .fp8e4m3) (x4 : Vec Ideal S1x1x2304x128 .fp8e4m3) (x5 : Vec Ideal S1x1x128x2304 .fp8e4m3) (x6 : Vec Ideal S256x256 .f32) :
    out0_C_7 c i arg3 harg3 arg4 harg4 arg5 harg5 arg6 harg6 arg7 harg7 arg8 harg8 arg9 harg9 arg10 harg10 arg11 harg11 arg12 harg12 hc0 hc1 hc2 hc3 hc4 hc5 hc6 hc7 hc8 x0 x1 x2 x3 x4 x5 x6 = beside (headOut 2 i x0 (at6 x1 i) (at6 x2 i) x3 x4 x5 x6) := by
  funext y
  unfold out0_C_7
  rw [View.read_writes_eq_canon _ _ _ (cover0_C_7 c i arg3 harg3 arg4 harg4 arg5 harg5 arg6 harg6 arg7 harg7 arg8 harg8 arg9 harg9 arg10 harg10 arg11 harg11 arg12 harg12 hc0 hc1 hc2 hc3 hc4 hc5 hc6 hc7 hc8 x0 x1 x2 x3 x4 x5 x6)]
  refine View.canon_apply_of_pieces _ _ ?_ y (cover0_C_7 c i arg3 harg3 arg4 harg4 arg5 harg5 arg6 harg6 arg7 harg7 arg8 harg8 arg9 harg9 arg10 harg10 arg11 harg11 arg12 harg12 hc0 hc1 hc2 hc3 hc4 hc5 hc6 hc7 hc8 x0 x1 x2 x3 x4 x5 x6 y)
  have e := fun v2 v5 => pieces3 Variants.none c none i arg3 harg3 arg4 harg4 arg5 harg5 arg6 harg6 arg7 harg7 arg8 harg8 arg9 harg9 arg10 harg10 arg11 harg11 arg12 harg12
    (BitVec.ofNat 32 (i 0).val) (BitVec.ofNat 32 (i 1).val) v2 v5 (harg3.unread x0) (harg6.unread x3) (harg7.unread x4) (harg8.unread x5) (harg9.unread x6)
    arg10.view.junk arg11.view.junk hc2 k0_t3_loop.trips le_rfl
  simp only [harg3.read_unread, harg6.read_unread, harg7.read_unread, harg8.read_unread, harg9.read_unread] at e
  rw [← sld6 arg4.view (harg4.unread x1) x1 (harg4.read_unread x1) i (k0_off1 i) (k0_off1_eq i) (k0_off1_inb i) (Shape.Idx.first (show 0 < S1x1.numel by decide)),
    ← sld6 arg5.view (harg5.unread x2) x2 (harg5.read_unread x2) i (k0_off1 i) (k0_off1_eq i) (k0_off1_inb i) (Shape.Idx.first (show 0 < S1x1.numel by decide))]
  exact e _ _

/-- What the body leaves in the output's block on a tile of 4 chunks. -/
theorem case4 (c : Dev nD) (i : grid0.Coords) (arg3 : Memref sig .tc .smem S2x60 .f32) (harg3 : arg3.IsWhole) (arg4 : Memref sig .tc .smem S2x6 .f32) (harg4 : arg4.IsWhole) (arg5 : Memref sig .tc .smem S2x6 .f32) (harg5 : arg5.IsWhole) (arg6 : Memref sig .tc .vmem S1x10x256x128 .fp8e4m3) (harg6 : arg6.IsWhole) (arg7 : Memref sig .tc .vmem S1x1x2304x128 .fp8e4m3) (harg7 : arg7.IsWhole) (arg8 : Memref sig .tc .vmem S1x1x128x2304 .fp8e4m3) (harg8 : arg8.IsWhole) (arg9 : Memref sig .tc .vmem S256x256 .f32) (harg9 : arg9.IsWhole) (arg10 : Memref sig .tc .vmem S1x256x1280 .bf16) (harg10 : arg10.IsWhole) (arg11 : Memref sig .tc .vmem S2x2304x256 .f32) (harg11 : arg11.IsWhole) (arg12 : Memref sig .tc .vmem S8x256 .f32) (harg12 : arg12.IsWhole) (hc0 : ¬cond0_0 i) (hc1 : ¬cond0_1 i) (hc2 : ¬cond0_2 i) (hc3 : cond0_3 i) (hc4 : ¬cond0_4 i) (hc5 : ¬cond0_5 i) (hc6 : ¬cond0_6 i) (hc7 : ¬cond0_7 i) (hc8 : ¬cond0_8 i)
    (x0 : Vec Ideal S2x60 .f32) (x1 : Vec Ideal S2x6 .f32) (x2 : Vec Ideal S2x6 .f32) (x3 : Vec Ideal S1x10x256x128 .fp8e4m3) (x4 : Vec Ideal S1x1x2304x128 .fp8e4m3) (x5 : Vec Ideal S1x1x128x2304 .fp8e4m3) (x6 : Vec Ideal S256x256 .f32) :
    out0_D_7 c i arg3 harg3 arg4 harg4 arg5 harg5 arg6 harg6 arg7 harg7 arg8 harg8 arg9 harg9 arg10 harg10 arg11 harg11 arg12 harg12 hc0 hc1 hc2 hc3 hc4 hc5 hc6 hc7 hc8 x0 x1 x2 x3 x4 x5 x6 = beside (headOut 3 i x0 (at6 x1 i) (at6 x2 i) x3 x4 x5 x6) := by
  funext y
  unfold out0_D_7
  rw [View.read_writes_eq_canon _ _ _ (cover0_D_7 c i arg3 harg3 arg4 harg4 arg5 harg5 arg6 harg6 arg7 harg7 arg8 harg8 arg9 harg9 arg10 harg10 arg11 harg11 arg12 harg12 hc0 hc1 hc2 hc3 hc4 hc5 hc6 hc7 hc8 x0 x1 x2 x3 x4 x5 x6)]
  refine View.canon_apply_of_pieces _ _ ?_ y (cover0_D_7 c i arg3 harg3 arg4 harg4 arg5 harg5 arg6 harg6 arg7 harg7 arg8 harg8 arg9 harg9 arg10 harg10 arg11 harg11 arg12 harg12 hc0 hc1 hc2 hc3 hc4 hc5 hc6 hc7 hc8 x0 x1 x2 x3 x4 x5 x6 y)
  have e := fun v2 v5 => pieces4 Variants.none c none i arg3 harg3 arg4 harg4 arg5 harg5 arg6 harg6 arg7 harg7 arg8 harg8 arg9 harg9 arg10 harg10 arg11 harg11 arg12 harg12
    (BitVec.ofNat 32 (i 0).val) (BitVec.ofNat 32 (i 1).val) v2 v5 (harg3.unread x0) (harg6.unread x3) (harg7.unread x4) (harg8.unread x5) (harg9.unread x6)
    arg10.view.junk arg11.view.junk hc3 k0_t4_loop.trips le_rfl
  simp only [harg3.read_unread, harg6.read_unread, harg7.read_unread, harg8.read_unread, harg9.read_unread] at e
  rw [← sld6 arg4.view (harg4.unread x1) x1 (harg4.read_unread x1) i (k0_off1 i) (k0_off1_eq i) (k0_off1_inb i) (Shape.Idx.first (show 0 < S1x1.numel by decide)),
    ← sld6 arg5.view (harg5.unread x2) x2 (harg5.read_unread x2) i (k0_off1 i) (k0_off1_eq i) (k0_off1_inb i) (Shape.Idx.first (show 0 < S1x1.numel by decide))]
  exact e _ _

/-- What the body leaves in the output's block on a tile of 5 chunks. -/
theorem case5 (c : Dev nD) (i : grid0.Coords) (arg3 : Memref sig .tc .smem S2x60 .f32) (harg3 : arg3.IsWhole) (arg4 : Memref sig .tc .smem S2x6 .f32) (harg4 : arg4.IsWhole) (arg5 : Memref sig .tc .smem S2x6 .f32) (harg5 : arg5.IsWhole) (arg6 : Memref sig .tc .vmem S1x10x256x128 .fp8e4m3) (harg6 : arg6.IsWhole) (arg7 : Memref sig .tc .vmem S1x1x2304x128 .fp8e4m3) (harg7 : arg7.IsWhole) (arg8 : Memref sig .tc .vmem S1x1x128x2304 .fp8e4m3) (harg8 : arg8.IsWhole) (arg9 : Memref sig .tc .vmem S256x256 .f32) (harg9 : arg9.IsWhole) (arg10 : Memref sig .tc .vmem S1x256x1280 .bf16) (harg10 : arg10.IsWhole) (arg11 : Memref sig .tc .vmem S2x2304x256 .f32) (harg11 : arg11.IsWhole) (arg12 : Memref sig .tc .vmem S8x256 .f32) (harg12 : arg12.IsWhole) (hc0 : ¬cond0_0 i) (hc1 : ¬cond0_1 i) (hc2 : ¬cond0_2 i) (hc3 : ¬cond0_3 i) (hc4 : cond0_4 i) (hc5 : ¬cond0_5 i) (hc6 : ¬cond0_6 i) (hc7 : ¬cond0_7 i) (hc8 : ¬cond0_8 i)
    (x0 : Vec Ideal S2x60 .f32) (x1 : Vec Ideal S2x6 .f32) (x2 : Vec Ideal S2x6 .f32) (x3 : Vec Ideal S1x10x256x128 .fp8e4m3) (x4 : Vec Ideal S1x1x2304x128 .fp8e4m3) (x5 : Vec Ideal S1x1x128x2304 .fp8e4m3) (x6 : Vec Ideal S256x256 .f32) :
    out0_E_7 c i arg3 harg3 arg4 harg4 arg5 harg5 arg6 harg6 arg7 harg7 arg8 harg8 arg9 harg9 arg10 harg10 arg11 harg11 arg12 harg12 hc0 hc1 hc2 hc3 hc4 hc5 hc6 hc7 hc8 x0 x1 x2 x3 x4 x5 x6 = beside (headOut 4 i x0 (at6 x1 i) (at6 x2 i) x3 x4 x5 x6) := by
  funext y
  unfold out0_E_7
  rw [View.read_writes_eq_canon _ _ _ (cover0_E_7 c i arg3 harg3 arg4 harg4 arg5 harg5 arg6 harg6 arg7 harg7 arg8 harg8 arg9 harg9 arg10 harg10 arg11 harg11 arg12 harg12 hc0 hc1 hc2 hc3 hc4 hc5 hc6 hc7 hc8 x0 x1 x2 x3 x4 x5 x6)]
  refine View.canon_apply_of_pieces _ _ ?_ y (cover0_E_7 c i arg3 harg3 arg4 harg4 arg5 harg5 arg6 harg6 arg7 harg7 arg8 harg8 arg9 harg9 arg10 harg10 arg11 harg11 arg12 harg12 hc0 hc1 hc2 hc3 hc4 hc5 hc6 hc7 hc8 x0 x1 x2 x3 x4 x5 x6 y)
  have e := fun v2 v5 => pieces5 Variants.none c none i arg3 harg3 arg4 harg4 arg5 harg5 arg6 harg6 arg7 harg7 arg8 harg8 arg9 harg9 arg10 harg10 arg11 harg11 arg12 harg12
    (BitVec.ofNat 32 (i 0).val) (BitVec.ofNat 32 (i 1).val) v2 v5 (harg3.unread x0) (harg6.unread x3) (harg7.unread x4) (harg8.unread x5) (harg9.unread x6)
    arg10.view.junk arg11.view.junk hc4 k0_t5_loop.trips le_rfl
  simp only [harg3.read_unread, harg6.read_unread, harg7.read_unread, harg8.read_unread, harg9.read_unread] at e
  rw [← sld6 arg4.view (harg4.unread x1) x1 (harg4.read_unread x1) i (k0_off1 i) (k0_off1_eq i) (k0_off1_inb i) (Shape.Idx.first (show 0 < S1x1.numel by decide)),
    ← sld6 arg5.view (harg5.unread x2) x2 (harg5.read_unread x2) i (k0_off1 i) (k0_off1_eq i) (k0_off1_inb i) (Shape.Idx.first (show 0 < S1x1.numel by decide))]
  exact e _ _

/-- What the body leaves in the output's block on a tile of 6 chunks. -/
theorem case6 (c : Dev nD) (i : grid0.Coords) (arg3 : Memref sig .tc .smem S2x60 .f32) (harg3 : arg3.IsWhole) (arg4 : Memref sig .tc .smem S2x6 .f32) (harg4 : arg4.IsWhole) (arg5 : Memref sig .tc .smem S2x6 .f32) (harg5 : arg5.IsWhole) (arg6 : Memref sig .tc .vmem S1x10x256x128 .fp8e4m3) (harg6 : arg6.IsWhole) (arg7 : Memref sig .tc .vmem S1x1x2304x128 .fp8e4m3) (harg7 : arg7.IsWhole) (arg8 : Memref sig .tc .vmem S1x1x128x2304 .fp8e4m3) (harg8 : arg8.IsWhole) (arg9 : Memref sig .tc .vmem S256x256 .f32) (harg9 : arg9.IsWhole) (arg10 : Memref sig .tc .vmem S1x256x1280 .bf16) (harg10 : arg10.IsWhole) (arg11 : Memref sig .tc .vmem S2x2304x256 .f32) (harg11 : arg11.IsWhole) (arg12 : Memref sig .tc .vmem S8x256 .f32) (harg12 : arg12.IsWhole) (hc0 : ¬cond0_0 i) (hc1 : ¬cond0_1 i) (hc2 : ¬cond0_2 i) (hc3 : ¬cond0_3 i) (hc4 : ¬cond0_4 i) (hc5 : cond0_5 i) (hc6 : ¬cond0_6 i) (hc7 : ¬cond0_7 i) (hc8 : ¬cond0_8 i)
    (x0 : Vec Ideal S2x60 .f32) (x1 : Vec Ideal S2x6 .f32) (x2 : Vec Ideal S2x6 .f32) (x3 : Vec Ideal S1x10x256x128 .fp8e4m3) (x4 : Vec Ideal S1x1x2304x128 .fp8e4m3) (x5 : Vec Ideal S1x1x128x2304 .fp8e4m3) (x6 : Vec Ideal S256x256 .f32) :
    out0_F_7 c i arg3 harg3 arg4 harg4 arg5 harg5 arg6 harg6 arg7 harg7 arg8 harg8 arg9 harg9 arg10 harg10 arg11 harg11 arg12 harg12 hc0 hc1 hc2 hc3 hc4 hc5 hc6 hc7 hc8 x0 x1 x2 x3 x4 x5 x6 = beside (headOut 5 i x0 (at6 x1 i) (at6 x2 i) x3 x4 x5 x6) := by
  funext y
  unfold out0_F_7
  rw [View.read_writes_eq_canon _ _ _ (cover0_F_7 c i arg3 harg3 arg4 harg4 arg5 harg5 arg6 harg6 arg7 harg7 arg8 harg8 arg9 harg9 arg10 harg10 arg11 harg11 arg12 harg12 hc0 hc1 hc2 hc3 hc4 hc5 hc6 hc7 hc8 x0 x1 x2 x3 x4 x5 x6)]
  refine View.canon_apply_of_pieces _ _ ?_ y (cover0_F_7 c i arg3 harg3 arg4 harg4 arg5 harg5 arg6 harg6 arg7 harg7 arg8 harg8 arg9 harg9 arg10 harg10 arg11 harg11 arg12 harg12 hc0 hc1 hc2 hc3 hc4 hc5 hc6 hc7 hc8 x0 x1 x2 x3 x4 x5 x6 y)
  have e := fun v2 v5 => pieces6 Variants.none c none i arg3 harg3 arg4 harg4 arg5 harg5 arg6 harg6 arg7 harg7 arg8 harg8 arg9 harg9 arg10 harg10 arg11 harg11 arg12 harg12
    (BitVec.ofNat 32 (i 0).val) (BitVec.ofNat 32 (i 1).val) v2 v5 (harg3.unread x0) (harg6.unread x3) (harg7.unread x4) (harg8.unread x5) (harg9.unread x6)
    arg10.view.junk arg11.view.junk hc5 k0_t6_loop.trips le_rfl
  simp only [harg3.read_unread, harg6.read_unread, harg7.read_unread, harg8.read_unread, harg9.read_unread] at e
  rw [← sld6 arg4.view (harg4.unread x1) x1 (harg4.read_unread x1) i (k0_off1 i) (k0_off1_eq i) (k0_off1_inb i) (Shape.Idx.first (show 0 < S1x1.numel by decide)),
    ← sld6 arg5.view (harg5.unread x2) x2 (harg5.read_unread x2) i (k0_off1 i) (k0_off1_eq i) (k0_off1_inb i) (Shape.Idx.first (show 0 < S1x1.numel by decide))]
  exact e _ _

/-- What the body leaves in the output's block on a tile of 7 chunks. -/
theorem case7 (c : Dev nD) (i : grid0.Coords) (arg3 : Memref sig .tc .smem S2x60 .f32) (harg3 : arg3.IsWhole) (arg4 : Memref sig .tc .smem S2x6 .f32) (harg4 : arg4.IsWhole) (arg5 : Memref sig .tc .smem S2x6 .f32) (harg5 : arg5.IsWhole) (arg6 : Memref sig .tc .vmem S1x10x256x128 .fp8e4m3) (harg6 : arg6.IsWhole) (arg7 : Memref sig .tc .vmem S1x1x2304x128 .fp8e4m3) (harg7 : arg7.IsWhole) (arg8 : Memref sig .tc .vmem S1x1x128x2304 .fp8e4m3) (harg8 : arg8.IsWhole) (arg9 : Memref sig .tc .vmem S256x256 .f32) (harg9 : arg9.IsWhole) (arg10 : Memref sig .tc .vmem S1x256x1280 .bf16) (harg10 : arg10.IsWhole) (arg11 : Memref sig .tc .vmem S2x2304x256 .f32) (harg11 : arg11.IsWhole) (arg12 : Memref sig .tc .vmem S8x256 .f32) (harg12 : arg12.IsWhole) (hc0 : ¬cond0_0 i) (hc1 : ¬cond0_1 i) (hc2 : ¬cond0_2 i) (hc3 : ¬cond0_3 i) (hc4 : ¬cond0_4 i) (hc5 : ¬cond0_5 i) (hc6 : cond0_6 i) (hc7 : ¬cond0_7 i) (hc8 : ¬cond0_8 i)
    (x0 : Vec Ideal S2x60 .f32) (x1 : Vec Ideal S2x6 .f32) (x2 : Vec Ideal S2x6 .f32) (x3 : Vec Ideal S1x10x256x128 .fp8e4m3) (x4 : Vec Ideal S1x1x2304x128 .fp8e4m3) (x5 : Vec Ideal S1x1x128x2304 .fp8e4m3) (x6 : Vec Ideal S256x256 .f32) :
    out0_G_7 c i arg3 harg3 arg4 harg4 arg5 harg5 arg6 harg6 arg7 harg7 arg8 harg8 arg9 harg9 arg10 harg10 arg11 harg11 arg12 harg12 hc0 hc1 hc2 hc3 hc4 hc5 hc6 hc7 hc8 x0 x1 x2 x3 x4 x5 x6 = beside (headOut 6 i x0 (at6 x1 i) (at6 x2 i) x3 x4 x5 x6) := by
  funext y
  unfold out0_G_7
  rw [View.read_writes_eq_canon _ _ _ (cover0_G_7 c i arg3 harg3 arg4 harg4 arg5 harg5 arg6 harg6 arg7 harg7 arg8 harg8 arg9 harg9 arg10 harg10 arg11 harg11 arg12 harg12 hc0 hc1 hc2 hc3 hc4 hc5 hc6 hc7 hc8 x0 x1 x2 x3 x4 x5 x6)]
  refine View.canon_apply_of_pieces _ _ ?_ y (cover0_G_7 c i arg3 harg3 arg4 harg4 arg5 harg5 arg6 harg6 arg7 harg7 arg8 harg8 arg9 harg9 arg10 harg10 arg11 harg11 arg12 harg12 hc0 hc1 hc2 hc3 hc4 hc5 hc6 hc7 hc8 x0 x1 x2 x3 x4 x5 x6 y)
  have e := fun v2 v5 => pieces7 Variants.none c none i arg3 harg3 arg4 harg4 arg5 harg5 arg6 harg6 arg7 harg7 arg8 harg8 arg9 harg9 arg10 harg10 arg11 harg11 arg12 harg12
    (BitVec.ofNat 32 (i 0).val) (BitVec.ofNat 32 (i 1).val) v2 v5 (harg3.unread x0) (harg6.unread x3) (harg7.unread x4) (harg8.unread x5) (harg9.unread x6)
    arg10.view.junk arg11.view.junk hc6 k0_t7_loop.trips le_rfl
  simp only [harg3.read_unread, harg6.read_unread, harg7.read_unread, harg8.read_unread, harg9.read_unread] at e
  rw [← sld6 arg4.view (harg4.unread x1) x1 (harg4.read_unread x1) i (k0_off1 i) (k0_off1_eq i) (k0_off1_inb i) (Shape.Idx.first (show 0 < S1x1.numel by decide)),
    ← sld6 arg5.view (harg5.unread x2) x2 (harg5.read_unread x2) i (k0_off1 i) (k0_off1_eq i) (k0_off1_inb i) (Shape.Idx.first (show 0 < S1x1.numel by decide))]
  exact e _ _

/-- What the body leaves in the output's block on a tile of 8 chunks. -/
theorem case8 (c : Dev nD) (i : grid0.Coords) (arg3 : Memref sig .tc .smem S2x60 .f32) (harg3 : arg3.IsWhole) (arg4 : Memref sig .tc .smem S2x6 .f32) (harg4 : arg4.IsWhole) (arg5 : Memref sig .tc .smem S2x6 .f32) (harg5 : arg5.IsWhole) (arg6 : Memref sig .tc .vmem S1x10x256x128 .fp8e4m3) (harg6 : arg6.IsWhole) (arg7 : Memref sig .tc .vmem S1x1x2304x128 .fp8e4m3) (harg7 : arg7.IsWhole) (arg8 : Memref sig .tc .vmem S1x1x128x2304 .fp8e4m3) (harg8 : arg8.IsWhole) (arg9 : Memref sig .tc .vmem S256x256 .f32) (harg9 : arg9.IsWhole) (arg10 : Memref sig .tc .vmem S1x256x1280 .bf16) (harg10 : arg10.IsWhole) (arg11 : Memref sig .tc .vmem S2x2304x256 .f32) (harg11 : arg11.IsWhole) (arg12 : Memref sig .tc .vmem S8x256 .f32) (harg12 : arg12.IsWhole) (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : cond0_7 i) (hc8 : ¬cond0_8 i)
    (x0 : Vec Ideal S2x60 .f32) (x1 : Vec Ideal S2x6 .f32) (x2 : Vec Ideal S2x6 .f32) (x3 : Vec Ideal S1x10x256x128 .fp8e4m3) (x4 : Vec Ideal S1x1x2304x128 .fp8e4m3) (x5 : Vec Ideal S1x1x128x2304 .fp8e4m3) (x6 : Vec Ideal S256x256 .f32) :
    out0_H_7 c i arg3 harg3 arg4 harg4 arg5 harg5 arg6 harg6 arg7 harg7 arg8 harg8 arg9 harg9 arg10 harg10 arg11 harg11 arg12 harg12 hc0 hc1 hc2 hc3 hc4 hc5 hc6 hc7 hc8 x0 x1 x2 x3 x4 x5 x6 = beside (headOut 7 i x0 (at6 x1 i) (at6 x2 i) x3 x4 x5 x6) := by
  funext y
  unfold out0_H_7
  rw [View.read_writes_eq_canon _ _ _ (cover0_H_7 c i arg3 harg3 arg4 harg4 arg5 harg5 arg6 harg6 arg7 harg7 arg8 harg8 arg9 harg9 arg10 harg10 arg11 harg11 arg12 harg12 hc0 hc1 hc2 hc3 hc4 hc5 hc6 hc7 hc8 x0 x1 x2 x3 x4 x5 x6)]
  refine View.canon_apply_of_pieces _ _ ?_ y (cover0_H_7 c i arg3 harg3 arg4 harg4 arg5 harg5 arg6 harg6 arg7 harg7 arg8 harg8 arg9 harg9 arg10 harg10 arg11 harg11 arg12 harg12 hc0 hc1 hc2 hc3 hc4 hc5 hc6 hc7 hc8 x0 x1 x2 x3 x4 x5 x6 y)
  have e := fun v2 v5 => pieces8 Variants.none c none i arg3 harg3 arg4 harg4 arg5 harg5 arg6 harg6 arg7 harg7 arg8 harg8 arg9 harg9 arg10 harg10 arg11 harg11 arg12 harg12
    (BitVec.ofNat 32 (i 0).val) (BitVec.ofNat 32 (i 1).val) v2 v5 (harg3.unread x0) (harg6.unread x3) (harg7.unread x4) (harg8.unread x5) (harg9.unread x6)
    arg10.view.junk arg11.view.junk hc7 k0_t8_loop.trips le_rfl
  simp only [harg3.read_unread, harg6.read_unread, harg7.read_unread, harg8.read_unread, harg9.read_unread] at e
  rw [← sld6 arg4.view (harg4.unread x1) x1 (harg4.read_unread x1) i (k0_off1 i) (k0_off1_eq i) (k0_off1_inb i) (Shape.Idx.first (show 0 < S1x1.numel by decide)),
    ← sld6 arg5.view (harg5.unread x2) x2 (harg5.read_unread x2) i (k0_off1 i) (k0_off1_eq i) (k0_off1_inb i) (Shape.Idx.first (show 0 < S1x1.numel by decide))]
  exact e _ _

/-- What the body leaves in the output's block on a tile of 9 chunks. -/
theorem case9 (c : Dev nD) (i : grid0.Coords) (arg3 : Memref sig .tc .smem S2x60 .f32) (harg3 : arg3.IsWhole) (arg4 : Memref sig .tc .smem S2x6 .f32) (harg4 : arg4.IsWhole) (arg5 : Memref sig .tc .smem S2x6 .f32) (harg5 : arg5.IsWhole) (arg6 : Memref sig .tc .vmem S1x10x256x128 .fp8e4m3) (harg6 : arg6.IsWhole) (arg7 : Memref sig .tc .vmem S1x1x2304x128 .fp8e4m3) (harg7 : arg7.IsWhole) (arg8 : Memref sig .tc .vmem S1x1x128x2304 .fp8e4m3) (harg8 : arg8.IsWhole) (arg9 : Memref sig .tc .vmem S256x256 .f32) (harg9 : arg9.IsWhole) (arg10 : Memref sig .tc .vmem S1x256x1280 .bf16) (harg10 : arg10.IsWhole) (arg11 : Memref sig .tc .vmem S2x2304x256 .f32) (harg11 : arg11.IsWhole) (arg12 : Memref sig .tc .vmem S8x256 .f32) (harg12 : arg12.IsWhole) (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : ¬cond0_7 i) (hc8 : cond0_8 i)
    (x0 : Vec Ideal S2x60 .f32) (x1 : Vec Ideal S2x6 .f32) (x2 : Vec Ideal S2x6 .f32) (x3 : Vec Ideal S1x10x256x128 .fp8e4m3) (x4 : Vec Ideal S1x1x2304x128 .fp8e4m3) (x5 : Vec Ideal S1x1x128x2304 .fp8e4m3) (x6 : Vec Ideal S256x256 .f32) :
    out0_I_7 c i arg3 harg3 arg4 harg4 arg5 harg5 arg6 harg6 arg7 harg7 arg8 harg8 arg9 harg9 arg10 harg10 arg11 harg11 arg12 harg12 hc0 hc1 hc2 hc3 hc4 hc5 hc6 hc7 hc8 x0 x1 x2 x3 x4 x5 x6 = beside (headOut 8 i x0 (at6 x1 i) (at6 x2 i) x3 x4 x5 x6) := by
  funext y
  unfold out0_I_7
  rw [View.read_writes_eq_canon _ _ _ (cover0_I_7 c i arg3 harg3 arg4 harg4 arg5 harg5 arg6 harg6 arg7 harg7 arg8 harg8 arg9 harg9 arg10 harg10 arg11 harg11 arg12 harg12 hc0 hc1 hc2 hc3 hc4 hc5 hc6 hc7 hc8 x0 x1 x2 x3 x4 x5 x6)]
  refine View.canon_apply_of_pieces _ _ ?_ y (cover0_I_7 c i arg3 harg3 arg4 harg4 arg5 harg5 arg6 harg6 arg7 harg7 arg8 harg8 arg9 harg9 arg10 harg10 arg11 harg11 arg12 harg12 hc0 hc1 hc2 hc3 hc4 hc5 hc6 hc7 hc8 x0 x1 x2 x3 x4 x5 x6 y)
  have e := fun v2 v5 => pieces9 Variants.none c none i arg3 harg3 arg4 harg4 arg5 harg5 arg6 harg6 arg7 harg7 arg8 harg8 arg9 harg9 arg10 harg10 arg11 harg11 arg12 harg12
    (BitVec.ofNat 32 (i 0).val) (BitVec.ofNat 32 (i 1).val) v2 v5 (harg3.unread x0) (harg6.unread x3) (harg7.unread x4) (harg8.unread x5) (harg9.unread x6)
    arg10.view.junk arg11.view.junk hc8 k0_t9_loop.trips le_rfl
  simp only [harg3.read_unread, harg6.read_unread, harg7.read_unread, harg8.read_unread, harg9.read_unread] at e
  rw [← sld6 arg4.view (harg4.unread x1) x1 (harg4.read_unread x1) i (k0_off1 i) (k0_off1_eq i) (k0_off1_inb i) (Shape.Idx.first (show 0 < S1x1.numel by decide)),
    ← sld6 arg5.view (harg5.unread x2) x2 (harg5.read_unread x2) i (k0_off1 i) (k0_off1_eq i) (k0_off1_inb i) (Shape.Idx.first (show 0 < S1x1.numel by decide))]
  exact e _ _

end Cert.KernelIdeal.Head

end
-- ==== Proof.Host.lean ====
/- What the kernel's windows hold at a grid point, in terms of the program's arguments: the scales whole,
   the query, key and value bytes read as floats and transposed, the triangular mask of infinities. -/
module

public import proofs.«01_k».proof.Proof.Run.Value
public import Idealize.ShloMosaic.Lib.StableHlo.RunRead
public import Idealize.ShloMosaic.Lib.Pointwise
public import Idealize.ShloMosaic.Lib.WordCmp
public import proofs.«01_k».proof.Proof.Math

@[expose] public section

set_option maxRecDepth 16384

noncomputable section

namespace Cert.KernelIdeal.Host

open Idealize.ShloMosaic Idealize.ShloMosaic.TcCoe Idealize.ShloMosaic.Tactic Cert.KernelIdeal Cert.KernelIdeal.Gen Cert.KernelIdeal.Run

variable (m : (ℓ : Loc nD τ sig) → Buf (Elt Ideal) ℓ) (c : Dev nD)

/-- The transposed queries at an index. -/
theorem q_at (b : Fin 2) (h : Fin 60) (s : Fin 2304) (d : Fin 128) :
    (V m c main_v3 : FVec Ideal S2x60x2304x128 .fp8e4m3) (ix4 b h s d)
      = Ideal.ofBits .fp8e4m3 ((m ((c : Thread nD τ).loc main_arg0) : IVec S2x2304x60x128 8) (ix4 b s h d)) := by
  unfold_abbrev_sides
  after_reads_simp
  pointwise []

/-- The transposed keys at an index. -/
theorem k_at (b : Fin 2) (h : Fin 6) (s : Fin 2304) (d : Fin 128) :
    (V m c main_v4 : FVec Ideal S2x6x2304x128 .fp8e4m3) (ix4 b h s d)
      = Ideal.ofBits .fp8e4m3 ((m ((c : Thread nD τ).loc main_arg2) : IVec S2x2304x6x128 8) (ix4 b s h d)) := by
  unfold_abbrev_sides
  after_reads_simp
  pointwise []

/-- The transposed values at an index. -/
theorem v_at (b : Fin 2) (h : Fin 6) (d : Fin 128) (s : Fin 2304) :
    (V m c main_v5 : FVec Ideal S2x6x128x2304 .fp8e4m3) (ix4 b h d s)
      = Ideal.ofBits .fp8e4m3 ((m ((c : Thread nD τ).loc main_arg4) : IVec S2x2304x6x128 8) (ix4 b s h d)) := by
  unfold_abbrev_sides
  after_reads_simp
  pointwise []

/-- The mask at an index: `+∞` where the key is not after the query, `-∞` else. -/
theorem mask_at (k x : Fin 256) :
    (V m c main_v9 : FVec Ideal S256x256 .f32) (ix2 k x) = (if k ≤ x then (⊤ : EReal) else ⊥) := by
  have e : (V m c main_v9 : FVec Ideal S256x256 .f32)
      = select (cmpi .sle (iotaInDim S256x256 32 0) (iotaInDim S256x256 32 1))
          (broadcastInDim S256x256 ![] bcast_S_S256x256 (constant (F := Ideal) S_ .f32 0x7F800000#32))
          (broadcastInDim S256x256 ![] bcast_S_S256x256 (constant (F := Ideal) S_ .f32 0xFF800000#32)) := by
    unfold_abbrev_sides
    after_reads_simp
    rfl
  rw [e]
  pointwise []
  rw [Column.sel_sle _ _ (by omega) (by omega), Column.ofBits_pinf, Column.ofBits_ninf]
  exact if_congr Iff.rfl rfl rfl

/-- The window of all query scales holds the argument. -/
theorem iblk0 (t : Fin cfg0.N) : (iblk m c 0 t : FVec Ideal S2x60 .f32) = m ((c : Thread nD τ).loc main_arg1) := by
  rw [← V_main_arg1 m c]
  funext y
  unfold iblk
  rw [View.read_apply]
  show V m c main_arg1 _ = V m c main_arg1 _
  congr 1
  funext r
  apply Fin.ext
  match r with
  | ⟨0, _⟩ => show 0 * 2 + 1 * (y 0).val = (y 0).val; omega
  | ⟨1, _⟩ => show 0 * 60 + 1 * (y 1).val = (y 1).val; omega

/-- The window of all key scales holds the argument. -/
theorem iblk1 (t : Fin cfg0.N) : (iblk m c 1 t : FVec Ideal S2x6 .f32) = m ((c : Thread nD τ).loc main_arg3) := by
  rw [← V_main_arg3 m c]
  funext y
  unfold iblk
  rw [View.read_apply]
  show V m c main_arg3 _ = V m c main_arg3 _
  congr 1
  funext r
  apply Fin.ext
  match r with
  | ⟨0, _⟩ => show 0 * 2 + 1 * (y 0).val = (y 0).val; omega
  | ⟨1, _⟩ => show 0 * 6 + 1 * (y 1).val = (y 1).val; omega

/-- The window of all value scales holds the argument. -/
theorem iblk2 (t : Fin cfg0.N) : (iblk m c 2 t : FVec Ideal S2x6 .f32) = m ((c : Thread nD τ).loc main_arg5) := by
  rw [← V_main_arg5 m c]
  funext y
  unfold iblk
  rw [View.read_apply]
  show V m c main_arg5 _ = V m c main_arg5 _
  congr 1
  funext r
  apply Fin.ext
  match r with
  | ⟨0, _⟩ => show 0 * 2 + 1 * (y 0).val = (y 0).val; omega
  | ⟨1, _⟩ => show 0 * 6 + 1 * (y 1).val = (y 1).val; omega

/-- The window of the mask holds the mask. -/
theorem iblk6 (t : Fin cfg0.N) : (iblk m c 6 t : FVec Ideal S256x256 .f32) = V m c main_v9 := by
  funext y
  unfold iblk
  rw [View.read_apply]
  show V m c main_v9 _ = V m c main_v9 _
  congr 1
  funext r
  apply Fin.ext
  match r with
  | ⟨0, _⟩ => show 0 * 256 + 1 * (y 0).val = (y 0).val; omega
  | ⟨1, _⟩ => show 0 * 256 + 1 * (y 1).val = (y 1).val; omega

/-- Grid coordinates are small enough to be 32-bit words. -/
theorem word (n : ℕ) (h : n < 108) : (BitVec.ofNat 32 n).toNat = n := by
  rw [BitVec.toNat_ofNat]
  omega

/-- The query window at a point: ten query heads of one tile. -/
theorem iblk3 (t : Fin cfg0.N) (b h n : ℕ) (e0 : (grid0.coords t 0).val = b) (e1 : (grid0.coords t 1).val = h) (e2 : (grid0.coords t 2).val = n)
    (a : Fin 10) (x : Fin 256) (e : Fin 128) (hb : b < 2) (hh : 10 * h + a < 60) (hn : 256 * n + x < 2304) :
    (iblk m c 3 t : FVec Ideal S1x10x256x128 .fp8e4m3) (ix4 0 a x e)
      = (V m c main_v3 : FVec Ideal S2x60x2304x128 .fp8e4m3) (ix4 ⟨b, hb⟩ ⟨10 * h + a, hh⟩ ⟨256 * n + x, hn⟩ e) := by
  unfold iblk
  rw [View.read_apply]
  show V m c main_v3 _ = V m c main_v3 _
  congr 1
  funext r
  apply Fin.ext
  match r with
  | ⟨0, _⟩ => show (BitVec.ofNat 32 (grid0.coords t 0).val).toNat * 1 + 1 * 0 = b; rw [e0, word _ (by omega)]; omega
  | ⟨1, _⟩ => show (BitVec.ofNat 32 (grid0.coords t 1).val).toNat * 10 + 1 * a.val = 10 * h + a; rw [e1, word _ (by omega)]; omega
  | ⟨2, _⟩ => show (BitVec.ofNat 32 (grid0.coords t 2).val).toNat * 256 + 1 * x.val = 256 * n + x; rw [e2, word _ (by omega)]; omega
  | ⟨3, _⟩ => show 0 * 128 + 1 * e.val = e; omega

/-- The key window at a point: one key head. -/
theorem iblk4 (t : Fin cfg0.N) (b h : ℕ) (e0 : (grid0.coords t 0).val = b) (e1 : (grid0.coords t 1).val = h)
    (s : Fin 2304) (e : Fin 128) (hb : b < 2) (hh : h < 6) :
    (iblk m c 4 t : FVec Ideal S1x1x2304x128 .fp8e4m3) (ix4 0 0 s e)
      = (V m c main_v4 : FVec Ideal S2x6x2304x128 .fp8e4m3) (ix4 ⟨b, hb⟩ ⟨h, hh⟩ s e) := by
  unfold iblk
  rw [View.read_apply]
  show V m c main_v4 _ = V m c main_v4 _
  congr 1
  funext r
  apply Fin.ext
  match r with
  | ⟨0, _⟩ => show (BitVec.ofNat 32 (grid0.coords t 0).val).toNat * 1 + 1 * 0 = b; rw [e0, word _ (by omega)]; omega
  | ⟨1, _⟩ => show (BitVec.ofNat 32 (grid0.coords t 1).val).toNat * 1 + 1 * 0 = h; rw [e1, word _ (by omega)]; omega
  | ⟨2, _⟩ => show 0 * 2304 + 1 * s.val = s; omega
  | ⟨3, _⟩ => show 0 * 128 + 1 * e.val = e; omega

/-- The value window at a point: one transposed value head. -/
theorem iblk5 (t : Fin cfg0.N) (b h : ℕ) (e0 : (grid0.coords t 0).val = b) (e1 : (grid0.coords t 1).val = h)
    (d : Fin 128) (s : Fin 2304) (hb : b < 2) (hh : h < 6) :
    (iblk m c 5 t : FVec Ideal S1x1x128x2304 .fp8e4m3) (ix4 0 0 d s)
      = (V m c main_v5 : FVec Ideal S2x6x128x2304 .fp8e4m3) (ix4 ⟨b, hb⟩ ⟨h, hh⟩ d s) := by
  unfold iblk
  rw [View.read_apply]
  show V m c main_v5 _ = V m c main_v5 _
  congr 1
  funext r
  apply Fin.ext
  match r with
  | ⟨0, _⟩ => show (BitVec.ofNat 32 (grid0.coords t 0).val).toNat * 1 + 1 * 0 = b; rw [e0, word _ (by omega)]; omega
  | ⟨1, _⟩ => show (BitVec.ofNat 32 (grid0.coords t 1).val).toNat * 1 + 1 * 0 = h; rw [e1, word _ (by omega)]; omega
  | ⟨2, _⟩ => show 0 * 128 + 1 * d.val = d; omega
  | ⟨3, _⟩ => show 0 * 2304 + 1 * s.val = s; omega

end Cert.KernelIdeal.Host

end
-- ==== Proof.Array.lean ====
/- The kernel's result, entry by entry: every tile's block is written once, so an entry is its head's
   column (`kOut` of `Math.lean`) over the arguments' scores and values. -/
module

public import proofs.«01_k».proof.Proof.Blocks
public import proofs.«01_k».proof.Proof.Host

@[expose] public section

set_option maxRecDepth 16384

noncomputable section

namespace Cert.KernelIdeal.Head

open Idealize.ShloMosaic Idealize.ShloMosaic.TcCoe Idealize.ShloMosaic.Tactic Cert.Column Cert.KernelIdeal Cert.KernelIdeal.Gen Cert.KernelIdeal.Run Cert.KernelIdeal.Host

/-- An entry of the masked scores. -/
theorem scm_at (fac : EReal) (kk qq : FVec Ideal S1x1x256x128 .fp8e4m3) (mask : FVec Ideal S256x256 .f32) (k x : Fin 256) :
    scm fac kk qq mask (ix2 k x) = min (sc fac kk qq (ix2 k x)) (mask (ix2 k x)) := by
  pointwise [scm]

/-- The score of a key for query `x` of a tile. -/
def score (fac : EReal) (K : FVec Ideal S1x1x2304x128 .fp8e4m3) (Q : FVec Ideal S1x1x256x128 .fp8e4m3) (x : Fin 256) (k : Fin 2304) : EReal :=
  (∑ e : Fin 128, K (ix4 0 0 k e) * Q (ix4 0 0 x e)) * fac

/-- A query's column of scores: the tile's own chunk is masked. -/
theorem chunks_col (fac : EReal) (K : FVec Ideal S1x1x2304x128 .fp8e4m3) (Q : FVec Ideal S1x1x256x128 .fp8e4m3) (mask : FVec Ideal S256x256 .f32)
    (n : ℕ) (x : Fin 256) (k : Fin 2304) :
    col (chunks fac (kch K) Q mask n) x k = if k.val / 256 = n then min (score fac K Q x k) (mask (ix2 ⟨k.val % 256, Nat.mod_lt _ (by norm_num)⟩ x)) else score fac K Q x k := by
  have e : (⟨(256 * (k.val / 256) + k.val % 256) % 2304, Nat.mod_lt _ (by norm_num)⟩ : Fin 2304) = k := Fin.ext (by
    show (256 * (k.val / 256) + k.val % 256) % 2304 = k.val
    omega)
  have hs : sc fac (kch K (k.val / 256)) Q (ix2 ⟨k.val % 256, Nat.mod_lt _ (by norm_num)⟩ x) = score fac K Q x k := by
    rw [sc_at, score]
    congr 1
    refine Finset.sum_congr rfl fun e' _ => ?_
    congr 1
    show K (ix4 0 0 (⟨(256 * (k.val / 256) + k.val % 256) % 2304, Nat.mod_lt _ (by norm_num)⟩ : Fin 2304) e') = _
    rw [e]
  unfold col chunks
  split
  · rename_i h
    rw [scm_at, hs]
  · exact hs

/-- The values of a channel. -/
theorem vch_col (W : FVec Ideal S1x1x128x2304 .fp8e4m3) (d : Fin 128) (k : Fin 2304) : vcol (vch W) d k = W (ix4 0 0 d k) := by
  have e : (⟨(256 * (k.val / 256) + k.val % 256) % 2304, Nat.mod_lt _ (by norm_num)⟩ : Fin 2304) = k := Fin.ext (by
    show (256 * (k.val / 256) + k.val % 256) % 2304 = k.val
    omega)
  show W (ix4 0 0 d (⟨(256 * (k.val / 256) + k.val % 256) % 2304, Nat.mod_lt _ (by norm_num)⟩ : Fin 2304)) = _
  rw [e]

variable (m : (ℓ : Loc nD τ sig) → Buf (Elt Ideal) ℓ) (c : Dev nD)

/-- What a grid point writes back: ten heads side by side, over the key chunks up to its tile. -/
theorem flushed_at (t : Fin cfg0.N) : (dats m 0 c).flushed 7 t = (cfg0.win 7).cut (grid0.coords t)
    (beside (headOut (t.val % 9) (grid0.coords t) (iblk m c 0 t) (at6 (iblk m c 1 t) (grid0.coords t)) (at6 (iblk m c 2 t) (grid0.coords t))
      (iblk m c 3 t) (iblk m c 4 t) (iblk m c 5 t) (iblk m c 6 t))) := by
  have h9 : t.val % 9 < 9 := Nat.mod_lt _ (by norm_num)
  rcases (by omega : t.val % 9 = 0 ∨ t.val % 9 = 1 ∨ t.val % 9 = 2 ∨ t.val % 9 = 3 ∨ t.val % 9 = 4 ∨ t.val % 9 = 5 ∨ t.val % 9 = 6 ∨ t.val % 9 = 7 ∨ t.val % 9 = 8) with h | h | h | h | h | h | h | h | h
  all_goals rw [h]
  · rw [flushed7_A m c t (by omega) (by omega) (by omega) (by omega) (by omega) (by omega) (by omega) (by omega) (by omega), case1]
  · rw [flushed7_B m c t (by omega) (by omega) (by omega) (by omega) (by omega) (by omega) (by omega) (by omega) (by omega), case2]
  · rw [flushed7_C m c t (by omega) (by omega) (by omega) (by omega) (by omega) (by omega) (by omega) (by omega) (by omega), case3]
  · rw [flushed7_D m c t (by omega) (by omega) (by omega) (by omega) (by omega) (by omega) (by omega) (by omega) (by omega), case4]
  · rw [flushed7_E m c t (by omega) (by omega) (by omega) (by omega) (by omega) (by omega) (by omega) (by omega) (by omega), case5]
  · rw [flushed7_F m c t (by omega) (by omega) (by omega) (by omega) (by omega) (by omega) (by omega) (by omega) (by omega), case6]
  · rw [flushed7_G m c t (by omega) (by omega) (by omega) (by omega) (by omega) (by omega) (by omega) (by omega) (by omega), case7]
  · rw [flushed7_H m c t (by omega) (by omega) (by omega) (by omega) (by omega) (by omega) (by omega) (by omega) (by omega), case8]
  · rw [flushed7_I m c t (by omega) (by omega) (by omega) (by omega) (by omega) (by omega) (by omega) (by omega) (by omega), case9]

/-- The grid point of batch `b`, key head `h` and tile `n`. -/
def at3 (b : Fin 2) (h : Fin 6) (n : Fin 9) : Fin cfg0.N := ⟨b.val * 54 + h.val * 9 + n.val, by
  have e : cfg0.N = 108 := N_0
  rw [e]; omega⟩

/-- The coordinates of that grid point. -/
theorem at3_coords : ∀ (b : Fin 2) (h : Fin 6) (n : Fin 9),
    (grid0.coords (at3 b h n) 0).val = b.val ∧ (grid0.coords (at3 b h n) 1).val = h.val ∧ (grid0.coords (at3 b h n) 2).val = n.val := by
  decide +kernel

/-- An entry of the kernel's result. -/
theorem final (b : Fin 2) (h : Fin 6) (n : Fin 9) (a : Fin 10) (x : Fin 256) (d : Fin 128) (r : Fin 2304) (hr : r.val = 256 * n.val + x.val)
    (cc : Fin 7680) (hcc : cc.val = 1280 * h.val + (128 * a.val + d.val)) :
    ((dats m 0 c).arrAt 7 cfg0.N : FVec Ideal S2x2304x7680 .bf16) (ix3 b r cc)
      = kOut (col (chunks (facOf (at2 (m ((c : Thread nD τ).loc main_arg1)) ![b.val, 10 * h.val + a.val]) ((m ((c : Thread nD τ).loc main_arg3) : FVec Ideal S2x6 .f32) (ix2 b h)))
            (kch (iblk m c 4 (at3 b h n))) (hd (iblk m c 3 (at3 b h n)) a) (V m c main_v9) n) x)
          (vcol (vch (iblk m c 5 (at3 b h n))) d) ((m ((c : Thread nD τ).loc main_arg5) : FVec Ideal S2x6 .f32) (ix2 b h)) n := by
  obtain ⟨e0, e1, e2⟩ := at3_coords b h n
  have e := congrFun (blocks7 m c (at3 b h n) (flush0_7 _)) (ix3 0 x (⟨128 * a.val + d.val, by omega⟩ : Fin 1280))
  rw [flushed_at, View.read_apply, iblk0 m c, iblk1 m c, iblk2 m c, iblk6 m c] at e
  have hn : (at3 b h n).val % 9 = n.val := by
    show (b.val * 54 + h.val * 9 + n.val) % 9 = n.val
    omega
  have h6 : ∀ X : FVec Ideal S2x6 .f32, at6 X (grid0.coords (at3 b h n)) = X (ix2 b h) := fun X => by
    have f0 : (⟨(grid0.coords (at3 b h n) 0).val, (grid0.coords (at3 b h n) 0).isLt⟩ : Fin 2) = b := Fin.ext e0
    have f1 : (⟨(grid0.coords (at3 b h n) 1).val, (grid0.coords (at3 b h n) 1).isLt⟩ : Fin 6) = h := Fin.ext e1
    exact congrArg X (congrArg₂ ix2 f0 f1)
  have ha : (128 * a.val + d.val) / 128 = a.val := by omega
  have hd' : (⟨(128 * a.val + d.val) % 128, Nat.mod_lt _ (by norm_num)⟩ : Fin 128) = d := Fin.ext (by
    show (128 * a.val + d.val) % 128 = d.val
    omega)
  rw [hn, h6, h6] at e
  rw [← out_at]
  refine Eq.trans (congrArg _ ?_) (e.trans ?_)
  · funext q
    apply Fin.ext
    match q with
    | ⟨0, _⟩ => show b.val = (BitVec.ofNat 32 (grid0.coords (at3 b h n) 0).val).toNat * 1 + 1 * 0; rw [e0, word _ (by omega)]; omega
    | ⟨1, _⟩ => show r.val = (BitVec.ofNat 32 (grid0.coords (at3 b h n) 2).val).toNat * 256 + 1 * x.val; rw [e2, word _ (by omega)]; omega
    | ⟨2, _⟩ => show cc.val = (BitVec.ofNat 32 (grid0.coords (at3 b h n) 1).val).toNat * 1280 + 1 * (128 * a.val + d.val); rw [e1, word _ (by omega)]; omega
  · show headOut n.val (grid0.coords (at3 b h n)) _ _ _ _ _ _ _ ((128 * a.val + d.val) / 128) (ix3 0 x (⟨(128 * a.val + d.val) % 128, Nat.mod_lt _ (by norm_num)⟩ : Fin 128)) = _
    rw [ha, hd', headOut, e0, e1]

end Cert.KernelIdeal.Head

end
-- ==== Proof.Score.lean ====
/- The scores: the kernel's, in base two, are the reference's over `log 2`; and those that are finite are
   far smaller than the largest float. -/
module

public import proofs.«01_k».proof.Proof.Math

@[expose] public section

noncomputable section

namespace Cert.Column

open Idealize.ShloMosaic

/-- The float nearest `128 ^ (-1/2)`. -/
def c128 : ℝ := 11863283 / 2 ^ 27

/-- The scores' factor is that number. -/
theorem ofBits_c128 : Ideal.ofBits .f32 0x3DB504F3#32 = ((c128 : ℝ) : EReal) := by
  rw [ofBits_f32]
  simp only [Ideal.ieee, show (BitVec.extractLsb' (8 + 23) 1 0x3DB504F3#32 == 1#1) = false by decide,
    show (BitVec.extractLsb' 23 8 0x3DB504F3#32).toNat = 123 by decide,
    show (BitVec.extractLsb' 0 23 0x3DB504F3#32).toNat = 3474675 by decide]
  norm_num [c128]

/-- A query's score against key `j`, of its codes, the key's codes and the two scales. -/
def rawScore (q : Fin 128 → EReal) (k : ℕ → Fin 128 → EReal) (sq sk : EReal) (j : ℕ) : EReal :=
  (∑ e : Fin 128, q e * k j e) * (sq * sk * Ideal.ofBits .f32 0x3DB504F3#32)

/-- The kernel's score is the reference's over `log 2`. -/
theorem score_ker (q : Fin 128 → EReal) (k : ℕ → Fin 128 → EReal) (sq sk : EReal) (j : ℕ) :
    (∑ e : Fin 128, k j e * q e) * (sq * sk * Ideal.ofBits .f32 0x3DB504F3#32 * (((Real.log 2)⁻¹ : ℝ) : EReal))
      = rawScore q k sq sk j * (((Real.log 2)⁻¹ : ℝ) : EReal) := by
  rw [rawScore, mul_assoc (∑ e : Fin 128, q e * k j e), Finset.sum_congr rfl fun e _ => mul_comm (k j e) (q e)]

/-- If `x` is finite, its magnitude is at most `B`. -/
def Within (B : ℝ) (x : EReal) : Prop := ∀ r : ℝ, x = (r : EReal) → |r| ≤ B

/-- A product of bounded factors. -/
theorem Within.mul {A B : ℝ} {x y : EReal} (hA : 0 ≤ A) (hB : 0 ≤ B) (hx : Within A x) (hy : Within B y) : Within (A * B) (x * y) := by
  intro r h
  have h0 : 0 ≤ A * B := mul_nonneg hA hB
  have z : ∀ w : EReal, (w = 0 ∨ w = ⊤ ∨ w = ⊥) → w = (r : EReal) → |r| ≤ A * B := by
    rintro w (rfl | rfl | rfl) e
    · have : (0 : ℝ) = r := by exact_mod_cast e
      rw [← this, abs_zero]; exact h0
    · exact absurd e.symm (EReal.coe_ne_top r)
    · exact absurd e.symm (EReal.coe_ne_bot r)
  induction x using EReal.rec with
  | coe a =>
    induction y using EReal.rec with
    | coe b =>
      have : a * b = r := by exact_mod_cast h
      rw [← this, abs_mul]
      exact mul_le_mul (hx a rfl) (hy b rfl) (abs_nonneg _) hA
    | top =>
      refine z _ ?_ h
      rcases lt_trichotomy a 0 with ha | ha | ha
      · exact .inr (.inr (EReal.coe_mul_top_of_neg ha))
      · exact .inl (by rw [ha, EReal.coe_zero, zero_mul])
      · exact .inr (.inl (EReal.coe_mul_top_of_pos ha))
    | bot =>
      refine z _ ?_ h
      rcases lt_trichotomy a 0 with ha | ha | ha
      · exact .inr (.inl (EReal.coe_mul_bot_of_neg ha))
      · exact .inl (by rw [ha, EReal.coe_zero, zero_mul])
      · exact .inr (.inr (EReal.coe_mul_bot_of_pos ha))
  | top =>
    refine z _ ?_ h
    rcases lt_trichotomy y 0 with hy | hy | hy
    · exact .inr (.inr (EReal.top_mul_of_neg hy))
    · exact .inl (by rw [hy, mul_zero])
    · exact .inr (.inl (EReal.top_mul_of_pos hy))
  | bot =>
    refine z _ ?_ h
    rcases lt_trichotomy y 0 with hy | hy | hy
    · exact .inr (.inl (EReal.bot_mul_of_neg hy))
    · exact .inl (by rw [hy, mul_zero])
    · exact .inr (.inr (EReal.bot_mul_of_pos hy))

/-- A sum of bounded terms. -/
theorem Within.add {A B : ℝ} {x y : EReal} (hx : Within A x) (hy : Within B y) : Within (A + B) (x + y) := by
  intro r h
  induction x using EReal.rec with
  | bot => rw [EReal.bot_add] at h; exact absurd h.symm (EReal.coe_ne_bot r)
  | top =>
    induction y using EReal.rec with
    | bot => rw [EReal.add_bot] at h; exact absurd h.symm (EReal.coe_ne_bot r)
    | top => rw [EReal.top_add_top] at h; exact absurd h.symm (EReal.coe_ne_top r)
    | coe b => rw [EReal.top_add_coe] at h; exact absurd h.symm (EReal.coe_ne_top r)
  | coe a =>
    induction y using EReal.rec with
    | bot => rw [EReal.add_bot] at h; exact absurd h.symm (EReal.coe_ne_bot r)
    | top => rw [EReal.coe_add_top] at h; exact absurd h.symm (EReal.coe_ne_top r)
    | coe b =>
      have : a + b = r := by exact_mod_cast h
      rw [← this]
      exact (abs_add_le a b).trans (add_le_add (hx a rfl) (hy b rfl))

/-- A sum of `n` terms of one bound. -/
theorem Within.sum {n : ℕ} {B : ℝ} (f : Fin n → EReal) (h : ∀ e, Within B (f e)) : Within (n * B) (∑ e, f e) := by
  induction n with
  | zero =>
    intro r e
    have : (0 : ℝ) = r := by rw [Finset.univ_eq_empty, Finset.sum_empty] at e; exact_mod_cast e
    simp [← this]
  | succ n ih =>
    rw [Fin.sum_univ_castSucc]
    have := (ih (fun e => f e.castSucc) fun e => h _).add (h (Fin.last n))
    convert this using 1
    push_cast; ring

/-- Codes up to 448 and scales up to `2^50` keep a finite score far below the largest float. -/
theorem score_within {q : Fin 128 → EReal} {k : ℕ → Fin 128 → EReal} {sq sk : EReal} (j : ℕ) (hQ : ∀ e, Within 448 (q e)) (hK : ∀ e, Within 448 (k j e))
    (hq : Within (2 ^ 50) sq) (hk : Within (2 ^ 50) sk) (r : ℝ) (h : rawScore q k sq sk j = (r : EReal)) : |r| * (Real.log 2)⁻¹ ≤ big := by
  have hc : Within 1 (Ideal.ofBits .f32 0x3DB504F3#32) := fun s e => by
    rw [ofBits_c128] at e
    have : c128 = s := by exact_mod_cast e
    rw [← this, abs_of_nonneg (by norm_num [c128])]
    norm_num [c128]
  have h1 : |r| ≤ ((128 : ℕ) * (448 * 448) : ℝ) * (2 ^ 50 * 2 ^ 50 * 1) :=
    (Within.sum _ fun e => (hQ e).mul (by norm_num) (by norm_num) (hK e)).mul (by norm_num) (by norm_num)
      (((hq.mul (by norm_num) (by norm_num) hk).mul (by norm_num) (by norm_num) hc)) r h
  have h2 : (Real.log 2)⁻¹ ≤ 2 := by
    have : 1 - (2 : ℝ)⁻¹ ≤ Real.log 2 := Real.one_sub_inv_le_log_of_pos (by norm_num)
    exact (inv_le_comm₀ log2_pos (by norm_num)).2 (by linarith)
  calc _ ≤ (((128 : ℕ) * (448 * 448) : ℝ) * (2 ^ 50 * 2 ^ 50 * 1)) * 2 := mul_le_mul h1 h2 (inv_pos.2 log2_pos).le (by norm_num)
    _ ≤ big := by norm_num [big]

end Cert.Column

end
-- ==== Proof.KernelCol.lean ====
/- The kernel's column of scores and of values, read back to the program's arguments: the scores in base
   two up to the query's position and minus infinity after it. -/
module

public import proofs.«01_k».proof.Proof.Array
public import proofs.«01_k».proof.Proof.Score

@[expose] public section

set_option maxRecDepth 16384

noncomputable section

namespace Cert.KernelIdeal.Head

open Idealize.ShloMosaic Idealize.ShloMosaic.TcCoe Idealize.ShloMosaic.Tactic Cert.Column Cert.KernelIdeal Cert.KernelIdeal.Gen Cert.KernelIdeal.Run Cert.KernelIdeal.Host

variable (m : (ℓ : Loc nD τ sig) → Buf (Elt Ideal) ℓ) (c : Dev nD)

/-- The kernel's scores of a query, key by key. -/
theorem col_score (b : Fin 2) (h : Fin 6) (n : Fin 9) (a : Fin 10) (x : Fin 256) (r : Fin 2304) (hr : r.val = 256 * n.val + x.val)
    (o : Fin 60) (ho : o.val = 10 * h.val + a.val) (q : Fin 128 → EReal) (k : ℕ → Fin 128 → EReal) (sq sk : EReal)
    (hq : ∀ e : Fin 128, Ideal.ofBits .fp8e4m3 ((m ((c : Thread nD τ).loc main_arg0) : IVec S2x2304x60x128 8) (ix4 b r o e)) = q e)
    (hk : ∀ (j : Fin 2304) (e : Fin 128), Ideal.ofBits .fp8e4m3 ((m ((c : Thread nD τ).loc main_arg2) : IVec S2x2304x6x128 8) (ix4 b j h e)) = k j e)
    (hsq : ((m ((c : Thread nD τ).loc main_arg1) : FVec Ideal S2x60 .f32) (ix2 b o) : EReal) = sq)
    (hsk : ((m ((c : Thread nD τ).loc main_arg3) : FVec Ideal S2x6 .f32) (ix2 b h) : EReal) = sk)
    (j : ℕ) (hj : j < 256 * (n.val + 1)) :
    col (chunks (facOf (at2 (m ((c : Thread nD τ).loc main_arg1)) ![b.val, 10 * h.val + a.val]) ((m ((c : Thread nD τ).loc main_arg3) : FVec Ideal S2x6 .f32) (ix2 b h)))
        (kch (iblk m c 4 (at3 b h n))) (hd (iblk m c 3 (at3 b h n)) a) (V m c main_v9) n) x j
      = if j ≤ r.val then rawScore q k sq sk j * (((Real.log 2)⁻¹ : ℝ) : EReal) else ⊥ := by
  obtain ⟨e0, e1, e2⟩ := at3_coords b h n
  have hj' : j < 2304 := by omega
  have hat : at2 (m ((c : Thread nD τ).loc main_arg1)) ![b.val, 10 * h.val + a.val] = (m ((c : Thread nD τ).loc main_arg1) : FVec Ideal S2x60 .f32) (ix2 b o) := by
    have f0 : (⟨b.val % 2, Nat.mod_lt _ (by norm_num)⟩ : Fin 2) = b := Fin.ext (by show b.val % 2 = b.val; omega)
    have f1 : (⟨(10 * h.val + a.val) % 60, Nat.mod_lt _ (by norm_num)⟩ : Fin 60) = o := Fin.ext (by show (10 * h.val + a.val) % 60 = o.val; omega)
    show (m ((c : Thread nD τ).loc main_arg1) : FVec Ideal S2x60 .f32) (ix2 (⟨b.val % 2, Nat.mod_lt _ (by norm_num)⟩ : Fin 2) (⟨(10 * h.val + a.val) % 60, Nat.mod_lt _ (by norm_num)⟩ : Fin 60)) = _
    rw [f0, f1]
  have hs : score (facOf (at2 (m ((c : Thread nD τ).loc main_arg1)) ![b.val, 10 * h.val + a.val]) ((m ((c : Thread nD τ).loc main_arg3) : FVec Ideal S2x6 .f32) (ix2 b h)))
      (iblk m c 4 (at3 b h n)) (hd (iblk m c 3 (at3 b h n)) a) x ⟨j, hj'⟩ = rawScore q k sq sk j * (((Real.log 2)⁻¹ : ℝ) : EReal) := by
    rw [hat]
    unfold score facOf
    rw [log2_e]
    rw [← score_ker, ← hsq, ← hsk]
    refine congrArg₂ (· * ·) (Finset.sum_congr rfl fun e _ => congrArg₂ (· * ·) ?_ ?_) rfl
    rotate_left
    · have f : (⟨a.val % 10, Nat.mod_lt _ (by norm_num)⟩ : Fin 10) = a := Fin.ext (by show a.val % 10 = a.val; omega)
      show (iblk m c 3 (at3 b h n) : FVec Ideal S1x10x256x128 .fp8e4m3) (ix4 0 (⟨a.val % 10, Nat.mod_lt _ (by norm_num)⟩ : Fin 10) x e) = _
      rw [f, iblk3 m c (at3 b h n) b.val h.val n.val e0 e1 e2 a x e b.isLt (by omega) (by omega)]
      have g1 : (⟨10 * h.val + a.val, by omega⟩ : Fin 60) = o := Fin.ext ho.symm
      have g2 : (⟨256 * n.val + x.val, by omega⟩ : Fin 2304) = r := Fin.ext hr.symm
      rw [q_at]
      exact (by rw [g1, g2] : _ = _).trans (hq e)
    · show (iblk m c 4 (at3 b h n) : FVec Ideal S1x1x2304x128 .fp8e4m3) (ix4 0 0 ⟨j, hj'⟩ e) = _
      rw [iblk4 m c (at3 b h n) b.val h.val e0 e1 ⟨j, hj'⟩ e b.isLt h.isLt, k_at]
      exact hk ⟨j, hj'⟩ e
  refine (chunks_col _ _ _ _ _ x ⟨j, hj'⟩).trans ?_
  rw [hs, mask_at]
  show (if j / 256 = n.val then min _ (if (⟨j % 256, _⟩ : Fin 256) ≤ x then (⊤ : EReal) else ⊥) else _) = _
  have hx : ((⟨j % 256, Nat.mod_lt _ (by norm_num)⟩ : Fin 256) ≤ x) ↔ j % 256 ≤ x.val := Iff.rfl
  by_cases h1 : j / 256 = n.val
  · rw [if_pos h1]
    by_cases h2 : j % 256 ≤ x.val
    · rw [if_pos (hx.2 h2), if_pos (by omega), min_eq_left le_top]
    · rw [if_neg (mt hx.1 h2), if_neg (by omega), min_eq_right bot_le]
  · rw [if_neg h1, if_pos (by omega)]

/-- The kernel's values of a channel, key by key. -/
theorem val_code (b : Fin 2) (h : Fin 6) (n : Fin 9) (d : Fin 128) (j : Fin 2304) :
    vcol (vch (iblk m c 5 (at3 b h n))) d j = Ideal.ofBits .fp8e4m3 ((m ((c : Thread nD τ).loc main_arg4) : IVec S2x2304x6x128 8) (ix4 b j h d)) := by
  obtain ⟨e0, e1, e2⟩ := at3_coords b h n
  rw [vch_col, iblk5 m c (at3 b h n) b.val h.val e0 e1 d j b.isLt h.isLt, v_at]

end Cert.KernelIdeal.Head

end
-- ==== Proof.Ref.lean ====
/- What the reference computes, entry by entry: a causal row of scores, its softmax, the row's
   power-of-two scale, the codes and their weighted sum of values (`rOut` of `Math.lean`). -/
module

public import proofs.«01_k».proof.Proof.Math
public import proofs.«01_k».proof.Proof.Gen.ReferenceIdeal.Value
public import Idealize.ShloMosaic.Lib.Pointwise

@[expose] public section

set_option maxRecDepth 16384

noncomputable section

namespace Cert.ReferenceIdeal.Row

open Idealize.ShloMosaic Idealize.ShloMosaic.TcCoe Idealize.ShloMosaic.Tactic Cert.Column Cert.ReferenceIdeal Cert.ReferenceIdeal.Gen

/-- A maximum along the last of three axes, at any extents. -/
theorem max_last {a b c : ℕ} (x : FVec Ideal ⟨3, ![a, b, c]⟩ .f32) (h : Shape.Reduces (s := ⟨3, ![a, b, c]⟩) [2] ⟨2, ![a, b]⟩) (i : Fin a) (j : Fin b) :
    multiReduction .maximumf [2] ⟨2, ![a, b]⟩ x 0xFF800000#32 h (.inl rfl) rfl (ix2 i j)
      = Finset.univ.fold max (Ideal.ofBits .f32 0xFF800000#32) fun k : Fin c => x (ix3 i j k) := by
  pointwise []

/-- A sum along the last of three axes, at any extents. -/
theorem add_last {a b c : ℕ} (x : FVec Ideal ⟨3, ![a, b, c]⟩ .f32) (h : Shape.Reduces (s := ⟨3, ![a, b, c]⟩) [2] ⟨2, ![a, b]⟩) (i : Fin a) (j : Fin b) :
    multiReduction .add [2] ⟨2, ![a, b]⟩ x 0x00000000#32 h (.inl rfl) rfl (ix2 i j) = ∑ k : Fin c, x (ix3 i j k) := by
  pointwise []

variable (qs ks : FVec Ideal S120x1x1 .f32) (q k : FVec Ideal S120x2304x128 .fp8e4m3)

/-- A row's masked scores. -/
def srow (h : Fin 120) (g : Fin 2304) (j : ℕ) : EReal :=
  if j ≤ g then (∑ e : Fin 128, q (ix3 h g e) * k (ix3 h ⟨j % 2304, Nat.mod_lt _ (by norm_num)⟩ e))
    * (qs (ix3 h 0 0) * ks (ix3 h 0 0) * Ideal.ofBits .f32 0x3DB504F3#32) else ⊥

/-- The array of masked scores. -/
def sv : FVec Ideal S120x2304x2304 .f32 :=
  select (cmpi .sle (iota .tc S120x2304x2304 32 [2] iota_S120x2304x2304_d2_w32) (iota .tc S120x2304x2304 32 [1] iota_S120x2304x2304_d1_w32))
    (mulf (matmul dot_S120x2304x128_S120x2304x128_S120x2304x2304_2_2_1_1_0_0 none (shapeCast S120x2304x128 q shapeCasts_S120x2304x128_S120x2304x128)
        (shapeCast S120x2304x128 k shapeCasts_S120x2304x128_S120x2304x128) (constant S120x2304x2304 .f32 0x00000000#32))
      (broadcastTo S120x2304x2304 (mulf (mulf (shapeCast S120x1x1 qs shapeCasts_S120x1x1_S120x1x1) (shapeCast S120x1x1 ks shapeCasts_S120x1x1_S120x1x1))
        (broadcast S120x1x1 (Scalar.ofBits .f32 0x3DB504F3#32))) broadcasts_S120x1x1_S120x2304x2304))
    (broadcast S120x2304x2304 (Scalar.ofBits .f32 0xFF800000#32))

/-- The rows' maxima. -/
def mv (x : FVec Ideal S120x2304x2304 .f32) : FVec Ideal S120x2304 .f32 :=
  multiReduction .maximumf [2] S120x2304 x 0xFF800000#32 reduces_S120x2304x2304_S120x2304 (.inl rfl) rfl

/-- The exponentials of the scores less the rows' maxima. -/
def ev (x : FVec Ideal S120x2304x2304 .f32) (M : FVec Ideal S120x2304 .f32) : FVec Ideal S120x2304x2304 .f32 :=
  exp (subf x (broadcastTo S120x2304x2304 (shapeCast S120x2304x1 (maximumf (broadcast S120x2304 (Scalar.ofBits .f32 0xFF800000#32)) M)
    shapeCasts_S120x2304_S120x2304x1) broadcasts_S120x2304x1_S120x2304x2304))

/-- The rows' sums. -/
def dv (x : FVec Ideal S120x2304x2304 .f32) : FVec Ideal S120x2304 .f32 :=
  multiReduction .add [2] S120x2304 x 0x00000000#32 reduces_S120x2304x2304_S120x2304 (.inl rfl) rfl

/-- The rows over their sums. -/
def qv (x : FVec Ideal S120x2304x2304 .f32) (D : FVec Ideal S120x2304 .f32) : FVec Ideal S120x2304x2304 .f32 :=
  divf x (broadcastTo S120x2304x2304 (shapeCast S120x2304x1 D shapeCasts_S120x2304_S120x2304x1) broadcasts_S120x2304x1_S120x2304x2304)

/-- The rows' exponents, less one. -/
def lv (M : FVec Ideal S120x2304 .f32) : FVec Ideal S120x2304x1 .f32 :=
  floor (mulf (log (mulf (shapeCast S120x2304x1 M shapeCasts_S120x2304_S120x2304x1) (broadcast S120x2304x1 (Scalar.ofBits .f32 0x3B124925#32))))
    (broadcast S120x2304x1 (Named.named κ "log2_e" 0x3FB8AA3B#32)))

/-- The probabilities, in stages. -/
theorem pay2_eq : k0_pay2 (F := Ideal) qs ks q k = qv (ev (sv qs ks q k) (mv (sv qs ks q k))) (dv (ev (sv qs ks q k) (mv (sv qs ks q k)))) := rfl

/-- The quantiser's exponent less one, in stages. -/
theorem pay3_eq : k0_pay3 (F := Ideal) qs ks q k = lv (mv (k0_pay2 qs ks q k)) := rfl

/-- An entry of the masked scores. -/
theorem sv_at (h : Fin 120) (g j : Fin 2304) : sv qs ks q k (ix3 h g j) = srow qs ks q k h g j := by
  pointwise [sv]
  rw [sel_sle _ _ (by omega) (by omega), ofBits_ninf]
  unfold srow
  have e : (⟨(j : ℕ) % 2304, Nat.mod_lt _ (by norm_num)⟩ : Fin 2304) = j := Fin.ext (Nat.mod_eq_of_lt j.2)
  rw [e]

/-- The maximum of a row. -/
theorem mv_at (x : FVec Ideal S120x2304x2304 .f32) (h : Fin 120) (g : Fin 2304) : mv x (ix2 h g) = Finset.univ.fold max ⊥ fun k : Fin 2304 => x (ix3 h g k) :=
  (max_last x reduces_S120x2304x2304_S120x2304 h g).trans (by rw [ofBits_ninf])

/-- The sum of a row. -/
theorem dv_at (x : FVec Ideal S120x2304x2304 .f32) (h : Fin 120) (g : Fin 2304) : dv x (ix2 h g) = ∑ k : Fin 2304, x (ix3 h g k) :=
  add_last x reduces_S120x2304x2304_S120x2304 h g

/-- An exponential against the row's maximum. -/
theorem ev_at (x : FVec Ideal S120x2304x2304 .f32) (M : FVec Ideal S120x2304 .f32) (h : Fin 120) (g j : Fin 2304) :
    ev x M (ix3 h g j) = Ideal.exp (x (ix3 h g j) - max ⊥ (M (ix2 h g))) := by
  pointwise [ev]
  rw [ofBits_ninf]

/-- A row divided by its sum. -/
theorem qv_at (x : FVec Ideal S120x2304x2304 .f32) (D : FVec Ideal S120x2304 .f32) (h : Fin 120) (g j : Fin 2304) :
    qv x D (ix3 h g j) = Ideal.div (x (ix3 h g j)) (D (ix2 h g)) := by
  pointwise [qv]

/-- An entry of the softmax. -/
theorem p_at (h : Fin 120) (g j : Fin 2304) : k0_pay2 (F := Ideal) qs ks q k (ix3 h g j) = rP (srow qs ks q k h g) j := by
  simp only [pay2_eq, qv_at, dv_at, ev_at, mv_at, sv_at]
  rfl

/-- The named constant is `1 / log 2`. -/
theorem log2_e : (Named.named κ "log2_e" 0x3FB8AA3B#32 : Ideal .f32) = (((Real.log 2)⁻¹ : ℝ) : EReal) :=
  IdealRules.named_const.ideal_named_scalar _ _ _ _ rfl

/-- The floor of the base-two logarithm of a row's scaled maximum. -/
theorem lv_at (M : FVec Ideal S120x2304 .f32) (h : Fin 120) (g : Fin 2304) :
    lv M (ix3 h g 0) = Ideal.liftRound (fun r => ⌊r⌋) (Ideal.log (M (ix2 h g) * Ideal.ofBits .f32 0x3B124925#32) * (((Real.log 2)⁻¹ : ℝ) : EReal)) := by
  pointwise [lv]
  rw [log2_e]

/-- A row's exponent. -/
theorem e_at (h : Fin 120) (g : Fin 2304) : k0_pay3 (F := Ideal) qs ks q k (ix3 h g 0) + 1 = rE (srow qs ks q k h g) := by
  simp only [pay3_eq, lv_at, mv_at, p_at]
  rfl

/-- An entry of the result, from the softmax and the exponents. -/
theorem o_at (A : FVec Ideal S120x2304x2304 .f32) (B : FVec Ideal S120x2304x1 .f32) (one : Ideal .f32) (v : FVec Ideal S120x2304x128 .fp8e4m3) (vs : FVec Ideal S120x1x1 .f32)
    (b : Fin 2) (g : Fin 2304) (cc : Fin 7680) (h : Fin 120) (d : Fin 128) (hh : h.val = b.val * 60 + cc.val / 128) (hd : d.val = cc.val % 128) :
    k0_pay1 (F := Ideal) A B one v vs (ix3 b g cc) = (∑ x : Fin 2304, min (Ideal.ofBits .f32 0x43E00000#32) (max (Ideal.ofBits .f32 0xC3E00000#32)
        (A (ix3 h g x) * Ideal.exp2 (0 - (B (ix3 h g 0) + one)))) * v (ix3 h x d)) * (Ideal.exp2 (B (ix3 h g 0) + one) * vs (ix3 h 0 0)) := by
  have e : (⟨b.val * 60 + cc.val / 128, by omega⟩ : Fin 120) = h := Fin.ext hh.symm
  have e' : (⟨cc.val % 128, by omega⟩ : Fin 128) = d := Fin.ext hd.symm
  pointwise [k0_pay1]
  rw [← e, ← e']
  rfl

/-- The values of channel `d` by key. -/
def vrow (v : FVec Ideal S120x2304x128 .fp8e4m3) (h : Fin 120) (d : Fin 128) (j : ℕ) : EReal := v (ix3 h ⟨j % 2304, Nat.mod_lt _ (by norm_num)⟩ d)

/-- An entry of the result. -/
theorem r_at (v : FVec Ideal S120x2304x128 .fp8e4m3) (vs : FVec Ideal S120x1x1 .f32)
    (b : Fin 2) (g : Fin 2304) (cc : Fin 7680) (h : Fin 120) (d : Fin 128) (hh : h.val = b.val * 60 + cc.val / 128) (hd : d.val = cc.val % 128) :
    k0_pay1 (F := Ideal) (k0_pay2 qs ks q k) (k0_pay3 qs ks q k) (Scalar.ofBits .f32 0x3F800000#32) v vs (ix3 b g cc)
      = rOut (srow qs ks q k h g) (vrow v h d) (vs (ix3 h 0 0)) := by
  have e1 : (Scalar.ofBits .f32 0x3F800000#32 : Ideal .f32) = 1 := by
    show Ideal.ofBits .f32 0x3F800000#32 = 1
    exact ofBits_one
  have ev : ∀ x : Fin 2304, v (ix3 h x d) = vrow v h d x := fun x => by
    have e : (⟨(x : ℕ) % 2304, Nat.mod_lt _ (by norm_num)⟩ : Fin 2304) = x := Fin.ext (Nat.mod_eq_of_lt x.2)
    unfold vrow
    rw [e]
  rw [o_at _ _ _ v vs b g cc h d hh hd, e1, e_at]
  simp only [p_at, ev]
  rfl

end Cert.ReferenceIdeal.Row

end
-- ==== Proof.RefHost.lean ====
/- What the reference's windows hold, in terms of the program's arguments: each array whole, the key and
   value heads repeated for the ten query heads that read them. -/
module

public import proofs.«01_k».proof.Proof.Ref
public import Idealize.ShloMosaic.Lib.StableHlo.RunRead
public import Idealize.ShloMosaic.Lib.Pipeline.ValueKit

@[expose] public section

set_option maxRecDepth 16384

noncomputable section

namespace Cert.ReferenceIdeal.Row

open Idealize.ShloMosaic Idealize.ShloMosaic.TcCoe Idealize.ShloMosaic.Tactic Cert.Column Cert.ReferenceIdeal Cert.ReferenceIdeal.Gen Cert.ReferenceIdeal.Value

variable (m : (ℓ : Loc nD τ sig) → Buf (Elt Ideal) ℓ) (c : Dev nD)

/-- The heads' axis: `60` query heads of each batch, ten for a key head. -/
theorem head_axis {b : Fin 2} {o : Fin 60} {h : Fin 120} (hh : h.val = b.val * 60 + o.val) :
    (⟨h.val / 60, by omega⟩ : Fin 2) = b ∧ (⟨h.val % 60, by omega⟩ : Fin 60) = o
      ∧ (⟨h.val / 10 % 6, by omega⟩ : Fin 6) = ⟨o.val / 10, by omega⟩ :=
  ⟨Fin.ext (by show h.val / 60 = b.val; omega), Fin.ext (by show h.val % 60 = o.val; omega), Fin.ext (by show h.val / 10 % 6 = o.val / 10; omega)⟩

/-- The queries at an index. -/
theorem q_at (b : Fin 2) (o : Fin 60) (h : Fin 120) (hh : h.val = b.val * 60 + o.val) (s : Fin 2304) (d : Fin 128) :
    (V m c main_v4 : FVec Ideal S120x2304x128 .fp8e4m3) (ix3 h s d)
      = Ideal.ofBits .fp8e4m3 ((m ((c : Thread nD τ).loc main_arg0) : IVec S2x2304x60x128 8) (ix4 b s o d)) := by
  obtain ⟨e1, e2, e3⟩ := head_axis hh
  unfold_abbrev_sides
  after_reads_simp
  pointwise []
  rw [e1, e2]

/-- The keys at an index. -/
theorem k_at (b : Fin 2) (o : Fin 60) (h : Fin 120) (hh : h.val = b.val * 60 + o.val) (s : Fin 2304) (d : Fin 128) :
    (V m c main_v8 : FVec Ideal S120x2304x128 .fp8e4m3) (ix3 h s d)
      = Ideal.ofBits .fp8e4m3 ((m ((c : Thread nD τ).loc main_arg2) : IVec S2x2304x6x128 8) (ix4 b s ⟨o.val / 10, by omega⟩ d)) := by
  obtain ⟨e1, e2, e3⟩ := head_axis hh
  unfold_abbrev_sides
  after_reads_simp
  pointwise []
  rw [e1, e3]

/-- The values at an index. -/
theorem v_at (b : Fin 2) (o : Fin 60) (h : Fin 120) (hh : h.val = b.val * 60 + o.val) (s : Fin 2304) (d : Fin 128) :
    (V m c main_v12 : FVec Ideal S120x2304x128 .fp8e4m3) (ix3 h s d)
      = Ideal.ofBits .fp8e4m3 ((m ((c : Thread nD τ).loc main_arg4) : IVec S2x2304x6x128 8) (ix4 b s ⟨o.val / 10, by omega⟩ d)) := by
  obtain ⟨e1, e2, e3⟩ := head_axis hh
  unfold_abbrev_sides
  after_reads_simp
  pointwise []
  rw [e1, e3]

/-- The query scales at an index. -/
theorem qs_at (b : Fin 2) (o : Fin 60) (h : Fin 120) (hh : h.val = b.val * 60 + o.val) :
    (V m c main_v13 : FVec Ideal S120x1x1 .f32) (ix3 h 0 0)
      = (m ((c : Thread nD τ).loc main_arg1) : FVec Ideal S2x60 .f32) (ix2 b o) := by
  obtain ⟨e1, e2, e3⟩ := head_axis hh
  unfold_abbrev_sides
  after_reads_simp
  pointwise []
  rw [e1, e2]

/-- The key scales at an index. -/
theorem ks_at (b : Fin 2) (o : Fin 60) (h : Fin 120) (hh : h.val = b.val * 60 + o.val) :
    (V m c main_v17 : FVec Ideal S120x1x1 .f32) (ix3 h 0 0)
      = (m ((c : Thread nD τ).loc main_arg3) : FVec Ideal S2x6 .f32) (ix2 b ⟨o.val / 10, by omega⟩) := by
  obtain ⟨e1, e2, e3⟩ := head_axis hh
  unfold_abbrev_sides
  after_reads_simp
  pointwise []
  rw [e1, e3]

/-- The value scales at an index. -/
theorem vs_at (b : Fin 2) (o : Fin 60) (h : Fin 120) (hh : h.val = b.val * 60 + o.val) :
    (V m c main_v21 : FVec Ideal S120x1x1 .f32) (ix3 h 0 0)
      = (m ((c : Thread nD τ).loc main_arg5) : FVec Ideal S2x6 .f32) (ix2 b ⟨o.val / 10, by omega⟩) := by
  obtain ⟨e1, e2, e3⟩ := head_axis hh
  unfold_abbrev_sides
  after_reads_simp
  pointwise []
  rw [e1, e3]

/-- The window of the queries holds them all. -/
theorem iblk0 (t : Fin cfg0.N) : (iblk m c 0 t : FVec Ideal S120x2304x128 .fp8e4m3) = V m c main_v4 := by
  funext y
  unfold iblk
  rw [View.read_apply]
  show V m c main_v4 _ = V m c main_v4 _
  congr 1
  funext r
  apply Fin.ext
  match r with
  | ⟨0, _⟩ => show 0 * 120 + 1 * (y 0).val = (y 0).val; omega
  | ⟨1, _⟩ => show 0 * 2304 + 1 * (y 1).val = (y 1).val; omega
  | ⟨2, _⟩ => show 0 * 128 + 1 * (y 2).val = (y 2).val; omega

/-- The window of the query scales holds them all. -/
theorem iblk1 (t : Fin cfg0.N) : (iblk m c 1 t : FVec Ideal S120x1x1 .f32) = V m c main_v13 := by
  funext y
  unfold iblk
  rw [View.read_apply]
  show V m c main_v13 _ = V m c main_v13 _
  congr 1
  funext r
  apply Fin.ext
  match r with
  | ⟨0, _⟩ => show 0 * 120 + 1 * (y 0).val = (y 0).val; omega
  | ⟨1, _⟩ => show 0 * 1 + 1 * (y 1).val = (y 1).val; omega
  | ⟨2, _⟩ => show 0 * 1 + 1 * (y 2).val = (y 2).val; omega

/-- The window of the keys holds them all. -/
theorem iblk2 (t : Fin cfg0.N) : (iblk m c 2 t : FVec Ideal S120x2304x128 .fp8e4m3) = V m c main_v8 := by
  funext y
  unfold iblk
  rw [View.read_apply]
  show V m c main_v8 _ = V m c main_v8 _
  congr 1
  funext r
  apply Fin.ext
  match r with
  | ⟨0, _⟩ => show 0 * 120 + 1 * (y 0).val = (y 0).val; omega
  | ⟨1, _⟩ => show 0 * 2304 + 1 * (y 1).val = (y 1).val; omega
  | ⟨2, _⟩ => show 0 * 128 + 1 * (y 2).val = (y 2).val; omega

/-- The window of the key scales holds them all. -/
theorem iblk3 (t : Fin cfg0.N) : (iblk m c 3 t : FVec Ideal S120x1x1 .f32) = V m c main_v17 := by
  funext y
  unfold iblk
  rw [View.read_apply]
  show V m c main_v17 _ = V m c main_v17 _
  congr 1
  funext r
  apply Fin.ext
  match r with
  | ⟨0, _⟩ => show 0 * 120 + 1 * (y 0).val = (y 0).val; omega
  | ⟨1, _⟩ => show 0 * 1 + 1 * (y 1).val = (y 1).val; omega
  | ⟨2, _⟩ => show 0 * 1 + 1 * (y 2).val = (y 2).val; omega

/-- The window of the values holds them all. -/
theorem iblk4 (t : Fin cfg0.N) : (iblk m c 4 t : FVec Ideal S120x2304x128 .fp8e4m3) = V m c main_v12 := by
  funext y
  unfold iblk
  rw [View.read_apply]
  show V m c main_v12 _ = V m c main_v12 _
  congr 1
  funext r
  apply Fin.ext
  match r with
  | ⟨0, _⟩ => show 0 * 120 + 1 * (y 0).val = (y 0).val; omega
  | ⟨1, _⟩ => show 0 * 2304 + 1 * (y 1).val = (y 1).val; omega
  | ⟨2, _⟩ => show 0 * 128 + 1 * (y 2).val = (y 2).val; omega

/-- The window of the value scales holds them all. -/
theorem iblk5 (t : Fin cfg0.N) : (iblk m c 5 t : FVec Ideal S120x1x1 .f32) = V m c main_v21 := by
  funext y
  unfold iblk
  rw [View.read_apply]
  show V m c main_v21 _ = V m c main_v21 _
  congr 1
  funext r
  apply Fin.ext
  match r with
  | ⟨0, _⟩ => show 0 * 120 + 1 * (y 0).val = (y 0).val; omega
  | ⟨1, _⟩ => show 0 * 1 + 1 * (y 1).val = (y 1).val; omega
  | ⟨2, _⟩ => show 0 * 1 + 1 * (y 2).val = (y 2).val; omega

/-- What the body leaves in the output's block: the result over the whole input arrays. -/
theorem out0_6_eq (x0 x2 x4 : FVec Ideal S120x2304x128 .fp8e4m3) (x1 x3 x5 : FVec Ideal S120x1x1 .f32) :
    out0_6 (F := Ideal) x0 x1 x2 x3 x4 x5 = k0_pay1 (F := Ideal) (k0_pay2 x1 x3 x0 x2) (k0_pay3 x1 x3 x0 x2) (Scalar.ofBits .f32 0x3F800000#32) x4 x5 := by
  have z : ∀ a, (![0, 0, 0] : Fin 3 → ℕ) a = 0 := by decide
  have l0 : ∀ x : FVec Ideal S120x1x1 .f32, View.ld (Val := Elt Ideal) (e' := .f32) x r0_0 = x := fun x => View.ld_unit_lit (Val := Elt Ideal) (S := S120x1x1) (e := .f32) _ x z
  have l1 : ∀ x : FVec Ideal S120x2304x128 .fp8e4m3, View.ld (Val := Elt Ideal) (e' := .fp8e4m3) x r0_1 = x := fun x => View.ld_unit_lit (Val := Elt Ideal) (S := S120x2304x128) (e := .fp8e4m3) _ x z
  unfold out0_6
  rw [l0 x1, l0 x3, l0 x5, l1 x0, l1 x2, l1 x4]
  exact View.canon_cons_unit_lit (Val := Elt Ideal) (S := S2x2304x7680) (e := .bf16) _ _ _ z

/-- The reference's only grid point. -/
def pt : Fin cfg0.N := ⟨0, by decide⟩

/-- An entry of the reference's result. -/
theorem final (b : Fin 2) (g : Fin 2304) (cc : Fin 7680) (h : Fin 120) (d : Fin 128) (hh : h.val = b.val * 60 + cc.val / 128) (hd : d.val = cc.val % 128) :
    ((dats m 0 c).arrAt 6 cfg0.N : FVec Ideal S2x2304x7680 .bf16) (ix3 b g cc)
      = rOut (srow (V m c main_v13) (V m c main_v17) (V m c main_v4) (V m c main_v8) h g) (vrow (V m c main_v12) h d)
          ((V m c main_v21 : FVec Ideal S120x1x1 .f32) (ix3 h 0 0)) := by
  rw [← r_at (V m c main_v13) (V m c main_v17) (V m c main_v4) (V m c main_v8) (V m c main_v12) (V m c main_v21) b g cc h d hh hd, ← out0_6_eq,
    ← iblk0 m c pt, ← iblk1 m c pt, ← iblk2 m c pt, ← iblk3 m c pt, ← iblk4 m c pt, ← iblk5 m c pt]
  have e := congrFun (blocks6 m c pt (by decide)) (ix3 b g cc)
  rw [flushed6, View.read_apply] at e
  refine Eq.trans (congrArg _ ?_) e
  funext r
  apply Fin.ext
  match r with
  | ⟨0, _⟩ => show b.val = 0 * 2 + 1 * b.val; omega
  | ⟨1, _⟩ => show g.val = 0 * 2304 + 1 * g.val; omega
  | ⟨2, _⟩ => show cc.val = 0 * 7680 + 1 * cc.val; omega

end Cert.ReferenceIdeal.Row

end
-- ==== Proof.RefCol.lean ====
/- The reference's scores and values, read back to the program's arguments. -/
module

public import proofs.«01_k».proof.Proof.RefHost
public import proofs.«01_k».proof.Proof.Score

@[expose] public section

set_option maxRecDepth 16384

noncomputable section

namespace Cert.ReferenceIdeal.Row

open Idealize.ShloMosaic Idealize.ShloMosaic.TcCoe Idealize.ShloMosaic.Tactic Cert.Column Cert.ReferenceIdeal Cert.ReferenceIdeal.Gen Cert.ReferenceIdeal.Value

variable (m : (ℓ : Loc nD τ sig) → Buf (Elt Ideal) ℓ) (c : Dev nD)

/-- The reference's scores of a query, key by key. -/
theorem srow_score (b : Fin 2) (o : Fin 60) (h : Fin 120) (hh : h.val = b.val * 60 + o.val) (p : Fin 6) (hp : o.val / 10 = p.val) (r : Fin 2304)
    (q : Fin 128 → EReal) (k : ℕ → Fin 128 → EReal) (sq sk : EReal)
    (hq : ∀ e : Fin 128, Ideal.ofBits .fp8e4m3 ((m ((c : Thread nD τ).loc main_arg0) : IVec S2x2304x60x128 8) (ix4 b r o e)) = q e)
    (hk : ∀ (j : Fin 2304) (e : Fin 128), Ideal.ofBits .fp8e4m3 ((m ((c : Thread nD τ).loc main_arg2) : IVec S2x2304x6x128 8) (ix4 b j p e)) = k j e)
    (hsq : ((m ((c : Thread nD τ).loc main_arg1) : FVec Ideal S2x60 .f32) (ix2 b o) : EReal) = sq)
    (hsk : ((m ((c : Thread nD τ).loc main_arg3) : FVec Ideal S2x6 .f32) (ix2 b p) : EReal) = sk)
    (j : ℕ) (hj : j < 2304) :
    srow (V m c main_v13) (V m c main_v17) (V m c main_v4) (V m c main_v8) h r j = if j ≤ r.val then rawScore q k sq sk j else ⊥ := by
  have fp : (⟨o.val / 10, by omega⟩ : Fin 6) = p := Fin.ext hp
  have fj : (⟨j % 2304, Nat.mod_lt _ (by norm_num)⟩ : Fin 2304) = ⟨j, hj⟩ := Fin.ext (Nat.mod_eq_of_lt hj)
  unfold srow
  rw [fj]
  refine if_congr Iff.rfl ?_ rfl
  refine congrArg₂ (· * ·) (Finset.sum_congr rfl fun e _ => congrArg₂ (· * ·) ?_ ?_) (congrArg (· * Ideal.ofBits .f32 0x3DB504F3#32) (congrArg₂ (· * ·) ?_ ?_))
  · exact (q_at m c b o h hh r e).trans (hq e)
  · refine (k_at m c b o h hh ⟨j, hj⟩ e).trans ?_
    rw [fp]
    exact hk ⟨j, hj⟩ e
  · exact (qs_at m c b o h hh).trans hsq
  · refine (ks_at m c b o h hh).trans ?_
    rw [fp]
    exact hsk

/-- The reference's values of a channel, key by key. -/
theorem vrow_code (b : Fin 2) (o : Fin 60) (h : Fin 120) (hh : h.val = b.val * 60 + o.val) (p : Fin 6) (hp : o.val / 10 = p.val) (d : Fin 128) (j : Fin 2304) :
    vrow (V m c main_v12) h d j = Ideal.ofBits .fp8e4m3 ((m ((c : Thread nD τ).loc main_arg4) : IVec S2x2304x6x128 8) (ix4 b j p d)) := by
  have fp : (⟨o.val / 10, by omega⟩ : Fin 6) = p := Fin.ext hp
  have fj : (⟨j.val % 2304, Nat.mod_lt _ (by norm_num)⟩ : Fin 2304) = j := Fin.ext (Nat.mod_eq_of_lt j.isLt)
  unfold vrow
  rw [fj, v_at m c b o h hh, fp]

/-- The value scale of a head. -/
theorem vs_scale (b : Fin 2) (o : Fin 60) (h : Fin 120) (hh : h.val = b.val * 60 + o.val) (p : Fin 6) (hp : o.val / 10 = p.val) :
    (V m c main_v21 : FVec Ideal S120x1x1 .f32) (ix3 h 0 0) = (m ((c : Thread nD τ).loc main_arg5) : FVec Ideal S2x6 .f32) (ix2 b p) := by
  have fp : (⟨o.val / 10, by omega⟩ : Fin 6) = p := Fin.ext hp
  rw [vs_at m c b o h hh, fp]

end Cert.ReferenceIdeal.Row

end
-- ==== Proof.Tame.lean ====
/- What a code and a scale are known to be: a code is not finite or of magnitude at most 448, whatever its
   byte, and under the precondition the query's and the key's scales are of magnitude at most 2^50. -/
module

public import proofs.«01_k».proof.Defs
public import proofs.«01_k».proof.Proof.Gen.Pre_tame
public import proofs.«01_k».proof.Proof.Score
public import Idealize.ShloMosaic.Lib.ReduceAll

@[expose] public section

noncomputable section

namespace Cert.Tame

open Idealize.ShloMosaic Cert.Pre_tame Cert.Column

/-- A code's number, if it is one, has magnitude at most 448. -/
theorem code_within (b : BitVec 8) : Within 448 (Ideal.ofBits .fp8e4m3 b) := by
  have hb : (b.extractLsb' 3 4).toNat ≤ 15 := by have := (b.extractLsb' 3 4).isLt; omega
  have hf : (b.extractLsb' 0 3).toNat ≤ 7 := by have := (b.extractLsb' 0 3).isLt; omega
  show Within 448 (Ideal.e4m3fn b)
  simp only [Ideal.e4m3fn]
  generalize (b.extractLsb' 3 4).toNat = ex at *
  generalize (b.extractLsb' 0 3).toNat = fr at *
  generalize (b.extractLsb' 7 1 == 1#1) = neg
  have hs : |(if neg then (-1 : ℝ) else 1)| = 1 := by cases neg <;> simp
  by_cases hn : ex = 15 ∧ fr = 7
  · rw [if_pos hn]; exact fun r e => absurd e.symm (EReal.coe_ne_bot r)
  rw [if_neg hn]
  have hfr : (fr : ℝ) ≤ 7 := by exact_mod_cast hf
  split
  · intro r e
    rw [← EReal.coe_eq_coe_iff.1 e]
    rw [abs_mul, abs_mul, hs, one_mul, abs_of_nonneg (by positivity), abs_of_nonneg (by positivity)]
    have : (2 : ℝ) ^ (-9 : ℤ) ≤ 1 := by norm_num
    nlinarith [show (0 : ℝ) ≤ fr by positivity]
  · intro r e
    rw [← EReal.coe_eq_coe_iff.1 e]
    rw [abs_mul, abs_mul, hs, one_mul, abs_of_nonneg (by positivity), abs_of_nonneg (by positivity)]
    by_cases he : ex = 15
    · have : fr ≤ 6 := by omega
      have : ((8 + fr : ℕ) : ℝ) ≤ 14 := by exact_mod_cast (by omega : 8 + fr ≤ 14)
      subst he
      norm_num at this ⊢
      linarith
    · have h3 : ((8 + fr : ℕ) : ℝ) ≤ 15 := by exact_mod_cast (by omega : 8 + fr ≤ 15)
      have h4 : (2 : ℝ) ^ ((ex : ℤ) - 10) ≤ 2 ^ (4 : ℤ) := zpow_le_zpow_right₀ (by norm_num) (by omega)
      calc _ ≤ (15 : ℝ) * 2 ^ (4 : ℤ) := mul_le_mul h3 h4 (by positivity) (by norm_num)
        _ ≤ 448 := by norm_num

/-- The bound the precondition prints is `2^50`. -/
theorem ofBits_bound : Ideal.ofBits .f32 0x58800000#32 = (((2 : ℝ) ^ 50 : ℝ) : EReal) := by
  rw [ofBits_f32]
  simp only [Ideal.ieee, show (BitVec.extractLsb' (8 + 23) 1 0x58800000#32 == 1#1) = false by decide,
    show (BitVec.extractLsb' 23 8 0x58800000#32).toNat = 177 by decide,
    show (BitVec.extractLsb' 0 23 0x58800000#32).toNat = 0 by decide]
  norm_num

/-- An extended real of magnitude at most a finite bound. -/
theorem within_of_abs {x : EReal} {y : ℝ} (h : max x (-x) ≤ (y : EReal)) : Within y x := by
  rintro r rfl
  rw [max_le_iff, ← EReal.coe_neg, EReal.coe_le_coe_iff, EReal.coe_le_coe_iff] at h
  exact abs_le.2 ⟨by linarith [h.2], h.1⟩

/-- A comparison of a magnitude with the bound, read back. -/
theorem ole_within {x : Ideal .f32} (h : FloatOps.cmpf (F := Ideal) .ole (max x (-x) : EReal) (Ideal.ofBits .f32 0x58800000#32) = 1#1) :
    Within (2 ^ 50) x := by
  rw [ofBits_bound] at h
  refine within_of_abs ?_
  have h' : BitVec.ofBool (decide ((max x (-x) : EReal) ≤ (((2 : ℝ) ^ 50 : ℝ) : EReal))) = 1#1 := h
  by_contra hn
  rw [decide_eq_false hn] at h'
  exact absurd h' (by decide)

/-- A scalar has one index. -/
instance : Subsingleton S_.Idx := ⟨fun a b => funext fun i => i.elim0⟩

/-- The precondition, at every element. -/
theorem elems (a0 : IVec S2x2304x60x128 8) (a1 : FVec Ideal S2x60 .f32) (a2 : IVec S2x2304x6x128 8) (a3 : FVec Ideal S2x6 .f32)
    (a4 : IVec S2x2304x6x128 8) (a5 : FVec Ideal S2x6 .f32) (h : fn (F := Ideal) a0 a1 a2 a3 a4 a5 = fun _ => 1#1) :
    (∀ i, Within (2 ^ 50) (a1 i)) ∧ (∀ i, Within (2 ^ 50) (a3 i)) := by
  have h := congrFun h (fun i => i.elim0)
  dsimp only [fn] at h
  obtain ⟨h1, h3⟩ := IntOp.andi_eq_one.1 h
  exact ⟨fun i => ole_within (Host.reduce_andi_all _ _ _ _ _ h1 i), fun i => ole_within (Host.reduce_andi_all _ _ _ _ _ h3 i)⟩

end Cert.Tame

end
-- ==== Proof.Equation.lean ====
/- The kernel's result is the reference's: for tame arguments every entry of the two arrays is
   the same column sum, so the idealized programs, run from agreeing arguments, end with equal results. -/
module

public import proofs.«01_k».proof.Proof.KernelCol
public import proofs.«01_k».proof.Proof.RefCol
public import proofs.«01_k».proof.Proof.Tame
public import proofs.«01_k».proof.Proof.Run.Value

@[expose] public section

set_option maxRecDepth 16384

noncomputable section

namespace Cert.Equation

open Idealize.ShloMosaic Idealize.ShloMosaic.TcCoe Idealize.ShloMosaic.Tactic Cert.Column

/-- Memories of the kernel. -/
abbrev KMem := (ℓ : Loc Cert.KernelIdeal.nD Cert.KernelIdeal.τ Cert.KernelIdeal.sig) → Buf (Elt Ideal) ℓ

/-- Memories of the reference. -/
abbrev RMem := (ℓ : Loc Cert.ReferenceIdeal.nD Cert.ReferenceIdeal.τ Cert.ReferenceIdeal.sig) → Buf (Elt Ideal) ℓ

/-- The kernel's array after the run. -/
def kArr (m : KMem) (c : Dev Cert.KernelIdeal.nD) : FVec Ideal Cert.KernelIdeal.S2x2304x7680 .bf16 :=
  (Cert.KernelIdeal.Run.dats m 0 c).arrAt 7 Cert.KernelIdeal.cfg0.N

/-- The reference's array after the run. -/
def rArr (m : RMem) (c : Dev Cert.ReferenceIdeal.nD) : FVec Ideal Cert.ReferenceIdeal.S2x2304x7680 .bf16 :=
  (Cert.ReferenceIdeal.Gen.dats m 0 c).arrAt 6 Cert.ReferenceIdeal.cfg0.N

/-- One entry of the two arrays. -/
theorem entry (m : KMem) (m' : RMem) (c : Dev Cert.KernelIdeal.nD) (hpre : Cert.Pre_KernelIdeal_tame m)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (b : Fin 2) (r : Fin 2304) (cc : Fin 7680) : kArr m c (ix3 b r cc) = rArr m' c (ix3 b r cc) := by
  obtain ⟨t1, t3⟩ := Cert.Tame.elems _ _ _ _ _ _ (hpre c)
  let h : Fin 6 := ⟨cc.val / 1280, by omega⟩
  let a : Fin 10 := ⟨cc.val % 1280 / 128, by omega⟩
  let d : Fin 128 := ⟨cc.val % 128, by omega⟩
  let n : Fin 9 := ⟨r.val / 256, by omega⟩
  let x : Fin 256 := ⟨r.val % 256, by omega⟩
  let o : Fin 60 := ⟨cc.val / 128, by omega⟩
  let g : Fin 120 := ⟨b.val * 60 + cc.val / 128, by omega⟩
  have hr : r.val = 256 * n.val + x.val := by show r.val = 256 * (r.val / 256) + r.val % 256; omega
  have hcc : cc.val = 1280 * h.val + (128 * a.val + d.val) := by
    show cc.val = 1280 * (cc.val / 1280) + (128 * (cc.val % 1280 / 128) + cc.val % 128); omega
  have ho : o.val = 10 * h.val + a.val := by
    show cc.val / 128 = 10 * (cc.val / 1280) + cc.val % 1280 / 128; omega
  have hg : g.val = b.val * 60 + o.val := rfl
  have hp : o.val / 10 = h.val := by show cc.val / 128 / 10 = cc.val / 1280; omega
  refine (Cert.KernelIdeal.Head.final m c b h n a x d r hr cc hcc).trans (Eq.trans ?_ (Cert.ReferenceIdeal.Row.final m' c b r cc g d rfl rfl).symm)
  rw [Cert.ReferenceIdeal.Row.vs_scale m' c b o g hg h hp, h5]
  let A0 : IVec Cert.KernelIdeal.S2x2304x60x128 8 := m ((c.tc : Thread Cert.KernelIdeal.nD Cert.KernelIdeal.τ).loc Cert.KernelIdeal.main_arg0)
  let A1 : FVec Ideal Cert.KernelIdeal.S2x60 .f32 := m ((c.tc : Thread Cert.KernelIdeal.nD Cert.KernelIdeal.τ).loc Cert.KernelIdeal.main_arg1)
  let A2 : IVec Cert.KernelIdeal.S2x2304x6x128 8 := m ((c.tc : Thread Cert.KernelIdeal.nD Cert.KernelIdeal.τ).loc Cert.KernelIdeal.main_arg2)
  let A3 : FVec Ideal Cert.KernelIdeal.S2x6 .f32 := m ((c.tc : Thread Cert.KernelIdeal.nD Cert.KernelIdeal.τ).loc Cert.KernelIdeal.main_arg3)
  let q : Fin 128 → EReal := fun e => Ideal.ofBits .fp8e4m3 (A0 (ix4 b r o e))
  let k : ℕ → Fin 128 → EReal := fun j e => Ideal.ofBits .fp8e4m3 (A2 (ix4 b (⟨j % 2304, Nat.mod_lt _ (by norm_num)⟩ : Fin 2304) h e))
  have hk : ∀ (j : Fin 2304) (e : Fin 128), Ideal.ofBits .fp8e4m3 (A2 (ix4 b j h e)) = k j e := fun j e => by
    show _ = Ideal.ofBits .fp8e4m3 (A2 (ix4 b (⟨j.val % 2304, Nat.mod_lt _ (by norm_num)⟩ : Fin 2304) h e))
    rw [show (⟨j.val % 2304, Nat.mod_lt _ (by norm_num)⟩ : Fin 2304) = j from Fin.ext (Nat.mod_eq_of_lt j.isLt)]
  refine kOut_eq_rOut (x := rawScore q k (A1 (ix2 b o)) (A3 (ix2 b h))) (g := r.val) (n := n.val) (by omega) r.isLt ?_ ?_ ?_ ?_
  · exact Cert.KernelIdeal.Head.col_score m c b h n a x r hr o ho _ _ _ _ (fun _ => rfl) hk rfl rfl
  · exact fun j _ => score_within j (fun e => Cert.Tame.code_within _) (fun e => Cert.Tame.code_within _) (t1 _) (t3 _)
  · exact Cert.ReferenceIdeal.Row.srow_score m' c b o g hg h hp r _ _ _ _ (fun e => by rw [h0]) (fun j e => by rw [h2]; exact hk j e) (by rw [h1]) (by rw [h3])
  · intro j hj
    exact (Cert.KernelIdeal.Head.val_code m c b h n d ⟨j, hj⟩).trans (Eq.trans (by rw [h4]) (Cert.ReferenceIdeal.Row.vrow_code m' c b o g hg h hp d ⟨j, hj⟩).symm)

/-- The idealized kernel and the idealized reference, from agreeing tame arguments, end with equal results. -/
theorem algebraic : Cert.algebraic_KernelIdeal_ReferenceIdeal_pre_tame := by
  intro m ρ m' ρ' hpre hargs
  refine ⟨fun c => kArr m c, Cert.KernelIdeal.Run.run_blocks m ρ,
    (θ_run Cert.ReferenceIdeal.defs _ _).mono (fun s hs c => ⟨(hs c).1.trans ?_, (hs c).2⟩) (Cert.ReferenceIdeal.Value.run_blocks m' ρ')⟩
  obtain ⟨h0, h1, h2, h3, h4, h5⟩ := hargs c
  show rArr m' c = kArr m c
  funext i
  obtain ⟨b, r, cc, rfl⟩ : ∃ (b : Fin 2) (r : Fin 2304) (cc : Fin 7680), i = ix3 b r cc := ⟨i 0, i 1, i 2, (eq_ix3 i)⟩
  exact (entry m m' c hpre h0 h1 h2 h3 h4 h5 b r cc).symm

end Cert.Equation

end
-- ==== Proof.lean ====
module

public import proofs.«01_k».proof.Defs
public import proofs.«01_k».proof.Proof.Bits.Frame
public import proofs.«01_k».proof.Proof.Run.Frame
public import proofs.«01_k».proof.Proof.Run.Value
public import proofs.«01_k».proof.Proof.Equation
public import proofs.«01_k».proof.Proof.Gen.ReferenceIdeal.Value
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_tame
public import Idealize.ShloMosaic.Adequacy
public import Idealize.ShloMosaic.Init

@[expose] public section

noncomputable section

namespace Cert.Proof

open Idealize.ShloMosaic Idealize.SL.Sem Cert.Kernel

/-- The claims: the frames of the three programs, that the idealization is the kernel with its constant named,
    and that kernel and reference compute the same function of tame arguments over the extended reals. -/
theorem claim : Cert.Claim := ⟨Cert.Kernel.Gen.facts, Cert.KernelIdeal.Gen.facts, Cert.ReferenceIdeal.Gen.facts, Cert.Pre_tame.Gen.facts,
  fun m ρ _ => Cert.Kernel.Run.frame m ρ, fun m ρ _ => Cert.KernelIdeal.Run.frame m ρ, fun m ρ _ => Cert.KernelIdeal.Run.frame m ρ,
  fun m ρ _ => Cert.ReferenceIdeal.Gen.frame m ρ, fun m ρ _ => Cert.ReferenceIdeal.Gen.frame m ρ,
  IdealRules.named_const.statement Cert.KernelIdeal.κ "log2_e" .f32 0x3FB8AA3B#32 _ rfl,
  Cert.Equation.algebraic⟩

end Cert.Proof

end
